-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1024x18944 : Shape := ⟨3, ![6, 1024, 18944]⟩
abbrev S67895296 : Shape := ⟨1, ![67895296]⟩
abbrev S33152 : Shape := ⟨1, ![33152]⟩
abbrev S6144x18944 : Shape := ⟨2, ![6144, 18944]⟩
abbrev S132608x4x128 : Shape := ⟨3, ![132608, 4, 128]⟩
abbrev S132608x128x4 : Shape := ⟨3, ![132608, 128, 4]⟩
abbrev S132608x128 : Shape := ⟨2, ![132608, 128]⟩
abbrev S896x37 : Shape := ⟨2, ![896, 37]⟩
abbrev S896x37x4 : Shape := ⟨3, ![896, 37, 4]⟩
abbrev S896x148 : Shape := ⟨2, ![896, 148]⟩
abbrev S3584x37 : Shape := ⟨2, ![3584, 37]⟩
abbrev S_ : Shape := ⟨0, ![]⟩
abbrev S3584x128 : Shape := ⟨2, ![3584, 128]⟩
abbrev S6144x3584 : Shape := ⟨2, ![6144, 3584]⟩
abbrev S1024x18944 : Shape := ⟨2, ![1024, 18944]⟩
abbrev S37888x128 : Shape := ⟨2, ![37888, 128]⟩
abbrev S1024x512 : Shape := ⟨2, ![1024, 512]⟩
abbrev S5 : Shape := ⟨1, ![5]⟩
abbrev S2 : Shape := ⟨1, ![2]⟩
abbrev S256x256 : Shape := ⟨2, ![256, 256]⟩
abbrev S1 : Shape := ⟨1, ![1]⟩
abbrev S18944x128 : Shape := ⟨2, ![18944, 128]⟩
abbrev S1024x4608 : Shape := ⟨2, ![1024, 4608]⟩
abbrev S64x128 : Shape := ⟨2, ![64, 128]⟩
abbrev S256x128 : Shape := ⟨2, ![256, 128]⟩
abbrev S256x128x1 : Shape := ⟨3, ![256, 128, 1]⟩

abbrev nBuf : Space → Nat
  | .hbm => 15
  | .vmem => 16
  | .smem => 0
  | _ => 0

abbrev bufTy : (tb : Table) → Fin (tcTables nBuf tb) → BufTy
  | .hbm, ⟨0, _⟩ => ⟨S6x1024x18944, .bf16⟩
  | .hbm, ⟨1, _⟩ => ⟨S67895296, .i8⟩
  | .hbm, ⟨2, _⟩ => ⟨S33152, .f32⟩
  | .hbm, ⟨3, _⟩ => ⟨S6144x18944, .bf16⟩
  | .hbm, ⟨4, _⟩ => ⟨S132608x4x128, .i8⟩
  | .hbm, ⟨5, _⟩ => ⟨S132608x128x4, .i8⟩
  | .hbm, ⟨6, _⟩ => ⟨S132608x128, .i32⟩
  | .hbm, ⟨7, _⟩ => ⟨S896x37, .f32⟩
  | .hbm, ⟨8, _⟩ => ⟨S896x37x4, .f32⟩
  | .hbm, ⟨9, _⟩ => ⟨S896x148, .f32⟩
  | .hbm, ⟨10, _⟩ => ⟨S3584x37, .f32⟩
  | .hbm, ⟨11, _⟩ => ⟨S_, .i32⟩
  | .hbm, ⟨12, _⟩ => ⟨S_, .f32⟩
  | .hbm, ⟨13, _⟩ => ⟨S3584x128, .f32⟩
  | .hbm, ⟨14, _⟩ => ⟨S6144x3584, .bf16⟩
  | .local _ .vmem, ⟨0, _⟩ => ⟨S3584x128, .f32⟩
  | .local _ .vmem, ⟨1, _⟩ => ⟨S1024x18944, .bf16⟩
  | .local _ .vmem, ⟨2, _⟩ => ⟨S37888x128, .i32⟩
  | .local _ .vmem, ⟨3, _⟩ => ⟨S1024x512, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S6x1024x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch10 : Ref sig .tc := ⟨.vmem, 8, rfl⟩
abbrev cc0_scratch11 : Ref sig .tc := ⟨.vmem, 9, rfl⟩
abbrev cc0_scratch12 : Ref sig .tc := ⟨.vmem, 10, rfl⟩
abbrev cc0_scratch13 : Ref sig .tc := ⟨.vmem, 11, rfl⟩
abbrev cc0_scratch14 : Ref sig .tc := ⟨.vmem, 12, rfl⟩
abbrev cc0_scratch15 : Ref sig .tc := ⟨.vmem, 13, rfl⟩
abbrev cc0_scratch16 : Ref sig .tc := ⟨.vmem, 14, rfl⟩
abbrev cc0_scratch17 : Ref sig .tc := ⟨.vmem, 15, rfl⟩
abbrev cc0_sem0_0 : DmaSem sig := 0

abbrev nD : Nat := 1
abbrev τ : Topo := Topo.v7x

variable {F : FTy → Type} [FloatOps F]

abbrev grid0 : Pipeline.Grid := ⟨2, ![6, 7], ![false, false]⟩

def k0_cond1 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32 : BitVec 32 := 0#32
  let v5 : BitVec 1 := Scalar.cmpi .eq v1 c0_i32
  let v6 : BitVec 32 := Scalar.extui v5
  let c0_i32_0 : BitVec 32 := 0#32
  let v7 : BitVec 1 := Scalar.cmpi .ne v6 c0_i32_0
  v7

def k0_mult1 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_292 : BitVec 32 := 7#32
  let v465 : BitVec 32 := Scalar.remsi v1 c7_i32_292
  let c18944_i32_293 : BitVec 32 := 18944#32
  let v466 : BitVec 32 := Scalar.muli v465 c18944_i32_293
  v466
def k0_mult2 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_291 : BitVec 32 := 2#32
  let v464 : BitVec 32 := Scalar.remsi v1 c2_i32_291
  let c18944_i32_294 : BitVec 32 := 18944#32
  let v468 : BitVec 32 := Scalar.muli v464 c18944_i32_294
  v468
def k0_off1 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_291 : BitVec 32 := 2#32
  let v464 : BitVec 32 := Scalar.remsi v1 c2_i32_291
  ![v464.toNat]
def k0_off2 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_291 : BitVec 32 := 2#32
  let v464 : BitVec 32 := Scalar.remsi v1 c2_i32_291
  let c18944_i32_294 : BitVec 32 := 18944#32
  let v468 : BitVec 32 := Scalar.muli v464 c18944_i32_294
  let v469 : BitVec 32 := v468
  let c0_i32_295 : BitVec 32 := 0#32
  ![v469.toNat, 0]
def k0_off3 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_292 : BitVec 32 := 7#32
  let v465 : BitVec 32 := Scalar.remsi v1 c7_i32_292
  let c18944_i32_293 : BitVec 32 := 18944#32
  let v466 : BitVec 32 := Scalar.muli v465 c18944_i32_293
  let v467 : BitVec 32 := v466
  let c0_i32_296 : BitVec 32 := 0#32
  ![v467.toNat, 0]
def k0_mult3 (i : grid0.Coords) : BitVec 32 :=
  let arg0 : BitVec 32 := BitVec.ofNat 32 (i 0).val
  let c1024_i32 : BitVec 32 := 1024#32
  let v474 : BitVec 32 := Scalar.muli arg0 c1024_i32
  v474
def k0_off4 (i : grid0.Coords) : Fin 2 → Nat :=
  let arg0 : BitVec 32 := BitVec.ofNat 32 (i 0).val
  let c1024_i32 : BitVec 32 := 1024#32
  let v474 : BitVec 32 := Scalar.muli arg0 c1024_i32
  let v475 : BitVec 32 := v474
  let c0_i32_300 : BitVec 32 := 0#32
  ![v475.toNat, 0]
def k0_mult4 : BitVec 32 :=
  let c512_i32 : BitVec 32 := 512#32
  c512_i32
def k0_mult5 (i : grid0.Coords) : BitVec 32 :=
  let arg0 : BitVec 32 := BitVec.ofNat 32 (i 0).val
  let c1024_i32_301 : BitVec 32 := 1024#32
  let v481 : BitVec 32 := Scalar.muli arg0 c1024_i32_301
  v481
def k0_off5 (i : grid0.Coords) : Fin 2 → Nat :=
  let arg0 : BitVec 32 := BitVec.ofNat 32 (i 0).val
  let c1024_i32_301 : BitVec 32 := 1024#32
  let v481 : BitVec 32 := Scalar.muli arg0 c1024_i32_301
  let v482 : BitVec 32 := v481
  let c512_i32 : BitVec 32 := 512#32
  let v480 : BitVec 32 := c512_i32
  ![v482.toNat, 512]
def k0_mult6 : BitVec 32 :=
  let c5120_i32 : BitVec 32 := 5120#32
  c5120_i32
def k0_mult7 (i : grid0.Coords) : BitVec 32 :=
  let arg0 : BitVec 32 := BitVec.ofNat 32 (i 0).val
  let c1024_i32_304 : BitVec 32 := 1024#32
  let v488 : BitVec 32 := Scalar.muli arg0 c1024_i32_304
  v488
def k0_off6 (i : grid0.Coords) : Fin 2 → Nat :=
  let arg0 : BitVec 32 := BitVec.ofNat 32 (i 0).val
  let c1024_i32_304 : BitVec 32 := 1024#32
  let v488 : BitVec 32 := Scalar.muli arg0 c1024_i32_304
  let v489 : BitVec 32 := v488
  let c5120_i32 : BitVec 32 := 5120#32
  let v487 : BitVec 32 := c5120_i32
  ![v489.toNat, 5120]
def k0_mult8 : BitVec 32 :=
  let c9728_i32 : BitVec 32 := 9728#32
  c9728_i32
def k0_mult9 (i : grid0.Coords) : BitVec 32 :=
  let arg0 : BitVec 32 := BitVec.ofNat 32 (i 0).val
  let c1024_i32_307 : BitVec 32 := 1024#32
  let v495 : BitVec 32 := Scalar.muli arg0 c1024_i32_307
  v495
def k0_off7 (i : grid0.Coords) : Fin 2 → Nat :=
  let arg0 : BitVec 32 := BitVec.ofNat 32 (i 0).val
  let c1024_i32_307 : BitVec 32 := 1024#32
  let v495 : BitVec 32 := Scalar.muli arg0 c1024_i32_307
  let v496 : BitVec 32 := v495
  let c9728_i32 : BitVec 32 := 9728#32
  let v494 : BitVec 32 := c9728_i32
  ![v496.toNat, 9728]
def k0_mult10 : BitVec 32 :=
  let c14336_i32 : BitVec 32 := 14336#32
  c14336_i32
def k0_mult11 (i : grid0.Coords) : BitVec 32 :=
  let arg0 : BitVec 32 := BitVec.ofNat 32 (i 0).val
  let c1024_i32_309 : BitVec 32 := 1024#32
  let v502 : BitVec 32 := Scalar.muli arg0 c1024_i32_309
  v502
def k0_off8 (i : grid0.Coords) : Fin 2 → Nat :=
  let arg0 : BitVec 32 := BitVec.ofNat 32 (i 0).val
  let c1024_i32_309 : BitVec 32 := 1024#32
  let v502 : BitVec 32 := Scalar.muli arg0 c1024_i32_309
  let v503 : BitVec 32 := v502
  let c14336_i32 : BitVec 32 := 14336#32
  let v501 : BitVec 32 := c14336_i32
  ![v503.toNat, 14336]
def k0_mult12 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_313 : BitVec 32 := 7#32
  let v509 : BitVec 32 := Scalar.remsi v1 c7_i32_313
  let c18944_i32_314 : BitVec 32 := 18944#32
  let v510 : BitVec 32 := Scalar.muli v509 c18944_i32_314
  v510
def k0_mult13 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_312 : BitVec 32 := 2#32
  let v508 : BitVec 32 := Scalar.remsi v1 c2_i32_312
  let c18944_i32_315 : BitVec 32 := 18944#32
  let v512 : BitVec 32 := Scalar.muli v508 c18944_i32_315
  v512
def k0_off9 (i : grid0.Coords) (c0_i32_320 : BitVec 32) (c0_i32_322 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_318 : BitVec 32 := 2#32
  let v518 : BitVec 32 := Scalar.remsi v1 c2_i32_318
  let c18944_i32_319 : BitVec 32 := 18944#32
  let v519 : BitVec 32 := Scalar.muli v518 c18944_i32_319
  let v520 : BitVec 32 := Scalar.addi v519 c0_i32_320
  let c0_i32_321 : BitVec 32 := 0#32
  let v521 : BitVec 32 := Scalar.addi v520 c0_i32_321
  let v522 : BitVec 32 := Scalar.addi v521 c0_i32_322
  let v523 : Index := Scalar.indexCast v522
  let c0_323 : Index := 0#32
  ![v523.toNat, 0]
def k0_mult14 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_330 : BitVec 32 := 7#32
  let v534 : BitVec 32 := Scalar.remsi v1 c7_i32_330
  let c2_i32_331 : BitVec 32 := 2#32
  let v535 : BitVec 32 := Scalar.muli v534 c2_i32_331
  let c0_i32_332 : BitVec 32 := 0#32
  let v536 : BitVec 32 := Scalar.addi v535 c0_i32_332
  let c256_i32_333 : BitVec 32 := 256#32
  let v537 : BitVec 32 := Scalar.muli v536 c256_i32_333
  v537
def k0_off10 (i : grid0.Coords) (c0_i32_332 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_330 : BitVec 32 := 7#32
  let v534 : BitVec 32 := Scalar.remsi v1 c7_i32_330
  let c2_i32_331 : BitVec 32 := 2#32
  let v535 : BitVec 32 := Scalar.muli v534 c2_i32_331
  let v536 : BitVec 32 := Scalar.addi v535 c0_i32_332
  let c256_i32_333 : BitVec 32 := 256#32
  let v537 : BitVec 32 := Scalar.muli v536 c256_i32_333
  let v538 : BitVec 32 := v537
  let v539 : Index := Scalar.indexCast v538
  let c0_334 : Index := 0#32
  ![v539.toNat, 0]
def k0_mult15 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_356 : BitVec 32 := 7#32
  let v588 : BitVec 32 := Scalar.remsi v1 c7_i32_356
  let c2_i32_357 : BitVec 32 := 2#32
  let v589 : BitVec 32 := Scalar.muli v588 c2_i32_357
  let c1_i32_358 : BitVec 32 := 1#32
  let v590 : BitVec 32 := Scalar.addi v589 c1_i32_358
  let c256_i32_359 : BitVec 32 := 256#32
  let v591 : BitVec 32 := Scalar.muli v590 c256_i32_359
  v591
def k0_cond2 (i : grid0.Coords) : BitVec 1 :=
  let arg1 : BitVec 32 := BitVec.ofNat 32 (i 1).val
  let c0_i32_1 : BitVec 32 := 0#32
  let v8 : BitVec 1 := Scalar.cmpi .eq arg1 c0_i32_1
  let v9 : BitVec 32 := Scalar.extui v8
  let c0_i32_2 : BitVec 32 := 0#32
  let v10 : BitVec 1 := Scalar.cmpi .ne v9 c0_i32_2
  v10

def k0_mult16 (i : grid0.Coords) : BitVec 32 :=
  let arg0 : BitVec 32 := BitVec.ofNat 32 (i 0).val
  let c1024_i32 : BitVec 32 := 1024#32
  let v464 : BitVec 32 := Scalar.muli arg0 c1024_i32
  v464
def k0_off11 (i : grid0.Coords) : Fin 2 → Nat :=
  let arg0 : BitVec 32 := BitVec.ofNat 32 (i 0).val
  let c1024_i32 : BitVec 32 := 1024#32
  let v464 : BitVec 32 := Scalar.muli arg0 c1024_i32
  let v465 : BitVec 32 := v464
  let c0_i32_294 : BitVec 32 := 0#32
  ![v465.toNat, 0]
def k0_cond3 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32 : BitVec 32 := 1#32
  let v11 : BitVec 32 := Scalar.addi v1 c1_i32
  let c42_i32 : BitVec 32 := 42#32
  let v12 : BitVec 1 := Scalar.cmpi .slt v11 c42_i32
  let v13 : BitVec 32 := Scalar.extui v12
  let c0_i32_3 : BitVec 32 := 0#32
  let v14 : BitVec 1 := Scalar.cmpi .ne v13 c0_i32_3
  v14

def k0_mult17 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.addi v1 c1_i32_291
  let c7_i32_293 : BitVec 32 := 7#32
  let v466 : BitVec 32 := Scalar.remsi v464 c7_i32_293
  let c18944_i32_294 : BitVec 32 := 18944#32
  let v467 : BitVec 32 := Scalar.muli v466 c18944_i32_294
  v467
def k0_mult18 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.addi v1 c1_i32_291
  let c2_i32_292 : BitVec 32 := 2#32
  let v465 : BitVec 32 := Scalar.remsi v464 c2_i32_292
  let c18944_i32_295 : BitVec 32 := 18944#32
  let v469 : BitVec 32 := Scalar.muli v465 c18944_i32_295
  v469
def k0_off12 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.addi v1 c1_i32_291
  let c2_i32_292 : BitVec 32 := 2#32
  let v465 : BitVec 32 := Scalar.remsi v464 c2_i32_292
  ![v465.toNat]
def k0_off13 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.addi v1 c1_i32_291
  let c2_i32_292 : BitVec 32 := 2#32
  let v465 : BitVec 32 := Scalar.remsi v464 c2_i32_292
  let c18944_i32_295 : BitVec 32 := 18944#32
  let v469 : BitVec 32 := Scalar.muli v465 c18944_i32_295
  let v470 : BitVec 32 := v469
  let c0_i32_296 : BitVec 32 := 0#32
  ![v470.toNat, 0]
def k0_off14 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.addi v1 c1_i32_291
  let c7_i32_293 : BitVec 32 := 7#32
  let v466 : BitVec 32 := Scalar.remsi v464 c7_i32_293
  let c18944_i32_294 : BitVec 32 := 18944#32
  let v467 : BitVec 32 := Scalar.muli v466 c18944_i32_294
  let v468 : BitVec 32 := v467
  let c0_i32_297 : BitVec 32 := 0#32
  ![v468.toNat, 0]
def k0_cond4 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32 : BitVec 32 := 2#32
  let v15 : BitVec 1 := Scalar.cmpi .sge v1 c2_i32
  let v16 : BitVec 32 := Scalar.extui v15
  let c0_i32_4 : BitVec 32 := 0#32
  let v17 : BitVec 1 := Scalar.cmpi .ne v16 c0_i32_4
  v17

def k0_mult19 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_291 : BitVec 32 := 2#32
  let v464 : BitVec 32 := Scalar.subi v1 c2_i32_291
  let c0_i32_293 : BitVec 32 := 0#32
  let v466 : BitVec 1 := Scalar.cmpi .sgt v464 c0_i32_293
  let v467 : BitVec 32 := Scalar.extui v466
  let c0_i32_294 : BitVec 32 := 0#32
  let v468 : BitVec 1 := Scalar.cmpi .slt v464 c0_i32_294
  let v469 : BitVec 32 := Scalar.extui v468
  let v470 : BitVec 32 := Scalar.subi v467 v469
  let c7_i32_292 : BitVec 32 := 7#32
  let c0_i32_295 : BitVec 32 := 0#32
  let v471 : BitVec 1 := Scalar.cmpi .sgt c7_i32_292 c0_i32_295
  let v472 : BitVec 32 := Scalar.extui v471
  let c0_i32_296 : BitVec 32 := 0#32
  let v473 : BitVec 1 := Scalar.cmpi .slt c7_i32_292 c0_i32_296
  let v474 : BitVec 32 := Scalar.extui v473
  let v475 : BitVec 32 := Scalar.subi v472 v474
  let v476 : BitVec 1 := Scalar.cmpi .ne v470 v475
  let v477 : BitVec 32 := Scalar.remsi v464 c7_i32_292
  let c0_i32_297 : BitVec 32 := 0#32
  let v478 : BitVec 1 := Scalar.cmpi .ne v477 c0_i32_297
  let v479 : BitVec 1 := Scalar.andi v476 v478
  let v465 : BitVec 32 := Scalar.divsi v464 c7_i32_292
  let c1_i32_298 : BitVec 32 := 1#32
  let v480 : BitVec 32 := Scalar.subi v465 c1_i32_298
  let v481 : BitVec 32 := Scalar.select v479 v480 v465
  let c1024_i32 : BitVec 32 := 1024#32
  let v482 : BitVec 32 := Scalar.muli v481 c1024_i32
  v482
def k0_mult20 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_291 : BitVec 32 := 2#32
  let v464 : BitVec 32 := Scalar.subi v1 c2_i32_291
  let c7_i32_299 : BitVec 32 := 7#32
  let v484 : BitVec 32 := Scalar.remsi v464 c7_i32_299
  let c512_i32 : BitVec 32 := 512#32
  let v485 : BitVec 32 := Scalar.muli v484 c512_i32
  v485
def k0_off15 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_291 : BitVec 32 := 2#32
  let v464 : BitVec 32 := Scalar.subi v1 c2_i32_291
  let c0_i32_293 : BitVec 32 := 0#32
  let v466 : BitVec 1 := Scalar.cmpi .sgt v464 c0_i32_293
  let v467 : BitVec 32 := Scalar.extui v466
  let c0_i32_294 : BitVec 32 := 0#32
  let v468 : BitVec 1 := Scalar.cmpi .slt v464 c0_i32_294
  let v469 : BitVec 32 := Scalar.extui v468
  let v470 : BitVec 32 := Scalar.subi v467 v469
  let c7_i32_292 : BitVec 32 := 7#32
  let c0_i32_295 : BitVec 32 := 0#32
  let v471 : BitVec 1 := Scalar.cmpi .sgt c7_i32_292 c0_i32_295
  let v472 : BitVec 32 := Scalar.extui v471
  let c0_i32_296 : BitVec 32 := 0#32
  let v473 : BitVec 1 := Scalar.cmpi .slt c7_i32_292 c0_i32_296
  let v474 : BitVec 32 := Scalar.extui v473
  let v475 : BitVec 32 := Scalar.subi v472 v474
  let v476 : BitVec 1 := Scalar.cmpi .ne v470 v475
  let v477 : BitVec 32 := Scalar.remsi v464 c7_i32_292
  let c0_i32_297 : BitVec 32 := 0#32
  let v478 : BitVec 1 := Scalar.cmpi .ne v477 c0_i32_297
  let v479 : BitVec 1 := Scalar.andi v476 v478
  let v465 : BitVec 32 := Scalar.divsi v464 c7_i32_292
  let c1_i32_298 : BitVec 32 := 1#32
  let v480 : BitVec 32 := Scalar.subi v465 c1_i32_298
  let v481 : BitVec 32 := Scalar.select v479 v480 v465
  let c1024_i32 : BitVec 32 := 1024#32
  let v482 : BitVec 32 := Scalar.muli v481 c1024_i32
  let v483 : BitVec 32 := v482
  let c7_i32_299 : BitVec 32 := 7#32
  let v484 : BitVec 32 := Scalar.remsi v464 c7_i32_299
  let c512_i32 : BitVec 32 := 512#32
  let v485 : BitVec 32 := Scalar.muli v484 c512_i32
  let v486 : BitVec 32 := v485
  ![v483.toNat, v486.toNat]
def k0_mult21 : BitVec 32 :=
  let c0_i32_16 : BitVec 32 := 0#32
  c0_i32_16
def k0_mult22 : BitVec 32 :=
  let c0_i32_46 : BitVec 32 := 0#32
  c0_i32_46
def k0_mult23 : BitVec 32 :=
  let c0_i32_75 : BitVec 32 := 0#32
  c0_i32_75
def k0_mult24 : BitVec 32 :=
  let c0_i32_104 : BitVec 32 := 0#32
  c0_i32_104
def k0_off16 (i : grid0.Coords) (c0_i32_121 : BitVec 32) (c0_i32_122 : BitVec 32) (c0_i32_123 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_120 : BitVec 32 := 2#32
  let v158 : BitVec 32 := Scalar.remsi v1 c2_i32_120
  let c18944_i32 : BitVec 32 := 18944#32
  let v159 : BitVec 32 := Scalar.muli v158 c18944_i32
  let v160 : BitVec 32 := Scalar.addi v159 c0_i32_121
  let v161 : BitVec 32 := Scalar.addi v160 c0_i32_122
  let v162 : BitVec 32 := Scalar.addi v161 c0_i32_123
  let v163 : Index := Scalar.indexCast v162
  let c0_124 : Index := 0#32
  ![v163.toNat, 0]
def k0_mult25 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_128 : BitVec 32 := 7#32
  let v174 : BitVec 32 := Scalar.remsi v1 c7_i32_128
  let c2_i32_129 : BitVec 32 := 2#32
  let v175 : BitVec 32 := Scalar.muli v174 c2_i32_129
  let c0_i32_130 : BitVec 32 := 0#32
  let v176 : BitVec 32 := Scalar.addi v175 c0_i32_130
  let c256_i32 : BitVec 32 := 256#32
  let v177 : BitVec 32 := Scalar.muli v176 c256_i32
  v177
def k0_off17 (i : grid0.Coords) (c0_i32_130 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_128 : BitVec 32 := 7#32
  let v174 : BitVec 32 := Scalar.remsi v1 c7_i32_128
  let c2_i32_129 : BitVec 32 := 2#32
  let v175 : BitVec 32 := Scalar.muli v174 c2_i32_129
  let v176 : BitVec 32 := Scalar.addi v175 c0_i32_130
  let c256_i32 : BitVec 32 := 256#32
  let v177 : BitVec 32 := Scalar.muli v176 c256_i32
  let v178 : BitVec 32 := v177
  let v179 : Index := Scalar.indexCast v178
  let c0_131 : Index := 0#32
  ![v179.toNat, 0]
def k0_mult26 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_153 : BitVec 32 := 7#32
  let v236 : BitVec 32 := Scalar.remsi v1 c7_i32_153
  let c2_i32_154 : BitVec 32 := 2#32
  let v237 : BitVec 32 := Scalar.muli v236 c2_i32_154
  let c1_i32_155 : BitVec 32 := 1#32
  let v238 : BitVec 32 := Scalar.addi v237 c1_i32_155
  let c256_i32_156 : BitVec 32 := 256#32
  let v239 : BitVec 32 := Scalar.muli v238 c256_i32_156
  v239
def k0_mult27 : BitVec 32 :=
  let c256_i32_171 : BitVec 32 := 256#32
  c256_i32_171
def k0_mult28 : BitVec 32 :=
  let c256_i32_187 : BitVec 32 := 256#32
  c256_i32_187
def k0_mult29 : BitVec 32 :=
  let c256_i32_203 : BitVec 32 := 256#32
  c256_i32_203
def k0_mult30 : BitVec 32 :=
  let c256_i32_219 : BitVec 32 := 256#32
  c256_i32_219
def k0_mult31 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_247 : BitVec 32 := 7#32
  let v366 : BitVec 32 := Scalar.remsi v1 c7_i32_247
  let c2_i32_248 : BitVec 32 := 2#32
  let v367 : BitVec 32 := Scalar.muli v366 c2_i32_248
  let c0_i32_249 : BitVec 32 := 0#32
  let v368 : BitVec 32 := Scalar.addi v367 c0_i32_249
  let c256_i32_250 : BitVec 32 := 256#32
  let v369 : BitVec 32 := Scalar.muli v368 c256_i32_250
  v369
def k0_mult32 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_272 : BitVec 32 := 7#32
  let v420 : BitVec 32 := Scalar.remsi v1 c7_i32_272
  let c2_i32_273 : BitVec 32 := 2#32
  let v421 : BitVec 32 := Scalar.muli v420 c2_i32_273
  let c1_i32_274 : BitVec 32 := 1#32
  let v422 : BitVec 32 := Scalar.addi v421 c1_i32_274
  let c256_i32_275 : BitVec 32 := 256#32
  let v423 : BitVec 32 := Scalar.muli v422 c256_i32_275
  v423
def k0_cond5 (i : grid0.Coords) : BitVec 1 :=
  let arg1 : BitVec 32 := BitVec.ofNat 32 (i 1).val
  let c6_i32 : BitVec 32 := 6#32
  let v2 : BitVec 1 := Scalar.cmpi .eq arg1 c6_i32
  let arg0 : BitVec 32 := BitVec.ofNat 32 (i 0).val
  let c5_i32 : BitVec 32 := 5#32
  let v3 : BitVec 1 := Scalar.cmpi .slt arg0 c5_i32
  let v4 : BitVec 1 := Scalar.andi v2 v3
  let v458 : BitVec 32 := Scalar.extui v4
  let c0_i32_286 : BitVec 32 := 0#32
  let v459 : BitVec 1 := Scalar.cmpi .ne v458 c0_i32_286
  v459

def k0_mult33 (i : grid0.Coords) : BitVec 32 :=
  let arg0 : BitVec 32 := BitVec.ofNat 32 (i 0).val
  let c1_i32_291 : BitVec 32 := 1#32
  let v464 : BitVec 32 := Scalar.addi arg0 c1_i32_291
  let c1024_i32 : BitVec 32 := 1024#32
  let v465 : BitVec 32 := Scalar.muli v464 c1024_i32
  v465
def k0_off18 (i : grid0.Coords) : Fin 2 → Nat :=
  let arg0 : BitVec 32 := BitVec.ofNat 32 (i 0).val
  let c1_i32_291 : BitVec 32 := 1#32
  let v464 : BitVec 32 := Scalar.addi arg0 c1_i32_291
  let c1024_i32 : BitVec 32 := 1024#32
  let v465 : BitVec 32 := Scalar.muli v464 c1024_i32
  let v466 : BitVec 32 := v465
  let c0_i32_295 : BitVec 32 := 0#32
  ![v466.toNat, 0]
@[reducible] def k0_t1_loop : Scf.Loop 32 :=
  let c0_i32_287 : BitVec 32 := 0#32
  let c4_i32 : BitVec 32 := 4#32
  let v460 : BitVec 32 := Scalar.addi c0_i32_287 c4_i32
  let c1_i32_288 : BitVec 32 := 1#32
  ⟨c0_i32_287, v460, c1_i32_288⟩
def k0_cond6 (i : grid0.Coords) : BitVec 1 :=
  let arg1 : BitVec 32 := BitVec.ofNat 32 (i 1).val
  let c0_i32_291 : BitVec 32 := 0#32
  let v464 : BitVec 1 := Scalar.cmpi .eq arg1 c0_i32_291
  let v465 : BitVec 32 := Scalar.extui v464
  let c0_i32_292 : BitVec 32 := 0#32
  let v466 : BitVec 1 := Scalar.cmpi .ne v465 c0_i32_292
  v466

def k0_mult34 (k0_t1 : Fin k0_t1_loop.trips) : BitVec 32 :=
  let c512_i32_2499 : BitVec 32 := 512#32
  let c0_i32_287 : BitVec 32 := 0#32
  let c1_i32_288 : BitVec 32 := 1#32
  let arg24 : BitVec 32 := Scf.iv c0_i32_287 c1_i32_288 k0_t1
  let c1_i32_2497 : BitVec 32 := 1#32
  let v3976 : BitVec 32 := Scalar.addi arg24 c1_i32_2497
  let c1_i32_2498 : BitVec 32 := 1#32
  let v3977 : BitVec 32 := Scalar.subi v3976 c1_i32_2498
  let c4608_i32 : BitVec 32 := 4608#32
  let v3978 : BitVec 32 := Scalar.muli v3977 c4608_i32
  let v3979 : BitVec 32 := Scalar.addi c512_i32_2499 v3978
  v3979
def k0_mult35 (i : grid0.Coords) : BitVec 32 :=
  let arg0 : BitVec 32 := BitVec.ofNat 32 (i 0).val
  let c1024_i32 : BitVec 32 := 1024#32
  let v3981 : BitVec 32 := Scalar.muli arg0 c1024_i32
  v3981
def k0_off19 (k0_t1 : Fin k0_t1_loop.trips) : Fin 1 → Nat :=
  let c0_i32_287 : BitVec 32 := 0#32
  let c1_i32_288 : BitVec 32 := 1#32
  let arg24 : BitVec 32 := Scf.iv c0_i32_287 c1_i32_288 k0_t1
  let c1_i32_2497 : BitVec 32 := 1#32
  let v3976 : BitVec 32 := Scalar.addi arg24 c1_i32_2497
  ![v3976.toNat]
def k0_off20 (k0_t1 : Fin k0_t1_loop.trips) : Fin 2 → Nat :=
  let c0_i32_2500 : BitVec 32 := 0#32
  let c512_i32_2499 : BitVec 32 := 512#32
  let c0_i32_287 : BitVec 32 := 0#32
  let c1_i32_288 : BitVec 32 := 1#32
  let arg24 : BitVec 32 := Scf.iv c0_i32_287 c1_i32_288 k0_t1
  let c1_i32_2497 : BitVec 32 := 1#32
  let v3976 : BitVec 32 := Scalar.addi arg24 c1_i32_2497
  let c1_i32_2498 : BitVec 32 := 1#32
  let v3977 : BitVec 32 := Scalar.subi v3976 c1_i32_2498
  let c4608_i32 : BitVec 32 := 4608#32
  let v3978 : BitVec 32 := Scalar.muli v3977 c4608_i32
  let v3979 : BitVec 32 := Scalar.addi c512_i32_2499 v3978
  let v3980 : BitVec 32 := v3979
  ![0, v3980.toNat]
def k0_off21 (i : grid0.Coords) (k0_t1 : Fin k0_t1_loop.trips) : Fin 2 → Nat :=
  let arg0 : BitVec 32 := BitVec.ofNat 32 (i 0).val
  let c1024_i32 : BitVec 32 := 1024#32
  let v3981 : BitVec 32 := Scalar.muli arg0 c1024_i32
  let v3982 : BitVec 32 := v3981
  let c512_i32_2499 : BitVec 32 := 512#32
  let c0_i32_287 : BitVec 32 := 0#32
  let c1_i32_288 : BitVec 32 := 1#32
  let arg24 : BitVec 32 := Scf.iv c0_i32_287 c1_i32_288 k0_t1
  let c1_i32_2497 : BitVec 32 := 1#32
  let v3976 : BitVec 32 := Scalar.addi arg24 c1_i32_2497
  let c1_i32_2498 : BitVec 32 := 1#32
  let v3977 : BitVec 32 := Scalar.subi v3976 c1_i32_2498
  let c4608_i32 : BitVec 32 := 4608#32
  let v3978 : BitVec 32 := Scalar.muli v3977 c4608_i32
  let v3979 : BitVec 32 := Scalar.addi c512_i32_2499 v3978
  let v3980 : BitVec 32 := v3979
  ![v3982.toNat, v3980.toNat]
def k0_cond7 (i : grid0.Coords) (k0_t1 : Fin k0_t1_loop.trips) : BitVec 1 :=
  let c0_i32_287 : BitVec 32 := 0#32
  let c1_i32_288 : BitVec 32 := 1#32
  let arg24 : BitVec 32 := Scf.iv c0_i32_287 c1_i32_288 k0_t1
  let c1_i32_293 : BitVec 32 := 1#32
  let v467 : BitVec 1 := Scalar.cmpi .eq arg24 c1_i32_293
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_294 : BitVec 32 := 1#32
  let v468 : BitVec 1 := Scalar.cmpi .sge v1 c1_i32_294
  let v469 : BitVec 1 := Scalar.andi v467 v468
  let v470 : BitVec 32 := Scalar.extui v469
  let c0_i32_295 : BitVec 32 := 0#32
  let v471 : BitVec 1 := Scalar.cmpi .ne v470 c0_i32_295
  v471

def k0_mult36 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.subi v1 c1_i32_2497
  let c0_i32_2499 : BitVec 32 := 0#32
  let v3978 : BitVec 1 := Scalar.cmpi .sgt v3976 c0_i32_2499
  let v3979 : BitVec 32 := Scalar.extui v3978
  let c0_i32_2500 : BitVec 32 := 0#32
  let v3980 : BitVec 1 := Scalar.cmpi .slt v3976 c0_i32_2500
  let v3981 : BitVec 32 := Scalar.extui v3980
  let v3982 : BitVec 32 := Scalar.subi v3979 v3981
  let c7_i32_2498 : BitVec 32 := 7#32
  let c0_i32_2501 : BitVec 32 := 0#32
  let v3983 : BitVec 1 := Scalar.cmpi .sgt c7_i32_2498 c0_i32_2501
  let v3984 : BitVec 32 := Scalar.extui v3983
  let c0_i32_2502 : BitVec 32 := 0#32
  let v3985 : BitVec 1 := Scalar.cmpi .slt c7_i32_2498 c0_i32_2502
  let v3986 : BitVec 32 := Scalar.extui v3985
  let v3987 : BitVec 32 := Scalar.subi v3984 v3986
  let v3988 : BitVec 1 := Scalar.cmpi .ne v3982 v3987
  let v3989 : BitVec 32 := Scalar.remsi v3976 c7_i32_2498
  let c0_i32_2503 : BitVec 32 := 0#32
  let v3990 : BitVec 1 := Scalar.cmpi .ne v3989 c0_i32_2503
  let v3991 : BitVec 1 := Scalar.andi v3988 v3990
  let v3977 : BitVec 32 := Scalar.divsi v3976 c7_i32_2498
  let c1_i32_2504 : BitVec 32 := 1#32
  let v3992 : BitVec 32 := Scalar.subi v3977 c1_i32_2504
  let v3993 : BitVec 32 := Scalar.select v3991 v3992 v3977
  let c1024_i32 : BitVec 32 := 1024#32
  let v3994 : BitVec 32 := Scalar.muli v3993 c1024_i32
  v3994
def k0_mult37 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.subi v1 c1_i32_2497
  let c7_i32_2505 : BitVec 32 := 7#32
  let v3996 : BitVec 32 := Scalar.remsi v3976 c7_i32_2505
  let c512_i32_2506 : BitVec 32 := 512#32
  let v3997 : BitVec 32 := Scalar.muli v3996 c512_i32_2506
  v3997
def k0_off22 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.subi v1 c1_i32_2497
  let c0_i32_2499 : BitVec 32 := 0#32
  let v3978 : BitVec 1 := Scalar.cmpi .sgt v3976 c0_i32_2499
  let v3979 : BitVec 32 := Scalar.extui v3978
  let c0_i32_2500 : BitVec 32 := 0#32
  let v3980 : BitVec 1 := Scalar.cmpi .slt v3976 c0_i32_2500
  let v3981 : BitVec 32 := Scalar.extui v3980
  let v3982 : BitVec 32 := Scalar.subi v3979 v3981
  let c7_i32_2498 : BitVec 32 := 7#32
  let c0_i32_2501 : BitVec 32 := 0#32
  let v3983 : BitVec 1 := Scalar.cmpi .sgt c7_i32_2498 c0_i32_2501
  let v3984 : BitVec 32 := Scalar.extui v3983
  let c0_i32_2502 : BitVec 32 := 0#32
  let v3985 : BitVec 1 := Scalar.cmpi .slt c7_i32_2498 c0_i32_2502
  let v3986 : BitVec 32 := Scalar.extui v3985
  let v3987 : BitVec 32 := Scalar.subi v3984 v3986
  let v3988 : BitVec 1 := Scalar.cmpi .ne v3982 v3987
  let v3989 : BitVec 32 := Scalar.remsi v3976 c7_i32_2498
  let c0_i32_2503 : BitVec 32 := 0#32
  let v3990 : BitVec 1 := Scalar.cmpi .ne v3989 c0_i32_2503
  let v3991 : BitVec 1 := Scalar.andi v3988 v3990
  let v3977 : BitVec 32 := Scalar.divsi v3976 c7_i32_2498
  let c1_i32_2504 : BitVec 32 := 1#32
  let v3992 : BitVec 32 := Scalar.subi v3977 c1_i32_2504
  let v3993 : BitVec 32 := Scalar.select v3991 v3992 v3977
  let c1024_i32 : BitVec 32 := 1024#32
  let v3994 : BitVec 32 := Scalar.muli v3993 c1024_i32
  let v3995 : BitVec 32 := v3994
  let c7_i32_2505 : BitVec 32 := 7#32
  let v3996 : BitVec 32 := Scalar.remsi v3976 c7_i32_2505
  let c512_i32_2506 : BitVec 32 := 512#32
  let v3997 : BitVec 32 := Scalar.muli v3996 c512_i32_2506
  let v3998 : BitVec 32 := v3997
  ![v3995.toNat, v3998.toNat]
def k0_cond8 (i : grid0.Coords) (k0_t1 : Fin k0_t1_loop.trips) : BitVec 1 :=
  let c0_i32_287 : BitVec 32 := 0#32
  let c1_i32_288 : BitVec 32 := 1#32
  let arg24 : BitVec 32 := Scf.iv c0_i32_287 c1_i32_288 k0_t1
  let c3_i32 : BitVec 32 := 3#32
  let v472 : BitVec 1 := Scalar.cmpi .eq arg24 c3_i32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_296 : BitVec 32 := 1#32
  let v473 : BitVec 32 := Scalar.addi v1 c1_i32_296
  let c42_i32_297 : BitVec 32 := 42#32
  let v474 : BitVec 1 := Scalar.cmpi .slt v473 c42_i32_297
  let v475 : BitVec 1 := Scalar.andi v472 v474
  let v476 : BitVec 32 := Scalar.extui v475
  let c0_i32_298 : BitVec 32 := 0#32
  let v477 : BitVec 1 := Scalar.cmpi .ne v476 c0_i32_298
  v477

def k0_mult38 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.addi v1 c1_i32_2497
  let c7_i32_2499 : BitVec 32 := 7#32
  let v3978 : BitVec 32 := Scalar.remsi v3976 c7_i32_2499
  let c18944_i32_2500 : BitVec 32 := 18944#32
  let v3979 : BitVec 32 := Scalar.muli v3978 c18944_i32_2500
  v3979
def k0_mult39 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.addi v1 c1_i32_2497
  let c2_i32_2498 : BitVec 32 := 2#32
  let v3977 : BitVec 32 := Scalar.remsi v3976 c2_i32_2498
  let c18944_i32_2501 : BitVec 32 := 18944#32
  let v3981 : BitVec 32 := Scalar.muli v3977 c18944_i32_2501
  v3981
def k0_off23 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.addi v1 c1_i32_2497
  let c2_i32_2498 : BitVec 32 := 2#32
  let v3977 : BitVec 32 := Scalar.remsi v3976 c2_i32_2498
  ![v3977.toNat]
def k0_off24 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.addi v1 c1_i32_2497
  let c2_i32_2498 : BitVec 32 := 2#32
  let v3977 : BitVec 32 := Scalar.remsi v3976 c2_i32_2498
  let c18944_i32_2501 : BitVec 32 := 18944#32
  let v3981 : BitVec 32 := Scalar.muli v3977 c18944_i32_2501
  let v3982 : BitVec 32 := v3981
  let c0_i32_2502 : BitVec 32 := 0#32
  ![v3982.toNat, 0]
def k0_off25 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2497 : BitVec 32 := 1#32
  let v3976 : BitVec 32 := Scalar.addi v1 c1_i32_2497
  let c7_i32_2499 : BitVec 32 := 7#32
  let v3978 : BitVec 32 := Scalar.remsi v3976 c7_i32_2499
  let c18944_i32_2500 : BitVec 32 := 18944#32
  let v3979 : BitVec 32 := Scalar.muli v3978 c18944_i32_2500
  let v3980 : BitVec 32 := v3979
  let c0_i32_2503 : BitVec 32 := 0#32
  ![v3980.toNat, 0]
def k0_mult40 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32 : BitVec 32 := 512#32
  let v481 : BitVec 32 := Scalar.muli v480 c512_i32
  let c0_i32_301 : BitVec 32 := 0#32
  let v482 : BitVec 32 := Scalar.addi v481 c0_i32_301
  v482
def k0_off26 (k0_t1 : Fin k0_t1_loop.trips) (c0_i32_300 : BitVec 32) (c0_i32_301 : BitVec 32) : Fin 2 → Nat :=
  let c0_302 : Index := 0#32
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let v480 : BitVec 32 := Scalar.addi v479 c0_i32_300
  let c512_i32 : BitVec 32 := 512#32
  let v481 : BitVec 32 := Scalar.muli v480 c512_i32
  let v482 : BitVec 32 := Scalar.addi v481 c0_i32_301
  let v483 : BitVec 32 := v482
  let v484 : Index := Scalar.indexCast v483
  ![0, v484.toNat]
def k0_mult41 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_317 : BitVec 32 := 512#32
  let v500 : BitVec 32 := Scalar.muli v480 c512_i32_317
  let c0_i32_318 : BitVec 32 := 0#32
  let v501 : BitVec 32 := Scalar.addi v500 c0_i32_318
  v501
def k0_off27 (k0_t1 : Fin k0_t1_loop.trips) (c0_i32_300 : BitVec 32) (c0_i32_318 : BitVec 32) : Fin 2 → Nat :=
  let c256_319 : Index := 256#32
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let v480 : BitVec 32 := Scalar.addi v479 c0_i32_300
  let c512_i32_317 : BitVec 32 := 512#32
  let v500 : BitVec 32 := Scalar.muli v480 c512_i32_317
  let v501 : BitVec 32 := Scalar.addi v500 c0_i32_318
  let v502 : BitVec 32 := v501
  let v503 : Index := Scalar.indexCast v502
  ![256, v503.toNat]
def k0_mult42 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_334 : BitVec 32 := 512#32
  let v519 : BitVec 32 := Scalar.muli v480 c512_i32_334
  let c0_i32_335 : BitVec 32 := 0#32
  let v520 : BitVec 32 := Scalar.addi v519 c0_i32_335
  v520
def k0_off28 (k0_t1 : Fin k0_t1_loop.trips) (c0_i32_300 : BitVec 32) (c0_i32_335 : BitVec 32) : Fin 2 → Nat :=
  let c512_336 : Index := 512#32
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let v480 : BitVec 32 := Scalar.addi v479 c0_i32_300
  let c512_i32_334 : BitVec 32 := 512#32
  let v519 : BitVec 32 := Scalar.muli v480 c512_i32_334
  let v520 : BitVec 32 := Scalar.addi v519 c0_i32_335
  let v521 : BitVec 32 := v520
  let v522 : Index := Scalar.indexCast v521
  ![512, v522.toNat]
def k0_mult43 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_351 : BitVec 32 := 512#32
  let v538 : BitVec 32 := Scalar.muli v480 c512_i32_351
  let c0_i32_352 : BitVec 32 := 0#32
  let v539 : BitVec 32 := Scalar.addi v538 c0_i32_352
  v539
def k0_off29 (k0_t1 : Fin k0_t1_loop.trips) (c0_i32_300 : BitVec 32) (c0_i32_352 : BitVec 32) : Fin 2 → Nat :=
  let c768_353 : Index := 768#32
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let v480 : BitVec 32 := Scalar.addi v479 c0_i32_300
  let c512_i32_351 : BitVec 32 := 512#32
  let v538 : BitVec 32 := Scalar.muli v480 c512_i32_351
  let v539 : BitVec 32 := Scalar.addi v538 c0_i32_352
  let v540 : BitVec 32 := v539
  let v541 : Index := Scalar.indexCast v540
  ![768, v541.toNat]
def k0_off30 (i : grid0.Coords) (k0_t1 : Fin k0_t1_loop.trips) (c0_i32_370 : BitVec 32) (c0_i32_300 : BitVec 32) (c0_i32_371 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_368 : BitVec 32 := 2#32
  let v557 : BitVec 32 := Scalar.remsi v1 c2_i32_368
  let c18944_i32_369 : BitVec 32 := 18944#32
  let v558 : BitVec 32 := Scalar.muli v557 c18944_i32_369
  let v559 : BitVec 32 := Scalar.addi v558 c0_i32_370
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let v480 : BitVec 32 := Scalar.addi v479 c0_i32_300
  let v560 : BitVec 32 := Scalar.addi v559 v480
  let v561 : BitVec 32 := Scalar.addi v560 c0_i32_371
  let v562 : Index := Scalar.indexCast v561
  let c0_372 : Index := 0#32
  ![v562.toNat, 0]
def k0_mult44 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_379 : BitVec 32 := 7#32
  let v573 : BitVec 32 := Scalar.remsi v1 c7_i32_379
  let c2_i32_380 : BitVec 32 := 2#32
  let v574 : BitVec 32 := Scalar.muli v573 c2_i32_380
  let c0_i32_381 : BitVec 32 := 0#32
  let v575 : BitVec 32 := Scalar.addi v574 c0_i32_381
  let c256_i32_382 : BitVec 32 := 256#32
  let v576 : BitVec 32 := Scalar.muli v575 c256_i32_382
  v576
def k0_off31 (i : grid0.Coords) (c0_i32_381 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_379 : BitVec 32 := 7#32
  let v573 : BitVec 32 := Scalar.remsi v1 c7_i32_379
  let c2_i32_380 : BitVec 32 := 2#32
  let v574 : BitVec 32 := Scalar.muli v573 c2_i32_380
  let v575 : BitVec 32 := Scalar.addi v574 c0_i32_381
  let c256_i32_382 : BitVec 32 := 256#32
  let v576 : BitVec 32 := Scalar.muli v575 c256_i32_382
  let v577 : BitVec 32 := v576
  let v578 : Index := Scalar.indexCast v577
  let c0_383 : Index := 0#32
  ![v578.toNat, 0]
def k0_mult45 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_407 : BitVec 32 := 7#32
  let v635 : BitVec 32 := Scalar.remsi v1 c7_i32_407
  let c2_i32_408 : BitVec 32 := 2#32
  let v636 : BitVec 32 := Scalar.muli v635 c2_i32_408
  let c1_i32_409 : BitVec 32 := 1#32
  let v637 : BitVec 32 := Scalar.addi v636 c1_i32_409
  let c256_i32_410 : BitVec 32 := 256#32
  let v638 : BitVec 32 := Scalar.muli v637 c256_i32_410
  v638
def k0_mult46 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_424 : BitVec 32 := 512#32
  let v681 : BitVec 32 := Scalar.muli v480 c512_i32_424
  let c256_i32_425 : BitVec 32 := 256#32
  let v682 : BitVec 32 := Scalar.addi v681 c256_i32_425
  v682
def k0_mult47 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_441 : BitVec 32 := 512#32
  let v700 : BitVec 32 := Scalar.muli v480 c512_i32_441
  let c256_i32_442 : BitVec 32 := 256#32
  let v701 : BitVec 32 := Scalar.addi v700 c256_i32_442
  v701
def k0_mult48 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_458 : BitVec 32 := 512#32
  let v719 : BitVec 32 := Scalar.muli v480 c512_i32_458
  let c256_i32_459 : BitVec 32 := 256#32
  let v720 : BitVec 32 := Scalar.addi v719 c256_i32_459
  v720
def k0_mult49 (k0_t1 : Fin k0_t1_loop.trips) : BitVec 32 :=
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let c0_i32_300 : BitVec 32 := 0#32
  let v480 : BitVec 32 := Scalar.addi v479 c0_i32_300
  let c512_i32_475 : BitVec 32 := 512#32
  let v738 : BitVec 32 := Scalar.muli v480 c512_i32_475
  let c256_i32_476 : BitVec 32 := 256#32
  let v739 : BitVec 32 := Scalar.addi v738 c256_i32_476
  v739
def k0_off32 (i : grid0.Coords) (k0_t1 : Fin k0_t1_loop.trips) (c0_i32_495 : BitVec 32) (c0_i32_300 : BitVec 32) (c0_i32_496 : BitVec 32) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c2_i32_493 : BitVec 32 := 2#32
  let v758 : BitVec 32 := Scalar.remsi v1 c2_i32_493
  let c18944_i32_494 : BitVec 32 := 18944#32
  let v759 : BitVec 32 := Scalar.muli v758 c18944_i32_494
  let v760 : BitVec 32 := Scalar.addi v759 c0_i32_495
  let c1_i32_299 : BitVec 32 := 1#32
  let c0_i32_287 : BitVec 32 := 0#32
  let c1_i32_288 : BitVec 32 := 1#32
  let arg24 : BitVec 32 := Scf.iv c0_i32_287 c1_i32_288 k0_t1
  let c9_i32 : BitVec 32 := 9#32
  let v478 : BitVec 32 := Scalar.muli arg24 c9_i32
  let v479 : BitVec 32 := Scalar.addi c1_i32_299 v478
  let v480 : BitVec 32 := Scalar.addi v479 c0_i32_300
  let c1_i32_492 : BitVec 32 := 1#32
  let v757 : BitVec 32 := Scalar.addi v480 c1_i32_492
  let v761 : BitVec 32 := Scalar.addi v760 v757
  let v762 : BitVec 32 := Scalar.addi v761 c0_i32_496
  let v763 : Index := Scalar.indexCast v762
  let c0_497 : Index := 0#32
  ![v763.toNat, 0]
def k0_mult50 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_504 : BitVec 32 := 7#32
  let v774 : BitVec 32 := Scalar.remsi v1 c7_i32_504
  let c2_i32_505 : BitVec 32 := 2#32
  let v775 : BitVec 32 := Scalar.muli v774 c2_i32_505
  let c0_i32_506 : BitVec 32 := 0#32
  let v776 : BitVec 32 := Scalar.addi v775 c0_i32_506
  let c256_i32_507 : BitVec 32 := 256#32
  let v777 : BitVec 32 := Scalar.muli v776 c256_i32_507
  v777
def k0_mult51 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_528 : BitVec 32 := 7#32
  let v828 : BitVec 32 := Scalar.remsi v1 c7_i32_528
  let c2_i32_529 : BitVec 32 := 2#32
  let v829 : BitVec 32 := Scalar.muli v828 c2_i32_529
  let c1_i32_530 : BitVec 32 := 1#32
  let v830 : BitVec 32 := Scalar.addi v829 c1_i32_530
  let c256_i32_531 : BitVec 32 := 256#32
  let v831 : BitVec 32 := Scalar.muli v830 c256_i32_531
  v831
def k0_mult52 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_544 : BitVec 32 := 512#32
  let v869 : BitVec 32 := Scalar.muli v868 c512_i32_544
  let c0_i32_545 : BitVec 32 := 0#32
  let v870 : BitVec 32 := Scalar.addi v869 c0_i32_545
  v870
def k0_mult53 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_561 : BitVec 32 := 512#32
  let v888 : BitVec 32 := Scalar.muli v868 c512_i32_561
  let c0_i32_562 : BitVec 32 := 0#32
  let v889 : BitVec 32 := Scalar.addi v888 c0_i32_562
  v889
def k0_mult54 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_578 : BitVec 32 := 512#32
  let v907 : BitVec 32 := Scalar.muli v868 c512_i32_578
  let c0_i32_579 : BitVec 32 := 0#32
  let v908 : BitVec 32 := Scalar.addi v907 c0_i32_579
  v908
def k0_mult55 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_595 : BitVec 32 := 512#32
  let v926 : BitVec 32 := Scalar.muli v868 c512_i32_595
  let c0_i32_596 : BitVec 32 := 0#32
  let v927 : BitVec 32 := Scalar.addi v926 c0_i32_596
  v927
def k0_mult56 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_623 : BitVec 32 := 7#32
  let v961 : BitVec 32 := Scalar.remsi v1 c7_i32_623
  let c2_i32_624 : BitVec 32 := 2#32
  let v962 : BitVec 32 := Scalar.muli v961 c2_i32_624
  let c0_i32_625 : BitVec 32 := 0#32
  let v963 : BitVec 32 := Scalar.addi v962 c0_i32_625
  let c256_i32_626 : BitVec 32 := 256#32
  let v964 : BitVec 32 := Scalar.muli v963 c256_i32_626
  v964
def k0_mult57 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_651 : BitVec 32 := 7#32
  let v1023 : BitVec 32 := Scalar.remsi v1 c7_i32_651
  let c2_i32_652 : BitVec 32 := 2#32
  let v1024 : BitVec 32 := Scalar.muli v1023 c2_i32_652
  let c1_i32_653 : BitVec 32 := 1#32
  let v1025 : BitVec 32 := Scalar.addi v1024 c1_i32_653
  let c256_i32_654 : BitVec 32 := 256#32
  let v1026 : BitVec 32 := Scalar.muli v1025 c256_i32_654
  v1026
def k0_mult58 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_668 : BitVec 32 := 512#32
  let v1069 : BitVec 32 := Scalar.muli v868 c512_i32_668
  let c256_i32_669 : BitVec 32 := 256#32
  let v1070 : BitVec 32 := Scalar.addi v1069 c256_i32_669
  v1070
def k0_mult59 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_685 : BitVec 32 := 512#32
  let v1088 : BitVec 32 := Scalar.muli v868 c512_i32_685
  let c256_i32_686 : BitVec 32 := 256#32
  let v1089 : BitVec 32 := Scalar.addi v1088 c256_i32_686
  v1089
def k0_mult60 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_702 : BitVec 32 := 512#32
  let v1107 : BitVec 32 := Scalar.muli v868 c512_i32_702
  let c256_i32_703 : BitVec 32 := 256#32
  let v1108 : BitVec 32 := Scalar.addi v1107 c256_i32_703
  v1108
def k0_mult61 (k0_t1 : Fin k0_t1_loop.trips) : BitVec 32 :=
  let c1_i32_542 : BitVec 32 := 1#32
  let c0_i32_287 : BitVec 32 := 0#32
  let c1_i32_288 : BitVec 32 := 1#32
  let arg24 : BitVec 32 := Scf.iv c0_i32_287 c1_i32_288 k0_t1
  let c9_i32_541 : BitVec 32 := 9#32
  let v866 : BitVec 32 := Scalar.muli arg24 c9_i32_541
  let v867 : BitVec 32 := Scalar.addi c1_i32_542 v866
  let c1_i32_543 : BitVec 32 := 1#32
  let v868 : BitVec 32 := Scalar.addi v867 c1_i32_543
  let c512_i32_719 : BitVec 32 := 512#32
  let v1126 : BitVec 32 := Scalar.muli v868 c512_i32_719
  let c256_i32_720 : BitVec 32 := 256#32
  let v1127 : BitVec 32 := Scalar.addi v1126 c256_i32_720
  v1127
def k0_mult62 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_748 : BitVec 32 := 7#32
  let v1162 : BitVec 32 := Scalar.remsi v1 c7_i32_748
  let c2_i32_749 : BitVec 32 := 2#32
  let v1163 : BitVec 32 := Scalar.muli v1162 c2_i32_749
  let c0_i32_750 : BitVec 32 := 0#32
  let v1164 : BitVec 32 := Scalar.addi v1163 c0_i32_750
  let c256_i32_751 : BitVec 32 := 256#32
  let v1165 : BitVec 32 := Scalar.muli v1164 c256_i32_751
  v1165
def k0_mult63 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_772 : BitVec 32 := 7#32
  let v1216 : BitVec 32 := Scalar.remsi v1 c7_i32_772
  let c2_i32_773 : BitVec 32 := 2#32
  let v1217 : BitVec 32 := Scalar.muli v1216 c2_i32_773
  let c1_i32_774 : BitVec 32 := 1#32
  let v1218 : BitVec 32 := Scalar.addi v1217 c1_i32_774
  let c256_i32_775 : BitVec 32 := 256#32
  let v1219 : BitVec 32 := Scalar.muli v1218 c256_i32_775
  v1219
def k0_mult64 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_788 : BitVec 32 := 512#32
  let v1257 : BitVec 32 := Scalar.muli v1256 c512_i32_788
  let c0_i32_789 : BitVec 32 := 0#32
  let v1258 : BitVec 32 := Scalar.addi v1257 c0_i32_789
  v1258
def k0_mult65 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_805 : BitVec 32 := 512#32
  let v1276 : BitVec 32 := Scalar.muli v1256 c512_i32_805
  let c0_i32_806 : BitVec 32 := 0#32
  let v1277 : BitVec 32 := Scalar.addi v1276 c0_i32_806
  v1277
def k0_mult66 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_822 : BitVec 32 := 512#32
  let v1295 : BitVec 32 := Scalar.muli v1256 c512_i32_822
  let c0_i32_823 : BitVec 32 := 0#32
  let v1296 : BitVec 32 := Scalar.addi v1295 c0_i32_823
  v1296
def k0_mult67 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_839 : BitVec 32 := 512#32
  let v1314 : BitVec 32 := Scalar.muli v1256 c512_i32_839
  let c0_i32_840 : BitVec 32 := 0#32
  let v1315 : BitVec 32 := Scalar.addi v1314 c0_i32_840
  v1315
def k0_mult68 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_867 : BitVec 32 := 7#32
  let v1349 : BitVec 32 := Scalar.remsi v1 c7_i32_867
  let c2_i32_868 : BitVec 32 := 2#32
  let v1350 : BitVec 32 := Scalar.muli v1349 c2_i32_868
  let c0_i32_869 : BitVec 32 := 0#32
  let v1351 : BitVec 32 := Scalar.addi v1350 c0_i32_869
  let c256_i32_870 : BitVec 32 := 256#32
  let v1352 : BitVec 32 := Scalar.muli v1351 c256_i32_870
  v1352
def k0_mult69 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_895 : BitVec 32 := 7#32
  let v1411 : BitVec 32 := Scalar.remsi v1 c7_i32_895
  let c2_i32_896 : BitVec 32 := 2#32
  let v1412 : BitVec 32 := Scalar.muli v1411 c2_i32_896
  let c1_i32_897 : BitVec 32 := 1#32
  let v1413 : BitVec 32 := Scalar.addi v1412 c1_i32_897
  let c256_i32_898 : BitVec 32 := 256#32
  let v1414 : BitVec 32 := Scalar.muli v1413 c256_i32_898
  v1414
def k0_mult70 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_912 : BitVec 32 := 512#32
  let v1457 : BitVec 32 := Scalar.muli v1256 c512_i32_912
  let c256_i32_913 : BitVec 32 := 256#32
  let v1458 : BitVec 32 := Scalar.addi v1457 c256_i32_913
  v1458
def k0_mult71 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_929 : BitVec 32 := 512#32
  let v1476 : BitVec 32 := Scalar.muli v1256 c512_i32_929
  let c256_i32_930 : BitVec 32 := 256#32
  let v1477 : BitVec 32 := Scalar.addi v1476 c256_i32_930
  v1477
def k0_mult72 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_946 : BitVec 32 := 512#32
  let v1495 : BitVec 32 := Scalar.muli v1256 c512_i32_946
  let c256_i32_947 : BitVec 32 := 256#32
  let v1496 : BitVec 32 := Scalar.addi v1495 c256_i32_947
  v1496
def k0_mult73 (k0_t1 : Fin k0_t1_loop.trips) : BitVec 32 :=
  let c1_i32_786 : BitVec 32 := 1#32
  let c0_i32_287 : BitVec 32 := 0#32
  let c1_i32_288 : BitVec 32 := 1#32
  let arg24 : BitVec 32 := Scf.iv c0_i32_287 c1_i32_288 k0_t1
  let c9_i32_785 : BitVec 32 := 9#32
  let v1254 : BitVec 32 := Scalar.muli arg24 c9_i32_785
  let v1255 : BitVec 32 := Scalar.addi c1_i32_786 v1254
  let c2_i32_787 : BitVec 32 := 2#32
  let v1256 : BitVec 32 := Scalar.addi v1255 c2_i32_787
  let c512_i32_963 : BitVec 32 := 512#32
  let v1514 : BitVec 32 := Scalar.muli v1256 c512_i32_963
  let c256_i32_964 : BitVec 32 := 256#32
  let v1515 : BitVec 32 := Scalar.addi v1514 c256_i32_964
  v1515
def k0_mult74 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_992 : BitVec 32 := 7#32
  let v1550 : BitVec 32 := Scalar.remsi v1 c7_i32_992
  let c2_i32_993 : BitVec 32 := 2#32
  let v1551 : BitVec 32 := Scalar.muli v1550 c2_i32_993
  let c0_i32_994 : BitVec 32 := 0#32
  let v1552 : BitVec 32 := Scalar.addi v1551 c0_i32_994
  let c256_i32_995 : BitVec 32 := 256#32
  let v1553 : BitVec 32 := Scalar.muli v1552 c256_i32_995
  v1553
def k0_mult75 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1016 : BitVec 32 := 7#32
  let v1604 : BitVec 32 := Scalar.remsi v1 c7_i32_1016
  let c2_i32_1017 : BitVec 32 := 2#32
  let v1605 : BitVec 32 := Scalar.muli v1604 c2_i32_1017
  let c1_i32_1018 : BitVec 32 := 1#32
  let v1606 : BitVec 32 := Scalar.addi v1605 c1_i32_1018
  let c256_i32_1019 : BitVec 32 := 256#32
  let v1607 : BitVec 32 := Scalar.muli v1606 c256_i32_1019
  v1607
def k0_mult76 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1032 : BitVec 32 := 512#32
  let v1645 : BitVec 32 := Scalar.muli v1644 c512_i32_1032
  let c0_i32_1033 : BitVec 32 := 0#32
  let v1646 : BitVec 32 := Scalar.addi v1645 c0_i32_1033
  v1646
def k0_mult77 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1049 : BitVec 32 := 512#32
  let v1664 : BitVec 32 := Scalar.muli v1644 c512_i32_1049
  let c0_i32_1050 : BitVec 32 := 0#32
  let v1665 : BitVec 32 := Scalar.addi v1664 c0_i32_1050
  v1665
def k0_mult78 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1066 : BitVec 32 := 512#32
  let v1683 : BitVec 32 := Scalar.muli v1644 c512_i32_1066
  let c0_i32_1067 : BitVec 32 := 0#32
  let v1684 : BitVec 32 := Scalar.addi v1683 c0_i32_1067
  v1684
def k0_mult79 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1083 : BitVec 32 := 512#32
  let v1702 : BitVec 32 := Scalar.muli v1644 c512_i32_1083
  let c0_i32_1084 : BitVec 32 := 0#32
  let v1703 : BitVec 32 := Scalar.addi v1702 c0_i32_1084
  v1703
def k0_mult80 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1111 : BitVec 32 := 7#32
  let v1737 : BitVec 32 := Scalar.remsi v1 c7_i32_1111
  let c2_i32_1112 : BitVec 32 := 2#32
  let v1738 : BitVec 32 := Scalar.muli v1737 c2_i32_1112
  let c0_i32_1113 : BitVec 32 := 0#32
  let v1739 : BitVec 32 := Scalar.addi v1738 c0_i32_1113
  let c256_i32_1114 : BitVec 32 := 256#32
  let v1740 : BitVec 32 := Scalar.muli v1739 c256_i32_1114
  v1740
def k0_mult81 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1139 : BitVec 32 := 7#32
  let v1799 : BitVec 32 := Scalar.remsi v1 c7_i32_1139
  let c2_i32_1140 : BitVec 32 := 2#32
  let v1800 : BitVec 32 := Scalar.muli v1799 c2_i32_1140
  let c1_i32_1141 : BitVec 32 := 1#32
  let v1801 : BitVec 32 := Scalar.addi v1800 c1_i32_1141
  let c256_i32_1142 : BitVec 32 := 256#32
  let v1802 : BitVec 32 := Scalar.muli v1801 c256_i32_1142
  v1802
def k0_mult82 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1156 : BitVec 32 := 512#32
  let v1845 : BitVec 32 := Scalar.muli v1644 c512_i32_1156
  let c256_i32_1157 : BitVec 32 := 256#32
  let v1846 : BitVec 32 := Scalar.addi v1845 c256_i32_1157
  v1846
def k0_mult83 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1173 : BitVec 32 := 512#32
  let v1864 : BitVec 32 := Scalar.muli v1644 c512_i32_1173
  let c256_i32_1174 : BitVec 32 := 256#32
  let v1865 : BitVec 32 := Scalar.addi v1864 c256_i32_1174
  v1865
def k0_mult84 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1190 : BitVec 32 := 512#32
  let v1883 : BitVec 32 := Scalar.muli v1644 c512_i32_1190
  let c256_i32_1191 : BitVec 32 := 256#32
  let v1884 : BitVec 32 := Scalar.addi v1883 c256_i32_1191
  v1884
def k0_mult85 (k0_t1 : Fin k0_t1_loop.trips) : BitVec 32 :=
  let c1_i32_1030 : BitVec 32 := 1#32
  let c0_i32_287 : BitVec 32 := 0#32
  let c1_i32_288 : BitVec 32 := 1#32
  let arg24 : BitVec 32 := Scf.iv c0_i32_287 c1_i32_288 k0_t1
  let c9_i32_1029 : BitVec 32 := 9#32
  let v1642 : BitVec 32 := Scalar.muli arg24 c9_i32_1029
  let v1643 : BitVec 32 := Scalar.addi c1_i32_1030 v1642
  let c3_i32_1031 : BitVec 32 := 3#32
  let v1644 : BitVec 32 := Scalar.addi v1643 c3_i32_1031
  let c512_i32_1207 : BitVec 32 := 512#32
  let v1902 : BitVec 32 := Scalar.muli v1644 c512_i32_1207
  let c256_i32_1208 : BitVec 32 := 256#32
  let v1903 : BitVec 32 := Scalar.addi v1902 c256_i32_1208
  v1903
def k0_mult86 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1236 : BitVec 32 := 7#32
  let v1938 : BitVec 32 := Scalar.remsi v1 c7_i32_1236
  let c2_i32_1237 : BitVec 32 := 2#32
  let v1939 : BitVec 32 := Scalar.muli v1938 c2_i32_1237
  let c0_i32_1238 : BitVec 32 := 0#32
  let v1940 : BitVec 32 := Scalar.addi v1939 c0_i32_1238
  let c256_i32_1239 : BitVec 32 := 256#32
  let v1941 : BitVec 32 := Scalar.muli v1940 c256_i32_1239
  v1941
def k0_mult87 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1260 : BitVec 32 := 7#32
  let v1992 : BitVec 32 := Scalar.remsi v1 c7_i32_1260
  let c2_i32_1261 : BitVec 32 := 2#32
  let v1993 : BitVec 32 := Scalar.muli v1992 c2_i32_1261
  let c1_i32_1262 : BitVec 32 := 1#32
  let v1994 : BitVec 32 := Scalar.addi v1993 c1_i32_1262
  let c256_i32_1263 : BitVec 32 := 256#32
  let v1995 : BitVec 32 := Scalar.muli v1994 c256_i32_1263
  v1995
def k0_mult88 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1276 : BitVec 32 := 512#32
  let v2033 : BitVec 32 := Scalar.muli v2032 c512_i32_1276
  let c0_i32_1277 : BitVec 32 := 0#32
  let v2034 : BitVec 32 := Scalar.addi v2033 c0_i32_1277
  v2034
def k0_mult89 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1293 : BitVec 32 := 512#32
  let v2052 : BitVec 32 := Scalar.muli v2032 c512_i32_1293
  let c0_i32_1294 : BitVec 32 := 0#32
  let v2053 : BitVec 32 := Scalar.addi v2052 c0_i32_1294
  v2053
def k0_mult90 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1310 : BitVec 32 := 512#32
  let v2071 : BitVec 32 := Scalar.muli v2032 c512_i32_1310
  let c0_i32_1311 : BitVec 32 := 0#32
  let v2072 : BitVec 32 := Scalar.addi v2071 c0_i32_1311
  v2072
def k0_mult91 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1327 : BitVec 32 := 512#32
  let v2090 : BitVec 32 := Scalar.muli v2032 c512_i32_1327
  let c0_i32_1328 : BitVec 32 := 0#32
  let v2091 : BitVec 32 := Scalar.addi v2090 c0_i32_1328
  v2091
def k0_mult92 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1355 : BitVec 32 := 7#32
  let v2125 : BitVec 32 := Scalar.remsi v1 c7_i32_1355
  let c2_i32_1356 : BitVec 32 := 2#32
  let v2126 : BitVec 32 := Scalar.muli v2125 c2_i32_1356
  let c0_i32_1357 : BitVec 32 := 0#32
  let v2127 : BitVec 32 := Scalar.addi v2126 c0_i32_1357
  let c256_i32_1358 : BitVec 32 := 256#32
  let v2128 : BitVec 32 := Scalar.muli v2127 c256_i32_1358
  v2128
def k0_mult93 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1383 : BitVec 32 := 7#32
  let v2187 : BitVec 32 := Scalar.remsi v1 c7_i32_1383
  let c2_i32_1384 : BitVec 32 := 2#32
  let v2188 : BitVec 32 := Scalar.muli v2187 c2_i32_1384
  let c1_i32_1385 : BitVec 32 := 1#32
  let v2189 : BitVec 32 := Scalar.addi v2188 c1_i32_1385
  let c256_i32_1386 : BitVec 32 := 256#32
  let v2190 : BitVec 32 := Scalar.muli v2189 c256_i32_1386
  v2190
def k0_mult94 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1400 : BitVec 32 := 512#32
  let v2233 : BitVec 32 := Scalar.muli v2032 c512_i32_1400
  let c256_i32_1401 : BitVec 32 := 256#32
  let v2234 : BitVec 32 := Scalar.addi v2233 c256_i32_1401
  v2234
def k0_mult95 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1417 : BitVec 32 := 512#32
  let v2252 : BitVec 32 := Scalar.muli v2032 c512_i32_1417
  let c256_i32_1418 : BitVec 32 := 256#32
  let v2253 : BitVec 32 := Scalar.addi v2252 c256_i32_1418
  v2253
def k0_mult96 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1434 : BitVec 32 := 512#32
  let v2271 : BitVec 32 := Scalar.muli v2032 c512_i32_1434
  let c256_i32_1435 : BitVec 32 := 256#32
  let v2272 : BitVec 32 := Scalar.addi v2271 c256_i32_1435
  v2272
def k0_mult97 (k0_t1 : Fin k0_t1_loop.trips) : BitVec 32 :=
  let c1_i32_1274 : BitVec 32 := 1#32
  let c0_i32_287 : BitVec 32 := 0#32
  let c1_i32_288 : BitVec 32 := 1#32
  let arg24 : BitVec 32 := Scf.iv c0_i32_287 c1_i32_288 k0_t1
  let c9_i32_1273 : BitVec 32 := 9#32
  let v2030 : BitVec 32 := Scalar.muli arg24 c9_i32_1273
  let v2031 : BitVec 32 := Scalar.addi c1_i32_1274 v2030
  let c4_i32_1275 : BitVec 32 := 4#32
  let v2032 : BitVec 32 := Scalar.addi v2031 c4_i32_1275
  let c512_i32_1451 : BitVec 32 := 512#32
  let v2290 : BitVec 32 := Scalar.muli v2032 c512_i32_1451
  let c256_i32_1452 : BitVec 32 := 256#32
  let v2291 : BitVec 32 := Scalar.addi v2290 c256_i32_1452
  v2291
def k0_mult98 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1480 : BitVec 32 := 7#32
  let v2326 : BitVec 32 := Scalar.remsi v1 c7_i32_1480
  let c2_i32_1481 : BitVec 32 := 2#32
  let v2327 : BitVec 32 := Scalar.muli v2326 c2_i32_1481
  let c0_i32_1482 : BitVec 32 := 0#32
  let v2328 : BitVec 32 := Scalar.addi v2327 c0_i32_1482
  let c256_i32_1483 : BitVec 32 := 256#32
  let v2329 : BitVec 32 := Scalar.muli v2328 c256_i32_1483
  v2329
def k0_mult99 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1504 : BitVec 32 := 7#32
  let v2380 : BitVec 32 := Scalar.remsi v1 c7_i32_1504
  let c2_i32_1505 : BitVec 32 := 2#32
  let v2381 : BitVec 32 := Scalar.muli v2380 c2_i32_1505
  let c1_i32_1506 : BitVec 32 := 1#32
  let v2382 : BitVec 32 := Scalar.addi v2381 c1_i32_1506
  let c256_i32_1507 : BitVec 32 := 256#32
  let v2383 : BitVec 32 := Scalar.muli v2382 c256_i32_1507
  v2383
def k0_mult100 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1520 : BitVec 32 := 512#32
  let v2421 : BitVec 32 := Scalar.muli v2420 c512_i32_1520
  let c0_i32_1521 : BitVec 32 := 0#32
  let v2422 : BitVec 32 := Scalar.addi v2421 c0_i32_1521
  v2422
def k0_mult101 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1537 : BitVec 32 := 512#32
  let v2440 : BitVec 32 := Scalar.muli v2420 c512_i32_1537
  let c0_i32_1538 : BitVec 32 := 0#32
  let v2441 : BitVec 32 := Scalar.addi v2440 c0_i32_1538
  v2441
def k0_mult102 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1554 : BitVec 32 := 512#32
  let v2459 : BitVec 32 := Scalar.muli v2420 c512_i32_1554
  let c0_i32_1555 : BitVec 32 := 0#32
  let v2460 : BitVec 32 := Scalar.addi v2459 c0_i32_1555
  v2460
def k0_mult103 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1571 : BitVec 32 := 512#32
  let v2478 : BitVec 32 := Scalar.muli v2420 c512_i32_1571
  let c0_i32_1572 : BitVec 32 := 0#32
  let v2479 : BitVec 32 := Scalar.addi v2478 c0_i32_1572
  v2479
def k0_mult104 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1599 : BitVec 32 := 7#32
  let v2513 : BitVec 32 := Scalar.remsi v1 c7_i32_1599
  let c2_i32_1600 : BitVec 32 := 2#32
  let v2514 : BitVec 32 := Scalar.muli v2513 c2_i32_1600
  let c0_i32_1601 : BitVec 32 := 0#32
  let v2515 : BitVec 32 := Scalar.addi v2514 c0_i32_1601
  let c256_i32_1602 : BitVec 32 := 256#32
  let v2516 : BitVec 32 := Scalar.muli v2515 c256_i32_1602
  v2516
def k0_mult105 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1627 : BitVec 32 := 7#32
  let v2575 : BitVec 32 := Scalar.remsi v1 c7_i32_1627
  let c2_i32_1628 : BitVec 32 := 2#32
  let v2576 : BitVec 32 := Scalar.muli v2575 c2_i32_1628
  let c1_i32_1629 : BitVec 32 := 1#32
  let v2577 : BitVec 32 := Scalar.addi v2576 c1_i32_1629
  let c256_i32_1630 : BitVec 32 := 256#32
  let v2578 : BitVec 32 := Scalar.muli v2577 c256_i32_1630
  v2578
def k0_mult106 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1644 : BitVec 32 := 512#32
  let v2621 : BitVec 32 := Scalar.muli v2420 c512_i32_1644
  let c256_i32_1645 : BitVec 32 := 256#32
  let v2622 : BitVec 32 := Scalar.addi v2621 c256_i32_1645
  v2622
def k0_mult107 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1661 : BitVec 32 := 512#32
  let v2640 : BitVec 32 := Scalar.muli v2420 c512_i32_1661
  let c256_i32_1662 : BitVec 32 := 256#32
  let v2641 : BitVec 32 := Scalar.addi v2640 c256_i32_1662
  v2641
def k0_mult108 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1678 : BitVec 32 := 512#32
  let v2659 : BitVec 32 := Scalar.muli v2420 c512_i32_1678
  let c256_i32_1679 : BitVec 32 := 256#32
  let v2660 : BitVec 32 := Scalar.addi v2659 c256_i32_1679
  v2660
def k0_mult109 (k0_t1 : Fin k0_t1_loop.trips) : BitVec 32 :=
  let c1_i32_1518 : BitVec 32 := 1#32
  let c0_i32_287 : BitVec 32 := 0#32
  let c1_i32_288 : BitVec 32 := 1#32
  let arg24 : BitVec 32 := Scf.iv c0_i32_287 c1_i32_288 k0_t1
  let c9_i32_1517 : BitVec 32 := 9#32
  let v2418 : BitVec 32 := Scalar.muli arg24 c9_i32_1517
  let v2419 : BitVec 32 := Scalar.addi c1_i32_1518 v2418
  let c5_i32_1519 : BitVec 32 := 5#32
  let v2420 : BitVec 32 := Scalar.addi v2419 c5_i32_1519
  let c512_i32_1695 : BitVec 32 := 512#32
  let v2678 : BitVec 32 := Scalar.muli v2420 c512_i32_1695
  let c256_i32_1696 : BitVec 32 := 256#32
  let v2679 : BitVec 32 := Scalar.addi v2678 c256_i32_1696
  v2679
def k0_mult110 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1724 : BitVec 32 := 7#32
  let v2714 : BitVec 32 := Scalar.remsi v1 c7_i32_1724
  let c2_i32_1725 : BitVec 32 := 2#32
  let v2715 : BitVec 32 := Scalar.muli v2714 c2_i32_1725
  let c0_i32_1726 : BitVec 32 := 0#32
  let v2716 : BitVec 32 := Scalar.addi v2715 c0_i32_1726
  let c256_i32_1727 : BitVec 32 := 256#32
  let v2717 : BitVec 32 := Scalar.muli v2716 c256_i32_1727
  v2717
def k0_mult111 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1748 : BitVec 32 := 7#32
  let v2768 : BitVec 32 := Scalar.remsi v1 c7_i32_1748
  let c2_i32_1749 : BitVec 32 := 2#32
  let v2769 : BitVec 32 := Scalar.muli v2768 c2_i32_1749
  let c1_i32_1750 : BitVec 32 := 1#32
  let v2770 : BitVec 32 := Scalar.addi v2769 c1_i32_1750
  let c256_i32_1751 : BitVec 32 := 256#32
  let v2771 : BitVec 32 := Scalar.muli v2770 c256_i32_1751
  v2771
def k0_mult112 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1764 : BitVec 32 := 512#32
  let v2809 : BitVec 32 := Scalar.muli v2808 c512_i32_1764
  let c0_i32_1765 : BitVec 32 := 0#32
  let v2810 : BitVec 32 := Scalar.addi v2809 c0_i32_1765
  v2810
def k0_mult113 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1781 : BitVec 32 := 512#32
  let v2828 : BitVec 32 := Scalar.muli v2808 c512_i32_1781
  let c0_i32_1782 : BitVec 32 := 0#32
  let v2829 : BitVec 32 := Scalar.addi v2828 c0_i32_1782
  v2829
def k0_mult114 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1798 : BitVec 32 := 512#32
  let v2847 : BitVec 32 := Scalar.muli v2808 c512_i32_1798
  let c0_i32_1799 : BitVec 32 := 0#32
  let v2848 : BitVec 32 := Scalar.addi v2847 c0_i32_1799
  v2848
def k0_mult115 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1815 : BitVec 32 := 512#32
  let v2866 : BitVec 32 := Scalar.muli v2808 c512_i32_1815
  let c0_i32_1816 : BitVec 32 := 0#32
  let v2867 : BitVec 32 := Scalar.addi v2866 c0_i32_1816
  v2867
def k0_mult116 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1843 : BitVec 32 := 7#32
  let v2901 : BitVec 32 := Scalar.remsi v1 c7_i32_1843
  let c2_i32_1844 : BitVec 32 := 2#32
  let v2902 : BitVec 32 := Scalar.muli v2901 c2_i32_1844
  let c0_i32_1845 : BitVec 32 := 0#32
  let v2903 : BitVec 32 := Scalar.addi v2902 c0_i32_1845
  let c256_i32_1846 : BitVec 32 := 256#32
  let v2904 : BitVec 32 := Scalar.muli v2903 c256_i32_1846
  v2904
def k0_mult117 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1871 : BitVec 32 := 7#32
  let v2963 : BitVec 32 := Scalar.remsi v1 c7_i32_1871
  let c2_i32_1872 : BitVec 32 := 2#32
  let v2964 : BitVec 32 := Scalar.muli v2963 c2_i32_1872
  let c1_i32_1873 : BitVec 32 := 1#32
  let v2965 : BitVec 32 := Scalar.addi v2964 c1_i32_1873
  let c256_i32_1874 : BitVec 32 := 256#32
  let v2966 : BitVec 32 := Scalar.muli v2965 c256_i32_1874
  v2966
def k0_mult118 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1888 : BitVec 32 := 512#32
  let v3009 : BitVec 32 := Scalar.muli v2808 c512_i32_1888
  let c256_i32_1889 : BitVec 32 := 256#32
  let v3010 : BitVec 32 := Scalar.addi v3009 c256_i32_1889
  v3010
def k0_mult119 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1905 : BitVec 32 := 512#32
  let v3028 : BitVec 32 := Scalar.muli v2808 c512_i32_1905
  let c256_i32_1906 : BitVec 32 := 256#32
  let v3029 : BitVec 32 := Scalar.addi v3028 c256_i32_1906
  v3029
def k0_mult120 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1922 : BitVec 32 := 512#32
  let v3047 : BitVec 32 := Scalar.muli v2808 c512_i32_1922
  let c256_i32_1923 : BitVec 32 := 256#32
  let v3048 : BitVec 32 := Scalar.addi v3047 c256_i32_1923
  v3048
def k0_mult121 (k0_t1 : Fin k0_t1_loop.trips) : BitVec 32 :=
  let c1_i32_1762 : BitVec 32 := 1#32
  let c0_i32_287 : BitVec 32 := 0#32
  let c1_i32_288 : BitVec 32 := 1#32
  let arg24 : BitVec 32 := Scf.iv c0_i32_287 c1_i32_288 k0_t1
  let c9_i32_1761 : BitVec 32 := 9#32
  let v2806 : BitVec 32 := Scalar.muli arg24 c9_i32_1761
  let v2807 : BitVec 32 := Scalar.addi c1_i32_1762 v2806
  let c6_i32_1763 : BitVec 32 := 6#32
  let v2808 : BitVec 32 := Scalar.addi v2807 c6_i32_1763
  let c512_i32_1939 : BitVec 32 := 512#32
  let v3066 : BitVec 32 := Scalar.muli v2808 c512_i32_1939
  let c256_i32_1940 : BitVec 32 := 256#32
  let v3067 : BitVec 32 := Scalar.addi v3066 c256_i32_1940
  v3067
def k0_mult122 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1968 : BitVec 32 := 7#32
  let v3102 : BitVec 32 := Scalar.remsi v1 c7_i32_1968
  let c2_i32_1969 : BitVec 32 := 2#32
  let v3103 : BitVec 32 := Scalar.muli v3102 c2_i32_1969
  let c0_i32_1970 : BitVec 32 := 0#32
  let v3104 : BitVec 32 := Scalar.addi v3103 c0_i32_1970
  let c256_i32_1971 : BitVec 32 := 256#32
  let v3105 : BitVec 32 := Scalar.muli v3104 c256_i32_1971
  v3105
def k0_mult123 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_1992 : BitVec 32 := 7#32
  let v3156 : BitVec 32 := Scalar.remsi v1 c7_i32_1992
  let c2_i32_1993 : BitVec 32 := 2#32
  let v3157 : BitVec 32 := Scalar.muli v3156 c2_i32_1993
  let c1_i32_1994 : BitVec 32 := 1#32
  let v3158 : BitVec 32 := Scalar.addi v3157 c1_i32_1994
  let c256_i32_1995 : BitVec 32 := 256#32
  let v3159 : BitVec 32 := Scalar.muli v3158 c256_i32_1995
  v3159
def k0_mult124 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2008 : BitVec 32 := 512#32
  let v3197 : BitVec 32 := Scalar.muli v3196 c512_i32_2008
  let c0_i32_2009 : BitVec 32 := 0#32
  let v3198 : BitVec 32 := Scalar.addi v3197 c0_i32_2009
  v3198
def k0_mult125 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2025 : BitVec 32 := 512#32
  let v3216 : BitVec 32 := Scalar.muli v3196 c512_i32_2025
  let c0_i32_2026 : BitVec 32 := 0#32
  let v3217 : BitVec 32 := Scalar.addi v3216 c0_i32_2026
  v3217
def k0_mult126 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2042 : BitVec 32 := 512#32
  let v3235 : BitVec 32 := Scalar.muli v3196 c512_i32_2042
  let c0_i32_2043 : BitVec 32 := 0#32
  let v3236 : BitVec 32 := Scalar.addi v3235 c0_i32_2043
  v3236
def k0_mult127 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2059 : BitVec 32 := 512#32
  let v3254 : BitVec 32 := Scalar.muli v3196 c512_i32_2059
  let c0_i32_2060 : BitVec 32 := 0#32
  let v3255 : BitVec 32 := Scalar.addi v3254 c0_i32_2060
  v3255
def k0_mult128 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_2087 : BitVec 32 := 7#32
  let v3289 : BitVec 32 := Scalar.remsi v1 c7_i32_2087
  let c2_i32_2088 : BitVec 32 := 2#32
  let v3290 : BitVec 32 := Scalar.muli v3289 c2_i32_2088
  let c0_i32_2089 : BitVec 32 := 0#32
  let v3291 : BitVec 32 := Scalar.addi v3290 c0_i32_2089
  let c256_i32_2090 : BitVec 32 := 256#32
  let v3292 : BitVec 32 := Scalar.muli v3291 c256_i32_2090
  v3292
def k0_mult129 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_2115 : BitVec 32 := 7#32
  let v3351 : BitVec 32 := Scalar.remsi v1 c7_i32_2115
  let c2_i32_2116 : BitVec 32 := 2#32
  let v3352 : BitVec 32 := Scalar.muli v3351 c2_i32_2116
  let c1_i32_2117 : BitVec 32 := 1#32
  let v3353 : BitVec 32 := Scalar.addi v3352 c1_i32_2117
  let c256_i32_2118 : BitVec 32 := 256#32
  let v3354 : BitVec 32 := Scalar.muli v3353 c256_i32_2118
  v3354
def k0_mult130 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2132 : BitVec 32 := 512#32
  let v3397 : BitVec 32 := Scalar.muli v3196 c512_i32_2132
  let c256_i32_2133 : BitVec 32 := 256#32
  let v3398 : BitVec 32 := Scalar.addi v3397 c256_i32_2133
  v3398
def k0_mult131 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2149 : BitVec 32 := 512#32
  let v3416 : BitVec 32 := Scalar.muli v3196 c512_i32_2149
  let c256_i32_2150 : BitVec 32 := 256#32
  let v3417 : BitVec 32 := Scalar.addi v3416 c256_i32_2150
  v3417
def k0_mult132 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2166 : BitVec 32 := 512#32
  let v3435 : BitVec 32 := Scalar.muli v3196 c512_i32_2166
  let c256_i32_2167 : BitVec 32 := 256#32
  let v3436 : BitVec 32 := Scalar.addi v3435 c256_i32_2167
  v3436
def k0_mult133 (k0_t1 : Fin k0_t1_loop.trips) : BitVec 32 :=
  let c1_i32_2006 : BitVec 32 := 1#32
  let c0_i32_287 : BitVec 32 := 0#32
  let c1_i32_288 : BitVec 32 := 1#32
  let arg24 : BitVec 32 := Scf.iv c0_i32_287 c1_i32_288 k0_t1
  let c9_i32_2005 : BitVec 32 := 9#32
  let v3194 : BitVec 32 := Scalar.muli arg24 c9_i32_2005
  let v3195 : BitVec 32 := Scalar.addi c1_i32_2006 v3194
  let c7_i32_2007 : BitVec 32 := 7#32
  let v3196 : BitVec 32 := Scalar.addi v3195 c7_i32_2007
  let c512_i32_2183 : BitVec 32 := 512#32
  let v3454 : BitVec 32 := Scalar.muli v3196 c512_i32_2183
  let c256_i32_2184 : BitVec 32 := 256#32
  let v3455 : BitVec 32 := Scalar.addi v3454 c256_i32_2184
  v3455
def k0_mult134 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_2212 : BitVec 32 := 7#32
  let v3490 : BitVec 32 := Scalar.remsi v1 c7_i32_2212
  let c2_i32_2213 : BitVec 32 := 2#32
  let v3491 : BitVec 32 := Scalar.muli v3490 c2_i32_2213
  let c0_i32_2214 : BitVec 32 := 0#32
  let v3492 : BitVec 32 := Scalar.addi v3491 c0_i32_2214
  let c256_i32_2215 : BitVec 32 := 256#32
  let v3493 : BitVec 32 := Scalar.muli v3492 c256_i32_2215
  v3493
def k0_mult135 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_2236 : BitVec 32 := 7#32
  let v3544 : BitVec 32 := Scalar.remsi v1 c7_i32_2236
  let c2_i32_2237 : BitVec 32 := 2#32
  let v3545 : BitVec 32 := Scalar.muli v3544 c2_i32_2237
  let c1_i32_2238 : BitVec 32 := 1#32
  let v3546 : BitVec 32 := Scalar.addi v3545 c1_i32_2238
  let c256_i32_2239 : BitVec 32 := 256#32
  let v3547 : BitVec 32 := Scalar.muli v3546 c256_i32_2239
  v3547
def k0_mult136 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2252 : BitVec 32 := 512#32
  let v3585 : BitVec 32 := Scalar.muli v3584 c512_i32_2252
  let c0_i32_2253 : BitVec 32 := 0#32
  let v3586 : BitVec 32 := Scalar.addi v3585 c0_i32_2253
  v3586
def k0_mult137 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2269 : BitVec 32 := 512#32
  let v3604 : BitVec 32 := Scalar.muli v3584 c512_i32_2269
  let c0_i32_2270 : BitVec 32 := 0#32
  let v3605 : BitVec 32 := Scalar.addi v3604 c0_i32_2270
  v3605
def k0_mult138 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2286 : BitVec 32 := 512#32
  let v3623 : BitVec 32 := Scalar.muli v3584 c512_i32_2286
  let c0_i32_2287 : BitVec 32 := 0#32
  let v3624 : BitVec 32 := Scalar.addi v3623 c0_i32_2287
  v3624
def k0_mult139 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2303 : BitVec 32 := 512#32
  let v3642 : BitVec 32 := Scalar.muli v3584 c512_i32_2303
  let c0_i32_2304 : BitVec 32 := 0#32
  let v3643 : BitVec 32 := Scalar.addi v3642 c0_i32_2304
  v3643
def k0_mult140 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_2331 : BitVec 32 := 7#32
  let v3677 : BitVec 32 := Scalar.remsi v1 c7_i32_2331
  let c2_i32_2332 : BitVec 32 := 2#32
  let v3678 : BitVec 32 := Scalar.muli v3677 c2_i32_2332
  let c0_i32_2333 : BitVec 32 := 0#32
  let v3679 : BitVec 32 := Scalar.addi v3678 c0_i32_2333
  let c256_i32_2334 : BitVec 32 := 256#32
  let v3680 : BitVec 32 := Scalar.muli v3679 c256_i32_2334
  v3680
def k0_mult141 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_2359 : BitVec 32 := 7#32
  let v3739 : BitVec 32 := Scalar.remsi v1 c7_i32_2359
  let c2_i32_2360 : BitVec 32 := 2#32
  let v3740 : BitVec 32 := Scalar.muli v3739 c2_i32_2360
  let c1_i32_2361 : BitVec 32 := 1#32
  let v3741 : BitVec 32 := Scalar.addi v3740 c1_i32_2361
  let c256_i32_2362 : BitVec 32 := 256#32
  let v3742 : BitVec 32 := Scalar.muli v3741 c256_i32_2362
  v3742
def k0_mult142 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2376 : BitVec 32 := 512#32
  let v3785 : BitVec 32 := Scalar.muli v3584 c512_i32_2376
  let c256_i32_2377 : BitVec 32 := 256#32
  let v3786 : BitVec 32 := Scalar.addi v3785 c256_i32_2377
  v3786
def k0_mult143 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2393 : BitVec 32 := 512#32
  let v3804 : BitVec 32 := Scalar.muli v3584 c512_i32_2393
  let c256_i32_2394 : BitVec 32 := 256#32
  let v3805 : BitVec 32 := Scalar.addi v3804 c256_i32_2394
  v3805
def k0_mult144 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2410 : BitVec 32 := 512#32
  let v3823 : BitVec 32 := Scalar.muli v3584 c512_i32_2410
  let c256_i32_2411 : BitVec 32 := 256#32
  let v3824 : BitVec 32 := Scalar.addi v3823 c256_i32_2411
  v3824
def k0_mult145 (k0_t1 : Fin k0_t1_loop.trips) : BitVec 32 :=
  let c1_i32_2250 : BitVec 32 := 1#32
  let c0_i32_287 : BitVec 32 := 0#32
  let c1_i32_288 : BitVec 32 := 1#32
  let arg24 : BitVec 32 := Scf.iv c0_i32_287 c1_i32_288 k0_t1
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c512_i32_2427 : BitVec 32 := 512#32
  let v3842 : BitVec 32 := Scalar.muli v3584 c512_i32_2427
  let c256_i32_2428 : BitVec 32 := 256#32
  let v3843 : BitVec 32 := Scalar.addi v3842 c256_i32_2428
  v3843
def k0_off33 (i : grid0.Coords) (k0_t1 : Fin k0_t1_loop.trips) (c0_i32_2450 : BitVec 32) (c0_i32_2451 : BitVec 32) : Fin 2 → Nat :=
  let c0_i32_287 : BitVec 32 := 0#32
  let c1_i32_288 : BitVec 32 := 1#32
  let arg24 : BitVec 32 := Scf.iv c0_i32_287 c1_i32_288 k0_t1
  let c3_i32_2444 : BitVec 32 := 3#32
  let v3861 : BitVec 1 := Scalar.cmpi .eq arg24 c3_i32_2444
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2445 : BitVec 32 := 1#32
  let v3862 : BitVec 32 := Scalar.addi v1 c1_i32_2445
  let v3863 : BitVec 32 := Scalar.select v3861 v3862 v1
  let c2_i32_2448 : BitVec 32 := 2#32
  let v3866 : BitVec 32 := Scalar.remsi v3863 c2_i32_2448
  let c18944_i32_2449 : BitVec 32 := 18944#32
  let v3867 : BitVec 32 := Scalar.muli v3866 c18944_i32_2449
  let v3868 : BitVec 32 := Scalar.addi v3867 c0_i32_2450
  let c0_i32_2447 : BitVec 32 := 0#32
  let c1_i32_2250 : BitVec 32 := 1#32
  let c9_i32_2249 : BitVec 32 := 9#32
  let v3582 : BitVec 32 := Scalar.muli arg24 c9_i32_2249
  let v3583 : BitVec 32 := Scalar.addi c1_i32_2250 v3582
  let c8_i32_2251 : BitVec 32 := 8#32
  let v3584 : BitVec 32 := Scalar.addi v3583 c8_i32_2251
  let c1_i32_2446 : BitVec 32 := 1#32
  let v3864 : BitVec 32 := Scalar.addi v3584 c1_i32_2446
  let v3865 : BitVec 32 := Scalar.select v3861 c0_i32_2447 v3864
  let v3869 : BitVec 32 := Scalar.addi v3868 v3865
  let v3870 : BitVec 32 := Scalar.addi v3869 c0_i32_2451
  let v3871 : Index := Scalar.indexCast v3870
  let c0_2452 : Index := 0#32
  ![v3871.toNat, 0]
def k0_mult146 (i : grid0.Coords) (k0_t1 : Fin k0_t1_loop.trips) : BitVec 32 :=
  let c0_i32_287 : BitVec 32 := 0#32
  let c1_i32_288 : BitVec 32 := 1#32
  let arg24 : BitVec 32 := Scf.iv c0_i32_287 c1_i32_288 k0_t1
  let c3_i32_2444 : BitVec 32 := 3#32
  let v3861 : BitVec 1 := Scalar.cmpi .eq arg24 c3_i32_2444
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2445 : BitVec 32 := 1#32
  let v3862 : BitVec 32 := Scalar.addi v1 c1_i32_2445
  let v3863 : BitVec 32 := Scalar.select v3861 v3862 v1
  let c7_i32_2459 : BitVec 32 := 7#32
  let v3882 : BitVec 32 := Scalar.remsi v3863 c7_i32_2459
  let c2_i32_2460 : BitVec 32 := 2#32
  let v3883 : BitVec 32 := Scalar.muli v3882 c2_i32_2460
  let c0_i32_2461 : BitVec 32 := 0#32
  let v3884 : BitVec 32 := Scalar.addi v3883 c0_i32_2461
  let c256_i32_2462 : BitVec 32 := 256#32
  let v3885 : BitVec 32 := Scalar.muli v3884 c256_i32_2462
  v3885
def k0_off34 (i : grid0.Coords) (k0_t1 : Fin k0_t1_loop.trips) (c0_i32_2461 : BitVec 32) : Fin 2 → Nat :=
  let c0_i32_287 : BitVec 32 := 0#32
  let c1_i32_288 : BitVec 32 := 1#32
  let arg24 : BitVec 32 := Scf.iv c0_i32_287 c1_i32_288 k0_t1
  let c3_i32_2444 : BitVec 32 := 3#32
  let v3861 : BitVec 1 := Scalar.cmpi .eq arg24 c3_i32_2444
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2445 : BitVec 32 := 1#32
  let v3862 : BitVec 32 := Scalar.addi v1 c1_i32_2445
  let v3863 : BitVec 32 := Scalar.select v3861 v3862 v1
  let c7_i32_2459 : BitVec 32 := 7#32
  let v3882 : BitVec 32 := Scalar.remsi v3863 c7_i32_2459
  let c2_i32_2460 : BitVec 32 := 2#32
  let v3883 : BitVec 32 := Scalar.muli v3882 c2_i32_2460
  let v3884 : BitVec 32 := Scalar.addi v3883 c0_i32_2461
  let c256_i32_2462 : BitVec 32 := 256#32
  let v3885 : BitVec 32 := Scalar.muli v3884 c256_i32_2462
  let v3886 : BitVec 32 := v3885
  let v3887 : Index := Scalar.indexCast v3886
  let c0_2463 : Index := 0#32
  ![v3887.toNat, 0]
def k0_mult147 (i : grid0.Coords) (k0_t1 : Fin k0_t1_loop.trips) : BitVec 32 :=
  let c0_i32_287 : BitVec 32 := 0#32
  let c1_i32_288 : BitVec 32 := 1#32
  let arg24 : BitVec 32 := Scf.iv c0_i32_287 c1_i32_288 k0_t1
  let c3_i32_2444 : BitVec 32 := 3#32
  let v3861 : BitVec 1 := Scalar.cmpi .eq arg24 c3_i32_2444
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_2445 : BitVec 32 := 1#32
  let v3862 : BitVec 32 := Scalar.addi v1 c1_i32_2445
  let v3863 : BitVec 32 := Scalar.select v3861 v3862 v1
  let c7_i32_2483 : BitVec 32 := 7#32
  let v3936 : BitVec 32 := Scalar.remsi v3863 c7_i32_2483
  let c2_i32_2484 : BitVec 32 := 2#32
  let v3937 : BitVec 32 := Scalar.muli v3936 c2_i32_2484
  let c1_i32_2485 : BitVec 32 := 1#32
  let v3938 : BitVec 32 := Scalar.addi v3937 c1_i32_2485
  let c256_i32_2486 : BitVec 32 := 256#32
  let v3939 : BitVec 32 := Scalar.muli v3938 c256_i32_2486
  v3939
def k0_cond9 (i : grid0.Coords) : BitVec 1 :=
  let arg1 : BitVec 32 := BitVec.ofNat 32 (i 1).val
  let c6_i32 : BitVec 32 := 6#32
  let v2 : BitVec 1 := Scalar.cmpi .eq arg1 c6_i32
  let arg0 : BitVec 32 := BitVec.ofNat 32 (i 0).val
  let c5_i32 : BitVec 32 := 5#32
  let v3 : BitVec 1 := Scalar.cmpi .slt arg0 c5_i32
  let v4 : BitVec 1 := Scalar.andi v2 v3
  let v3974 : BitVec 32 := Scalar.extui v4
  let c0_i32_2496 : BitVec 32 := 0#32
  let v3975 : BitVec 1 := Scalar.cmpi .ne v3974 c0_i32_2496
  v3975

def k0_mult148 (k0_t1 : Fin k0_t1_loop.trips) : BitVec 32 :=
  let c512_i32_2500 : BitVec 32 := 512#32
  let c0_i32_287 : BitVec 32 := 0#32
  let c1_i32_288 : BitVec 32 := 1#32
  let arg24 : BitVec 32 := Scf.iv c0_i32_287 c1_i32_288 k0_t1
  let c1_i32_2498 : BitVec 32 := 1#32
  let v3977 : BitVec 32 := Scalar.addi arg24 c1_i32_2498
  let c1_i32_2499 : BitVec 32 := 1#32
  let v3978 : BitVec 32 := Scalar.subi v3977 c1_i32_2499
  let c4608_i32 : BitVec 32 := 4608#32
  let v3979 : BitVec 32 := Scalar.muli v3978 c4608_i32
  let v3980 : BitVec 32 := Scalar.addi c512_i32_2500 v3979
  v3980
def k0_mult149 (i : grid0.Coords) : BitVec 32 :=
  let arg0 : BitVec 32 := BitVec.ofNat 32 (i 0).val
  let c1_i32_2497 : BitVec 32 := 1#32
  let v3976 : BitVec 32 := Scalar.addi arg0 c1_i32_2497
  let c1024_i32 : BitVec 32 := 1024#32
  let v3982 : BitVec 32 := Scalar.muli v3976 c1024_i32
  v3982
def k0_off35 (k0_t1 : Fin k0_t1_loop.trips) : Fin 1 → Nat :=
  let c0_i32_287 : BitVec 32 := 0#32
  let c1_i32_288 : BitVec 32 := 1#32
  let arg24 : BitVec 32 := Scf.iv c0_i32_287 c1_i32_288 k0_t1
  let c1_i32_2498 : BitVec 32 := 1#32
  let v3977 : BitVec 32 := Scalar.addi arg24 c1_i32_2498
  ![v3977.toNat]
def k0_off36 (k0_t1 : Fin k0_t1_loop.trips) : Fin 2 → Nat :=
  let c0_i32_2501 : BitVec 32 := 0#32
  let c512_i32_2500 : BitVec 32 := 512#32
  let c0_i32_287 : BitVec 32 := 0#32
  let c1_i32_288 : BitVec 32 := 1#32
  let arg24 : BitVec 32 := Scf.iv c0_i32_287 c1_i32_288 k0_t1
  let c1_i32_2498 : BitVec 32 := 1#32
  let v3977 : BitVec 32 := Scalar.addi arg24 c1_i32_2498
  let c1_i32_2499 : BitVec 32 := 1#32
  let v3978 : BitVec 32 := Scalar.subi v3977 c1_i32_2499
  let c4608_i32 : BitVec 32 := 4608#32
  let v3979 : BitVec 32 := Scalar.muli v3978 c4608_i32
  let v3980 : BitVec 32 := Scalar.addi c512_i32_2500 v3979
  let v3981 : BitVec 32 := v3980
  ![0, v3981.toNat]
def k0_off37 (i : grid0.Coords) (k0_t1 : Fin k0_t1_loop.trips) : Fin 2 → Nat :=
  let arg0 : BitVec 32 := BitVec.ofNat 32 (i 0).val
  let c1_i32_2497 : BitVec 32 := 1#32
  let v3976 : BitVec 32 := Scalar.addi arg0 c1_i32_2497
  let c1024_i32 : BitVec 32 := 1024#32
  let v3982 : BitVec 32 := Scalar.muli v3976 c1024_i32
  let v3983 : BitVec 32 := v3982
  let c512_i32_2500 : BitVec 32 := 512#32
  let c0_i32_287 : BitVec 32 := 0#32
  let c1_i32_288 : BitVec 32 := 1#32
  let arg24 : BitVec 32 := Scf.iv c0_i32_287 c1_i32_288 k0_t1
  let c1_i32_2498 : BitVec 32 := 1#32
  let v3977 : BitVec 32 := Scalar.addi arg24 c1_i32_2498
  let c1_i32_2499 : BitVec 32 := 1#32
  let v3978 : BitVec 32 := Scalar.subi v3977 c1_i32_2499
  let c4608_i32 : BitVec 32 := 4608#32
  let v3979 : BitVec 32 := Scalar.muli v3978 c4608_i32
  let v3980 : BitVec 32 := Scalar.addi c512_i32_2500 v3979
  let v3981 : BitVec 32 := v3980
  ![v3983.toNat, v3981.toNat]
def k0_cond10 (i : grid0.Coords) : BitVec 1 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c41_i32 : BitVec 32 := 41#32
  let v461 : BitVec 1 := Scalar.cmpi .eq v1 c41_i32
  let v462 : BitVec 32 := Scalar.extui v461
  let c0_i32_290 : BitVec 32 := 0#32
  let v463 : BitVec 1 := Scalar.cmpi .ne v462 c0_i32_290
  v463

def k0_mult150 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.subi v1 c1_i32_291
  let c0_i32_293 : BitVec 32 := 0#32
  let v466 : BitVec 1 := Scalar.cmpi .sgt v464 c0_i32_293
  let v467 : BitVec 32 := Scalar.extui v466
  let c0_i32_294 : BitVec 32 := 0#32
  let v468 : BitVec 1 := Scalar.cmpi .slt v464 c0_i32_294
  let v469 : BitVec 32 := Scalar.extui v468
  let v470 : BitVec 32 := Scalar.subi v467 v469
  let c7_i32_292 : BitVec 32 := 7#32
  let c0_i32_295 : BitVec 32 := 0#32
  let v471 : BitVec 1 := Scalar.cmpi .sgt c7_i32_292 c0_i32_295
  let v472 : BitVec 32 := Scalar.extui v471
  let c0_i32_296 : BitVec 32 := 0#32
  let v473 : BitVec 1 := Scalar.cmpi .slt c7_i32_292 c0_i32_296
  let v474 : BitVec 32 := Scalar.extui v473
  let v475 : BitVec 32 := Scalar.subi v472 v474
  let v476 : BitVec 1 := Scalar.cmpi .ne v470 v475
  let v477 : BitVec 32 := Scalar.remsi v464 c7_i32_292
  let c0_i32_297 : BitVec 32 := 0#32
  let v478 : BitVec 1 := Scalar.cmpi .ne v477 c0_i32_297
  let v479 : BitVec 1 := Scalar.andi v476 v478
  let v465 : BitVec 32 := Scalar.divsi v464 c7_i32_292
  let c1_i32_298 : BitVec 32 := 1#32
  let v480 : BitVec 32 := Scalar.subi v465 c1_i32_298
  let v481 : BitVec 32 := Scalar.select v479 v480 v465
  let c1024_i32 : BitVec 32 := 1024#32
  let v482 : BitVec 32 := Scalar.muli v481 c1024_i32
  v482
def k0_mult151 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.subi v1 c1_i32_291
  let c7_i32_299 : BitVec 32 := 7#32
  let v484 : BitVec 32 := Scalar.remsi v464 c7_i32_299
  let c512_i32 : BitVec 32 := 512#32
  let v485 : BitVec 32 := Scalar.muli v484 c512_i32
  v485
def k0_off38 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c1_i32_291 : BitVec 32 := 1#32
  let v464 : BitVec 32 := Scalar.subi v1 c1_i32_291
  let c0_i32_293 : BitVec 32 := 0#32
  let v466 : BitVec 1 := Scalar.cmpi .sgt v464 c0_i32_293
  let v467 : BitVec 32 := Scalar.extui v466
  let c0_i32_294 : BitVec 32 := 0#32
  let v468 : BitVec 1 := Scalar.cmpi .slt v464 c0_i32_294
  let v469 : BitVec 32 := Scalar.extui v468
  let v470 : BitVec 32 := Scalar.subi v467 v469
  let c7_i32_292 : BitVec 32 := 7#32
  let c0_i32_295 : BitVec 32 := 0#32
  let v471 : BitVec 1 := Scalar.cmpi .sgt c7_i32_292 c0_i32_295
  let v472 : BitVec 32 := Scalar.extui v471
  let c0_i32_296 : BitVec 32 := 0#32
  let v473 : BitVec 1 := Scalar.cmpi .slt c7_i32_292 c0_i32_296
  let v474 : BitVec 32 := Scalar.extui v473
  let v475 : BitVec 32 := Scalar.subi v472 v474
  let v476 : BitVec 1 := Scalar.cmpi .ne v470 v475
  let v477 : BitVec 32 := Scalar.remsi v464 c7_i32_292
  let c0_i32_297 : BitVec 32 := 0#32
  let v478 : BitVec 1 := Scalar.cmpi .ne v477 c0_i32_297
  let v479 : BitVec 1 := Scalar.andi v476 v478
  let v465 : BitVec 32 := Scalar.divsi v464 c7_i32_292
  let c1_i32_298 : BitVec 32 := 1#32
  let v480 : BitVec 32 := Scalar.subi v465 c1_i32_298
  let v481 : BitVec 32 := Scalar.select v479 v480 v465
  let c1024_i32 : BitVec 32 := 1024#32
  let v482 : BitVec 32 := Scalar.muli v481 c1024_i32
  let v483 : BitVec 32 := v482
  let c7_i32_299 : BitVec 32 := 7#32
  let v484 : BitVec 32 := Scalar.remsi v464 c7_i32_299
  let c512_i32 : BitVec 32 := 512#32
  let v485 : BitVec 32 := Scalar.muli v484 c512_i32
  let v486 : BitVec 32 := v485
  ![v483.toNat, v486.toNat]
def k0_mult152 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_357 : BitVec 32 := 0#32
  let v561 : BitVec 1 := Scalar.cmpi .sgt v1 c0_i32_357
  let v562 : BitVec 32 := Scalar.extui v561
  let c0_i32_358 : BitVec 32 := 0#32
  let v563 : BitVec 1 := Scalar.cmpi .slt v1 c0_i32_358
  let v564 : BitVec 32 := Scalar.extui v563
  let v565 : BitVec 32 := Scalar.subi v562 v564
  let c7_i32_356 : BitVec 32 := 7#32
  let c0_i32_359 : BitVec 32 := 0#32
  let v566 : BitVec 1 := Scalar.cmpi .sgt c7_i32_356 c0_i32_359
  let v567 : BitVec 32 := Scalar.extui v566
  let c0_i32_360 : BitVec 32 := 0#32
  let v568 : BitVec 1 := Scalar.cmpi .slt c7_i32_356 c0_i32_360
  let v569 : BitVec 32 := Scalar.extui v568
  let v570 : BitVec 32 := Scalar.subi v567 v569
  let v571 : BitVec 1 := Scalar.cmpi .ne v565 v570
  let v572 : BitVec 32 := Scalar.remsi v1 c7_i32_356
  let c0_i32_361 : BitVec 32 := 0#32
  let v573 : BitVec 1 := Scalar.cmpi .ne v572 c0_i32_361
  let v574 : BitVec 1 := Scalar.andi v571 v573
  let v560 : BitVec 32 := Scalar.divsi v1 c7_i32_356
  let c1_i32_362 : BitVec 32 := 1#32
  let v575 : BitVec 32 := Scalar.subi v560 c1_i32_362
  let v576 : BitVec 32 := Scalar.select v574 v575 v560
  let c1024_i32_363 : BitVec 32 := 1024#32
  let v577 : BitVec 32 := Scalar.muli v576 c1024_i32_363
  v577
def k0_mult153 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_364 : BitVec 32 := 7#32
  let v579 : BitVec 32 := Scalar.remsi v1 c7_i32_364
  let c512_i32_365 : BitVec 32 := 512#32
  let v580 : BitVec 32 := Scalar.muli v579 c512_i32_365
  v580
def k0_off39 (i : grid0.Coords) : Fin 2 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_357 : BitVec 32 := 0#32
  let v561 : BitVec 1 := Scalar.cmpi .sgt v1 c0_i32_357
  let v562 : BitVec 32 := Scalar.extui v561
  let c0_i32_358 : BitVec 32 := 0#32
  let v563 : BitVec 1 := Scalar.cmpi .slt v1 c0_i32_358
  let v564 : BitVec 32 := Scalar.extui v563
  let v565 : BitVec 32 := Scalar.subi v562 v564
  let c7_i32_356 : BitVec 32 := 7#32
  let c0_i32_359 : BitVec 32 := 0#32
  let v566 : BitVec 1 := Scalar.cmpi .sgt c7_i32_356 c0_i32_359
  let v567 : BitVec 32 := Scalar.extui v566
  let c0_i32_360 : BitVec 32 := 0#32
  let v568 : BitVec 1 := Scalar.cmpi .slt c7_i32_356 c0_i32_360
  let v569 : BitVec 32 := Scalar.extui v568
  let v570 : BitVec 32 := Scalar.subi v567 v569
  let v571 : BitVec 1 := Scalar.cmpi .ne v565 v570
  let v572 : BitVec 32 := Scalar.remsi v1 c7_i32_356
  let c0_i32_361 : BitVec 32 := 0#32
  let v573 : BitVec 1 := Scalar.cmpi .ne v572 c0_i32_361
  let v574 : BitVec 1 := Scalar.andi v571 v573
  let v560 : BitVec 32 := Scalar.divsi v1 c7_i32_356
  let c1_i32_362 : BitVec 32 := 1#32
  let v575 : BitVec 32 := Scalar.subi v560 c1_i32_362
  let v576 : BitVec 32 := Scalar.select v574 v575 v560
  let c1024_i32_363 : BitVec 32 := 1024#32
  let v577 : BitVec 32 := Scalar.muli v576 c1024_i32_363
  let v578 : BitVec 32 := v577
  let c7_i32_364 : BitVec 32 := 7#32
  let v579 : BitVec 32 := Scalar.remsi v1 c7_i32_364
  let c512_i32_365 : BitVec 32 := 512#32
  let v580 : BitVec 32 := Scalar.muli v579 c512_i32_365
  let v581 : BitVec 32 := v580
  ![v578.toNat, v581.toNat]
def k0_mult154 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c0_i32_367 : BitVec 32 := 0#32
  let v584 : BitVec 1 := Scalar.cmpi .sgt v1 c0_i32_367
  let v585 : BitVec 32 := Scalar.extui v584
  let c0_i32_368 : BitVec 32 := 0#32
  let v586 : BitVec 1 := Scalar.cmpi .slt v1 c0_i32_368
  let v587 : BitVec 32 := Scalar.extui v586
  let v588 : BitVec 32 := Scalar.subi v585 v587
  let c7_i32_366 : BitVec 32 := 7#32
  let c0_i32_369 : BitVec 32 := 0#32
  let v589 : BitVec 1 := Scalar.cmpi .sgt c7_i32_366 c0_i32_369
  let v590 : BitVec 32 := Scalar.extui v589
  let c0_i32_370 : BitVec 32 := 0#32
  let v591 : BitVec 1 := Scalar.cmpi .slt c7_i32_366 c0_i32_370
  let v592 : BitVec 32 := Scalar.extui v591
  let v593 : BitVec 32 := Scalar.subi v590 v592
  let v594 : BitVec 1 := Scalar.cmpi .ne v588 v593
  let v595 : BitVec 32 := Scalar.remsi v1 c7_i32_366
  let c0_i32_371 : BitVec 32 := 0#32
  let v596 : BitVec 1 := Scalar.cmpi .ne v595 c0_i32_371
  let v597 : BitVec 1 := Scalar.andi v594 v596
  let v583 : BitVec 32 := Scalar.divsi v1 c7_i32_366
  let c1_i32_372 : BitVec 32 := 1#32
  let v598 : BitVec 32 := Scalar.subi v583 c1_i32_372
  let v599 : BitVec 32 := Scalar.select v597 v598 v583
  let c1024_i32_373 : BitVec 32 := 1024#32
  let v600 : BitVec 32 := Scalar.muli v599 c1024_i32_373
  v600
def k0_mult155 (i : grid0.Coords) : BitVec 32 :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c7_i32_374 : BitVec 32 := 7#32
  let v602 : BitVec 32 := Scalar.remsi v1 c7_i32_374
  let c512_i32_375 : BitVec 32 := 512#32
  let v603 : BitVec 32 := Scalar.muli v602 c512_i32_375
  v603
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3584x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]
-- ==== ReferenceIdeal.lean ====
abbrev S6x1024x18944 : Shape := ⟨3, ![6, 1024, 18944]⟩
abbrev S67895296 : Shape := ⟨1, ![67895296]⟩
abbrev S33152 : Shape := ⟨1, ![33152]⟩
abbrev S33152x2048 : Shape := ⟨2, ![33152, 2048]⟩
abbrev S33152x1 : Shape := ⟨2, ![33152, 1]⟩
abbrev S3584x18944 : Shape := ⟨2, ![3584, 18944]⟩
abbrev S6x1024x3584 : Shape := ⟨3, ![6, 1024, 3584]⟩
abbrev S6144x3584 : Shape := ⟨2, ![6144, 3584]⟩

abbrev nBuf : Space → Nat
  | .hbm => 10
  | .vmem => 3
  | .smem => 0
  | _ => 0

abbrev bufTy : (tb : Table) → Fin (tcTables nBuf tb) → BufTy
  | .hbm, ⟨0, _⟩ => ⟨S6x1024x18944, .bf16⟩
  | .hbm, ⟨1, _⟩ => ⟨S67895296, .i8⟩
  | .hbm, ⟨2, _⟩ => ⟨S33152, .f32⟩
  | .hbm, ⟨3, _⟩ => ⟨S33152x2048, .i8⟩
  | .hbm, ⟨4, _⟩ => ⟨S33152x1, .f32⟩
  | .hbm, ⟨5, _⟩ => ⟨S33152x2048, .bf16⟩
  | .hbm, ⟨6, _⟩ => ⟨S3584x18944, .bf16⟩
  | .hbm, ⟨7, _⟩ => ⟨S6x1024x3584, .f32⟩
  | .hbm, ⟨8, _⟩ => ⟨S6x1024x3584, .bf16⟩
  | .hbm, ⟨9, _⟩ => ⟨S6144x3584, .bf16⟩
  | .local _ .vmem, ⟨0, _⟩ => ⟨S33152x2048, .i8⟩
  | .local _ .vmem, ⟨1, _⟩ => ⟨S33152x1, .f32⟩
  | .local _ .vmem, ⟨2, _⟩ => ⟨S33152x2048, .bf16⟩
  | _, _ => ⟨S6x1024x18944, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S33152x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S33152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S33152x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Progs.lean ====
/- The kernel's body written again as a few small programs: one accumulation of a 256-wide half chunk, one
   staging of the next half chunk's weights, one copy of the accumulators to the output block, and the guarded
   transfers.  The printed body and these programs are one term up to unfolding. -/
module

public import proofs.«01_k».proof.Proof.Gen.KernelIdeal.Skeleton
public import proofs.«01_k».proof.Proof.Gen.KernelIdeal.Launch
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

abbrev BV : Type := BitVec 32
abbrev AccM : Type := Memref sig .tc .vmem S256x256 .f32
abbrev StgM : Type := Memref sig .tc .vmem S256x256 .bf16

/-! The operands, each a whole buffer. -/
abbrev m2 : Memref sig .tc .hbm S6144x18944 .bf16 := Memref.whole main_v0
abbrev m3 : Memref sig .tc .hbm S132608x128 .i32 := Memref.whole main_v3
abbrev m5 : Memref sig .tc .hbm S6144x3584 .bf16 := Memref.whole main_v9
abbrev m6 : Memref sig .tc .vmem S1024x18944 .bf16 := Memref.whole cc0_scratch0
abbrev m7 : Memref sig .tc .vmem S37888x128 .i32 := Memref.whole cc0_scratch1
abbrev m8 : Memref sig .tc .vmem S1024x512 .bf16 := Memref.whole cc0_scratch2
abbrev m12 : Memref sig .tc .vmem S256x256 .bf16 := Memref.whole cc0_scratch6
abbrev m13 : Memref sig .tc .vmem S256x256 .bf16 := Memref.whole cc0_scratch7
abbrev m14 : Memref sig .tc .vmem S256x256 .bf16 := Memref.whole cc0_scratch8
abbrev m15 : Memref sig .tc .vmem S256x256 .bf16 := Memref.whole cc0_scratch9
abbrev m16 : Memref sig .tc .vmem S256x256 .f32 := Memref.whole cc0_scratch10
abbrev m17 : Memref sig .tc .vmem S256x256 .f32 := Memref.whole cc0_scratch11
abbrev m18 : Memref sig .tc .vmem S256x256 .f32 := Memref.whole cc0_scratch12
abbrev m19 : Memref sig .tc .vmem S256x256 .f32 := Memref.whole cc0_scratch13
abbrev m20 : Memref sig .tc .vmem S256x256 .f32 := Memref.whole cc0_scratch14
abbrev m21 : Memref sig .tc .vmem S256x256 .f32 := Memref.whole cc0_scratch15
abbrev m22 : Memref sig .tc .vmem S256x256 .f32 := Memref.whole cc0_scratch16
abbrev m23 : Memref sig .tc .vmem S256x256 .f32 := Memref.whole cc0_scratch17
theorem hm2 : m2.IsWhole := Memref.isWhole_whole _
theorem hm3 : m3.IsWhole := Memref.isWhole_whole _
theorem hm5 : m5.IsWhole := Memref.isWhole_whole _
theorem hm6 : m6.IsWhole := Memref.isWhole_whole _
theorem hm7 : m7.IsWhole := Memref.isWhole_whole _
theorem hm8 : m8.IsWhole := Memref.isWhole_whole _
theorem hm12 : m12.IsWhole := Memref.isWhole_whole _
theorem hm13 : m13.IsWhole := Memref.isWhole_whole _
theorem hm14 : m14.IsWhole := Memref.isWhole_whole _
theorem hm15 : m15.IsWhole := Memref.isWhole_whole _
theorem hm16 : m16.IsWhole := Memref.isWhole_whole _
theorem hm17 : m17.IsWhole := Memref.isWhole_whole _
theorem hm18 : m18.IsWhole := Memref.isWhole_whole _
theorem hm19 : m19.IsWhole := Memref.isWhole_whole _
theorem hm20 : m20.IsWhole := Memref.isWhole_whole _
theorem hm21 : m21.IsWhole := Memref.isWhole_whole _
theorem hm22 : m22.IsWhole := Memref.isWhole_whole _
theorem hm23 : m23.IsWhole := Memref.isWhole_whole _
abbrev m9 : DmaSems sig S5 := cc0_scratch3
abbrev m10 : DmaSems sig S2 := cc0_scratch4
abbrev m11 : DmaSems sig S_ := cc0_scratch5

/-- A whole square tile. -/
abbrev sq : Rect S256x256 := Rect.unit (s := S256x256) ![0, 0] S256x256.size inb_S256x256_S256x256_0_0

/-- One accumulation: the tile `a` takes the product of the loaded rows and the staged weights added to it. -/
def acc1 (st : StgM) (a : AccM) (x : Vec F S256x256 .bf16) : Prog (TpuEff nD τ sig (Elt F) Λ₀ .tc) PUnit := do
  let v : Vec F S256x256 .f32 ← Prog.lift (.load a sq.toLoadRect (View.loadsAt_vmem h_S256x256))
  let s : Vec F S256x256 .bf16 ← Prog.lift (.load st sq.toLoadRect (View.loadsAt_vmem h_S256x256))
  let _ : Vec F S256x256 .f32 ← Prog.lift (.load a sq.toLoadRect (View.loadsAt_vmem h_S256x256))
  Prog.lift (.store a sq (shapeCast S256x256 (addf v (matmul dot_S256x256_S256x256_S256x256_1_1_0_0_n_n none x s (constant S256x256 .f32 0x00000000#32))) shapeCasts_S256x256_S256x256) Finset.univ (View.stores_vmem_bits_univ h_S256x256 rfl) (.inl rfl))

/-- One 256-row block of the activations against both staged tiles. -/
def accR (st0 st1 : StgM) (a0 a1 : AccM) (o : Fin 2 → Nat) (h : ∀ a, o a + S256x256.size a ≤ S1024x18944.size a) : Prog (TpuEff nD τ sig (Elt F) Λ₀ .tc) PUnit := do
  let x : Vec F S256x256 .bf16 ← Prog.lift (.load m6 (Rect.unit (s := S1024x18944) o S256x256.size h).toLoadRect (View.loadsAt_vmem h_S256x256))
  acc1 st0 a0 x
  acc1 st1 a1 x

/-- The weights of one half chunk as the kernel computes them: four strided word blocks, each word's byte pair
    taken in turn, times the scale column of the chunk. -/
def rhsV (w0 w1 w2 w3 : Vec F S64x128 .i32) (s : Vec F S256x128 .f32) (chunk : BV) (hi : Bool) : FVec F S256x256 .bf16 :=
  have v480 : BV := chunk
  have v580 : FVec F S256x128 .f32 := shapeCast S256x128 s shapeCasts_S256x128_S256x128
  have v581 : IVec S256x128 32 := broadcast S256x128 v480
  have v582 : IVec S256x128 32 := broadcast S256x128 0#32
  have v583 : IVec S256x128 1 := cmpi .slt v581 v582
  have v584 : IVec S256x128 32 := broadcast S256x128 128#32
  have v585 : IVec S256x128 32 := addi v581 v584
  have v586 : IVec S256x128 32 := select v583 v585 v581
  have v587 : IVec S256x128x1 32 := shapeCast S256x128x1 v586 shapeCasts_S256x128_S256x128x1
  have v588 : IVec S256x128 32 := shapeCast S256x128 v587 shapeCasts_S256x128x1_S256x128
  have v589 : FVec F S256x128 .f32 := dynamicGather 1 v580 v588
  have v590 : FVec F S256x128 .bf16 := truncf .bf16 v589 bitsLt_bf16_f32
  have sh : BV → Vec F S64x128 .i32 → IVec S64x128 32 := fun b w => shrui w (broadcast S64x128 b)
  have byte : (Vec F S64x128 .i32 → IVec S64x128 32) → FVec F S256x128 .bf16 := fun g =>
    mulf (sitofp .bf16 (bitcast S256x128 8 (packElementwiseInt 8 ![g w0, g w1, g w2, g w3]) bitcasts_S64x128_w32_S256x128_w8)) v590
  concatenate S256x256 1 [⟨S256x128, byte (match hi with | false => fun w => w | true => sh 16#32)⟩,
    ⟨S256x128, byte (match hi with | false => sh 8#32 | true => sh 24#32)⟩] concatenates_S256x128_S256x128_S256x256_d1

/-- Staging one tile of weights: four word blocks, the scale rows, the store. -/
def push1 (a4 : Memref sig .tc .vmem S3584x128 .f32) (st : StgM) (hst : st.IsWhole) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV) (hi : Bool) : Prog (TpuEff nD τ sig (Elt F) Λ₀ .tc) PUnit := do
  let w0 : Vec F S64x128 .i32 ← Prog.lift (.load m7 (⟨o 0, S64x128.size, ![148, 1], h 0⟩ : LoadRect S37888x128) (View.loadsAt_vmem h_S64x128))
  let w1 : Vec F S64x128 .i32 ← Prog.lift (.load m7 (⟨o 1, S64x128.size, ![148, 1], h 1⟩ : LoadRect S37888x128) (View.loadsAt_vmem h_S64x128))
  let w2 : Vec F S64x128 .i32 ← Prog.lift (.load m7 (⟨o 2, S64x128.size, ![148, 1], h 2⟩ : LoadRect S37888x128) (View.loadsAt_vmem h_S64x128))
  let w3 : Vec F S64x128 .i32 ← Prog.lift (.load m7 (⟨o 3, S64x128.size, ![148, 1], h 3⟩ : LoadRect S37888x128) (View.loadsAt_vmem h_S64x128))
  let s : Vec F S256x128 .f32 ← Prog.lift (.load a4 (Rect.unit (s := S3584x128) os S256x128.size hs).toLoadRect (View.loadsAt_vmem h_S256x128))
  let _ : Vec F S256x256 .bf16 ← Prog.lift (.load st sq.toLoadRect (View.loadsAt_vmem h_S256x256))
  Prog.lift (.store st sq (shapeCast S256x256 (rhsV w0 w1 w2 w3 s chunk hi) shapeCasts_S256x256_S256x256) Finset.univ (View.stores_vmem h_S256x256 (hst.storeExact_slice rfl _ packedbf16_S256x256_S256x256_0_0) (fun _ => rfl)) (.inl rfl))

/-- One accumulator tile taken: read, set to zero, rounded into its place of the output block. -/
def pop1 (a : AccM) (o : Fin 2 → Nat) (h : ∀ a, o a + S256x256.size a ≤ S1024x512.size a)
    (hp : (Rect.unit (s := S1024x512) o S256x256.size h).PackedRows (EltTy.packing .bf16)) : Prog (TpuEff nD τ sig (Elt F) Λ₀ .tc) PUnit := do
  let v : Vec F S256x256 .f32 ← Prog.lift (.load a sq.toLoadRect (View.loadsAt_vmem h_S256x256))
  let _ : Vec F S256x256 .f32 ← Prog.lift (.load a sq.toLoadRect (View.loadsAt_vmem h_S256x256))
  Prog.lift (.store a sq (shapeCast S256x256 (broadcast S256x256 (Scalar.ofBits .f32 0x00000000#32) : FVec F S256x256 .f32) shapeCasts_S256x256_S256x256) Finset.univ (View.stores_vmem_bits_univ h_S256x256 rfl) (.inl rfl))
  let _ : Vec F S256x256 .bf16 ← Prog.lift (.load m8 (Rect.unit (s := S1024x512) o S256x256.size h).toLoadRect (View.loadsAt_vmem h_S256x256))
  Prog.lift (.store m8 (Rect.unit (s := S1024x512) o S256x256.size h) (shapeCast S256x256 (truncf .bf16 v bitsLt_bf16_f32 : FVec F S256x256 .bf16) shapeCasts_S256x256_S256x256) Finset.univ (View.stores_vmem h_S256x256 (hm8.storeExact_slice rfl _ hp) (fun _ => rfl)) (.inl rfl))

/-- One half chunk against all four row blocks. -/
def accAll (st0 st1 : StgM) (o0 o1 o2 o3 : Fin 2 → Nat) (h0 : ∀ a, o0 a + S256x256.size a ≤ S1024x18944.size a)
    (h1 : ∀ a, o1 a + S256x256.size a ≤ S1024x18944.size a) (h2 : ∀ a, o2 a + S256x256.size a ≤ S1024x18944.size a)
    (h3 : ∀ a, o3 a + S256x256.size a ≤ S1024x18944.size a) : Prog (TpuEff nD τ sig (Elt F) Λ₀ .tc) PUnit := do
  accR st0 st1 m16 m20 o0 h0
  accR st0 st1 m17 m21 o1 h1
  accR st0 st1 m18 m22 o2 h2
  accR st0 st1 m19 m23 o3 h3

/-- The chunk number trip `t` of the inner loop works on at its `k`-th step, as the kernel computes it. -/
def chunkV (t : Fin k0_t1_loop.trips) (k : BV) : BV :=
  Scalar.addi (Scalar.addi 1#32 (Scalar.muli (Scf.iv 0#32 1#32 t) 9#32)) k

/-- A half chunk of the inner loop. -/
def accT (st0 st1 : StgM) (t : Fin k0_t1_loop.trips) (k : Fin 9) (hf : Fin 2) : Prog (TpuEff nD τ sig (Elt F) Λ₀ .tc) PUnit :=
  accAll st0 st1 (k0_off26 t (BitVec.ofNat 32 k.val) (BitVec.ofNat 32 (256 * hf.val))) (k0_off27 t (BitVec.ofNat 32 k.val) (BitVec.ofNat 32 (256 * hf.val)))
    (k0_off28 t (BitVec.ofNat 32 k.val) (BitVec.ofNat 32 (256 * hf.val))) (k0_off29 t (BitVec.ofNat 32 k.val) (BitVec.ofNat 32 (256 * hf.val)))
    (k0_off26_inb t k hf) (k0_off27_inb t k hf) (k0_off28_inb t k hf) (k0_off29_inb t k hf)

variable (a4 : Memref sig .tc .vmem S3584x128 .f32)

/-- Staging the second half of chunk `k` of trip `t`. -/
def pushT (i : grid0.Coords) (t : Fin k0_t1_loop.trips) (k : Fin 9) : Prog (TpuEff nD τ sig (Elt F) Λ₀ .tc) PUnit := do
  push1 a4 m14 hm14 (fun r => k0_off30 i t (BitVec.ofNat 32 (9472 * (0 : Fin 2).val)) (BitVec.ofNat 32 k.val) (BitVec.ofNat 32 (37 * r.val))) (fun r => k0_off30_inb i t 0 k r)
    (k0_off31 i (BitVec.ofNat 32 (0 : Fin 2).val)) (k0_off31_inb i 0) (chunkV t (BitVec.ofNat 32 k.val)) true
  push1 a4 m15 hm15 (fun r => k0_off30 i t (BitVec.ofNat 32 (9472 * (1 : Fin 2).val)) (BitVec.ofNat 32 k.val) (BitVec.ofNat 32 (37 * r.val))) (fun r => k0_off30_inb i t 1 k r)
    (k0_off31 i (BitVec.ofNat 32 (1 : Fin 2).val)) (k0_off31_inb i 1) (chunkV t (BitVec.ofNat 32 k.val)) true

/-- Staging the first half of the chunk after chunk `k` of trip `t`, `k < 8`. -/
def pushN (i : grid0.Coords) (t : Fin k0_t1_loop.trips) (k : Fin 8) : Prog (TpuEff nD τ sig (Elt F) Λ₀ .tc) PUnit := do
  push1 a4 m12 hm12 (fun r => k0_off32 i t (BitVec.ofNat 32 (9472 * (0 : Fin 2).val)) (BitVec.ofNat 32 k.val) (BitVec.ofNat 32 (37 * r.val))) (fun r => k0_off32_inb i t 0 k r)
    (k0_off31 i (BitVec.ofNat 32 (0 : Fin 2).val)) (k0_off31_inb i 0) (Scalar.addi (chunkV t (BitVec.ofNat 32 k.val)) 1#32) false
  push1 a4 m13 hm13 (fun r => k0_off32 i t (BitVec.ofNat 32 (9472 * (1 : Fin 2).val)) (BitVec.ofNat 32 k.val) (BitVec.ofNat 32 (37 * r.val))) (fun r => k0_off32_inb i t 1 k r)
    (k0_off31 i (BitVec.ofNat 32 (1 : Fin 2).val)) (k0_off31_inb i 1) (Scalar.addi (chunkV t (BitVec.ofNat 32 k.val)) 1#32) false

/-- The chunk staged last in trip `t`: the next trip's first, or the next tile's. -/
def lastV (t : Fin k0_t1_loop.trips) : BV :=
  Scalar.select (Scalar.cmpi .eq (Scf.iv 0#32 1#32 t) 3#32) 0#32 (Scalar.addi (chunkV t 8#32) 1#32)

/-- Staging at the end of a trip. -/
def pushL (i : grid0.Coords) (t : Fin k0_t1_loop.trips) : Prog (TpuEff nD τ sig (Elt F) Λ₀ .tc) PUnit := do
  push1 a4 m12 hm12 (fun r => k0_off33 i t (BitVec.ofNat 32 (9472 * (0 : Fin 2).val)) (BitVec.ofNat 32 (37 * r.val))) (fun r => k0_off33_inb i t 0 r)
    (k0_off34 i t (BitVec.ofNat 32 (0 : Fin 2).val)) (k0_off34_inb i t 0) (lastV t) false
  push1 a4 m13 hm13 (fun r => k0_off33 i t (BitVec.ofNat 32 (9472 * (1 : Fin 2).val)) (BitVec.ofNat 32 (37 * r.val))) (fun r => k0_off33_inb i t 1 r)
    (k0_off34 i t (BitVec.ofNat 32 (1 : Fin 2).val)) (k0_off34_inb i t 1) (lastV t) false

/-- A chunk of the inner loop up to its second half's products. -/
def chunkT (i : grid0.Coords) (t : Fin k0_t1_loop.trips) (k : Fin 9) : Prog (TpuEff nD τ sig (Elt F) Λ₀ .tc) PUnit := do
  accT m12 m13 t k 0
  pushT a4 i t k
  accT m14 m15 t k 1

/-- Waiting for the activations' column group of trip `t`. -/
def waitXA (i : grid0.Coords) (t : Fin k0_t1_loop.trips) (h : k0_cond6 i = 1#1) : Prog (TpuEff nD τ sig (Elt F) Λ₀ .tc) PUnit :=
    Prog.lift (.waitDma2 ((m9.slice (Rect.unit (s := S5) (k0_off19 t) S1.size (k0_off19_inb i t h))).squeeze S_ squeezes_S1_S_).sem
      (m2.slice (Rect.unit (s := S6144x18944) (k0_off21 i t) S1024x4608.size (k0_off21_inb i t h)) (fun _ => rfl))
      (m6.slice (Rect.unit (s := S1024x18944) (k0_off20 t) S1024x4608.size (k0_off20_inb i t h)) (fun _ => rfl))
      (hm2.wordExact_slice rfl _ (k0_off21_wordsbf16 i t h)) (hm6.wordExact_slice rfl _ (k0_off20_wordsbf16 i t h)))

def waitX (i : grid0.Coords) (t : Fin k0_t1_loop.trips) : Prog (TpuEff nD τ sig (Elt F) Λ₀ .tc) PUnit :=
  if h : k0_cond6 i = 1#1 then waitXA i t h else pure ⟨⟩

/-- Starting the copy of the previous tile's output block. -/
def startOA (i : grid0.Coords) (t : Fin k0_t1_loop.trips) (h : k0_cond7 i t = 1#1) : Prog (TpuEff nD τ sig (Elt F) Λ₀ .tc) PUnit :=
    Prog.lift (.enqueueDma m8 (.here (m5.slice (Rect.unit (s := S6144x3584) (k0_off22 i) S1024x512.size (k0_off22_inb i t h)) (fun _ => rfl))) (.dma m11.sem)
      hm8.wordExact (hm5.wordExact_slice rfl _ (k0_off22_wordsbf16 i t h)) ⟨Or.inl rfl, trivial⟩)

def startO (i : grid0.Coords) (t : Fin k0_t1_loop.trips) : Prog (TpuEff nD τ sig (Elt F) Λ₀ .tc) PUnit :=
  if h : k0_cond7 i t = 1#1 then startOA i t h else pure ⟨⟩

/-- Waiting for the next tile's words. -/
def waitWA (i : grid0.Coords) (t : Fin k0_t1_loop.trips) (h : k0_cond8 i t = 1#1) : Prog (TpuEff nD τ sig (Elt F) Λ₀ .tc) PUnit :=
    Prog.lift (.waitDma2 ((m10.slice (Rect.unit (s := S2) (k0_off23 i) S1.size (k0_off23_inb i t h))).squeeze S_ squeezes_S1_S_).sem
      (m3.slice (Rect.unit (s := S132608x128) (k0_off25 i) S18944x128.size (k0_off25_inb i t h)) (fun _ => rfl))
      (m7.slice (Rect.unit (s := S37888x128) (k0_off24 i) S18944x128.size (k0_off24_inb i t h)) (fun _ => rfl))
      (View.wordExact_bits rfl) (View.wordExact_bits rfl))

def waitW (i : grid0.Coords) (t : Fin k0_t1_loop.trips) : Prog (TpuEff nD τ sig (Elt F) Λ₀ .tc) PUnit :=
  if h : k0_cond8 i t = 1#1 then waitWA i t h else pure ⟨⟩

/-- Refilling the column group trip `t` has finished with. -/
def refillXA (i : grid0.Coords) (t : Fin k0_t1_loop.trips) (h : k0_cond9 i = 1#1) : Prog (TpuEff nD τ sig (Elt F) Λ₀ .tc) PUnit :=
    Prog.lift (.enqueueDma (m2.slice (Rect.unit (s := S6144x18944) (k0_off37 i t) S1024x4608.size (k0_off37_inb i t h)) (fun _ => rfl))
      (.here (m6.slice (Rect.unit (s := S1024x18944) (k0_off36 t) S1024x4608.size (k0_off36_inb i t h)) (fun _ => rfl)))
      (.dma ((m9.slice (Rect.unit (s := S5) (k0_off35 t) S1.size (k0_off35_inb i t h))).squeeze S_ squeezes_S1_S_).sem)
      (hm2.wordExact_slice rfl _ (k0_off37_wordsbf16 i t h)) (hm6.wordExact_slice rfl _ (k0_off36_wordsbf16 i t h)) ⟨Or.inl rfl, trivial⟩)

def refillX (i : grid0.Coords) (t : Fin k0_t1_loop.trips) : Prog (TpuEff nD τ sig (Elt F) Λ₀ .tc) PUnit :=
  if h : k0_cond9 i = 1#1 then refillXA i t h else pure ⟨⟩

/-- One trip of the inner loop. -/
def tripP (i : grid0.Coords) (t : Fin k0_t1_loop.trips) : Prog (TpuEff nD τ sig (Elt F) Λ₀ .tc) Unit := do
  waitX i t
  startO i t
  waitW i t
  chunkT a4 i t 0
  pushN a4 i t 0
  chunkT a4 i t 1
  pushN a4 i t 1
  chunkT a4 i t 2
  pushN a4 i t 2
  chunkT a4 i t 3
  pushN a4 i t 3
  chunkT a4 i t 4
  pushN a4 i t 4
  chunkT a4 i t 5
  pushN a4 i t 5
  chunkT a4 i t 6
  pushN a4 i t 6
  chunkT a4 i t 7
  pushN a4 i t 7
  chunkT a4 i t 8
  pushL a4 i t
  refillX i t

/-- The start of everything: the first words and all of the first activations, the first weights staged. -/
def startAllA (i : grid0.Coords) (h : k0_cond1 i = 1#1) : Prog (TpuEff nD τ sig (Elt F) Λ₀ .tc) PUnit := do
    Prog.lift (.enqueueDma (m3.slice (Rect.unit (s := S132608x128) (k0_off3 i) S18944x128.size (k0_off3_inb i h)) (fun _ => rfl))
      (.here (m7.slice (Rect.unit (s := S37888x128) (k0_off2 i) S18944x128.size (k0_off2_inb i h)) (fun _ => rfl)))
      (.dma ((m10.slice (Rect.unit (s := S2) (k0_off1 i) S1.size (k0_off1_inb i h))).squeeze S_ squeezes_S1_S_).sem)
      (View.wordExact_bits rfl) (View.wordExact_bits rfl) ⟨Or.inl rfl, trivial⟩)
    Prog.lift (.enqueueDma (m2.slice (Rect.unit (s := S6144x18944) (k0_off4 i) S1024x512.size (k0_off4_inb i h)) (fun _ => rfl))
      (.here (m6.slice (Rect.unit (s := S1024x18944) ![0, 0] S1024x512.size inb_S1024x18944_S1024x512_0_0) (fun _ => rfl)))
      (.dma ((m9.slice (Rect.unit (s := S5) ![0] S1.size inb_S5_S1_0)).squeeze S_ squeezes_S1_S_).sem)
      (hm2.wordExact_slice rfl _ (k0_off4_wordsbf16 i h)) (hm6.wordExact_slice rfl _ wordsbf16_S1024x18944_S1024x512_0_0) ⟨Or.inl rfl, trivial⟩)
    Prog.lift (.enqueueDma (m2.slice (Rect.unit (s := S6144x18944) (k0_off5 i) S1024x4608.size (k0_off5_inb i h)) (fun _ => rfl))
      (.here (m6.slice (Rect.unit (s := S1024x18944) ![0, 512] S1024x4608.size inb_S1024x18944_S1024x4608_0_512) (fun _ => rfl)))
      (.dma ((m9.slice (Rect.unit (s := S5) ![1] S1.size inb_S5_S1_1)).squeeze S_ squeezes_S1_S_).sem)
      (hm2.wordExact_slice rfl _ (k0_off5_wordsbf16 i h)) (hm6.wordExact_slice rfl _ wordsbf16_S1024x18944_S1024x4608_0_512) ⟨Or.inl rfl, trivial⟩)
    Prog.lift (.enqueueDma (m2.slice (Rect.unit (s := S6144x18944) (k0_off6 i) S1024x4608.size (k0_off6_inb i h)) (fun _ => rfl))
      (.here (m6.slice (Rect.unit (s := S1024x18944) ![0, 5120] S1024x4608.size inb_S1024x18944_S1024x4608_0_5120) (fun _ => rfl)))
      (.dma ((m9.slice (Rect.unit (s := S5) ![2] S1.size inb_S5_S1_2)).squeeze S_ squeezes_S1_S_).sem)
      (hm2.wordExact_slice rfl _ (k0_off6_wordsbf16 i h)) (hm6.wordExact_slice rfl _ wordsbf16_S1024x18944_S1024x4608_0_5120) ⟨Or.inl rfl, trivial⟩)
    Prog.lift (.enqueueDma (m2.slice (Rect.unit (s := S6144x18944) (k0_off7 i) S1024x4608.size (k0_off7_inb i h)) (fun _ => rfl))
      (.here (m6.slice (Rect.unit (s := S1024x18944) ![0, 9728] S1024x4608.size inb_S1024x18944_S1024x4608_0_9728) (fun _ => rfl)))
      (.dma ((m9.slice (Rect.unit (s := S5) ![3] S1.size inb_S5_S1_3)).squeeze S_ squeezes_S1_S_).sem)
      (hm2.wordExact_slice rfl _ (k0_off7_wordsbf16 i h)) (hm6.wordExact_slice rfl _ wordsbf16_S1024x18944_S1024x4608_0_9728) ⟨Or.inl rfl, trivial⟩)
    Prog.lift (.enqueueDma (m2.slice (Rect.unit (s := S6144x18944) (k0_off8 i) S1024x4608.size (k0_off8_inb i h)) (fun _ => rfl))
      (.here (m6.slice (Rect.unit (s := S1024x18944) ![0, 14336] S1024x4608.size inb_S1024x18944_S1024x4608_0_14336) (fun _ => rfl)))
      (.dma ((m9.slice (Rect.unit (s := S5) ![4] S1.size inb_S5_S1_4)).squeeze S_ squeezes_S1_S_).sem)
      (hm2.wordExact_slice rfl _ (k0_off8_wordsbf16 i h)) (hm6.wordExact_slice rfl _ wordsbf16_S1024x18944_S1024x4608_0_14336) ⟨Or.inl rfl, trivial⟩)
    Prog.lift (.waitDma2 ((m10.slice (Rect.unit (s := S2) (k0_off1 i) S1.size (k0_off1_inb i h))).squeeze S_ squeezes_S1_S_).sem
      (m3.slice (Rect.unit (s := S132608x128) (k0_off3 i) S18944x128.size (k0_off3_inb i h)) (fun _ => rfl))
      (m7.slice (Rect.unit (s := S37888x128) (k0_off2 i) S18944x128.size (k0_off2_inb i h)) (fun _ => rfl))
      (View.wordExact_bits rfl) (View.wordExact_bits rfl))
    push1 a4 m12 hm12 (fun r => k0_off9 i (BitVec.ofNat 32 (9472 * (0 : Fin 2).val)) (BitVec.ofNat 32 (37 * r.val))) (fun r => k0_off9_inb i h 0 r)
      (k0_off10 i (BitVec.ofNat 32 (0 : Fin 2).val)) (k0_off10_inb i h 0) 0#32 false
    push1 a4 m13 hm13 (fun r => k0_off9 i (BitVec.ofNat 32 (9472 * (1 : Fin 2).val)) (BitVec.ofNat 32 (37 * r.val))) (fun r => k0_off9_inb i h 1 r)
      (k0_off10 i (BitVec.ofNat 32 (1 : Fin 2).val)) (k0_off10_inb i h 1) 0#32 false

def startAll (i : grid0.Coords) : Prog (TpuEff nD τ sig (Elt F) Λ₀ .tc) PUnit :=
  if h : k0_cond1 i = 1#1 then startAllA a4 i h else pure ⟨⟩

/-- Waiting for the first column group of a row of tiles. -/
def waitX0A (i : grid0.Coords) (h : k0_cond2 i = 1#1) : Prog (TpuEff nD τ sig (Elt F) Λ₀ .tc) PUnit :=
    Prog.lift (.waitDma2 ((m9.slice (Rect.unit (s := S5) ![0] S1.size inb_S5_S1_0)).squeeze S_ squeezes_S1_S_).sem
      (m2.slice (Rect.unit (s := S6144x18944) (k0_off11 i) S1024x512.size (k0_off11_inb i h)) (fun _ => rfl))
      (m6.slice (Rect.unit (s := S1024x18944) ![0, 0] S1024x512.size inb_S1024x18944_S1024x512_0_0) (fun _ => rfl))
      (hm2.wordExact_slice rfl _ (k0_off11_wordsbf16 i h)) (hm6.wordExact_slice rfl _ wordsbf16_S1024x18944_S1024x512_0_0))

def waitX0 (i : grid0.Coords) : Prog (TpuEff nD τ sig (Elt F) Λ₀ .tc) PUnit :=
  if h : k0_cond2 i = 1#1 then waitX0A i h else pure ⟨⟩

/-- Starting the next tile's words. -/
def startWA (i : grid0.Coords) (h : k0_cond3 i = 1#1) : Prog (TpuEff nD τ sig (Elt F) Λ₀ .tc) PUnit :=
    Prog.lift (.enqueueDma (m3.slice (Rect.unit (s := S132608x128) (k0_off14 i) S18944x128.size (k0_off14_inb i h)) (fun _ => rfl))
      (.here (m7.slice (Rect.unit (s := S37888x128) (k0_off13 i) S18944x128.size (k0_off13_inb i h)) (fun _ => rfl)))
      (.dma ((m10.slice (Rect.unit (s := S2) (k0_off12 i) S1.size (k0_off12_inb i h))).squeeze S_ squeezes_S1_S_).sem)
      (View.wordExact_bits rfl) (View.wordExact_bits rfl) ⟨Or.inl rfl, trivial⟩)

def startW (i : grid0.Coords) : Prog (TpuEff nD τ sig (Elt F) Λ₀ .tc) PUnit :=
  if h : k0_cond3 i = 1#1 then startWA i h else pure ⟨⟩

/-- Waiting for the output block two tiles back. -/
def waitOA (i : grid0.Coords) (h : k0_cond4 i = 1#1) : Prog (TpuEff nD τ sig (Elt F) Λ₀ .tc) PUnit :=
    Prog.lift (.waitDma2 m11.sem m8 (m5.slice (Rect.unit (s := S6144x3584) (k0_off15 i) S1024x512.size (k0_off15_inb i h)) (fun _ => rfl))
      hm8.wordExact (hm5.wordExact_slice rfl _ (k0_off15_wordsbf16 i h)))

def waitO (i : grid0.Coords) : Prog (TpuEff nD τ sig (Elt F) Λ₀ .tc) PUnit :=
  if h : k0_cond4 i = 1#1 then waitOA i h else pure ⟨⟩

/-- Refilling the first column group. -/
def refillX0A (i : grid0.Coords) (h : k0_cond5 i = 1#1) : Prog (TpuEff nD τ sig (Elt F) Λ₀ .tc) PUnit :=
    Prog.lift (.enqueueDma (m2.slice (Rect.unit (s := S6144x18944) (k0_off18 i) S1024x512.size (k0_off18_inb i h)) (fun _ => rfl))
      (.here (m6.slice (Rect.unit (s := S1024x18944) ![0, 0] S1024x512.size inb_S1024x18944_S1024x512_0_0) (fun _ => rfl)))
      (.dma ((m9.slice (Rect.unit (s := S5) ![0] S1.size inb_S5_S1_0)).squeeze S_ squeezes_S1_S_).sem)
      (hm2.wordExact_slice rfl _ (k0_off18_wordsbf16 i h)) (hm6.wordExact_slice rfl _ wordsbf16_S1024x18944_S1024x512_0_0) ⟨Or.inl rfl, trivial⟩)

def refillX0 (i : grid0.Coords) : Prog (TpuEff nD τ sig (Elt F) Λ₀ .tc) PUnit :=
  if h : k0_cond5 i = 1#1 then refillX0A i h else pure ⟨⟩

/-- Two tiles taken: one row block of the output. -/
def pop2 (a0 a1 : AccM) (o0 o1 : Fin 2 → Nat) (h0 : ∀ a, o0 a + S256x256.size a ≤ S1024x512.size a) (h1 : ∀ a, o1 a + S256x256.size a ≤ S1024x512.size a)
    (p0 : (Rect.unit (s := S1024x512) o0 S256x256.size h0).PackedRows (EltTy.packing .bf16))
    (p1 : (Rect.unit (s := S1024x512) o1 S256x256.size h1).PackedRows (EltTy.packing .bf16)) : Prog (TpuEff nD τ sig (Elt F) Λ₀ .tc) PUnit := do
  pop1 a0 o0 h0 p0
  pop1 a1 o1 h1 p1

/-- The four row blocks of the output taken. -/
def popAll : Prog (TpuEff nD τ sig (Elt F) Λ₀ .tc) PUnit := do
  pop2 m16 m20 ![0, 0] ![0, 256] inb_S1024x512_S256x256_0_0 inb_S1024x512_S256x256_0_256 packedbf16_S1024x512_S256x256_0_0 packedbf16_S1024x512_S256x256_0_256
  pop2 m17 m21 ![256, 0] ![256, 256] inb_S1024x512_S256x256_256_0 inb_S1024x512_S256x256_256_256 packedbf16_S1024x512_S256x256_256_0 packedbf16_S1024x512_S256x256_256_256
  pop2 m18 m22 ![512, 0] ![512, 256] inb_S1024x512_S256x256_512_0 inb_S1024x512_S256x256_512_256 packedbf16_S1024x512_S256x256_512_0 packedbf16_S1024x512_S256x256_512_256
  pop2 m19 m23 ![768, 0] ![768, 256] inb_S1024x512_S256x256_768_0 inb_S1024x512_S256x256_768_256 packedbf16_S1024x512_S256x256_768_0 packedbf16_S1024x512_S256x256_768_256

/-- Taking the previous tile's accumulators, each row block at once started on the new tile's first half chunk. -/
def popAcc : Prog (TpuEff nD τ sig (Elt F) Λ₀ .tc) PUnit := do
  pop2 m16 m20 ![0, 0] ![0, 256] inb_S1024x512_S256x256_0_0 inb_S1024x512_S256x256_0_256 packedbf16_S1024x512_S256x256_0_0 packedbf16_S1024x512_S256x256_0_256
  accR m12 m13 m16 m20 ![0, 0] inb_S1024x18944_S256x256_0_0
  pop2 m17 m21 ![256, 0] ![256, 256] inb_S1024x512_S256x256_256_0 inb_S1024x512_S256x256_256_256 packedbf16_S1024x512_S256x256_256_0 packedbf16_S1024x512_S256x256_256_256
  accR m12 m13 m17 m21 ![256, 0] inb_S1024x18944_S256x256_256_0
  pop2 m18 m22 ![512, 0] ![512, 256] inb_S1024x512_S256x256_512_0 inb_S1024x512_S256x256_512_256 packedbf16_S1024x512_S256x256_512_0 packedbf16_S1024x512_S256x256_512_256
  accR m12 m13 m18 m22 ![512, 0] inb_S1024x18944_S256x256_512_0
  pop2 m19 m23 ![768, 0] ![768, 256] inb_S1024x512_S256x256_768_0 inb_S1024x512_S256x256_768_256 packedbf16_S1024x512_S256x256_768_0 packedbf16_S1024x512_S256x256_768_256
  accR m12 m13 m19 m23 ![768, 0] inb_S1024x18944_S256x256_768_0

/-- The end of everything: the last output block copied out. -/
def finishA (i : grid0.Coords) (h : k0_cond10 i = 1#1) : Prog (TpuEff nD τ sig (Elt F) Λ₀ .tc) PUnit := do
    Prog.lift (.waitDma2 m11.sem m8 (m5.slice (Rect.unit (s := S6144x3584) (k0_off38 i) S1024x512.size (k0_off38_inb i h)) (fun _ => rfl))
      hm8.wordExact (hm5.wordExact_slice rfl _ (k0_off38_wordsbf16 i h)))
    popAll
    Prog.lift (.enqueueDma m8 (.here (m5.slice (Rect.unit (s := S6144x3584) (k0_off39 i) S1024x512.size (k0_off39_inb i h)) (fun _ => rfl))) (.dma m11.sem)
      hm8.wordExact (hm5.wordExact_slice rfl _ (k0_off39_wordsbf16 i h)) ⟨Or.inl rfl, trivial⟩)
    Prog.lift (.waitDma2 m11.sem m8 (m5.slice (Rect.unit (s := S6144x3584) (k0_off39 i) S1024x512.size (k0_off39_inb i h)) (fun _ => rfl))
      hm8.wordExact (hm5.wordExact_slice rfl _ (k0_off39_wordsbf16 i h)))

def finish (i : grid0.Coords) : Prog (TpuEff nD τ sig (Elt F) Λ₀ .tc) PUnit :=
  if h : k0_cond10 i = 1#1 then finishA i h else pure ⟨⟩

/-- Chunk 0's second half, and the first half of chunk 1 staged. -/
def stage0 (i : grid0.Coords) : Prog (TpuEff nD τ sig (Elt F) Λ₀ .tc) PUnit := do
  push1 a4 m14 hm14 (fun r => k0_off16 i (BitVec.ofNat 32 (9472 * (0 : Fin 2).val)) (BitVec.ofNat 32 (0 : Fin 2).val) (BitVec.ofNat 32 (37 * r.val))) (fun r => k0_off16_inb i 0 0 r)
    (k0_off17 i (BitVec.ofNat 32 (0 : Fin 2).val)) (k0_off17_inb i 0) 0#32 true
  push1 a4 m15 hm15 (fun r => k0_off16 i (BitVec.ofNat 32 (9472 * (1 : Fin 2).val)) (BitVec.ofNat 32 (0 : Fin 2).val) (BitVec.ofNat 32 (37 * r.val))) (fun r => k0_off16_inb i 1 0 r)
    (k0_off17 i (BitVec.ofNat 32 (1 : Fin 2).val)) (k0_off17_inb i 1) 0#32 true
  accAll m14 m15 ![0, 256] ![256, 256] ![512, 256] ![768, 256] inb_S1024x18944_S256x256_0_256 inb_S1024x18944_S256x256_256_256 inb_S1024x18944_S256x256_512_256 inb_S1024x18944_S256x256_768_256
  push1 a4 m12 hm12 (fun r => k0_off16 i (BitVec.ofNat 32 (9472 * (0 : Fin 2).val)) (BitVec.ofNat 32 (1 : Fin 2).val) (BitVec.ofNat 32 (37 * r.val))) (fun r => k0_off16_inb i 0 1 r)
    (k0_off17 i (BitVec.ofNat 32 (0 : Fin 2).val)) (k0_off17_inb i 0) 1#32 false
  push1 a4 m13 hm13 (fun r => k0_off16 i (BitVec.ofNat 32 (9472 * (1 : Fin 2).val)) (BitVec.ofNat 32 (1 : Fin 2).val) (BitVec.ofNat 32 (37 * r.val))) (fun r => k0_off16_inb i 1 1 r)
    (k0_off17 i (BitVec.ofNat 32 (1 : Fin 2).val)) (k0_off17_inb i 1) 1#32 false

/-- The body at a grid point. -/
def bodyP (i : grid0.Coords) : Prog (TpuEff nD τ sig (Elt F) Λ₀ .tc) PUnit := do
  startAll a4 i
  waitX0 i
  startW i
  waitO i
  popAcc
  stage0 a4 i
  refillX0 i
  Scf.Loop.for k0_t1_loop k0_t1_ok ⟨⟩ (fun t _ => tripP a4 i t)
  finish i

end Cert.KernelIdeal.Hand

end
-- ==== Proof.Spec1.lean ====
/- What the small programs do to the buffers they touch: one accumulation, one staging, one tile taken, one
   transfer started or waited for. -/
module

public import proofs.«01_k».proof.Proof.Progs
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Running `p` from `P` ends in `Q`. -/
def Tri (c : Dev nD) (P : sProp 𝕄) (p : Prog (TpuEff nD τ sig (Elt F) Λ₀ .tc) PUnit) (Q : sProp 𝕄) : Prop :=
  P ⊢ wp frame (wpE (defs₀ (F := F)) Variants.none (c : Thread nD τ) none) Set.univ p (fun _ => Q)

theorem Tri.bind {c : Dev nD} {P Q R : sProp 𝕄} {p q : Prog (TpuEff nD τ sig (Elt F) Λ₀ .tc) PUnit}
    (h₁ : Tri c P p Q) (h₂ : Tri c Q q R) : Tri c P (p >>= fun _ => q) R := by
  unfold Tri at *
  rw [wp_bind]
  exact h₁.trans (wp_mono _ _ _ fun _ => h₂)

theorem Tri.conseq {c : Dev nD} {P P' Q Q' : sProp 𝕄} {p : Prog (TpuEff nD τ sig (Elt F) Λ₀ .tc) PUnit}
    (h : Tri c P p Q) (hP : P' ⊢ P) (hQ : Q ⊢ Q') : Tri c P' p Q' := by
  unfold Tri at *
  exact hP.trans (h.trans (wp_mono _ _ _ fun _ => hQ))

theorem Tri.frm {c : Dev nD} {P Q : sProp 𝕄} {p : Prog (TpuEff nD τ sig (Elt F) Λ₀ .tc) PUnit}
    (h : Tri c P p Q) (R : sProp 𝕄) : Tri c iprop(P ∗ R) p iprop(Q ∗ R) := by
  unfold Tri at *
  exact (sep_mono_left h).trans (wp_frame_r Idealize.ShloMosaic.frame _ _)

theorem Tri.ret {c : Dev nD} {P : sProp 𝕄} : Tri c P (pure ⟨⟩) P := by
  unfold Tri
  exact le_wp_ret _ _ _ PUnit.unit (fun _ => P)

theorem sq_emb (y : S256x256.Idx) : sq.emb y = y := by
  funext a; apply Fin.ext
  fin_cases a <;> simp [Rect.emb, sq, Rect.unit]

theorem readAt_sq {e : EltTy} (a : Memref sig .tc .vmem S256x256 e) (f : a.view.ty.Contents (Elt F)) :
    a.view.readAt (Elt F) sq.toLoadRect f = a.view.read (Elt F) f := by
  funext y
  exact congrArg (a.view.read (Elt F) f) (sq_emb y)

theorem read_write_sq {e : EltTy} (a : Memref sig .tc .vmem S256x256 e) (f : a.view.ty.Contents (Elt F)) (w : Vec F S256x256 e) :
    a.view.read (Elt F) (a.view.writes (Elt F) f [⟨sq, w⟩]) = w := by
  rw [← readAt_sq]
  exact View.read_write_univ (v := a.view.slice sq) f w

/-- The tile after one accumulation. -/
def accF (d : Vec F S256x256 .f32) (x s : Vec F S256x256 .bf16) : Vec F S256x256 .f32 :=
  shapeCast S256x256 (addf d (matmul dot_S256x256_S256x256_S256x256_1_1_0_0_n_n none x s (constant S256x256 .f32 0x00000000#32))) shapeCasts_S256x256_S256x256

theorem acc1_spec (c : Dev nD) (st : StgM) (a : AccM) (x s : Vec F S256x256 .bf16) (d : Vec F S256x256 .f32) :
    Tri c iprop(owns c st fullShare s ∗ owns c a fullShare d) (acc1 st a x)
      iprop(owns c st fullShare s ∗ owns c a fullShare (accF d x s)) := by
  unfold Tri acc1 owns
  iintro ⟨⟨%fs, %hs, Hs⟩, ⟨%fa, %ha, Ha⟩⟩
  sl_exec
  sl_step
  isplitl [Hs]
  · iexists _; isplitr; swap; · iexact Hs
    ipureintro; exact hs
  · iexists _; isplitr; swap; · iexact Ha
    ipureintro
    rw [read_write_sq, readAt_sq, readAt_sq, ha, hs]; rfl

/-! ## Transfers -/

/-- A transfer in flight: `P` is delivered at the wait, with the share of the source it reads. -/
def Fly (c : Dev nD) (sm : SemLoc sig) (N : ℕ) (P : sProp 𝕄) (ℓ : Loc nD τ sig) (q : PosShare TreeShare) (fs : Buf (Elt F) ℓ) : sProp 𝕄 :=
  iprop(∃ A, Transfers.Flight (countersEmb (U := Pipeline.UD sig nD τ)) (c : Thread nD τ) sm () N iprop(P ∗ (ℓ ↦[A]{q} fs)) ∗ (ℓ ↦[Finset.univ \ A]{q} fs))

/-- What the core owes: nothing, having waited for some. -/
def Owe (c : Dev nD) : sProp 𝕄 := iprop(∃ W, owes (c : Thread nD τ) 0 W)

theorem start_spec (c : Dev nD) {sp sp' : Space} {s : Shape} {e : EltTy} {src : Memref sig .tc sp s e} {dst : Memref sig .tc sp' s e}
    {sm : SemLoc sig} {hsrc : src.view.WordExact} {hdst : dst.view.WordExact} {hsem : DmaTarget.Typed (nD := nD) (τ := τ) sp sm (.here (p := .tc) dst)}
    (N : ℕ) (hN : dst.view.amount sm = N) (hN0 : 0 < s.numel)
    {q : PosShare TreeShare} {fs : Buf (Elt F) (src.view.loc (c : Thread nD τ))}
    {Sd : Finset (Idx (dst.view.loc (c : Thread nD τ)))} (hSd : dst.view.set ⊆ Sd) {fd G : Buf (Elt F) (dst.view.loc (c : Thread nD τ))}
    (hG : ∀ i ∈ Sd, dst.view.write (Elt F) fd (src.view.read (Elt F) fs) Finset.univ i = G i) :
    Tri c iprop((dst.view.loc (c : Thread nD τ) ↦[Sd]{fullShare} fd) ∗ semVal ((c : Thread nD τ), sm) 0 ∗ (src.view.loc (c : Thread nD τ) ↦{q} fs))
      (Prog.lift (.enqueueDma src (.here dst) sm hsrc hdst hsem))
      (Fly c sm N (dst.view.loc (c : Thread nD τ) ↦[Sd]{fullShare} G) (src.view.loc (c : Thread nD τ)) q fs) := by
  unfold Tri Fly
  iintro ⟨Hd, Hv, Hs⟩
  ihave Hs' := (pointsTo_split_subset (Finset.subset_univ src.view.set)).1 $$ Hs
  icases Hs' with ⟨Hs, Hr⟩
  have hN1 : 0 < N := hN ▸ View.amount_pos dst.view sm hN0
  iapply (Transfers.wp_dmaLocal (countersEmb (U := Pipeline.UD sig nD τ)) Variants.none (c : Thread nD τ) none () N hN hN1 hSd
    (src := src) (dst := dst) (sm := sm) (via := ReadAs.same) (fs := fs) (fd := fd) (q := q)) $$ [Hs Hd Hv]
  · isplitl [Hs]; · iexact Hs
    isplitl [Hd]; · iexact Hd
    iexact Hv
  iintro HF
  rw [wp_ret]
  imodintro
  iexists src.view.set
  isplitr [Hr]; swap; · iexact Hr
  have h := pointsTo_congr (nD := nD) (τ := τ) (sig := sig) (Ix := Unit) (Name := ℕ) (U := Pipeline.UD sig nD τ) (Lvl := ℕ) (ℓ := dst.view.loc (c : Thread nD τ)) (q := fullShare) hG
  rw [← h]
  iexact HF

theorem wait_spec (c : Dev nD) {sp sp' : Space} {s s' : Shape} {e e' : EltTy} {src : Memref sig .tc sp' s' e'} {dst : Memref sig .tc sp s e}
    {sem : DmaSem sig} {hsrc : src.view.WordExact} {hdst : dst.view.WordExact}
    (N : ℕ) (hN : dst.view.dmaCredit = N) {P : sProp 𝕄} {ℓ : Loc nD τ sig} {q : PosShare TreeShare} {fs : Buf (Elt F) ℓ} :
    Tri c iprop(Fly c (.dma sem) N P ℓ q fs ∗ Owe c)
      (Prog.lift (.waitDma2 sem src dst hsrc hdst))
      iprop((P ∗ semVal ((c : Thread nD τ), .dma sem) 0 ∗ (ℓ ↦{q} fs)) ∗ Owe c) := by
  unfold Tri Fly Owe
  iintro ⟨⟨%A, HF, Hr⟩, ⟨%W, HW⟩⟩
  iapply (Transfers.wp_waitLocal (countersEmb (U := Pipeline.UD sig nD τ)) Variants.none (c : Thread nD τ) none () hN
    (sem := sem) (srcw := src) (dstw := dst)) $$ [HF HW]
  · isplitl [HF]; · iexact HF
    iexact HW
  iintro ⟨⟨HP, HA⟩, Hv, HW⟩
  rw [wp_ret]
  imodintro
  isplitr [HW]; swap; · iexists _; iexact HW
  isplitl [HP]; · iexact HP
  isplitl [Hv]; · iexact Hv
  iapply (pointsTo_split_subset (Finset.subset_univ A)).2
  isplitl [HA]; · iexact HA
  iexact Hr

end Cert.KernelIdeal.Hand

end
-- ==== Proof.Forms.lean ====
/- The printed offsets and conditions in closed form: each is a table over the grid's 42 points, the loop's four
   trips and the step within a trip. -/
module

public import proofs.«01_k».proof.Proof.Progs

@[expose] public section

set_option maxRecDepth 65536

namespace Cert.KernelIdeal.Hand

open Cert.KernelIdeal Cert.KernelIdeal.Gen
open Idealize.ShloMosaic Idealize.ShloMosaic.TcCoe

abbrev Trip : Type := Fin k0_t1_loop.trips

theorem trips4 : k0_t1_loop.trips = 4 := by decide +kernel
theorem c1 : ∀ t : Fin 42, k0_cond1 (grid0.coords t) = 1#1 ↔ t.val = 0 := by decide +kernel
theorem c2 : ∀ t : Fin 42, k0_cond2 (grid0.coords t) = 1#1 ↔ t.val % 7 = 0 := by decide +kernel
theorem c3 : ∀ t : Fin 42, k0_cond3 (grid0.coords t) = 1#1 ↔ t.val + 1 < 42 := by decide +kernel
theorem c4 : ∀ t : Fin 42, k0_cond4 (grid0.coords t) = 1#1 ↔ 2 ≤ t.val := by decide +kernel
theorem c5 : ∀ t : Fin 42, k0_cond5 (grid0.coords t) = 1#1 ↔ (t.val % 7 = 6 ∧ t.val < 41) := by decide +kernel
theorem c6 : ∀ t : Fin 42, k0_cond6 (grid0.coords t) = 1#1 ↔ t.val % 7 = 0 := by decide +kernel
theorem c7 : ∀ (t : Fin 42) (u : Trip), k0_cond7 (grid0.coords t) u = 1#1 ↔ (u.val = 1 ∧ 1 ≤ t.val) := by decide +kernel
theorem c8 : ∀ (t : Fin 42) (u : Trip), k0_cond8 (grid0.coords t) u = 1#1 ↔ (u.val = 3 ∧ t.val + 1 < 42) := by decide +kernel
theorem c9 : ∀ t : Fin 42, k0_cond9 (grid0.coords t) = 1#1 ↔ (t.val % 7 = 6 ∧ t.val < 41) := by decide +kernel
theorem c10 : ∀ t : Fin 42, k0_cond10 (grid0.coords t) = 1#1 ↔ t.val = 41 := by decide +kernel
theorem o1 : ∀ t : Fin 42, k0_off1 (grid0.coords t) = ![t.val % 2] := by decide +kernel
theorem o2 : ∀ t : Fin 42, k0_off2 (grid0.coords t) = ![18944 * (t.val % 2), 0] := by decide +kernel
theorem o3 : ∀ t : Fin 42, k0_off3 (grid0.coords t) = ![18944 * (t.val % 7), 0] := by decide +kernel
theorem o4 : ∀ t : Fin 42, k0_off4 (grid0.coords t) = ![1024 * (t.val / 7), 0] := by decide +kernel
theorem o5 : ∀ t : Fin 42, k0_off5 (grid0.coords t) = ![1024 * (t.val / 7), 512] := by decide +kernel
theorem o6 : ∀ t : Fin 42, k0_off6 (grid0.coords t) = ![1024 * (t.val / 7), 5120] := by decide +kernel
theorem o7 : ∀ t : Fin 42, k0_off7 (grid0.coords t) = ![1024 * (t.val / 7), 9728] := by decide +kernel
theorem o8 : ∀ t : Fin 42, k0_off8 (grid0.coords t) = ![1024 * (t.val / 7), 14336] := by decide +kernel
theorem o9 : ∀ t : Fin 42, ∀ (q : Fin 2) (r : Fin 4), k0_off9 (grid0.coords t) (BitVec.ofNat 32 (9472 * q.val)) (BitVec.ofNat 32 (37 * r.val)) = ![18944 * (t.val % 2) + 9472 * q.val + 0 + 37 * r.val, 0] := by decide +kernel
theorem o10 : ∀ t : Fin 42, ∀ (q : Fin 2), k0_off10 (grid0.coords t) (BitVec.ofNat 32 q.val) = ![512 * (t.val % 7) + 256 * q.val, 0] := by decide +kernel
theorem o11 : ∀ t : Fin 42, k0_off11 (grid0.coords t) = ![1024 * (t.val / 7), 0] := by decide +kernel
theorem o12 : ∀ t : Fin 42, t.val + 1 < 42 → k0_off12 (grid0.coords t) = ![(t.val + 1) % 2] := by decide +kernel
theorem o13 : ∀ t : Fin 42, t.val + 1 < 42 → k0_off13 (grid0.coords t) = ![18944 * ((t.val + 1) % 2), 0] := by decide +kernel
theorem o14 : ∀ t : Fin 42, t.val + 1 < 42 → k0_off14 (grid0.coords t) = ![18944 * ((t.val + 1) % 7), 0] := by decide +kernel
theorem o15 : ∀ t : Fin 42, 2 ≤ t.val → k0_off15 (grid0.coords t) = ![1024 * ((t.val - 2) / 7), 512 * ((t.val - 2) % 7)] := by decide +kernel
theorem o16 : ∀ t : Fin 42, ∀ (q : Fin 2) (k : Fin 2) (r : Fin 4), k0_off16 (grid0.coords t) (BitVec.ofNat 32 (9472 * q.val)) (BitVec.ofNat 32 k.val) (BitVec.ofNat 32 (37 * r.val)) = ![18944 * (t.val % 2) + 9472 * q.val + k.val + 37 * r.val, 0] := by decide +kernel
theorem o17 : ∀ t : Fin 42, ∀ (q : Fin 2), k0_off17 (grid0.coords t) (BitVec.ofNat 32 q.val) = ![512 * (t.val % 7) + 256 * q.val, 0] := by decide +kernel
theorem o18 : ∀ t : Fin 42, t.val < 41 → k0_off18 (grid0.coords t) = ![1024 * (t.val / 7 + 1), 0] := by decide +kernel
theorem o19 : ∀ u : Trip, k0_off19 u = ![u.val + 1] := by decide +kernel
theorem o20 : ∀ u : Trip, k0_off20 u = ![0, 512 + 4608 * u.val] := by decide +kernel
theorem o21 : ∀ (t : Fin 42) (u : Trip), k0_off21 (grid0.coords t) u = ![1024 * (t.val / 7), 512 + 4608 * u.val] := by decide +kernel
theorem o22 : ∀ t : Fin 42, 1 ≤ t.val → k0_off22 (grid0.coords t) = ![1024 * ((t.val - 1) / 7), 512 * ((t.val - 1) % 7)] := by decide +kernel
theorem o23 : ∀ t : Fin 42, t.val + 1 < 42 → k0_off23 (grid0.coords t) = ![(t.val + 1) % 2] := by decide +kernel
theorem o24 : ∀ t : Fin 42, t.val + 1 < 42 → k0_off24 (grid0.coords t) = ![18944 * ((t.val + 1) % 2), 0] := by decide +kernel
theorem o25 : ∀ t : Fin 42, t.val + 1 < 42 → k0_off25 (grid0.coords t) = ![18944 * ((t.val + 1) % 7), 0] := by decide +kernel
theorem o26 : ∀ (u : Trip) (k : Fin 9) (h : Fin 2), k0_off26 u (BitVec.ofNat 32 k.val) (BitVec.ofNat 32 (256 * h.val)) = ![0, 512 * (1 + 9 * u.val + k.val) + 256 * h.val] := by decide +kernel
theorem o27 : ∀ (u : Trip) (k : Fin 9) (h : Fin 2), k0_off27 u (BitVec.ofNat 32 k.val) (BitVec.ofNat 32 (256 * h.val)) = ![256, 512 * (1 + 9 * u.val + k.val) + 256 * h.val] := by decide +kernel
theorem o28 : ∀ (u : Trip) (k : Fin 9) (h : Fin 2), k0_off28 u (BitVec.ofNat 32 k.val) (BitVec.ofNat 32 (256 * h.val)) = ![512, 512 * (1 + 9 * u.val + k.val) + 256 * h.val] := by decide +kernel
theorem o29 : ∀ (u : Trip) (k : Fin 9) (h : Fin 2), k0_off29 u (BitVec.ofNat 32 k.val) (BitVec.ofNat 32 (256 * h.val)) = ![768, 512 * (1 + 9 * u.val + k.val) + 256 * h.val] := by decide +kernel
theorem o30 : ∀ (t : Fin 42) (u : Trip), ∀ (q : Fin 2) (k : Fin 9) (r : Fin 4), k0_off30 (grid0.coords t) u (BitVec.ofNat 32 (9472 * q.val)) (BitVec.ofNat 32 k.val) (BitVec.ofNat 32 (37 * r.val)) = ![18944 * (t.val % 2) + 9472 * q.val + (1 + 9 * u.val + k.val) + 37 * r.val, 0] := by decide +kernel
theorem o31 : ∀ t : Fin 42, ∀ (q : Fin 2), k0_off31 (grid0.coords t) (BitVec.ofNat 32 q.val) = ![512 * (t.val % 7) + 256 * q.val, 0] := by decide +kernel
theorem o32 : ∀ (t : Fin 42) (u : Trip), ∀ (q : Fin 2) (k : Fin 8) (r : Fin 4), k0_off32 (grid0.coords t) u (BitVec.ofNat 32 (9472 * q.val)) (BitVec.ofNat 32 k.val) (BitVec.ofNat 32 (37 * r.val)) = ![18944 * (t.val % 2) + 9472 * q.val + (1 + 9 * u.val + k.val + 1) + 37 * r.val, 0] := by decide +kernel
theorem o33 : ∀ (t : Fin 42) (u : Trip), ∀ (q : Fin 2) (r : Fin 4), k0_off33 (grid0.coords t) u (BitVec.ofNat 32 (9472 * q.val)) (BitVec.ofNat 32 (37 * r.val)) = (if u.val = 3 then ![18944 * ((t.val + 1) % 2) + 9472 * q.val + 0 + 37 * r.val, 0] else ![18944 * (t.val % 2) + 9472 * q.val + (1 + 9 * u.val + 8 + 1) + 37 * r.val, 0]) := by decide +kernel
theorem o34 : ∀ (t : Fin 42) (u : Trip), ∀ (q : Fin 2), k0_off34 (grid0.coords t) u (BitVec.ofNat 32 q.val) = (if u.val = 3 then ![512 * ((t.val + 1) % 7) + 256 * q.val, 0] else ![512 * (t.val % 7) + 256 * q.val, 0]) := by decide +kernel
theorem o35 : ∀ u : Trip, k0_off35 u = ![u.val + 1] := by decide +kernel
theorem o36 : ∀ u : Trip, k0_off36 u = ![0, 512 + 4608 * u.val] := by decide +kernel
theorem o37 : ∀ (t : Fin 42) (u : Trip), t.val < 41 → k0_off37 (grid0.coords t) u = ![1024 * (t.val / 7 + 1), 512 + 4608 * u.val] := by decide +kernel
theorem o38 : ∀ t : Fin 42, t.val = 41 → k0_off38 (grid0.coords t) = ![1024 * ((t.val - 1) / 7), 512 * ((t.val - 1) % 7)] := by decide +kernel
theorem o39 : ∀ t : Fin 42, t.val = 41 → k0_off39 (grid0.coords t) = ![1024 * (t.val / 7), 512 * (t.val % 7)] := by decide +kernel
theorem chv : ∀ (u : Trip) (k : Fin 9), chunkV u (BitVec.ofNat 32 k.val) = BitVec.ofNat 32 (1 + 9 * u.val + k.val) := by decide +kernel
theorem chv1 : ∀ (u : Trip) (k : Fin 8), Scalar.addi (chunkV u (BitVec.ofNat 32 k.val)) 1#32 = BitVec.ofNat 32 (1 + 9 * u.val + k.val + 1) := by decide +kernel
theorem lastV_eq : ∀ (u : Trip), lastV u = (if u.val = 3 then BitVec.ofNat 32 0 else BitVec.ofNat 32 (1 + 9 * u.val + 8 + 1)) := by decide +kernel

end Cert.KernelIdeal.Hand
-- ==== Proof.State.lean ====
/- The values the kernel's buffers hold, as functions of the operands, and the programs' effects on them. -/
module

public import proofs.«01_k».proof.Proof.Spec1
public import proofs.«01_k».proof.Proof.Forms

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The index `(i, j)` of a matrix, each coordinate reduced below its extent. -/
def ixn (a b : ℕ) (ha : 0 < a) (hb : 0 < b) (i j : ℕ) : (⟨2, ![a, b]⟩ : Shape).Idx := fun k =>
  match k with
  | ⟨0, _⟩ => ⟨i % a, Nat.mod_lt _ ha⟩
  | ⟨1, _⟩ => ⟨j % b, Nat.mod_lt _ hb⟩

theorem idx_ext {a b : ℕ} (x y : (⟨2, ![a, b]⟩ : Shape).Idx) (h0 : (x 0).val = (y 0).val) (h1 : (x 1).val = (y 1).val) : x = y := by
  funext k; apply Fin.ext
  match k with
  | ⟨0, _⟩ => exact h0
  | ⟨1, _⟩ => exact h1

/-- The kernel's operands and what its result held before. -/
structure Inp (F : FTy → Type) [FloatOps F] where
  X : Vec F S6144x18944 .bf16
  W : Vec F S132608x128 .i32
  S : Vec F S3584x128 .f32
  Y : Vec F S6144x3584 .bf16

variable (I : Inp F)

/-- The activations' buffer holding row block `mm`. -/
def XB (mm : ℕ) : Vec F S1024x18944 .bf16 := fun y => I.X (ixn 6144 18944 (by omega) (by omega) (1024 * mm + (y 0).val) (y 1).val)
/-- The words' buffer, each slot holding column tile `n`. -/
def WB (n : ℕ) : Vec F S37888x128 .i32 := fun y => I.W (ixn 132608 128 (by omega) (by omega) (18944 * n + (y 0).val % 18944) (y 1).val)
/-- The activations of row block `i` of the tile at step `s`. -/
def XT (mm i s : ℕ) : Vec F S256x256 .bf16 := fun y => I.X (ixn 6144 18944 (by omega) (by omega) (1024 * mm + 256 * i + (y 0).val) (256 * s + (y 1).val))
/-- The word block `r` of chunk `ch`, half `q` of column tile `n`. -/
def WT (n q ch r : ℕ) : Vec F S64x128 .i32 := fun y => I.W (ixn 132608 128 (by omega) (by omega) (18944 * n + (9472 * q + ch + 37 * r + 148 * (y 0).val)) (y 1).val)
/-- The scale rows of half `q` of column tile `n`. -/
def ScT (n q : ℕ) : Vec F S256x128 .f32 := fun y => I.S (ixn 3584 128 (by omega) (by omega) (512 * n + 256 * q + (y 0).val) (y 1).val)
/-- The staged weights of chunk `ch`. -/
def ST (n q ch : ℕ) (hi : Bool) : Vec F S256x256 .bf16 :=
  shapeCast S256x256 (rhsV (WT I n q ch 0) (WT I n q ch 1) (WT I n q ch 2) (WT I n q ch 3) (ScT I n q) (BitVec.ofNat 32 ch) hi) shapeCasts_S256x256_S256x256

/-- The zero tile. -/
def zeroT : Vec F S256x256 .f32 :=
  shapeCast S256x256 (broadcast S256x256 (Scalar.ofBits .f32 0x00000000#32) : FVec F S256x256 .f32) shapeCasts_S256x256_S256x256

/-- The accumulator of tile `t` after `s` half chunks. -/
def AccV (t q i : ℕ) : ℕ → Vec F S256x256 .f32
  | 0 => zeroT
  | s + 1 => accF (AccV t q i s) (XT I (t / 7) i s) (ST I (t % 7) q (s / 2) (decide (s % 2 = 1)))

/-- The output tile `t`, one of its blocks rounded. -/
def truncT (d : Vec F S256x256 .f32) : Vec F S256x256 .bf16 :=
  shapeCast S256x256 (truncf .bf16 d bitsLt_bf16_f32 : FVec F S256x256 .bf16) shapeCasts_S256x256_S256x256
def OV (d : ℕ → ℕ → Vec F S256x256 .f32) : Vec F S1024x512 .bf16 := fun y =>
  truncT (d ((y 1).val / 256) ((y 0).val / 256)) (ixn 256 256 (by omega) (by omega) (y 0).val (y 1).val)
/-- The result when the tiles below `k` are written. -/
def OutC (k : ℕ) : Vec F S6144x3584 .bf16 := fun y =>
  if 7 * ((y 0).val / 1024) + (y 1).val / 512 < k then
    OV (fun q i => AccV I (7 * ((y 0).val / 1024) + (y 1).val / 512) q i 74) (ixn 1024 512 (by omega) (by omega) (y 0).val (y 1).val)
  else I.Y y

theorem setOn_m6 (M : Finset S1024x18944.Idx) : m6.view.setOn M = M := by
  ext i; constructor
  · intro h; obtain ⟨j, hj, rfl⟩ := Finset.mem_map.mp h; exact hj
  · intro h; exact Finset.mem_map.mpr ⟨i, h, rfl⟩
theorem setOn_m7 (M : Finset S37888x128.Idx) : m7.view.setOn M = M := by
  ext i; constructor
  · intro h; obtain ⟨j, hj, rfl⟩ := Finset.mem_map.mp h; exact hj
  · intro h; exact Finset.mem_map.mpr ⟨i, h, rfl⟩

theorem unit_exists {s : Shape} {off size : Fin s.rank → ℕ} {inb} {y : s.Idx} (hy : y ∈ (Rect.unit (s := s) off size inb).set) :
    ∃ z : (Rect.unit (s := s) off size inb).shape.Idx, (Rect.unit (s := s) off size inb).emb z = y := by
  rw [Rect.mem_set_unit] at hy
  refine ⟨fun a => ⟨(y a).val - off a, ?_⟩, ?_⟩
  · have := hy a; show (y a).val - off a < size a; omega
  · funext a; apply Fin.ext
    have := hy a
    rw [Rect.emb_apply]
    show off a + 1 * ((y a).val - off a) = (y a).val
    omega

theorem unit_emb_mem {s : Shape} {off size : Fin s.rank → ℕ} {inb} (z : (Rect.unit (s := s) off size inb).shape.Idx) :
    (Rect.unit (s := s) off size inb).emb z ∈ (Rect.unit (s := s) off size inb).set := by
  rw [Rect.mem_set_unit]
  intro a
  have h : (z a).val < size a := (z a).isLt
  rw [Rect.emb_apply]
  show off a ≤ off a + 1 * (z a).val ∧ off a + 1 * (z a).val < off a + size a
  omega

theorem push1_spec (c : Dev nD) (a4 : Memref sig .tc .vmem S3584x128 .f32) (st : StgM) (hst : st.IsWhole) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV) (hi : Bool)
    (S : Finset S37888x128.Idx) (B : Vec F S37888x128 .i32) (Sc : Vec F S3584x128 .f32)
    (hS : ∀ r, m7.view.setOn (⟨o r, S64x128.size, ![148, 1], h r⟩ : LoadRect S37888x128).set ⊆ S) :
    Tri c iprop((m7.view.loc (c : Thread nD τ) ↦[S]{fullShare} B) ∗ owns c a4 fullShare Sc ∗ (∃ v, owns c st fullShare v))
      (push1 a4 st hst o h os hs chunk hi)
      iprop((m7.view.loc (c : Thread nD τ) ↦[S]{fullShare} B) ∗ owns c a4 fullShare Sc ∗ owns c st fullShare
        (shapeCast S256x256 (rhsV (fun y => B ((⟨o 0, S64x128.size, ![148, 1], h 0⟩ : LoadRect S37888x128).idx y)) (fun y => B ((⟨o 1, S64x128.size, ![148, 1], h 1⟩ : LoadRect S37888x128).idx y))
          (fun y => B ((⟨o 2, S64x128.size, ![148, 1], h 2⟩ : LoadRect S37888x128).idx y)) (fun y => B ((⟨o 3, S64x128.size, ![148, 1], h 3⟩ : LoadRect S37888x128).idx y))
          (fun y => Sc ((Rect.unit (s := S3584x128) os S256x128.size hs).emb y)) chunk hi) shapeCasts_S256x256_S256x256)) := by
  unfold Tri push1 owns
  iintro ⟨Hm, ⟨%f4, %h4, H4⟩, ⟨%v, %fs, %hv, Hs⟩⟩
  rw [wp_bind]
  iapply (wp_load Variants.none (c : Thread nD τ) none Set.univ (hS 0)) $$ Hm
  iintro Hm
  rw [wp_ret]; imodintro
  rw [wp_bind]
  iapply (wp_load Variants.none (c : Thread nD τ) none Set.univ (hS 1)) $$ Hm
  iintro Hm
  rw [wp_ret]; imodintro
  rw [wp_bind]
  iapply (wp_load Variants.none (c : Thread nD τ) none Set.univ (hS 2)) $$ Hm
  iintro Hm
  rw [wp_ret]; imodintro
  rw [wp_bind]
  iapply (wp_load Variants.none (c : Thread nD τ) none Set.univ (hS 3)) $$ Hm
  iintro Hm
  rw [wp_ret]; imodintro
  sl_exec
  sl_step
  isplitl [Hm]; · iexact Hm
  isplitl [H4]
  · iexists _; isplitr; swap; · iexact H4
    ipureintro; exact h4
  · iexists _; isplitr; swap; · iexact Hs
    ipureintro
    rw [read_write_sq, ← h4]; rfl

theorem Tri.use {c : Dev nD} {P Q : sProp 𝕄} {p : Prog (TpuEff nD τ sig (Elt F) Λ₀ .tc) PUnit} (h : Tri c P p Q)
    {β : Type} {q : Prog (TpuEff nD τ sig (Elt F) Λ₀ .tc) β} {K : β → sProp 𝕄} :
    P ⊢ iprop((Q -∗ wp frame (wpE (defs₀ (F := F)) Variants.none (c : Thread nD τ) none) Set.univ q K)
      -∗ wp frame (wpE (defs₀ (F := F)) Variants.none (c : Thread nD τ) none) Set.univ (p >>= fun _ => q) K) := by
  unfold Tri at h
  rw [wp_bind]
  iintro HP HK
  iapply (wp_wand_r Idealize.ShloMosaic.frame _ _)
  isplitl [HP]; · iapply h; iexact HP
  iintro %a HQ
  iapply HK; iexact HQ

theorem Tri.last {c : Dev nD} {P Q : sProp 𝕄} {p : Prog (TpuEff nD τ sig (Elt F) Λ₀ .tc) PUnit} (h : Tri c P p Q)
    {K : PUnit → sProp 𝕄} :
    P ⊢ iprop((Q -∗ K ⟨⟩) -∗ wp frame (wpE (defs₀ (F := F)) Variants.none (c : Thread nD τ) none) Set.univ p K) := by
  unfold Tri at h
  iintro HP HK
  iapply (wp_wand_r Idealize.ShloMosaic.frame _ _)
  isplitl [HP]; · iapply h; iexact HP
  iintro %a HQ
  iapply HK; iexact HQ

theorem accR_spec (c : Dev nD) (st0 st1 : StgM) (a0 a1 : AccM) (o : Fin 2 → Nat) (h : ∀ a, o a + S256x256.size a ≤ S1024x18944.size a)
    (S : Finset S1024x18944.Idx) (B : Vec F S1024x18944 .bf16) (x s0 s1 : Vec F S256x256 .bf16) (d0 d1 : Vec F S256x256 .f32)
    (hS : (Rect.unit (s := S1024x18944) o S256x256.size h).set ⊆ S)
    (hx : ∀ y : S256x256.Idx, B ((Rect.unit (s := S1024x18944) o S256x256.size h).emb y) = x y) :
    Tri c iprop((m6.view.loc (c : Thread nD τ) ↦[S]{fullShare} B) ∗ owns c st0 fullShare s0 ∗ owns c st1 fullShare s1
        ∗ owns c a0 fullShare d0 ∗ owns c a1 fullShare d1)
      (accR st0 st1 a0 a1 o h)
      iprop((m6.view.loc (c : Thread nD τ) ↦[S]{fullShare} B) ∗ owns c st0 fullShare s0 ∗ owns c st1 fullShare s1
        ∗ owns c a0 fullShare (accF d0 x s0) ∗ owns c a1 fullShare (accF d1 x s1)) := by
  have hS' : m6.view.setOn (Rect.unit (s := S1024x18944) o S256x256.size h).toLoadRect.set ⊆ S := by rw [setOn_m6]; exact hS
  have hr : m6.view.readAt (Elt F) (Rect.unit (s := S1024x18944) o S256x256.size h).toLoadRect B = x := funext hx
  unfold Tri accR
  iintro ⟨Hm, Hs0, Hs1, Ha0, Ha1⟩
  rw [wp_bind]
  iapply (wp_load Variants.none (c : Thread nD τ) none Set.univ hS') $$ Hm
  iintro Hm
  rw [wp_ret]; imodintro
  rw [hr]
  iapply (Tri.use (acc1_spec c st0 a0 x s0 d0)) $$ [Hs0 Ha0]
  · isplitl [Hs0]; · iexact Hs0
    iexact Ha0
  iintro ⟨Hs0, Ha0⟩
  iapply (Tri.last (acc1_spec c st1 a1 x s1 d1)) $$ [Hs1 Ha1]
  · isplitl [Hs1]; · iexact Hs1
    iexact Ha1
  iintro ⟨Hs1, Ha1⟩
  isplitl [Hm]; · iexact Hm
  isplitl [Hs0]; · iexact Hs0
  isplitl [Hs1]; · iexact Hs1
  isplitl [Ha0]; · iexact Ha0
  iexact Ha1

/-- The eight accumulators. -/
def ACC (c : Dev nD) (d : ℕ → ℕ → Vec F S256x256 .f32) : sProp 𝕄 :=
  iprop((owns c m16 fullShare (d 0 0) ∗ owns c m20 fullShare (d 1 0)) ∗ (owns c m17 fullShare (d 0 1) ∗ owns c m21 fullShare (d 1 1))
    ∗ (owns c m18 fullShare (d 0 2) ∗ owns c m22 fullShare (d 1 2)) ∗ (owns c m19 fullShare (d 0 3) ∗ owns c m23 fullShare (d 1 3)))

theorem accAll_spec (c : Dev nD) (st0 st1 : StgM) (o0 o1 o2 o3 : Fin 2 → Nat) (h0 : ∀ a, o0 a + S256x256.size a ≤ S1024x18944.size a)
    (h1 : ∀ a, o1 a + S256x256.size a ≤ S1024x18944.size a) (h2 : ∀ a, o2 a + S256x256.size a ≤ S1024x18944.size a)
    (h3 : ∀ a, o3 a + S256x256.size a ≤ S1024x18944.size a)
    (S : Finset S1024x18944.Idx) (B : Vec F S1024x18944 .bf16) (x : ℕ → Vec F S256x256 .bf16) (s : ℕ → Vec F S256x256 .bf16)
    (d : ℕ → ℕ → Vec F S256x256 .f32)
    (hS0 : (Rect.unit (s := S1024x18944) o0 S256x256.size h0).set ⊆ S) (hS1 : (Rect.unit (s := S1024x18944) o1 S256x256.size h1).set ⊆ S)
    (hS2 : (Rect.unit (s := S1024x18944) o2 S256x256.size h2).set ⊆ S) (hS3 : (Rect.unit (s := S1024x18944) o3 S256x256.size h3).set ⊆ S)
    (hx0 : ∀ y : S256x256.Idx, B ((Rect.unit (s := S1024x18944) o0 S256x256.size h0).emb y) = x 0 y)
    (hx1 : ∀ y : S256x256.Idx, B ((Rect.unit (s := S1024x18944) o1 S256x256.size h1).emb y) = x 1 y)
    (hx2 : ∀ y : S256x256.Idx, B ((Rect.unit (s := S1024x18944) o2 S256x256.size h2).emb y) = x 2 y)
    (hx3 : ∀ y : S256x256.Idx, B ((Rect.unit (s := S1024x18944) o3 S256x256.size h3).emb y) = x 3 y) :
    Tri c iprop((m6.view.loc (c : Thread nD τ) ↦[S]{fullShare} B) ∗ (owns c st0 fullShare (s 0) ∗ owns c st1 fullShare (s 1)) ∗ ACC c d)
      (accAll st0 st1 o0 o1 o2 o3 h0 h1 h2 h3)
      iprop((m6.view.loc (c : Thread nD τ) ↦[S]{fullShare} B) ∗ (owns c st0 fullShare (s 0) ∗ owns c st1 fullShare (s 1))
        ∗ ACC c (fun q i => accF (d q i) (x i) (s q))) := by
  unfold Tri accAll ACC
  iintro ⟨Hm, ⟨Hs0, Hs1⟩, ⟨⟨A0, B0⟩, ⟨A1, B1⟩, ⟨A2, B2⟩, ⟨A3, B3⟩⟩⟩
  iapply (Tri.use (accR_spec c st0 st1 m16 m20 o0 h0 S B (x 0) (s 0) (s 1) (d 0 0) (d 1 0) hS0 hx0)) $$ [Hm Hs0 Hs1 A0 B0]
  · isplitl [Hm]; · iexact Hm
    isplitl [Hs0]; · iexact Hs0
    isplitl [Hs1]; · iexact Hs1
    isplitl [A0]; · iexact A0
    iexact B0
  iintro ⟨Hm, Hs0, Hs1, A0, B0⟩
  iapply (Tri.use (accR_spec c st0 st1 m17 m21 o1 h1 S B (x 1) (s 0) (s 1) (d 0 1) (d 1 1) hS1 hx1)) $$ [Hm Hs0 Hs1 A1 B1]
  · isplitl [Hm]; · iexact Hm
    isplitl [Hs0]; · iexact Hs0
    isplitl [Hs1]; · iexact Hs1
    isplitl [A1]; · iexact A1
    iexact B1
  iintro ⟨Hm, Hs0, Hs1, A1, B1⟩
  iapply (Tri.use (accR_spec c st0 st1 m18 m22 o2 h2 S B (x 2) (s 0) (s 1) (d 0 2) (d 1 2) hS2 hx2)) $$ [Hm Hs0 Hs1 A2 B2]
  · isplitl [Hm]; · iexact Hm
    isplitl [Hs0]; · iexact Hs0
    isplitl [Hs1]; · iexact Hs1
    isplitl [A2]; · iexact A2
    iexact B2
  iintro ⟨Hm, Hs0, Hs1, A2, B2⟩
  iapply (Tri.last (accR_spec c st0 st1 m19 m23 o3 h3 S B (x 3) (s 0) (s 1) (d 0 3) (d 1 3) hS3 hx3)) $$ [Hm Hs0 Hs1 A3 B3]
  · isplitl [Hm]; · iexact Hm
    isplitl [Hs0]; · iexact Hs0
    isplitl [Hs1]; · iexact Hs1
    isplitl [A3]; · iexact A3
    iexact B3
  iintro ⟨Hm, Hs0, Hs1, A3, B3⟩
  isplitl [Hm]; · iexact Hm
  isplitl [Hs0 Hs1]
  · isplitl [Hs0]; · iexact Hs0
    iexact Hs1
  isplitl [A0 B0]
  · isplitl [A0]; · iexact A0
    iexact B0
  isplitl [A1 B1]
  · isplitl [A1]; · iexact A1
    iexact B1
  isplitl [A2 B2]
  · isplitl [A2]; · iexact A2
    iexact B2
  isplitl [A3]; · iexact A3
  iexact B3

/-- One block of the output block replaced. -/
def updO (i q : ℕ) (f : Vec F S1024x512 .bf16) (w : Vec F S256x256 .bf16) : Vec F S1024x512 .bf16 := fun y =>
  if (y 0).val / 256 = i ∧ (y 1).val / 256 = q then w (ixn 256 256 (by omega) (by omega) (y 0).val (y 1).val) else f y

theorem pop1_spec (c : Dev nD) (a : AccM) (i q : ℕ) (h : ∀ k, (![256 * i, 256 * q] : Fin 2 → ℕ) k + S256x256.size k ≤ S1024x512.size k)
    (hp : (Rect.unit (s := S1024x512) ![256 * i, 256 * q] S256x256.size h).PackedRows (EltTy.packing .bf16)) (d : Vec F S256x256 .f32) (f : Vec F S1024x512 .bf16) :
    Tri c iprop(owns c a fullShare d ∗ (m8.view.loc (c : Thread nD τ) ↦{fullShare} f)) (pop1 a ![256 * i, 256 * q] h hp)
      iprop(owns c a fullShare zeroT ∗ (m8.view.loc (c : Thread nD τ) ↦{fullShare} (updO i q f (truncT d)))) := by
  have hw : (m8.access (Rect.unit (s := S1024x512) ![256 * i, 256 * q] S256x256.size h)).write (Elt F) f (truncT d) Finset.univ = updO i q f (truncT d) := by
    funext y
    by_cases hy : y ∈ (Rect.unit (s := S1024x512) ![256 * i, 256 * q] S256x256.size h).set
    · obtain ⟨z, rfl⟩ := unit_exists hy
      refine (View.write_emb_of_mem (v := m8.access (Rect.unit (s := S1024x512) ![256 * i, 256 * q] S256x256.size h)) f (truncT d) (Finset.mem_univ z)).trans ?_
      unfold updO
      have e0 : ((Rect.unit (s := S1024x512) ![256 * i, 256 * q] S256x256.size h).emb z 0).val = 256 * i + (z 0).val := by
        simp [Rect.emb_apply]
      have e1 : ((Rect.unit (s := S1024x512) ![256 * i, 256 * q] S256x256.size h).emb z 1).val = 256 * q + (z 1).val := by
        simp [Rect.emb_apply]
      have z0 : (z 0).val < 256 := (z 0).isLt
      have z1 : (z 1).val < 256 := (z 1).isLt
      rw [if_pos (by constructor <;> omega)]
      refine congrArg (truncT d) (idx_ext _ _ ?_ ?_)
      · show (z 0).val = _ % 256
        rw [e0]; omega
      · show (z 1).val = _ % 256
        rw [e1]; omega
    · refine (View.write_of_not_mem (v := m8.access (Rect.unit (s := S1024x512) ![256 * i, 256 * q] S256x256.size h)) f (truncT d) Finset.univ ?_).trans ?_
      · intro hm
        apply hy
        obtain ⟨z, -, rfl⟩ := Finset.mem_map.mp hm
        exact unit_emb_mem z
      · unfold updO
        rw [if_neg]
        rintro ⟨h0, h1⟩
        apply hy
        rw [Rect.mem_set_unit]
        intro k
        match k with
        | ⟨0, _⟩ => show 256 * i ≤ (y 0).val ∧ (y 0).val < 256 * i + 256; omega
        | ⟨1, _⟩ => show 256 * q ≤ (y 1).val ∧ (y 1).val < 256 * q + 256; omega
  rw [← hw]
  unfold Tri pop1 owns
  iintro ⟨⟨%fa, %ha, Ha⟩, H8⟩
  sl_exec
  sl_step
  isplitl [Ha]
  · iexists _; isplitr; swap; · iexact Ha
    ipureintro
    rw [read_write_sq]; rfl
  · rw [readAt_sq, ha]
    iexact H8

end Cert.KernelIdeal.Hand

end
-- ==== Proof.Machine.lean ====
/- The transfers' states: a column group of the activations' buffer, a slot of the words' buffer and the output
   block are each free, in flight, or in; each guarded transfer moves one of them along. -/
module

public import proofs.«01_k».proof.Proof.State

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

/-- The column group of a column. -/
def gOf (k : ℕ) : ℕ := if k < 512 then 0 else 1 + (k - 512) / 4608
/-- The elements of column group `g`. -/
def Gs (g : Fin 5) : Finset S1024x18944.Idx := Finset.univ.filter fun y => gOf (y 1).val = g.val
/-- The elements of word slot `s`. -/
def Ws (s : Fin 2) : Finset S37888x128.Idx := Finset.univ.filter fun y => (y 0).val / 18944 = s.val

theorem xsem_inb (g : Fin 5) : ∀ a, (![g.val] : Fin 1 → ℕ) a + S1.size a ≤ S5.size a := by revert g; decide
theorem wsem_inb (s : Fin 2) : ∀ a, (![s.val] : Fin 1 → ℕ) a + S1.size a ≤ S2.size a := by revert s; decide
def xsem (g : Fin 5) : DmaSem sig := ((m9.slice (Rect.unit (s := S5) ![g.val] S1.size (xsem_inb g))).squeeze S_ squeezes_S1_S_).sem
def wsem (s : Fin 2) : DmaSem sig := ((m10.slice (Rect.unit (s := S2) ![s.val] S1.size (wsem_inb s))).squeeze S_ squeezes_S1_S_).sem
def osem : DmaSem sig := m11.sem

def xN (g : Fin 5) : ℕ := if g = 0 then
    (m6.slice (Rect.unit (s := S1024x18944) ![0, 0] S1024x512.size inb_S1024x18944_S1024x512_0_0) (fun _ => rfl)).view.dmaCredit
  else (m6.slice (Rect.unit (s := S1024x18944) ![0, 512] S1024x4608.size inb_S1024x18944_S1024x4608_0_512) (fun _ => rfl)).view.dmaCredit
theorem w0_inb : ∀ a, (![0, 0] : Fin 2 → ℕ) a + S18944x128.size a ≤ S37888x128.size a := by decide
theorem o0_inb : ∀ a, (![0, 0] : Fin 2 → ℕ) a + S1024x512.size a ≤ S6144x3584.size a := by decide
def wN : ℕ := (m7.slice (Rect.unit (s := S37888x128) ![0, 0] S18944x128.size w0_inb) (fun _ => rfl)).view.dmaCredit
def oN : ℕ := (m5.slice (Rect.unit (s := S6144x3584) ![0, 0] S1024x512.size o0_inb) (fun _ => rfl)).view.dmaCredit

/-- A transfer's state: nothing there, block `n` on its way, block `n` there. -/
inductive TS | free | fly (n : ℕ) | inn (n : ℕ)

def XR (c : Dev nD) (g : Fin 5) : TS → sProp 𝕄
  | .free => iprop((∃ f, m6.view.loc (c : Thread nD τ) ↦[Gs g]{fullShare} f) ∗ semVal ((c : Thread nD τ), .dma (xsem g)) 0
      ∗ (m2.view.loc (c : Thread nD τ) ↦{Transfers.shareTok fullShare 5 g} I.X))
  | .fly mm => Fly c (.dma (xsem g)) (xN g) (m6.view.loc (c : Thread nD τ) ↦[Gs g]{fullShare} XB I mm)
      (m2.view.loc (c : Thread nD τ)) (Transfers.shareTok fullShare 5 g) I.X
  | .inn mm => iprop((m6.view.loc (c : Thread nD τ) ↦[Gs g]{fullShare} XB I mm) ∗ semVal ((c : Thread nD τ), .dma (xsem g)) 0
      ∗ (m2.view.loc (c : Thread nD τ) ↦{Transfers.shareTok fullShare 5 g} I.X))

def WR (c : Dev nD) (s : Fin 2) : TS → sProp 𝕄
  | .free => iprop((∃ f, m7.view.loc (c : Thread nD τ) ↦[Ws s]{fullShare} f) ∗ semVal ((c : Thread nD τ), .dma (wsem s)) 0
      ∗ (m3.view.loc (c : Thread nD τ) ↦{Transfers.shareTok fullShare 2 s} I.W))
  | .fly n => Fly c (.dma (wsem s)) wN (m7.view.loc (c : Thread nD τ) ↦[Ws s]{fullShare} WB I n)
      (m3.view.loc (c : Thread nD τ)) (Transfers.shareTok fullShare 2 s) I.W
  | .inn n => iprop((m7.view.loc (c : Thread nD τ) ↦[Ws s]{fullShare} WB I n) ∗ semVal ((c : Thread nD τ), .dma (wsem s)) 0
      ∗ (m3.view.loc (c : Thread nD τ) ↦{Transfers.shareTok fullShare 2 s} I.W))

/-- The output block's state. -/
inductive OS | free (k : ℕ) | inn (k : ℕ) | fly (k : ℕ)

/-- The output block's resources: `free k`, tiles below `k` written; `inn k`, also holding tile `k`; `fly k`, tile `k` on its way out. -/
def OR (c : Dev nD) : OS → sProp 𝕄
  | .free k => iprop((∃ f, m8.view.loc (c : Thread nD τ) ↦{fullShare} f) ∗ (m5.view.loc (c : Thread nD τ) ↦{fullShare} OutC I k)
      ∗ semVal ((c : Thread nD τ), .dma osem) 0)
  | .inn k => iprop((m5.view.loc (c : Thread nD τ) ↦{fullShare} OutC I k) ∗ semVal ((c : Thread nD τ), .dma osem) 0
      ∗ (m8.view.loc (c : Thread nD τ) ↦{fullShare} OV (fun q i => AccV I k q i 74)))
  | .fly k => Fly c (.dma osem) oN (m5.view.loc (c : Thread nD τ) ↦{fullShare} OutC I (k + 1))
      (m8.view.loc (c : Thread nD τ)) fullShare (OV (fun q i => AccV I k q i 74))

theorem XR_to_free (c : Dev nD) (g : Fin 5) (mm : ℕ) : XR I c g (.inn mm) ⊢ XR I c g .free := by
  unfold XR
  iintro ⟨H, Hv, Hs⟩
  isplitl [H]; · iexists _; iexact H
  isplitl [Hv]; · iexact Hv
  iexact Hs
theorem WR_to_free (c : Dev nD) (s : Fin 2) (n : ℕ) : WR I c s (.inn n) ⊢ WR I c s .free := by
  unfold WR
  iintro ⟨H, Hv, Hs⟩
  isplitl [H]; · iexists _; iexact H
  isplitl [Hv]; · iexact Hv
  iexact Hs

theorem xstart (c : Dev nD) (g : Fin 5) (mm : ℕ) (hmm : mm < 6) (col w : ℕ) (hw : 0 < w)
    (hcw : ∀ k < 18944, gOf k = g.val ↔ col ≤ k ∧ k < col + w)
    (so d : Fin 2 → ℕ) (hso : so = ![1024 * mm, col]) (hd : d = ![0, col])
    (bs : ∀ a, so a + (![1024, w] : Fin 2 → ℕ) a ≤ S6144x18944.size a) (bd : ∀ a, d a + (![1024, w] : Fin 2 → ℕ) a ≤ S1024x18944.size a)
    (sm : DmaSem sig) (hsm : sm = xsem g)
    (hsrc : (m2.slice (Rect.unit (s := S6144x18944) so ![1024, w] bs) (fun _ => rfl)).view.WordExact)
    (hdst : (m6.slice (Rect.unit (s := S1024x18944) d ![1024, w] bd) (fun _ => rfl)).view.WordExact)
    (hsem : DmaTarget.Typed (nD := nD) (τ := τ) .hbm (.dma sm) (.here (p := .tc) (m6.slice (Rect.unit (s := S1024x18944) d ![1024, w] bd) (fun _ => rfl))))
    (hN : (m6.slice (Rect.unit (s := S1024x18944) d ![1024, w] bd) (fun _ => rfl)).view.dmaCredit = xN g) :
    Tri c (XR I c g .free)
      (Prog.lift (.enqueueDma (m2.slice (Rect.unit (s := S6144x18944) so ![1024, w] bs) (fun _ => rfl))
        (.here (m6.slice (Rect.unit (s := S1024x18944) d ![1024, w] bd) (fun _ => rfl))) (.dma sm) hsrc hdst hsem))
      (XR I c g (.fly mm)) := by
  subst hso hd hsm
  have hset : (m6.slice (Rect.unit (s := S1024x18944) ![0, col] ![1024, w] bd) (fun _ => rfl)).view.set ⊆ Gs g := by
    intro i hi
    obtain ⟨z, -, rfl⟩ := Finset.mem_map.mp hi
    refine Finset.mem_filter.mpr ⟨Finset.mem_univ _, ?_⟩
    have z1 : (z 1).val < w := (z 1).isLt
    have e1 : (((Rect.unit (s := S1024x18944) ![0, col] ![1024, w] bd).emb z) 1).val = col + (z 1).val := by simp [Rect.emb_apply]
    exact (hcw _ (((Rect.unit (s := S1024x18944) ![0, col] ![1024, w] bd).emb z) 1).isLt).2 (by rw [e1]; omega)
  have hG (fd : Vec F S1024x18944 .bf16) : ∀ i ∈ Gs g, (m6.slice (Rect.unit (s := S1024x18944) ![0, col] ![1024, w] bd) (fun _ => rfl)).view.write (Elt F) fd
      ((m2.slice (Rect.unit (s := S6144x18944) ![1024 * mm, col] ![1024, w] bs) (fun _ => rfl)).view.read (Elt F) I.X) Finset.univ i = XB I mm i := by
    intro i hi
    have hc := (hcw _ (i 1).isLt).1 (Finset.mem_filter.mp hi).2
    have hi0 : (i 0).val < 1024 := (i 0).isLt
    have hy : i ∈ (Rect.unit (s := S1024x18944) ![0, col] ![1024, w] bd).set := by
      rw [Rect.mem_set_unit]
      intro k
      match k with
      | ⟨0, _⟩ => show 0 ≤ (i 0).val ∧ (i 0).val < 0 + 1024; omega
      | ⟨1, _⟩ => exact hc
    obtain ⟨z, rfl⟩ := unit_exists hy
    refine (View.write_emb_of_mem (v := (m6.slice (Rect.unit (s := S1024x18944) ![0, col] ![1024, w] bd) (fun _ => rfl)).view) fd _ (Finset.mem_univ z)).trans ?_
    have z0 : (z 0).val < 1024 := (z 0).isLt
    have z1 : (z 1).val < w := (z 1).isLt
    have e0 : (((Rect.unit (s := S1024x18944) ![0, col] ![1024, w] bd).emb z) 0).val = (z 0).val := by simp [Rect.emb_apply]
    have e1 : (((Rect.unit (s := S1024x18944) ![0, col] ![1024, w] bd).emb z) 1).val = col + (z 1).val := by simp [Rect.emb_apply]
    have f0 : (((Rect.unit (s := S6144x18944) ![1024 * mm, col] ![1024, w] bs).emb z) 0).val = 1024 * mm + (z 0).val := by simp [Rect.emb_apply]
    have f1 : (((Rect.unit (s := S6144x18944) ![1024 * mm, col] ![1024, w] bs).emb z) 1).val = col + (z 1).val := by simp [Rect.emb_apply]
    have hb : col + (z 1).val < 18944 := e1 ▸ (((Rect.unit (s := S1024x18944) ![0, col] ![1024, w] bd).emb z) 1).isLt
    unfold XB
    refine congrArg I.X (idx_ext _ _ ?_ ?_)
    · refine f0.trans ?_; show _ = (1024 * mm + (((Rect.unit (s := S1024x18944) ![0, col] ![1024, w] bd).emb z) 0).val) % 6144
      rw [e0]; omega
    · refine f1.trans ?_; show _ = (((Rect.unit (s := S1024x18944) ![0, col] ![1024, w] bd).emb z) 1).val % 18944
      rw [e1]; omega
  unfold Tri
  have hn : 0 < (⟨2, ![1024, w]⟩ : Shape).numel := by
    simp [Shape.numel, Fin.prod_univ_two]; omega
  have key (fd : Vec F S1024x18944 .bf16) := start_spec c (src := m2.slice (Rect.unit (s := S6144x18944) ![1024 * mm, col] ![1024, w] bs) (fun _ => rfl))
    (dst := m6.slice (Rect.unit (s := S1024x18944) ![0, col] ![1024, w] bd) (fun _ => rfl)) (sm := .dma (xsem g)) (hsrc := hsrc) (hdst := hdst) (hsem := hsem)
    (xN g) hN hn (q := Transfers.shareTok fullShare 5 g) (fs := I.X) hset (hG fd)
  unfold XR
  iintro ⟨⟨%f, H⟩, Hv, Hs⟩
  iapply (Tri.last (key f)) $$ [H Hv Hs]
  · isplitl [H]; · iexact H
    isplitl [Hv]; · iexact Hv
    iexact Hs
  iintro H
  iexact H

theorem wstart (c : Dev nD) (s : Fin 2) (n : ℕ) (hn : n < 7)
    (so d : Fin 2 → ℕ) (hso : so = ![18944 * n, 0]) (hd : d = ![18944 * s.val, 0])
    (bs : ∀ a, so a + S18944x128.size a ≤ S132608x128.size a) (bd : ∀ a, d a + S18944x128.size a ≤ S37888x128.size a)
    (sm : DmaSem sig) (hsm : sm = wsem s)
    (hsrc : (m3.slice (Rect.unit (s := S132608x128) so S18944x128.size bs) (fun _ => rfl)).view.WordExact)
    (hdst : (m7.slice (Rect.unit (s := S37888x128) d S18944x128.size bd) (fun _ => rfl)).view.WordExact)
    (hsem : DmaTarget.Typed (nD := nD) (τ := τ) .hbm (.dma sm) (.here (p := .tc) (m7.slice (Rect.unit (s := S37888x128) d S18944x128.size bd) (fun _ => rfl)))) :
    Tri c (WR I c s .free)
      (Prog.lift (.enqueueDma (m3.slice (Rect.unit (s := S132608x128) so S18944x128.size bs) (fun _ => rfl))
        (.here (m7.slice (Rect.unit (s := S37888x128) d S18944x128.size bd) (fun _ => rfl))) (.dma sm) hsrc hdst hsem))
      (WR I c s (.fly n)) := by
  subst hso hd hsm
  have hs2 : s.val < 2 := s.isLt
  have hset : (m7.slice (Rect.unit (s := S37888x128) ![18944 * s.val, 0] S18944x128.size bd) (fun _ => rfl)).view.set ⊆ Ws s := by
    intro i hi
    obtain ⟨z, -, rfl⟩ := Finset.mem_map.mp hi
    refine Finset.mem_filter.mpr ⟨Finset.mem_univ _, ?_⟩
    have z0 : (z 0).val < 18944 := (z 0).isLt
    have e0 : (((Rect.unit (s := S37888x128) ![18944 * s.val, 0] S18944x128.size bd).emb z) 0).val = 18944 * s.val + (z 0).val := by simp [Rect.emb_apply]
    show (((Rect.unit (s := S37888x128) ![18944 * s.val, 0] S18944x128.size bd).emb z) 0).val / 18944 = s.val
    rw [e0]; omega
  have hG (fd : Vec F S37888x128 .i32) : ∀ i ∈ Ws s, (m7.slice (Rect.unit (s := S37888x128) ![18944 * s.val, 0] S18944x128.size bd) (fun _ => rfl)).view.write (Elt F) fd
      ((m3.slice (Rect.unit (s := S132608x128) ![18944 * n, 0] S18944x128.size bs) (fun _ => rfl)).view.read (Elt F) I.W) Finset.univ i = WB I n i := by
    intro i hi
    have hc := (Finset.mem_filter.mp hi).2
    have hi1 : (i 1).val < 128 := (i 1).isLt
    have hy : i ∈ (Rect.unit (s := S37888x128) ![18944 * s.val, 0] S18944x128.size bd).set := by
      rw [Rect.mem_set_unit]
      intro k
      match k with
      | ⟨0, _⟩ => show 18944 * s.val ≤ (i 0).val ∧ (i 0).val < 18944 * s.val + 18944; omega
      | ⟨1, _⟩ => show 0 ≤ (i 1).val ∧ (i 1).val < 0 + 128; omega
    obtain ⟨z, rfl⟩ := unit_exists hy
    refine (View.write_emb_of_mem (v := (m7.slice (Rect.unit (s := S37888x128) ![18944 * s.val, 0] S18944x128.size bd) (fun _ => rfl)).view) fd _ (Finset.mem_univ z)).trans ?_
    have z0 : (z 0).val < 18944 := (z 0).isLt
    have z1 : (z 1).val < 128 := (z 1).isLt
    have e0 : (((Rect.unit (s := S37888x128) ![18944 * s.val, 0] S18944x128.size bd).emb z) 0).val = 18944 * s.val + (z 0).val := by simp [Rect.emb_apply]
    have e1 : (((Rect.unit (s := S37888x128) ![18944 * s.val, 0] S18944x128.size bd).emb z) 1).val = (z 1).val := by simp [Rect.emb_apply]
    have f0 : (((Rect.unit (s := S132608x128) ![18944 * n, 0] S18944x128.size bs).emb z) 0).val = 18944 * n + (z 0).val := by simp [Rect.emb_apply]
    have f1 : (((Rect.unit (s := S132608x128) ![18944 * n, 0] S18944x128.size bs).emb z) 1).val = (z 1).val := by simp [Rect.emb_apply]
    unfold WB
    refine congrArg I.W (idx_ext _ _ ?_ ?_)
    · refine f0.trans ?_; show _ = (18944 * n + (((Rect.unit (s := S37888x128) ![18944 * s.val, 0] S18944x128.size bd).emb z) 0).val % 18944) % 132608
      rw [e0]; omega
    · refine f1.trans ?_; show _ = (((Rect.unit (s := S37888x128) ![18944 * s.val, 0] S18944x128.size bd).emb z) 1).val % 128
      rw [e1]; omega
  unfold Tri
  have hn : 0 < S18944x128.numel := by
    simp [Shape.numel, Fin.prod_univ_two]
  have key (fd : Vec F S37888x128 .i32) := start_spec c (src := m3.slice (Rect.unit (s := S132608x128) ![18944 * n, 0] S18944x128.size bs) (fun _ => rfl))
    (dst := m7.slice (Rect.unit (s := S37888x128) ![18944 * s.val, 0] S18944x128.size bd) (fun _ => rfl)) (sm := .dma (wsem s)) (hsrc := hsrc) (hdst := hdst) (hsem := hsem)
    wN rfl hn (q := Transfers.shareTok fullShare 2 s) (fs := I.W) hset (hG fd)
  unfold WR
  iintro ⟨⟨%f, H⟩, Hv, Hs⟩
  iapply (Tri.last (key f)) $$ [H Hv Hs]
  · isplitl [H]; · iexact H
    isplitl [Hv]; · iexact Hv
    iexact Hs
  iintro H
  iexact H

theorem ostart (c : Dev nD) (k : ℕ) (hk : k < 42)
    (d : Fin 2 → ℕ) (hd : d = ![1024 * (k / 7), 512 * (k % 7)])
    (bd : ∀ a, d a + S1024x512.size a ≤ S6144x3584.size a)
    (hsrc : m8.view.WordExact)
    (hdst : (m5.slice (Rect.unit (s := S6144x3584) d S1024x512.size bd) (fun _ => rfl)).view.WordExact)
    (hsem : DmaTarget.Typed (nD := nD) (τ := τ) .vmem (.dma m11.sem) (.here (p := .tc) (m5.slice (Rect.unit (s := S6144x3584) d S1024x512.size bd) (fun _ => rfl)))) :
    Tri c (OR I c (.inn k))
      (Prog.lift (.enqueueDma m8 (.here (m5.slice (Rect.unit (s := S6144x3584) d S1024x512.size bd) (fun _ => rfl))) (.dma m11.sem) hsrc hdst hsem))
      (OR I c (.fly k)) := by
  subst hd
  have hG : ∀ i ∈ (Finset.univ : Finset S6144x3584.Idx), (m5.slice (Rect.unit (s := S6144x3584) ![1024 * (k / 7), 512 * (k % 7)] S1024x512.size bd) (fun _ => rfl)).view.write (Elt F) (OutC I k)
      (m8.view.read (Elt F) (OV (fun q i => AccV I k q i 74))) Finset.univ i = OutC I (k + 1) i := by
    intro y _
    by_cases hy : y ∈ (Rect.unit (s := S6144x3584) ![1024 * (k / 7), 512 * (k % 7)] S1024x512.size bd).set
    · obtain ⟨z, rfl⟩ := unit_exists hy
      refine (View.write_emb_of_mem (v := (m5.slice (Rect.unit (s := S6144x3584) ![1024 * (k / 7), 512 * (k % 7)] S1024x512.size bd) (fun _ => rfl)).view) _ _ (Finset.mem_univ z)).trans ?_
      have z0 : (z 0).val < 1024 := (z 0).isLt
      have z1 : (z 1).val < 512 := (z 1).isLt
      have e0 : (((Rect.unit (s := S6144x3584) ![1024 * (k / 7), 512 * (k % 7)] S1024x512.size bd).emb z) 0).val = 1024 * (k / 7) + (z 0).val := by simp [Rect.emb_apply]
      have e1 : (((Rect.unit (s := S6144x3584) ![1024 * (k / 7), 512 * (k % 7)] S1024x512.size bd).emb z) 1).val = 512 * (k % 7) + (z 1).val := by simp [Rect.emb_apply]
      unfold OutC
      rw [e0, e1]
      have ht : 7 * ((1024 * (k / 7) + (z 0).val) / 1024) + (512 * (k % 7) + (z 1).val) / 512 = k := by omega
      rw [ht, if_pos (by omega)]
      refine congrArg (OV (fun q i => AccV I k q i 74)) (idx_ext _ _ ?_ ?_)
      · show (z 0).val = (1024 * (k / 7) + (z 0).val) % 1024; omega
      · show (z 1).val = (512 * (k % 7) + (z 1).val) % 512; omega
    · refine (View.write_of_not_mem (v := (m5.slice (Rect.unit (s := S6144x3584) ![1024 * (k / 7), 512 * (k % 7)] S1024x512.size bd) (fun _ => rfl)).view) _ _ Finset.univ ?_).trans ?_
      · intro hm
        apply hy
        obtain ⟨z, -, rfl⟩ := Finset.mem_map.mp hm
        exact unit_emb_mem z
      · have hne : 7 * ((y 0).val / 1024) + (y 1).val / 512 ≠ k := by
          intro he
          apply hy
          rw [Rect.mem_set_unit]
          have y0 : (y 0).val < 6144 := (y 0).isLt
          have y1 : (y 1).val < 3584 := (y 1).isLt
          intro a
          match a with
          | ⟨0, _⟩ => show 1024 * (k / 7) ≤ (y 0).val ∧ (y 0).val < 1024 * (k / 7) + 1024; omega
          | ⟨1, _⟩ => show 512 * (k % 7) ≤ (y 1).val ∧ (y 1).val < 512 * (k % 7) + 512; omega
        unfold OutC
        by_cases hl : 7 * ((y 0).val / 1024) + (y 1).val / 512 < k
        · rw [if_pos hl, if_pos (by omega)]
        · rw [if_neg hl, if_neg (by omega)]
  have hn : 0 < S1024x512.numel := by
    simp [Shape.numel, Fin.prod_univ_two]
  have key := start_spec c (src := m8)
    (dst := m5.slice (Rect.unit (s := S6144x3584) ![1024 * (k / 7), 512 * (k % 7)] S1024x512.size bd) (fun _ => rfl)) (sm := .dma osem) (hsrc := hsrc) (hdst := hdst) (hsem := hsem)
    oN rfl hn (q := fullShare) (fs := OV (fun q i => AccV I k q i 74)) (Sd := Finset.univ) (Finset.subset_univ _) hG
  unfold OR
  exact key

theorem xwait (c : Dev nD) (g : Fin 5) (mm : ℕ) {sp sp' : Space} {s s' : Shape} {e e' : EltTy} (src : Memref sig .tc sp' s' e') (dst : Memref sig .tc sp s e)
    (sm : DmaSem sig) (hsm : sm = xsem g) (hsrc : src.view.WordExact) (hdst : dst.view.WordExact) (hN : dst.view.dmaCredit = xN g) :
    Tri c iprop(XR I c g (.fly mm) ∗ Owe c) (Prog.lift (.waitDma2 sm src dst hsrc hdst)) iprop(XR I c g (.inn mm) ∗ Owe c) := by
  subst hsm
  exact wait_spec c (xN g) hN
theorem wwait (c : Dev nD) (g : Fin 2) (n : ℕ) {sp sp' : Space} {s s' : Shape} {e e' : EltTy} (src : Memref sig .tc sp' s' e') (dst : Memref sig .tc sp s e)
    (sm : DmaSem sig) (hsm : sm = wsem g) (hsrc : src.view.WordExact) (hdst : dst.view.WordExact) (hN : dst.view.dmaCredit = wN) :
    Tri c iprop(WR I c g (.fly n) ∗ Owe c) (Prog.lift (.waitDma2 sm src dst hsrc hdst)) iprop(WR I c g (.inn n) ∗ Owe c) := by
  subst hsm
  exact wait_spec c wN hN
theorem owait (c : Dev nD) (k : ℕ) {sp sp' : Space} {s s' : Shape} {e e' : EltTy} (src : Memref sig .tc sp' s' e') (dst : Memref sig .tc sp s e)
    (hsrc : src.view.WordExact) (hdst : dst.view.WordExact) (hN : dst.view.dmaCredit = oN) :
    Tri c iprop(OR I c (.fly k) ∗ Owe c) (Prog.lift (.waitDma2 m11.sem src dst hsrc hdst)) iprop(OR I c (.free (k + 1)) ∗ Owe c) := by
  refine Tri.conseq (wait_spec (sem := osem) (src := src) (dst := dst) (hsrc := hsrc) (hdst := hdst) c oN hN) .rfl ?_
  unfold OR
  iintro ⟨⟨H5, Hv, H8⟩, HO⟩
  isplitr [HO]; swap; · iexact HO
  isplitl [H8]; · iexists _; iexact H8
  isplitl [H5]; · iexact H5
  iexact Hv

end Cert.KernelIdeal.Hand

end
-- ==== Proof.Chunk.lean ====
/- One half chunk, one chunk and the taking of the accumulators, at the values the buffers hold. -/
module

public import proofs.«01_k».proof.Proof.Machine

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

theorem push_sub (s : Fin 2) (q r ch : ℕ) (hq : q < 2) (hr : r < 4) (hch : ch < 37) (o : Fin 2 → ℕ) (h)
    (ho : o = ![18944 * s.val + 9472 * q + ch + 37 * r, 0]) :
    m7.view.setOn (⟨o, S64x128.size, ![148, 1], h⟩ : LoadRect S37888x128).set ⊆ Ws s := by
  subst ho
  rw [setOn_m7]
  intro i hi
  refine Finset.mem_filter.mpr ⟨Finset.mem_univ _, ?_⟩
  obtain ⟨j, hj, e⟩ := (LoadRect.mem_set _).mp hi 0
  have hj' : j < 64 := hj
  have e' : (i 0).val = 18944 * s.val + 9472 * q + ch + 37 * r + 148 * j := e
  omega

theorem idx0 (o : Fin 2 → ℕ) (h) (y : S64x128.Idx) :
    (((⟨o, S64x128.size, ![148, 1], h⟩ : LoadRect S37888x128).idx y) 0).val = o 0 + 148 * (y 0).val := rfl
theorem idx1 (o : Fin 2 → ℕ) (h) (y : S64x128.Idx) :
    (((⟨o, S64x128.size, ![148, 1], h⟩ : LoadRect S37888x128).idx y) 1).val = o 1 + 1 * (y 1).val := rfl

theorem pushV_w (s : Fin 2) (n q r ch : ℕ) (hq : q < 2) (hr : r < 4) (hch : ch < 37) (o : Fin 2 → ℕ) (h)
    (ho : o = ![18944 * s.val + 9472 * q + ch + 37 * r, 0]) :
    (fun y : S64x128.Idx => WB I n ((⟨o, S64x128.size, ![148, 1], h⟩ : LoadRect S37888x128).idx y)) = WT I n q ch r := by
  subst ho
  funext y
  unfold WB WT
  have y0 : (y 0).val < 64 := (y 0).isLt
  have y1 : (y 1).val < 128 := (y 1).isLt
  refine congrArg I.W (idx_ext _ _ ?_ ?_)
  · show (18944 * n + (18944 * s.val + 9472 * q + ch + 37 * r + 148 * (y 0).val) % 18944) % 132608
      = (18944 * n + (9472 * q + ch + 37 * r + 148 * (y 0).val)) % 132608
    omega
  · show (0 + 1 * (y 1).val) % 128 = (y 1).val % 128
    omega

theorem pushV_s (n q : ℕ) (hn : n < 7) (hq : q < 2) (os : Fin 2 → ℕ) (hs) (hos : os = ![512 * n + 256 * q, 0]) :
    (fun y : S256x128.Idx => I.S ((Rect.unit (s := S3584x128) os S256x128.size hs).emb y)) = ScT I n q := by
  subst hos
  funext y
  unfold ScT
  have y0 : (y 0).val < 256 := (y 0).isLt
  have y1 : (y 1).val < 128 := (y 1).isLt
  refine congrArg I.S (idx_ext _ _ ?_ ?_)
  · show 512 * n + 256 * q + 1 * (y 0).val = (512 * n + 256 * q + (y 0).val) % 3584
    omega
  · show 0 + 1 * (y 1).val = (y 1).val % 128
    omega

/-- Staging from a slot that holds column tile `n`. -/
theorem pushV (c : Dev nD) (a4 : Memref sig .tc .vmem S3584x128 .f32) (st : StgM) (hst : st.IsWhole) (s : Fin 2) (n q ch : ℕ) (hi : Bool)
    (hn : n < 7) (hq : q < 2) (hch : ch < 37) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV)
    (ho : ∀ r, o r = ![18944 * s.val + 9472 * q + ch + 37 * r.val, 0]) (hos : os = ![512 * n + 256 * q, 0]) (hc : chunk = BitVec.ofNat 32 ch) :
    Tri c iprop(WR I c s (.inn n) ∗ owns c a4 fullShare I.S ∗ (∃ v, owns c st fullShare v))
      (push1 a4 st hst o h os hs chunk hi)
      iprop(WR I c s (.inn n) ∗ owns c a4 fullShare I.S ∗ owns c st fullShare (ST I n q ch hi)) := by
  have key := push1_spec c a4 st hst o h os hs chunk hi (Ws s) (WB I n) I.S (fun r => push_sub s q r.val ch hq r.isLt hch _ _ (ho r))
  rw [pushV_w I s n q 0 ch hq (by omega) hch _ _ (ho 0), pushV_w I s n q 1 ch hq (by omega) hch _ _ (ho 1),
    pushV_w I s n q 2 ch hq (by omega) hch _ _ (ho 2), pushV_w I s n q 3 ch hq (by omega) hch _ _ (ho 3), pushV_s I n q hn hq os hs hos, hc] at key
  subst hc
  unfold Tri WR
  iintro ⟨⟨Hm, Hv, Hs⟩, H4, Hst⟩
  iapply (Tri.last key) $$ [Hm H4 Hst]
  · isplitl [Hm]; · iexact Hm
    isplitl [H4]; · iexact H4
    iexact Hst
  iintro ⟨Hm, H4, Hst⟩
  isplitr [H4 Hst]
  · isplitl [Hm]; · iexact Hm
    isplitl [Hv]; · iexact Hv
    iexact Hs
  isplitl [H4]; · iexact H4
  iexact Hst

/-- Staging from a slot that holds anything. -/
theorem pushJ (c : Dev nD) (a4 : Memref sig .tc .vmem S3584x128 .f32) (st : StgM) (hst : st.IsWhole) (s : Fin 2) (q ch : ℕ) (hi : Bool)
    (hq : q < 2) (hch : ch < 37) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV)
    (ho : ∀ r, o r = ![18944 * s.val + 9472 * q + ch + 37 * r.val, 0]) :
    Tri c iprop(WR I c s .free ∗ owns c a4 fullShare I.S ∗ (∃ v, owns c st fullShare v))
      (push1 a4 st hst o h os hs chunk hi)
      iprop(WR I c s .free ∗ owns c a4 fullShare I.S ∗ (∃ v, owns c st fullShare v)) := by
  have key (f : Vec F S37888x128 .i32) := push1_spec c a4 st hst o h os hs chunk hi (Ws s) f I.S (fun r => push_sub s q r.val ch hq r.isLt hch _ _ (ho r))
  unfold Tri WR
  iintro ⟨⟨⟨%f, Hm⟩, Hv, Hs⟩, H4, Hst⟩
  iapply (Tri.last (key f)) $$ [Hm H4 Hst]
  · isplitl [Hm]; · iexact Hm
    isplitl [H4]; · iexact H4
    iexact Hst
  iintro ⟨Hm, H4, Hst⟩
  isplitr [H4 Hst]
  · isplitl [Hm]; · iexists _; iexact Hm
    isplitl [Hv]; · iexact Hv
    iexact Hs
  isplitl [H4]; · iexact H4
  iexists _; iexact Hst

theorem acc_sub (g : Fin 5) (i s : ℕ) (hg : ∀ k < 256, gOf (256 * s + k) = g.val) (o : Fin 2 → ℕ) (h : ∀ a, o a + S256x256.size a ≤ S1024x18944.size a)
    (ho : o = ![256 * i, 256 * s]) : (Rect.unit (s := S1024x18944) o S256x256.size h).set ⊆ Gs g := by
  subst ho
  intro y hy
  refine Finset.mem_filter.mpr ⟨Finset.mem_univ _, ?_⟩
  have h1 : 256 * s ≤ (y 1).val ∧ (y 1).val < 256 * s + 256 := (Rect.mem_set_unit.mp hy) 1
  have := hg ((y 1).val - 256 * s) (by omega)
  rwa [show 256 * s + ((y 1).val - 256 * s) = (y 1).val by omega] at this

theorem acc_x (mm i s : ℕ) (o : Fin 2 → ℕ) (h : ∀ a, o a + S256x256.size a ≤ S1024x18944.size a)
    (ho : o = ![256 * i, 256 * s]) (y : S256x256.Idx) : XB I mm ((Rect.unit (s := S1024x18944) o S256x256.size h).emb y) = XT I mm i s y := by
  subst ho
  unfold XB XT
  refine congrArg I.X (idx_ext _ _ ?_ ?_)
  · show (1024 * mm + (256 * i + 1 * (y 0).val)) % 6144 = (1024 * mm + 256 * i + (y 0).val) % 6144
    rw [Nat.one_mul, ← Nat.add_assoc]
  · show (256 * s + 1 * (y 1).val) % 18944 = (256 * s + (y 1).val) % 18944
    rw [Nat.one_mul]

theorem accRV (c : Dev nD) (st0 st1 : StgM) (a0 a1 : AccM) (g : Fin 5) (mm i s : ℕ) (hg : ∀ k < 256, gOf (256 * s + k) = g.val)
    (o : Fin 2 → Nat) (h : ∀ a, o a + S256x256.size a ≤ S1024x18944.size a) (ho : o = ![256 * i, 256 * s])
    (s0 s1 : Vec F S256x256 .bf16) (d0 d1 : Vec F S256x256 .f32) :
    Tri c iprop(XR I c g (.inn mm) ∗ (owns c st0 fullShare s0 ∗ owns c st1 fullShare s1) ∗ owns c a0 fullShare d0 ∗ owns c a1 fullShare d1)
      (accR st0 st1 a0 a1 o h)
      iprop(XR I c g (.inn mm) ∗ (owns c st0 fullShare s0 ∗ owns c st1 fullShare s1) ∗ owns c a0 fullShare (accF d0 (XT I mm i s) s0) ∗ owns c a1 fullShare (accF d1 (XT I mm i s) s1)) := by
  unfold Tri XR
  iintro ⟨⟨Hm, Hv, Hx⟩, ⟨Hs0, Hs1⟩, H0, H1⟩
  iapply (Tri.last (accR_spec c st0 st1 a0 a1 o h (Gs g) (XB I mm) (XT I mm i s) s0 s1 d0 d1 (acc_sub g i s hg o h ho) (acc_x I mm i s o h ho))) $$ [Hm Hs0 Hs1 H0 H1]
  · isplitl [Hm]; · iexact Hm
    isplitl [Hs0]; · iexact Hs0
    isplitl [Hs1]; · iexact Hs1
    isplitl [H0]; · iexact H0
    iexact H1
  iintro ⟨Hm, Hs0, Hs1, H0, H1⟩
  isplitl [Hm Hv Hx]
  · isplitl [Hm]; · iexact Hm
    isplitl [Hv]; · iexact Hv
    iexact Hx
  isplitl [Hs0 Hs1]
  · isplitl [Hs0]; · iexact Hs0
    iexact Hs1
  isplitl [H0]; · iexact H0
  iexact H1

theorem accV (c : Dev nD) (st0 st1 : StgM) (g : Fin 5) (mm s : ℕ) (hg : ∀ k < 256, gOf (256 * s + k) = g.val)
    (o0 o1 o2 o3 : Fin 2 → Nat) (h0 : ∀ a, o0 a + S256x256.size a ≤ S1024x18944.size a)
    (h1 : ∀ a, o1 a + S256x256.size a ≤ S1024x18944.size a) (h2 : ∀ a, o2 a + S256x256.size a ≤ S1024x18944.size a)
    (h3 : ∀ a, o3 a + S256x256.size a ≤ S1024x18944.size a)
    (e0 : o0 = ![256 * 0, 256 * s]) (e1 : o1 = ![256 * 1, 256 * s]) (e2 : o2 = ![256 * 2, 256 * s]) (e3 : o3 = ![256 * 3, 256 * s])
    (sv : ℕ → Vec F S256x256 .bf16) (d : ℕ → ℕ → Vec F S256x256 .f32) :
    Tri c iprop(XR I c g (.inn mm) ∗ (owns c st0 fullShare (sv 0) ∗ owns c st1 fullShare (sv 1)) ∗ ACC c d)
      (accAll st0 st1 o0 o1 o2 o3 h0 h1 h2 h3)
      iprop(XR I c g (.inn mm) ∗ (owns c st0 fullShare (sv 0) ∗ owns c st1 fullShare (sv 1)) ∗ ACC c (fun q i => accF (d q i) (XT I mm i s) (sv q))) := by
  unfold Tri XR
  iintro ⟨⟨Hm, Hv, Hx⟩, Hst, HA⟩
  iapply (Tri.last (accAll_spec c st0 st1 o0 o1 o2 o3 h0 h1 h2 h3 (Gs g) (XB I mm) (fun i => XT I mm i s) sv d
    (acc_sub g 0 s hg _ h0 e0) (acc_sub g 1 s hg _ h1 e1) (acc_sub g 2 s hg _ h2 e2) (acc_sub g 3 s hg _ h3 e3)
    (acc_x I mm 0 s _ h0 e0) (acc_x I mm 1 s _ h1 e1) (acc_x I mm 2 s _ h2 e2) (acc_x I mm 3 s _ h3 e3))) $$ [Hm Hst HA]
  · isplitl [Hm]; · iexact Hm
    isplitl [Hst]; · iexact Hst
    iexact HA
  iintro ⟨Hm, Hst, HA⟩
  isplitl [Hm Hv Hx]
  · isplitl [Hm]; · iexact Hm
    isplitl [Hv]; · iexact Hv
    iexact Hx
  isplitl [Hst]; · iexact Hst
  iexact HA

/-! ## Taking the accumulators -/

theorem pop2V (c : Dev nD) (a0 a1 : AccM) (i : ℕ) (o0 o1 : Fin 2 → Nat) (h0 : ∀ a, o0 a + S256x256.size a ≤ S1024x512.size a) (h1 : ∀ a, o1 a + S256x256.size a ≤ S1024x512.size a)
    (p0 : (Rect.unit (s := S1024x512) o0 S256x256.size h0).PackedRows (EltTy.packing .bf16))
    (p1 : (Rect.unit (s := S1024x512) o1 S256x256.size h1).PackedRows (EltTy.packing .bf16))
    (e0 : o0 = ![256 * i, 256 * 0]) (e1 : o1 = ![256 * i, 256 * 1]) (d0 d1 : Vec F S256x256 .f32) (f : Vec F S1024x512 .bf16) :
    Tri c iprop((owns c a0 fullShare d0 ∗ owns c a1 fullShare d1) ∗ (m8.view.loc (c : Thread nD τ) ↦{fullShare} f)) (pop2 a0 a1 o0 o1 h0 h1 p0 p1)
      iprop((owns c a0 fullShare zeroT ∗ owns c a1 fullShare zeroT) ∗ (m8.view.loc (c : Thread nD τ) ↦{fullShare} (updO i 1 (updO i 0 f (truncT d0)) (truncT d1)))) := by
  subst e0 e1
  unfold Tri pop2
  iintro ⟨⟨H0, H1⟩, H8⟩
  iapply (Tri.use (pop1_spec c a0 i 0 h0 p0 d0 f)) $$ [H0 H8]
  · isplitl [H0]; · iexact H0
    iexact H8
  iintro ⟨H0, H8⟩
  iapply (Tri.last (pop1_spec c a1 i 1 h1 p1 d1 (updO i 0 f (truncT d0)))) $$ [H1 H8]
  · isplitl [H1]; · iexact H1
    iexact H8
  iintro ⟨H1, H8⟩
  isplitr [H8]; swap; · iexact H8
  isplitl [H0]; · iexact H0
  iexact H1

theorem updO_all (d : ℕ → ℕ → Vec F S256x256 .f32) (f : Vec F S1024x512 .bf16) :
    updO 3 1 (updO 3 0 (updO 2 1 (updO 2 0 (updO 1 1 (updO 1 0 (updO 0 1 (updO 0 0 f (truncT (d 0 0))) (truncT (d 1 0))) (truncT (d 0 1))) (truncT (d 1 1)))
      (truncT (d 0 2))) (truncT (d 1 2))) (truncT (d 0 3))) (truncT (d 1 3)) = OV d := by
  funext y
  have y0 : (y 0).val < 1024 := (y 0).isLt
  have y1 : (y 1).val < 512 := (y 1).isLt
  have a0 : (y 0).val / 256 = 0 ∨ (y 0).val / 256 = 1 ∨ (y 0).val / 256 = 2 ∨ (y 0).val / 256 = 3 := by omega
  have a1 : (y 1).val / 256 = 0 ∨ (y 1).val / 256 = 1 := by omega
  unfold updO OV
  rcases a0 with h | h | h | h <;> rcases a1 with h' | h' <;> simp [h, h']

theorem popAcc_spec (c : Dev nD) (mm : ℕ) (sv : ℕ → Vec F S256x256 .bf16) (d : ℕ → ℕ → Vec F S256x256 .f32) (f : Vec F S1024x512 .bf16) :
    Tri c iprop(XR I c 0 (.inn mm) ∗ (owns c m12 fullShare (sv 0) ∗ owns c m13 fullShare (sv 1)) ∗ ACC c d ∗ (m8.view.loc (c : Thread nD τ) ↦{fullShare} f))
      popAcc
      iprop(XR I c 0 (.inn mm) ∗ (owns c m12 fullShare (sv 0) ∗ owns c m13 fullShare (sv 1)) ∗ ACC c (fun q i => accF zeroT (XT I mm i 0) (sv q))
        ∗ (m8.view.loc (c : Thread nD τ) ↦{fullShare} OV d)) := by
  have hg : ∀ k < 256, gOf (256 * 0 + k) = (0 : Fin 5).val := by
    intro k hk; unfold gOf; rw [if_pos (by omega)]; rfl
  unfold Tri popAcc ACC
  iintro ⟨HX, Hst, ⟨⟨A0, B0⟩, ⟨A1, B1⟩, ⟨A2, B2⟩, ⟨A3, B3⟩⟩, H8⟩
  iapply (Tri.use (pop2V c m16 m20 0 _ _ _ _ _ _ rfl rfl (d 0 0) (d 1 0) _)) $$ [A0 B0 H8]
  · isplitr [H8]; swap; · iexact H8
    isplitl [A0]; · iexact A0
    iexact B0
  iintro ⟨⟨A0, B0⟩, H8⟩
  iapply (Tri.use (accRV I c m12 m13 m16 m20 0 mm 0 0 hg _ _ rfl (sv 0) (sv 1) zeroT zeroT)) $$ [HX Hst A0 B0]
  · isplitl [HX]; · iexact HX
    isplitl [Hst]; · iexact Hst
    isplitl [A0]; · iexact A0
    iexact B0
  iintro ⟨HX, Hst, A0, B0⟩
  iapply (Tri.use (pop2V c m17 m21 1 _ _ _ _ _ _ rfl rfl (d 0 1) (d 1 1) _)) $$ [A1 B1 H8]
  · isplitr [H8]; swap; · iexact H8
    isplitl [A1]; · iexact A1
    iexact B1
  iintro ⟨⟨A1, B1⟩, H8⟩
  iapply (Tri.use (accRV I c m12 m13 m17 m21 0 mm 1 0 hg _ _ rfl (sv 0) (sv 1) zeroT zeroT)) $$ [HX Hst A1 B1]
  · isplitl [HX]; · iexact HX
    isplitl [Hst]; · iexact Hst
    isplitl [A1]; · iexact A1
    iexact B1
  iintro ⟨HX, Hst, A1, B1⟩
  iapply (Tri.use (pop2V c m18 m22 2 _ _ _ _ _ _ rfl rfl (d 0 2) (d 1 2) _)) $$ [A2 B2 H8]
  · isplitr [H8]; swap; · iexact H8
    isplitl [A2]; · iexact A2
    iexact B2
  iintro ⟨⟨A2, B2⟩, H8⟩
  iapply (Tri.use (accRV I c m12 m13 m18 m22 0 mm 2 0 hg _ _ rfl (sv 0) (sv 1) zeroT zeroT)) $$ [HX Hst A2 B2]
  · isplitl [HX]; · iexact HX
    isplitl [Hst]; · iexact Hst
    isplitl [A2]; · iexact A2
    iexact B2
  iintro ⟨HX, Hst, A2, B2⟩
  iapply (Tri.use (pop2V c m19 m23 3 _ _ _ _ _ _ rfl rfl (d 0 3) (d 1 3) _)) $$ [A3 B3 H8]
  · isplitr [H8]; swap; · iexact H8
    isplitl [A3]; · iexact A3
    iexact B3
  iintro ⟨⟨A3, B3⟩, H8⟩
  iapply (Tri.last (accRV I c m12 m13 m19 m23 0 mm 3 0 hg _ _ rfl (sv 0) (sv 1) zeroT zeroT)) $$ [HX Hst A3 B3]
  · isplitl [HX]; · iexact HX
    isplitl [Hst]; · iexact Hst
    isplitl [A3]; · iexact A3
    iexact B3
  iintro ⟨HX, Hst, A3, B3⟩
  rw [← updO_all d f]
  isplitl [HX]; · iexact HX
  isplitl [Hst]; · iexact Hst
  isplitr [H8]; swap; · iexact H8
  isplitl [A0 B0]
  · isplitl [A0]; · iexact A0
    iexact B0
  isplitl [A1 B1]
  · isplitl [A1]; · iexact A1
    iexact B1
  isplitl [A2 B2]
  · isplitl [A2]; · iexact A2
    iexact B2
  isplitl [A3]; · iexact A3
  iexact B3

theorem popAll_spec (c : Dev nD) (d : ℕ → ℕ → Vec F S256x256 .f32) (f : Vec F S1024x512 .bf16) :
    Tri c iprop(ACC c d ∗ (m8.view.loc (c : Thread nD τ) ↦{fullShare} f)) popAll
      iprop(ACC c (fun q i => zeroT) ∗ (m8.view.loc (c : Thread nD τ) ↦{fullShare} OV d)) := by
  unfold Tri popAll ACC
  iintro ⟨⟨P0, P1, P2, P3⟩, H8⟩
  iapply (Tri.use (pop2V c m16 m20 0 _ _ _ _ _ _ rfl rfl (d 0 0) (d 1 0) _)) $$ [P0 H8]
  · isplitl [P0]; · iexact P0
    iexact H8
  iintro ⟨P0, H8⟩
  iapply (Tri.use (pop2V c m17 m21 1 _ _ _ _ _ _ rfl rfl (d 0 1) (d 1 1) _)) $$ [P1 H8]
  · isplitl [P1]; · iexact P1
    iexact H8
  iintro ⟨P1, H8⟩
  iapply (Tri.use (pop2V c m18 m22 2 _ _ _ _ _ _ rfl rfl (d 0 2) (d 1 2) _)) $$ [P2 H8]
  · isplitl [P2]; · iexact P2
    iexact H8
  iintro ⟨P2, H8⟩
  iapply (Tri.last (pop2V c m19 m23 3 _ _ _ _ _ _ rfl rfl (d 0 3) (d 1 3) _)) $$ [P3 H8]
  · isplitl [P3]; · iexact P3
    iexact H8
  iintro ⟨P3, H8⟩
  rw [← updO_all d f]
  isplitr [H8]; swap; · iexact H8
  isplitl [P0]; · iexact P0
  isplitl [P1]; · iexact P1
  isplitl [P2]; · iexact P2
  iexact P3

end Cert.KernelIdeal.Hand

end
-- ==== Proof.Trip.lean ====
/- One trip of the inner loop: its transfers, its nine chunks and what is staged at its end. -/
module

public import proofs.«01_k».proof.Proof.Chunk

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

def sl (k : ℕ) : Fin 2 := ⟨k % 2, Nat.mod_lt _ (by omega)⟩
theorem ult (u : Trip) : u.val < 4 := lt_of_lt_of_eq u.isLt trips4
def gx (u : Trip) : Fin 5 := ⟨u.val + 1, by have := ult u; omega⟩
theorem vec2 {a b a' b' : ℕ} (h : a = a') (h' : b = b') : (![a, b] : Fin 2 → ℕ) = ![a', b'] := by rw [h, h']

/-- The tiles staged for the next half chunk's products. -/
def SG (c : Dev nD) (v : ℕ → Vec F S256x256 .bf16) : sProp 𝕄 := iprop(owns c m12 fullShare (v 0) ∗ owns c m13 fullShare (v 1))
def JG (c : Dev nD) : sProp 𝕄 := iprop((∃ v : Vec F S256x256 .bf16, owns c m14 fullShare v) ∗ (∃ v : Vec F S256x256 .bf16, owns c m15 fullShare v))
def JG0 (c : Dev nD) : sProp 𝕄 := iprop((∃ v : Vec F S256x256 .bf16, owns c m12 fullShare v) ∗ (∃ v : Vec F S256x256 .bf16, owns c m13 fullShare v))

theorem SG_JG0 (c : Dev nD) (v : ℕ → Vec F S256x256 .bf16) : SG c v ⊢ JG0 c := by
  unfold SG JG0
  iintro ⟨H0, H1⟩
  isplitl [H0]
  · iexists _; iexact H0
  · iexists _; iexact H1

theorem pushPair (c : Dev nD) (a4 : Memref sig .tc .vmem S3584x128 .f32) (st0 st1 : StgM) (hst0 : st0.IsWhole) (hst1 : st1.IsWhole) (s : Fin 2) (n ch : ℕ) (hi : Bool)
    (hn : n < 7) (hch : ch < 37) (o0 o1 : Fin 4 → Fin 2 → Nat)
    (h0 : ∀ r a, S64x128.size a = 0 ∨ o0 r a + (![148, 1] : Fin 2 → Nat) a * (S64x128.size a - 1) < S37888x128.size a)
    (h1 : ∀ r a, S64x128.size a = 0 ∨ o1 r a + (![148, 1] : Fin 2 → Nat) a * (S64x128.size a - 1) < S37888x128.size a)
    (os0 os1 : Fin 2 → Nat) (hs0 : ∀ a, os0 a + S256x128.size a ≤ S3584x128.size a) (hs1 : ∀ a, os1 a + S256x128.size a ≤ S3584x128.size a) (chunk : BV)
    (ho0 : ∀ r, o0 r = ![18944 * s.val + 9472 * 0 + ch + 37 * r.val, 0]) (ho1 : ∀ r, o1 r = ![18944 * s.val + 9472 * 1 + ch + 37 * r.val, 0])
    (hos0 : os0 = ![512 * n + 256 * 0, 0]) (hos1 : os1 = ![512 * n + 256 * 1, 0]) (hc : chunk = BitVec.ofNat 32 ch) :
    Tri c iprop(WR I c s (.inn n) ∗ owns c a4 fullShare I.S ∗ (∃ v : Vec F S256x256 .bf16, owns c st0 fullShare v) ∗ (∃ v : Vec F S256x256 .bf16, owns c st1 fullShare v))
      (push1 a4 st0 hst0 o0 h0 os0 hs0 chunk hi >>= fun _ => push1 a4 st1 hst1 o1 h1 os1 hs1 chunk hi)
      iprop(WR I c s (.inn n) ∗ owns c a4 fullShare I.S ∗ owns c st0 fullShare (ST I n 0 ch hi) ∗ owns c st1 fullShare (ST I n 1 ch hi)) := by
  unfold Tri
  iintro ⟨HW, H4, H0, H1⟩
  iapply (Tri.use (pushV I c a4 st0 hst0 s n 0 ch hi hn (by omega) hch o0 h0 os0 hs0 chunk ho0 hos0 hc)) $$ [HW H4 H0]
  · isplitl [HW]; · iexact HW
    isplitl [H4]; · iexact H4
    iexact H0
  iintro ⟨HW, H4, H0⟩
  iapply (Tri.last (pushV I c a4 st1 hst1 s n 1 ch hi hn (by omega) hch o1 h1 os1 hs1 chunk ho1 hos1 hc)) $$ [HW H4 H1]
  · isplitl [HW]; · iexact HW
    isplitl [H4]; · iexact H4
    iexact H1
  iintro ⟨HW, H4, H1⟩
  isplitl [HW]; · iexact HW
  isplitl [H4]; · iexact H4
  isplitl [H0]; · iexact H0
  iexact H1

theorem pushPairJ (c : Dev nD) (a4 : Memref sig .tc .vmem S3584x128 .f32) (st0 st1 : StgM) (hst0 : st0.IsWhole) (hst1 : st1.IsWhole) (s : Fin 2) (ch : ℕ) (hi : Bool)
    (hch : ch < 37) (o0 o1 : Fin 4 → Fin 2 → Nat)
    (h0 : ∀ r a, S64x128.size a = 0 ∨ o0 r a + (![148, 1] : Fin 2 → Nat) a * (S64x128.size a - 1) < S37888x128.size a)
    (h1 : ∀ r a, S64x128.size a = 0 ∨ o1 r a + (![148, 1] : Fin 2 → Nat) a * (S64x128.size a - 1) < S37888x128.size a)
    (os0 os1 : Fin 2 → Nat) (hs0 : ∀ a, os0 a + S256x128.size a ≤ S3584x128.size a) (hs1 : ∀ a, os1 a + S256x128.size a ≤ S3584x128.size a) (chunk : BV)
    (ho0 : ∀ r, o0 r = ![18944 * s.val + 9472 * 0 + ch + 37 * r.val, 0]) (ho1 : ∀ r, o1 r = ![18944 * s.val + 9472 * 1 + ch + 37 * r.val, 0]) :
    Tri c iprop(WR I c s .free ∗ owns c a4 fullShare I.S ∗ (∃ v : Vec F S256x256 .bf16, owns c st0 fullShare v) ∗ (∃ v : Vec F S256x256 .bf16, owns c st1 fullShare v))
      (push1 a4 st0 hst0 o0 h0 os0 hs0 chunk hi >>= fun _ => push1 a4 st1 hst1 o1 h1 os1 hs1 chunk hi)
      iprop(WR I c s .free ∗ owns c a4 fullShare I.S ∗ (∃ v : Vec F S256x256 .bf16, owns c st0 fullShare v) ∗ (∃ v : Vec F S256x256 .bf16, owns c st1 fullShare v)) := by
  unfold Tri
  iintro ⟨HW, H4, H0, H1⟩
  iapply (Tri.use (pushJ I c a4 st0 hst0 s 0 ch hi (by omega) hch o0 h0 os0 hs0 chunk ho0)) $$ [HW H4 H0]
  · isplitl [HW]; · iexact HW
    isplitl [H4]; · iexact H4
    iexact H0
  iintro ⟨HW, H4, H0⟩
  iapply (Tri.last (pushJ I c a4 st1 hst1 s 1 ch hi (by omega) hch o1 h1 os1 hs1 chunk ho1)) $$ [HW H4 H1]
  · isplitl [HW]; · iexact HW
    isplitl [H4]; · iexact H4
    iexact H1
  iintro ⟨HW, H4, H1⟩
  isplitl [HW]; · iexact HW
  isplitl [H4]; · iexact H4
  isplitl [H0]; · iexact H0
  iexact H1

/-- What the chunks work on: a column group of activations, this tile's words, the scales, the staged tiles and the accumulators. -/
def CS (c : Dev nD) (a4 : Memref sig .tc .vmem S3584x128 .f32) (g : Fin 5) (t : ℕ) (v : ℕ → Vec F S256x256 .bf16) (n : ℕ) : sProp 𝕄 :=
  iprop(XR I c g (.inn (t / 7)) ∗ WR I c (sl t) (.inn (t % 7)) ∗ owns c a4 fullShare I.S ∗ SG c v ∗ JG c ∗ ACC c (fun q i => AccV I t q i n))

theorem hgu (u : Trip) (k : Fin 9) (h : ℕ) (hh : h < 2) : ∀ j < 256, gOf (256 * (2 * (1 + 9 * u.val + k.val) + h) + j) = (gx u).val := by
  intro j hj
  have := ult u
  have := k.isLt
  show _ = u.val + 1
  unfold gOf
  rw [if_neg (by omega)]
  omega

theorem accT_spec (c : Dev nD) (st0 st1 : StgM) (t : Fin 42) (u : Trip) (k : Fin 9) (h : Fin 2) (d : ℕ → ℕ → Vec F S256x256 .f32) (sv : ℕ → Vec F S256x256 .bf16) :
    Tri c iprop(XR I c (gx u) (.inn (t.val / 7)) ∗ (owns c st0 fullShare (sv 0) ∗ owns c st1 fullShare (sv 1)) ∗ ACC c d) (accT st0 st1 u k h)
      iprop(XR I c (gx u) (.inn (t.val / 7)) ∗ (owns c st0 fullShare (sv 0) ∗ owns c st1 fullShare (sv 1))
        ∗ ACC c (fun q i => accF (d q i) (XT I (t.val / 7) i (2 * (1 + 9 * u.val + k.val) + h.val)) (sv q))) :=
  accV I c st0 st1 (gx u) (t.val / 7) (2 * (1 + 9 * u.val + k.val) + h.val) (hgu u k h.val h.isLt) _ _ _ _ _ _ _ _
    ((o26 u k h).trans (vec2 rfl (by omega))) ((o27 u k h).trans (vec2 rfl (by omega)))
    ((o28 u k h).trans (vec2 rfl (by omega))) ((o29 u k h).trans (vec2 rfl (by omega))) sv d

theorem AccV_lo (t n : ℕ) : (fun q i => accF (AccV I t q i (2 * n)) (XT I (t / 7) i (2 * n + 0)) (ST I (t % 7) q n false)) = fun q i => AccV I t q i (2 * n + 1) := by
  funext q i
  show _ = accF (AccV I t q i (2 * n)) (XT I (t / 7) i (2 * n)) (ST I (t % 7) q (2 * n / 2) (decide (2 * n % 2 = 1)))
  rw [show 2 * n / 2 = n by omega, show 2 * n % 2 = 0 by omega]; rfl
theorem AccV_hi (t n : ℕ) : (fun q i => accF (AccV I t q i (2 * n + 1)) (XT I (t / 7) i (2 * n + 1)) (ST I (t % 7) q n true)) = fun q i => AccV I t q i (2 * (n + 1)) := by
  funext q i
  rw [show 2 * (n + 1) = 2 * n + 1 + 1 by omega]
  show _ = accF (AccV I t q i (2 * n + 1)) (XT I (t / 7) i (2 * n + 1)) (ST I (t % 7) q ((2 * n + 1) / 2) (decide ((2 * n + 1) % 2 = 1)))
  rw [show (2 * n + 1) / 2 = n by omega, show (2 * n + 1) % 2 = 1 by omega]; rfl

theorem chunkT_spec (c : Dev nD) (a4 : Memref sig .tc .vmem S3584x128 .f32) (t : Fin 42) (u : Trip) (k : Fin 9) :
    Tri c (CS I c a4 (gx u) t.val (fun q => ST I (t.val % 7) q (1 + 9 * u.val + k.val) false) (2 * (1 + 9 * u.val + k.val)))
      (chunkT a4 (grid0.coords t) u k)
      (CS I c a4 (gx u) t.val (fun q => ST I (t.val % 7) q (1 + 9 * u.val + k.val) false) (2 * (1 + 9 * u.val + k.val + 1))) := by
  have hu := ult u
  have hk := k.isLt
  have A1 := accT_spec I c m12 m13 t u k 0 (fun q i => AccV I t.val q i (2 * (1 + 9 * u.val + k.val))) (fun q => ST I (t.val % 7) q (1 + 9 * u.val + k.val) false)
  have A2 := accT_spec I c m14 m15 t u k 1 (fun q i => AccV I t.val q i (2 * (1 + 9 * u.val + k.val) + 1)) (fun q => ST I (t.val % 7) q (1 + 9 * u.val + k.val) true)
  have P := pushPair I c a4 m14 m15 hm14 hm15 (sl t.val) (t.val % 7) (1 + 9 * u.val + k.val) true (by omega) (by omega) _ _
    (fun r => k0_off30_inb (grid0.coords t) u 0 k r) (fun r => k0_off30_inb (grid0.coords t) u 1 k r) _ _ (k0_off31_inb (grid0.coords t) 0) (k0_off31_inb (grid0.coords t) 1)
    (chunkV u (BitVec.ofNat 32 k.val)) (fun r => o30 t u 0 k r) (fun r => o30 t u 1 k r) (o31 t 0) (o31 t 1) (chv u k)
  rw [show (fun q i => accF (AccV I t.val q i (2 * (1 + 9 * u.val + k.val))) (XT I (t.val / 7) i (2 * (1 + 9 * u.val + k.val) + (0 : Fin 2).val)) (ST I (t.val % 7) q (1 + 9 * u.val + k.val) false)) = _ from AccV_lo I t.val (1 + 9 * u.val + k.val)] at A1
  rw [show (fun q i => accF (AccV I t.val q i (2 * (1 + 9 * u.val + k.val) + 1)) (XT I (t.val / 7) i (2 * (1 + 9 * u.val + k.val) + (1 : Fin 2).val)) (ST I (t.val % 7) q (1 + 9 * u.val + k.val) true)) = _ from AccV_hi I t.val (1 + 9 * u.val + k.val)] at A2
  unfold Tri CS chunkT SG JG
  iintro ⟨HX, HW, H4, HS, ⟨J0, J1⟩, HA⟩
  iapply (Tri.use A1) $$ [HX HS HA]
  · isplitl [HX]; · iexact HX
    isplitl [HS]; · iexact HS
    iexact HA
  iintro ⟨HX, HS, HA⟩
  iapply (Tri.use P) $$ [HW H4 J0 J1]
  · isplitl [HW]; · iexact HW
    isplitl [H4]; · iexact H4
    isplitl [J0]; · iexact J0
    iexact J1
  iintro ⟨HW, H4, HJ⟩
  iapply (Tri.last A2) $$ [HX HJ HA]
  · isplitl [HX]; · iexact HX
    isplitl [HJ]; · iexact HJ
    iexact HA
  iintro ⟨HX, ⟨J0, J1⟩, HA⟩
  isplitl [HX]; · iexact HX
  isplitl [HW]; · iexact HW
  isplitl [H4]; · iexact H4
  isplitl [HS]; · iexact HS
  isplitl [J0 J1]
  · isplitl [J0]
    · iexists _; iexact J0
    · iexists _; iexact J1
  iexact HA

theorem pushN_spec (c : Dev nD) (a4 : Memref sig .tc .vmem S3584x128 .f32) (t : Fin 42) (u : Trip) (k : Fin 8) (v : ℕ → Vec F S256x256 .bf16) (n : ℕ) :
    Tri c (CS I c a4 (gx u) t.val v n) (pushN a4 (grid0.coords t) u k)
      (CS I c a4 (gx u) t.val (fun q => ST I (t.val % 7) q (1 + 9 * u.val + k.val + 1) false) n) := by
  have hu := ult u
  have hk := k.isLt
  have P := pushPair I c a4 m12 m13 hm12 hm13 (sl t.val) (t.val % 7) (1 + 9 * u.val + k.val + 1) false (by omega) (by omega) _ _
    (fun r => k0_off32_inb (grid0.coords t) u 0 k r) (fun r => k0_off32_inb (grid0.coords t) u 1 k r) _ _ (k0_off31_inb (grid0.coords t) 0) (k0_off31_inb (grid0.coords t) 1)
    (Scalar.addi (chunkV u (BitVec.ofNat 32 k.val)) 1#32) (fun r => o32 t u 0 k r) (fun r => o32 t u 1 k r) (o31 t 0) (o31 t 1) (chv1 u k)
  unfold Tri CS pushN SG
  iintro ⟨HX, HW, H4, ⟨S0, S1⟩, HJ, HA⟩
  iapply (Tri.last P) $$ [HW H4 S0 S1]
  · isplitl [HW]; · iexact HW
    isplitl [H4]; · iexact H4
    isplitl [S0]
    · iexists _; iexact S0
    · iexists _; iexact S1
  iintro ⟨HW, H4, HS⟩
  isplitl [HX]; · iexact HX
  isplitl [HW]; · iexact HW
  isplitl [H4]; · iexact H4
  isplitl [HS]; · iexact HS
  isplitl [HJ]; · iexact HJ
  iexact HA

/-- What is staged at the start of trip `u`, and after the last. -/
def SGU (c : Dev nD) (t u : ℕ) : sProp 𝕄 :=
  if u < 4 then SG c (fun q => ST I (t % 7) q (1 + 9 * u) false)
  else if t + 1 < 42 then SG c (fun q => ST I ((t + 1) % 7) q 0 false) else JG0 c

/-- The state of the other slot at the start of trip `u`, and after the last. -/
def Wst (t u : ℕ) : TS := if t + 1 < 42 then (if u ≤ 3 then .fly ((t + 1) % 7) else .inn ((t + 1) % 7)) else .free
/-- The output block's state at the start of trip `u`, and after the last. -/
def Ost (t u : ℕ) : OS := if t = 0 then .free 0 else if u ≤ 1 then .inn (t - 1) else .fly (t - 1)
/-- A column group's state at the start of tile `t`, and when tile `t` is through with it. -/
def Xpend (t : ℕ) : TS := if t % 7 = 0 then .fly (t / 7) else .inn (t / 7)
def Xdone (t : ℕ) : TS := if t % 7 = 6 ∧ t < 41 then .fly (t / 7 + 1) else .inn (t / 7)

theorem pushL_spec (c : Dev nD) (a4 : Memref sig .tc .vmem S3584x128 .f32) (t : Fin 42) (u : Trip) (v : ℕ → Vec F S256x256 .bf16) :
    Tri c iprop(WR I c (sl t.val) (.inn (t.val % 7)) ∗ WR I c (sl (t.val + 1)) (Wst t.val (u.val + 1)) ∗ owns c a4 fullShare I.S ∗ SG c v) (pushL a4 (grid0.coords t) u)
      iprop(WR I c (sl t.val) (.inn (t.val % 7)) ∗ WR I c (sl (t.val + 1)) (Wst t.val (u.val + 1)) ∗ owns c a4 fullShare I.S ∗ SGU I c t.val (u.val + 1)) := by
  have hu := ult u
  have ht := t.isLt
  by_cases h3 : u.val = 3
  · by_cases h41 : t.val + 1 < 42
    · have P := pushPair I c a4 m12 m13 hm12 hm13 (sl (t.val + 1)) ((t.val + 1) % 7) 0 false (by omega) (by omega) _ _
        (fun r => k0_off33_inb (grid0.coords t) u 0 r) (fun r => k0_off33_inb (grid0.coords t) u 1 r) _ _ (k0_off34_inb (grid0.coords t) u 0) (k0_off34_inb (grid0.coords t) u 1)
        (lastV u) (fun r => (o33 t u 0 r).trans (if_pos h3)) (fun r => (o33 t u 1 r).trans (if_pos h3)) ((o34 t u 0).trans (if_pos h3)) ((o34 t u 1).trans (if_pos h3)) ((lastV_eq u).trans (if_pos h3))
      have e1 : Wst t.val (u.val + 1) = .inn ((t.val + 1) % 7) := by unfold Wst; rw [if_pos h41, if_neg (by omega)]
      have e2 : SGU I c t.val (u.val + 1) = SG c (fun q => ST I ((t.val + 1) % 7) q 0 false) := by unfold SGU; rw [if_neg (by omega), if_pos h41]
      rw [e1, e2]
      unfold Tri pushL SG
      iintro ⟨HV, HW, H4, S0, S1⟩
      iapply (Tri.last P) $$ [HW H4 S0 S1]
      · isplitl [HW]; · iexact HW
        isplitl [H4]; · iexact H4
        isplitl [S0]
        · iexists _; iexact S0
        · iexists _; iexact S1
      iintro ⟨HW, H4, HS⟩
      isplitl [HV]; · iexact HV
      isplitl [HW]; · iexact HW
      isplitl [H4]; · iexact H4
      iexact HS
    · have P := pushPairJ I c a4 m12 m13 hm12 hm13 (sl (t.val + 1)) 0 false (by omega) _ _
        (fun r => k0_off33_inb (grid0.coords t) u 0 r) (fun r => k0_off33_inb (grid0.coords t) u 1 r) _ _ (k0_off34_inb (grid0.coords t) u 0) (k0_off34_inb (grid0.coords t) u 1)
        (lastV u) (fun r => (o33 t u 0 r).trans (if_pos h3)) (fun r => (o33 t u 1 r).trans (if_pos h3))
      have e1 : Wst t.val (u.val + 1) = .free := by unfold Wst; rw [if_neg h41]
      have e2 : SGU I c t.val (u.val + 1) = JG0 c := by unfold SGU; rw [if_neg (by omega), if_neg h41]
      rw [e1, e2]
      unfold Tri pushL SG JG0
      iintro ⟨HV, HW, H4, S0, S1⟩
      iapply (Tri.last P) $$ [HW H4 S0 S1]
      · isplitl [HW]; · iexact HW
        isplitl [H4]; · iexact H4
        isplitl [S0]
        · iexists _; iexact S0
        · iexists _; iexact S1
      iintro ⟨HW, H4, HS⟩
      isplitl [HV]; · iexact HV
      isplitl [HW]; · iexact HW
      isplitl [H4]; · iexact H4
      iexact HS
  · have P := pushPair I c a4 m12 m13 hm12 hm13 (sl t.val) (t.val % 7) (1 + 9 * u.val + 8 + 1) false (by omega) (by omega) _ _
      (fun r => k0_off33_inb (grid0.coords t) u 0 r) (fun r => k0_off33_inb (grid0.coords t) u 1 r) _ _ (k0_off34_inb (grid0.coords t) u 0) (k0_off34_inb (grid0.coords t) u 1)
      (lastV u) (fun r => (o33 t u 0 r).trans (if_neg h3)) (fun r => (o33 t u 1 r).trans (if_neg h3)) ((o34 t u 0).trans (if_neg h3)) ((o34 t u 1).trans (if_neg h3)) ((lastV_eq u).trans (if_neg h3))
    have e2 : SGU I c t.val (u.val + 1) = SG c (fun q => ST I (t.val % 7) q (1 + 9 * u.val + 8 + 1) false) := by
      unfold SGU; rw [if_pos (by omega), show 1 + 9 * (u.val + 1) = 1 + 9 * u.val + 8 + 1 by omega]
    rw [e2]
    unfold Tri pushL SG
    iintro ⟨HV, HW, H4, S0, S1⟩
    iapply (Tri.last P) $$ [HV H4 S0 S1]
    · isplitl [HV]; · iexact HV
      isplitl [H4]; · iexact H4
      isplitl [S0]
      · iexists _; iexact S0
      · iexists _; iexact S1
    iintro ⟨HV, H4, HS⟩
    isplitl [HV]; · iexact HV
    isplitl [HW]; · iexact HW
    isplitl [H4]; · iexact H4
    iexact HS

/-! ## The trip's guarded transfers -/

theorem wsem_eq (k : ℕ) (o : Fin 1 → ℕ) (h : ∀ a, o a + S1.size a ≤ S2.size a) (e : o = ![k % 2]) :
    ((m10.slice (Rect.unit (s := S2) o S1.size h)).squeeze S_ squeezes_S1_S_).sem = wsem (sl k) := by
  subst e; rfl
theorem xsem_eq (g : Fin 5) (o : Fin 1 → ℕ) (h : ∀ a, o a + S1.size a ≤ S5.size a) (e : o = ![g.val]) :
    ((m9.slice (Rect.unit (s := S5) o S1.size h)).squeeze S_ squeezes_S1_S_).sem = xsem g := by
  subst e; rfl

theorem gOf_iff (u : Trip) : ∀ k < 18944, gOf k = (gx u).val ↔ (512 + 4608 * u.val) ≤ k ∧ k < (512 + 4608 * u.val) + 4608 := by
  intro k hk
  have := ult u
  show gOf k = u.val + 1 ↔ _
  unfold gOf
  split <;> omega

theorem xN_eq (u : Trip) (o : Fin 2 → ℕ) (h : ∀ a, o a + S1024x4608.size a ≤ S1024x18944.size a) :
    (m6.slice (Rect.unit (s := S1024x18944) o S1024x4608.size h) (fun _ => rfl)).view.dmaCredit = xN (gx u) := by
  unfold xN
  rw [if_neg (by intro he; have := congrArg Fin.val he; simp [gx] at this)]
  rfl

theorem waitX_spec (c : Dev nD) (t : Fin 42) (u : Trip) :
    Tri c iprop(XR I c (gx u) (Xpend t.val) ∗ Owe c) (waitX (grid0.coords t) u) iprop(XR I c (gx u) (.inn (t.val / 7)) ∗ Owe c) := by
  unfold waitX Xpend
  by_cases h : t.val % 7 = 0
  · rw [dif_pos ((c6 t).2 h), if_pos h]
    exact xwait I c (gx u) (t.val / 7) _ _ _ (xsem_eq (gx u) _ _ (o19 u)) _ _ (xN_eq u _ _)
  · rw [dif_neg (fun hc => h ((c6 t).1 hc)), if_neg h]
    exact Tri.ret

theorem startO_spec (c : Dev nD) (t : Fin 42) (u : Trip) :
    Tri c (OR I c (Ost t.val u.val)) (startO (grid0.coords t) u) (OR I c (Ost t.val (u.val + 1))) := by
  unfold startO Ost
  by_cases h0 : t.val = 0
  · rw [dif_neg (fun hc => by have := (c7 t u).1 hc; omega), if_pos h0, if_pos h0]; exact Tri.ret
  rw [if_neg h0, if_neg h0]
  by_cases h1 : u.val = 1
  · rw [dif_pos ((c7 t u).2 ⟨h1, by omega⟩), if_pos (by omega), if_neg (by omega)]
    exact ostart I c (t.val - 1) (by omega) _ (o22 t (by omega)) _ _ _ _
  · rw [dif_neg (fun hc => h1 ((c7 t u).1 hc).1)]
    by_cases h2 : u.val ≤ 1
    · rw [if_pos h2, if_pos (by omega)]; exact Tri.ret
    · rw [if_neg h2, if_neg (by omega)]; exact Tri.ret

theorem waitW_spec (c : Dev nD) (t : Fin 42) (u : Trip) :
    Tri c iprop(WR I c (sl (t.val + 1)) (Wst t.val u.val) ∗ Owe c) (waitW (grid0.coords t) u) iprop(WR I c (sl (t.val + 1)) (Wst t.val (u.val + 1)) ∗ Owe c) := by
  unfold waitW Wst
  have hu := ult u
  by_cases h0 : t.val + 1 < 42
  · rw [if_pos h0, if_pos h0, if_pos (show u.val ≤ 3 by omega)]
    by_cases h3 : u.val = 3
    · rw [dif_pos ((c8 t u).2 ⟨h3, h0⟩), if_neg (by omega)]
      exact wwait I c (sl (t.val + 1)) ((t.val + 1) % 7) _ _ _ (wsem_eq _ _ _ (o23 t h0)) _ _ rfl
    · rw [dif_neg (fun hc => h3 ((c8 t u).1 hc).1), if_pos (by omega)]; exact Tri.ret
  · rw [if_neg h0, if_neg h0, dif_neg (fun hc => h0 ((c8 t u).1 hc).2)]; exact Tri.ret

theorem refillX_spec (c : Dev nD) (t : Fin 42) (u : Trip) :
    Tri c (XR I c (gx u) (.inn (t.val / 7))) (refillX (grid0.coords t) u) (XR I c (gx u) (Xdone t.val)) := by
  unfold refillX Xdone
  by_cases h : t.val % 7 = 6 ∧ t.val < 41
  · rw [dif_pos ((c9 t).2 h), if_pos h]
    refine Tri.conseq (xstart I c (gx u) (t.val / 7 + 1) (by omega) (512 + 4608 * u.val) 4608 (by omega) (gOf_iff u) _ _ (o37 t u h.2) (o36 u) _ _ _ (xsem_eq (gx u) _ _ (o35 u)) _ _ _ (xN_eq u _ _))
      (XR_to_free I c (gx u) (t.val / 7)) .rfl
  · rw [dif_neg (fun hc => h ((c9 t).1 hc)), if_neg h]
    exact Tri.ret

end Cert.KernelIdeal.Hand

end
-- ==== Proof.Body.lean ====
/- The body at a grid point: what holds before and after it. -/
module

public import proofs.«01_k».proof.Proof.Trip

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

/-- All column groups' resources. -/
def XAll (c : Dev nD) (f : Fin 5 → TS) : sProp 𝕄 := bigSep Finset.univ fun g => XR I c g (f g)

theorem XAll5 (c : Dev nD) (f : Fin 5 → TS) :
    XAll I c f = iprop(XR I c 0 (f 0) ∗ XR I c 1 (f 1) ∗ XR I c 2 (f 2) ∗ XR I c 3 (f 3) ∗ XR I c 4 (f 4)) := by
  unfold XAll
  exact BI.bigSep_eq_bigSepL_of_eq (S := Finset.univ) (Φ := fun g => XR I c g (f g)) [(0 : Fin 5), 1, 2, 3, 4] (by decide) (by decide)

theorem XAll_swap (c : Dev nD) (f f' : Fin 5 → TS) (g : Fin 5) (h : ∀ g', g' ≠ g → f g' = f' g') :
    XAll I c f ⊢ iprop(XR I c g (f g) ∗ (XR I c g (f' g) -∗ XAll I c f')) := by
  unfold XAll
  have e1 : bigSep Finset.univ (fun g => XR I c g (f g)) = iprop(XR I c g (f g) ∗ bigSep (Finset.univ.erase g) (fun g => XR I c g (f g))) :=
    bigSep_univ_split g
  have e2 : bigSep Finset.univ (fun g => XR I c g (f' g)) = iprop(XR I c g (f' g) ∗ bigSep (Finset.univ.erase g) (fun g => XR I c g (f' g))) :=
    bigSep_univ_split g
  have e3 : bigSep (Finset.univ.erase g) (fun g => XR I c g (f g)) = bigSep (Finset.univ.erase g) (fun g => XR I c g (f' g)) :=
    bigSep_congr fun i hi => by rw [h i (Finset.ne_of_mem_erase hi)]
  rw [e1, e2, e3]
  iintro ⟨HX, HR⟩
  isplitl [HX]; · iexact HX
  iintro HX
  isplitl [HX]; · iexact HX
  iexact HR

/-- The chunks' state at chunk `j` of trip `u` staged and `m` chunks of it accumulated. -/
def LS (c : Dev nD) (a4 : Memref sig .tc .vmem S3584x128 .f32) (t : Fin 42) (u : Trip) (j m : ℕ) : sProp 𝕄 :=
  CS I c a4 (gx u) t.val (fun q => ST I (t.val % 7) q (1 + 9 * u.val + j) false) (2 * (1 + 9 * u.val + m))

theorem chunkS (c : Dev nD) (a4 : Memref sig .tc .vmem S3584x128 .f32) (t : Fin 42) (u : Trip) (k : Fin 9) (j j' : ℕ) (hj : j = k.val) (hj' : j' = j + 1) :
    Tri c (LS I c a4 t u j j) (chunkT a4 (grid0.coords t) u k) (LS I c a4 t u j j') := by
  subst hj hj'
  exact chunkT_spec I c a4 t u k

theorem pushS (c : Dev nD) (a4 : Memref sig .tc .vmem S3584x128 .f32) (t : Fin 42) (u : Trip) (k : Fin 8) (j j' : ℕ) (hj : j = k.val) (hj' : j' = j + 1) :
    Tri c (LS I c a4 t u j j') (pushN a4 (grid0.coords t) u k) (LS I c a4 t u j' j') := by
  subst hj hj'
  exact pushN_spec I c a4 t u k _ _

/-- The inner loop's invariant. -/
def TI (c : Dev nD) (a4 : Memref sig .tc .vmem S3584x128 .f32) (t u : ℕ) : sProp 𝕄 :=
  iprop(XAll I c (fun g => if g.val ≤ u then Xdone t else Xpend t) ∗ WR I c (sl t) (.inn (t % 7)) ∗ WR I c (sl (t + 1)) (Wst t u) ∗ OR I c (Ost t u)
    ∗ owns c a4 fullShare I.S ∗ SGU I c t u ∗ JG c ∗ ACC c (fun q i => AccV I t q i (2 * (1 + 9 * u))) ∗ Owe c)

theorem trip_spec (c : Dev nD) (a4 : Memref sig .tc .vmem S3584x128 .f32) (t : Fin 42) (u : Trip) :
    Tri c (TI I c a4 t.val u.val) (tripP a4 (grid0.coords t) u) (TI I c a4 t.val (u.val + 1)) := by
  have hu := ult u
  have hsw := XAll_swap I c (fun g => if g.val ≤ u.val then Xdone t.val else Xpend t.val) (fun g => if g.val ≤ u.val + 1 then Xdone t.val else Xpend t.val) (gx u) (by
    intro g' hg
    have hne : g'.val ≠ u.val + 1 := fun e => hg (Fin.ext e)
    by_cases h : g'.val ≤ u.val
    · show (if g'.val ≤ u.val then _ else _) = (if g'.val ≤ u.val + 1 then _ else _)
      rw [if_pos h, if_pos (by omega)]
    · show (if g'.val ≤ u.val then _ else _) = (if g'.val ≤ u.val + 1 then _ else _)
      rw [if_neg h, if_neg (by omega)])
  have e0 : (if (gx u).val ≤ u.val then Xdone t.val else Xpend t.val) = Xpend t.val := if_neg (by simp [gx])
  have e1 : (if (gx u).val ≤ u.val + 1 then Xdone t.val else Xpend t.val) = Xdone t.val := if_pos (by simp [gx])
  rw [e0, e1] at hsw
  have es : SGU I c t.val u.val = SG c (fun q => ST I (t.val % 7) q (1 + 9 * u.val + 0) false) := by unfold SGU; rw [if_pos hu]; rfl
  unfold Tri TI tripP
  rw [es]
  iintro ⟨HX, HW, HV, HO, H4, HS, HJ, HA, Hw⟩
  icases (hsw) $$ HX with ⟨HX, HXr⟩
  iapply (Tri.use (waitX_spec I c t u)) $$ [HX Hw]
  · isplitl [HX]; · iexact HX
    iexact Hw
  iintro ⟨HX, Hw⟩
  iapply (Tri.use (startO_spec I c t u)) $$ [HO]
  · iexact HO
  iintro HO
  iapply (Tri.use (waitW_spec I c t u)) $$ [HV Hw]
  · isplitl [HV]; · iexact HV
    iexact Hw
  iintro ⟨HV, Hw⟩
  iapply (Tri.use (chunkS I c a4 t u 0 0 1 rfl rfl)) $$ [HX HW H4 HS HJ HA]
  · unfold LS CS
    isplitl [HX]; · iexact HX
    isplitl [HW]; · iexact HW
    isplitl [H4]; · iexact H4
    isplitl [HS]; · iexact HS
    isplitl [HJ]; · iexact HJ
    iexact HA
  iintro HL
  iapply (Tri.use (pushS I c a4 t u 0 0 1 rfl rfl)) $$ [HL]
  · iexact HL
  iintro HL
  iapply (Tri.use (chunkS I c a4 t u 1 1 2 rfl rfl)) $$ [HL]
  · iexact HL
  iintro HL
  iapply (Tri.use (pushS I c a4 t u 1 1 2 rfl rfl)) $$ [HL]
  · iexact HL
  iintro HL
  iapply (Tri.use (chunkS I c a4 t u 2 2 3 rfl rfl)) $$ [HL]
  · iexact HL
  iintro HL
  iapply (Tri.use (pushS I c a4 t u 2 2 3 rfl rfl)) $$ [HL]
  · iexact HL
  iintro HL
  iapply (Tri.use (chunkS I c a4 t u 3 3 4 rfl rfl)) $$ [HL]
  · iexact HL
  iintro HL
  iapply (Tri.use (pushS I c a4 t u 3 3 4 rfl rfl)) $$ [HL]
  · iexact HL
  iintro HL
  iapply (Tri.use (chunkS I c a4 t u 4 4 5 rfl rfl)) $$ [HL]
  · iexact HL
  iintro HL
  iapply (Tri.use (pushS I c a4 t u 4 4 5 rfl rfl)) $$ [HL]
  · iexact HL
  iintro HL
  iapply (Tri.use (chunkS I c a4 t u 5 5 6 rfl rfl)) $$ [HL]
  · iexact HL
  iintro HL
  iapply (Tri.use (pushS I c a4 t u 5 5 6 rfl rfl)) $$ [HL]
  · iexact HL
  iintro HL
  iapply (Tri.use (chunkS I c a4 t u 6 6 7 rfl rfl)) $$ [HL]
  · iexact HL
  iintro HL
  iapply (Tri.use (pushS I c a4 t u 6 6 7 rfl rfl)) $$ [HL]
  · iexact HL
  iintro HL
  iapply (Tri.use (chunkS I c a4 t u 7 7 8 rfl rfl)) $$ [HL]
  · iexact HL
  iintro HL
  iapply (Tri.use (pushS I c a4 t u 7 7 8 rfl rfl)) $$ [HL]
  · iexact HL
  iintro HL
  iapply (Tri.use (chunkS I c a4 t u 8 8 9 rfl rfl)) $$ [HL]
  · iexact HL
  iintro HL
  unfold LS CS
  icases HL with ⟨HX, HW, H4, HS, HJ, HA⟩
  iapply (Tri.use (pushL_spec I c a4 t u _)) $$ [HW HV H4 HS]
  · isplitl [HW]; · iexact HW
    isplitl [HV]; · iexact HV
    isplitl [H4]; · iexact H4
    iexact HS
  iintro ⟨HW, HV, H4, HS⟩
  iapply (Tri.last (refillX_spec I c t u)) $$ [HX]
  · iexact HX
  iintro HX
  ihave HXX := HXr $$ HX
  isplitl [HXX]; · iexact HXX
  isplitl [HW]; · iexact HW
  isplitl [HV]; · iexact HV
  isplitl [HO]; · iexact HO
  isplitl [H4]; · iexact H4
  isplitl [HS]; · iexact HS
  isplitl [HJ]; · iexact HJ
  isplitl [HA]; · iexact HA
  iexact Hw

theorem loop_spec (c : Dev nD) (a4 : Memref sig .tc .vmem S3584x128 .f32) (t : Fin 42) :
    Tri c (TI I c a4 t.val 0) (Scf.Loop.for k0_t1_loop k0_t1_ok ⟨⟩ (fun u _ => tripP a4 (grid0.coords t) u)) (TI I c a4 t.val 4) := by
  unfold Tri
  have hb : ∀ (k : Fin k0_t1_loop.trips) (acc : PUnit), (fun (n : ℕ) (_ : PUnit) => TI I c a4 t.val n) k.val acc
      ⊢ wp Idealize.ShloMosaic.frame (wpE (defs₀ (F := F)) Variants.none (c : Thread nD τ) none) Set.univ (tripP a4 (grid0.coords t) k) ((fun (n : ℕ) (_ : PUnit) => TI I c a4 t.val n) (k.val + 1)) :=
    fun k _ => trip_spec I c a4 t k
  iintro H
  iapply (Scf.wp_for Idealize.ShloMosaic.frame (wpE (defs₀ (F := F)) Variants.none (c : Thread nD τ) none) Set.univ k0_t1_loop.lb k0_t1_loop.ub k0_t1_loop.st k0_t1_ok PUnit.unit
    (fun u _ => tripP a4 (grid0.coords t) u) (fun (n : ℕ) (_ : PUnit) => TI I c a4 t.val n) hb)
  isplitl [H]
  · iexact H
  iintro %acc H
  rw [show Scf.trips k0_t1_loop.lb k0_t1_loop.ub k0_t1_loop.st = 4 from trips4]
  iexact H

/-! ## Between grid points -/

def XG (t : ℕ) : TS := if t = 0 ∨ t = 42 then .free else Xpend t
def WG (t : ℕ) : TS := if t = 0 ∨ t = 42 then .free else .inn (t % 7)
def OG (t : ℕ) : OS := if t < 2 then .free 0 else if t < 42 then .fly (t - 2) else .free 42
def SGG (c : Dev nD) (t : ℕ) : sProp 𝕄 := if t = 0 ∨ t = 42 then JG0 c else SG c (fun q => ST I (t % 7) q 0 false)
def ACG (c : Dev nD) (t : ℕ) : sProp 𝕄 := if t = 0 ∨ t = 42 then iprop(∃ d, ACC c d) else ACC c (fun q i => AccV I (t - 1) q i 74)

/-- What holds between grid points: before grid point `t`. -/
def GI (c : Dev nD) (t : ℕ) : sProp 𝕄 :=
  iprop(XAll I c (fun _ => XG t) ∗ WR I c (sl t) (WG t) ∗ WR I c (sl (t + 1)) .free ∗ OR I c (OG t) ∗ SGG I c t ∗ JG c ∗ ACG I c t)

theorem gOf0 : ∀ k < 18944, gOf k = (0 : Fin 5).val ↔ 0 ≤ k ∧ k < 0 + 512 := by
  intro k hk
  show gOf k = 0 ↔ _
  unfold gOf
  split <;> omega
theorem gOf1 (g : Fin 5) (col : ℕ) (h1 : 1 ≤ g.val) (h : col = 512 + 4608 * (g.val - 1)) : ∀ k < 18944, gOf k = g.val ↔ col ≤ k ∧ k < col + 4608 := by
  intro k hk
  subst h
  unfold gOf
  split <;> omega

theorem startAll_spec (c : Dev nD) (a4 : Memref sig .tc .vmem S3584x128 .f32) (t : Fin 42) :
    Tri c iprop(XAll I c (fun _ => XG t.val) ∗ WR I c (sl t.val) (WG t.val) ∗ owns c a4 fullShare I.S ∗ SGG I c t.val ∗ Owe c) (startAll a4 (grid0.coords t))
      iprop(XAll I c (fun _ => Xpend t.val) ∗ WR I c (sl t.val) (.inn (t.val % 7)) ∗ owns c a4 fullShare I.S ∗ SG c (fun q => ST I (t.val % 7) q 0 false) ∗ Owe c) := by
  have ht := t.isLt
  unfold startAll XG WG SGG
  by_cases h0 : t.val = 0
  swap
  · rw [dif_neg (fun hc => h0 ((c1 t).1 hc))]
    simp only [if_neg (show ¬ (t.val = 0 ∨ t.val = 42) by omega)]
    exact Tri.ret
  rw [dif_pos ((c1 t).2 h0)]
  simp only [if_pos (show t.val = 0 ∨ t.val = 42 by omega)]
  have hx : Xpend t.val = .fly (t.val / 7) := if_pos (by omega)
  rw [XAll5, XAll5, hx]
  have P := pushPair I c a4 m12 m13 hm12 hm13 (sl t.val) (t.val % 7) 0 false (by omega) (by omega) _ _
    (fun r => k0_off9_inb (grid0.coords t) ((c1 t).2 h0) 0 r) (fun r => k0_off9_inb (grid0.coords t) ((c1 t).2 h0) 1 r) _ _ (k0_off10_inb (grid0.coords t) ((c1 t).2 h0) 0) (k0_off10_inb (grid0.coords t) ((c1 t).2 h0) 1)
    0#32 (fun r => o9 t 0 r) (fun r => o9 t 1 r) (o10 t 0) (o10 t 1) rfl
  unfold Tri startAllA JG0
  iintro ⟨⟨X0, X1, X2, X3, X4⟩, HW, H4, ⟨S0, S1⟩, Hw⟩
  iapply (Tri.use (wstart I c (sl t.val) (t.val % 7) (by omega) _ _ (o3 t) (o2 t) _ _ _ (wsem_eq _ _ _ (o1 t)) _ _ _)) $$ [HW]
  · iexact HW
  iintro HW
  iapply (Tri.use (xstart I c 0 (t.val / 7) (by omega) 0 512 (by omega) gOf0 _ _ (o4 t) rfl _ _ _ (xsem_eq 0 _ _ rfl) _ _ _ rfl)) $$ [X0]
  · iexact X0
  iintro X0
  iapply (Tri.use (xstart I c 1 (t.val / 7) (by omega) 512 4608 (by omega) (gOf1 1 _ (by decide) rfl) _ _ (o5 t) rfl _ _ _ (xsem_eq 1 _ _ rfl) _ _ _ rfl)) $$ [X1]
  · iexact X1
  iintro X1
  iapply (Tri.use (xstart I c 2 (t.val / 7) (by omega) 5120 4608 (by omega) (gOf1 2 _ (by decide) rfl) _ _ (o6 t) rfl _ _ _ (xsem_eq 2 _ _ rfl) _ _ _ rfl)) $$ [X2]
  · iexact X2
  iintro X2
  iapply (Tri.use (xstart I c 3 (t.val / 7) (by omega) 9728 4608 (by omega) (gOf1 3 _ (by decide) rfl) _ _ (o7 t) rfl _ _ _ (xsem_eq 3 _ _ rfl) _ _ _ rfl)) $$ [X3]
  · iexact X3
  iintro X3
  iapply (Tri.use (xstart I c 4 (t.val / 7) (by omega) 14336 4608 (by omega) (gOf1 4 _ (by decide) rfl) _ _ (o8 t) rfl _ _ _ (xsem_eq 4 _ _ rfl) _ _ _ rfl)) $$ [X4]
  · iexact X4
  iintro X4
  iapply (Tri.use (wwait I c (sl t.val) (t.val % 7)
      (m3.slice (Rect.unit (s := S132608x128) (k0_off3 (grid0.coords t)) S18944x128.size (k0_off3_inb (grid0.coords t) ((c1 t).2 h0))) (fun _ => rfl))
      (m7.slice (Rect.unit (s := S37888x128) (k0_off2 (grid0.coords t)) S18944x128.size (k0_off2_inb (grid0.coords t) ((c1 t).2 h0))) (fun _ => rfl))
      _ (wsem_eq _ _ _ (o1 t)) (View.wordExact_bits rfl) (View.wordExact_bits rfl) rfl)) $$ [HW Hw]
  · isplitl [HW]; · iexact HW
    iexact Hw
  iintro ⟨HW, Hw⟩
  iapply (Tri.last P) $$ [HW H4 S0 S1]
  · isplitl [HW]; · iexact HW
    isplitl [H4]; · iexact H4
    isplitl [S0]; · iexact S0
    iexact S1
  iintro ⟨HW, H4, HS⟩
  isplitl [X0 X1 X2 X3 X4]
  · isplitl [X0]; · iexact X0
    isplitl [X1]; · iexact X1
    isplitl [X2]; · iexact X2
    isplitl [X3]; · iexact X3
    iexact X4
  isplitl [HW]; · iexact HW
  isplitl [H4]; · iexact H4
  isplitl [HS]; · unfold SG; iexact HS
  iexact Hw

theorem waitX0_spec (c : Dev nD) (t : Fin 42) :
    Tri c iprop(XR I c 0 (Xpend t.val) ∗ Owe c) (waitX0 (grid0.coords t)) iprop(XR I c 0 (.inn (t.val / 7)) ∗ Owe c) := by
  unfold waitX0 Xpend
  by_cases h : t.val % 7 = 0
  · rw [dif_pos ((c2 t).2 h), if_pos h]
    exact xwait I c 0 (t.val / 7) _ _ _ (xsem_eq 0 _ _ rfl) _ _ rfl
  · rw [dif_neg (fun hc => h ((c2 t).1 hc)), if_neg h]
    exact Tri.ret

theorem startW_spec (c : Dev nD) (t : Fin 42) :
    Tri c (WR I c (sl (t.val + 1)) .free) (startW (grid0.coords t)) (WR I c (sl (t.val + 1)) (Wst t.val 0)) := by
  unfold startW Wst
  by_cases h : t.val + 1 < 42
  · rw [dif_pos ((c3 t).2 h), if_pos h, if_pos (by omega)]
    exact wstart I c (sl (t.val + 1)) ((t.val + 1) % 7) (by omega) _ _ (o14 t h) (o13 t h) _ _ _ (wsem_eq _ _ _ (o12 t h)) _ _ _
  · rw [dif_neg (fun hc => h ((c3 t).1 hc)), if_neg h]
    exact Tri.ret

theorem waitO_spec (c : Dev nD) (t : Fin 42) :
    Tri c iprop(OR I c (OG t.val) ∗ Owe c) (waitO (grid0.coords t)) iprop(OR I c (.free (t.val - 1)) ∗ Owe c) := by
  have ht := t.isLt
  unfold waitO OG
  by_cases h : 2 ≤ t.val
  · rw [dif_pos ((c4 t).2 h), if_neg (by omega), if_pos ht, show t.val - 1 = t.val - 2 + 1 by omega]
    exact owait I c (t.val - 2) _ _ _ _ rfl
  · rw [dif_neg (fun hc => h ((c4 t).1 hc)), if_pos (by omega), show t.val - 1 = 0 by omega]
    exact Tri.ret

theorem popAcc0_spec (c : Dev nD) (t : Fin 42) :
    Tri c iprop(XR I c 0 (.inn (t.val / 7)) ∗ SG c (fun q => ST I (t.val % 7) q 0 false) ∗ ACG I c t.val ∗ OR I c (.free (t.val - 1))) popAcc
      iprop(XR I c 0 (.inn (t.val / 7)) ∗ SG c (fun q => ST I (t.val % 7) q 0 false) ∗ ACC c (fun q i => AccV I t.val q i 1) ∗ OR I c (Ost t.val 0)) := by
  have ht := t.isLt
  have key (d f) := popAcc_spec I c (t.val / 7) (fun q => ST I (t.val % 7) q 0 false) d f
  have ea : (fun q i => accF zeroT (XT I (t.val / 7) i 0) (ST I (t.val % 7) q 0 false)) = fun q i => AccV I t.val q i 1 := rfl
  rw [ea] at key
  unfold Tri
  by_cases h0 : t.val = 0
  · have e1 : ACG I c t.val = iprop(∃ d, ACC c d) := by unfold ACG; rw [if_pos (by omega)]
    have e2 : Ost t.val 0 = .free (t.val - 1) := by unfold Ost; rw [if_pos h0, h0]
    rw [e1, e2]
    unfold OR SG
    iintro ⟨HX, HS, ⟨%d, HA⟩, ⟨%f, H8⟩, H5, Hv⟩
    iapply (Tri.last (key d f)) $$ [HX HS HA H8]
    · isplitl [HX]; · iexact HX
      isplitl [HS]; · iexact HS
      isplitl [HA]; · iexact HA
      iexact H8
    iintro ⟨HX, HS, HA, H8⟩
    isplitl [HX]; · iexact HX
    isplitl [HS]; · iexact HS
    isplitl [HA]; · iexact HA
    isplitl [H8]; · iexists _; iexact H8
    isplitl [H5]; · iexact H5
    iexact Hv
  · have e1 : ACG I c t.val = ACC c (fun q i => AccV I (t.val - 1) q i 74) := by unfold ACG; rw [if_neg (by omega)]
    have e2 : Ost t.val 0 = .inn (t.val - 1) := by unfold Ost; rw [if_neg h0, if_pos (by omega)]
    rw [e1, e2]
    unfold OR SG
    iintro ⟨HX, HS, HA, ⟨%f, H8⟩, H5, Hv⟩
    iapply (Tri.last (key (fun q i => AccV I (t.val - 1) q i 74) f)) $$ [HX HS HA H8]
    · isplitl [HX]; · iexact HX
      isplitl [HS]; · iexact HS
      isplitl [HA]; · iexact HA
      iexact H8
    iintro ⟨HX, HS, HA, H8⟩
    isplitl [HX]; · iexact HX
    isplitl [HS]; · iexact HS
    isplitl [HA]; · iexact HA
    isplitl [H5]; · iexact H5
    isplitl [Hv]; · iexact Hv
    iexact H8

theorem stage0_spec (c : Dev nD) (a4 : Memref sig .tc .vmem S3584x128 .f32) (t : Fin 42) (v : ℕ → Vec F S256x256 .bf16) :
    Tri c (CS I c a4 0 t.val v 1) (stage0 a4 (grid0.coords t)) (CS I c a4 0 t.val (fun q => ST I (t.val % 7) q 1 false) 2) := by
  have hg : ∀ j < 256, gOf (256 * 1 + j) = (0 : Fin 5).val := by
    intro j hj; unfold gOf; rw [if_pos (by omega)]; rfl
  have A2 := accV I c m14 m15 0 (t.val / 7) 1 hg _ _ _ _ inb_S1024x18944_S256x256_0_256 inb_S1024x18944_S256x256_256_256 inb_S1024x18944_S256x256_512_256 inb_S1024x18944_S256x256_768_256
    rfl rfl rfl rfl (fun q => ST I (t.val % 7) q 0 true) (fun q i => AccV I t.val q i (2 * 0 + 1))
  rw [show (fun q i => accF (AccV I t.val q i (2 * 0 + 1)) (XT I (t.val / 7) i 1) (ST I (t.val % 7) q 0 true)) = _ from AccV_hi I t.val 0] at A2
  have P := pushPair I c a4 m14 m15 hm14 hm15 (sl t.val) (t.val % 7) 0 true (by omega) (by omega) _ _
    (fun r => k0_off16_inb (grid0.coords t) 0 0 r) (fun r => k0_off16_inb (grid0.coords t) 1 0 r) _ _ (k0_off17_inb (grid0.coords t) 0) (k0_off17_inb (grid0.coords t) 1)
    0#32 (fun r => o16 t 0 0 r) (fun r => o16 t 1 0 r) (o17 t 0) (o17 t 1) rfl
  have P' := pushPair I c a4 m12 m13 hm12 hm13 (sl t.val) (t.val % 7) 1 false (by omega) (by omega) _ _
    (fun r => k0_off16_inb (grid0.coords t) 0 1 r) (fun r => k0_off16_inb (grid0.coords t) 1 1 r) _ _ (k0_off17_inb (grid0.coords t) 0) (k0_off17_inb (grid0.coords t) 1)
    1#32 (fun r => o16 t 0 1 r) (fun r => o16 t 1 1 r) (o17 t 0) (o17 t 1) rfl
  unfold Tri CS SG JG stage0
  iintro ⟨HX, HW, H4, ⟨S0, S1⟩, ⟨J0, J1⟩, HA⟩
  iapply (Tri.use P) $$ [HW H4 J0 J1]
  · isplitl [HW]; · iexact HW
    isplitl [H4]; · iexact H4
    isplitl [J0]; · iexact J0
    iexact J1
  iintro ⟨HW, H4, HJ⟩
  iapply (Tri.use A2) $$ [HX HJ HA]
  · isplitl [HX]; · iexact HX
    isplitl [HJ]; · iexact HJ
    iexact HA
  iintro ⟨HX, ⟨J0, J1⟩, HA⟩
  iapply (Tri.last P') $$ [HW H4 S0 S1]
  · isplitl [HW]; · iexact HW
    isplitl [H4]; · iexact H4
    isplitl [S0]
    · iexists _; iexact S0
    · iexists _; iexact S1
  iintro ⟨HW, H4, HS⟩
  isplitl [HX]; · iexact HX
  isplitl [HW]; · iexact HW
  isplitl [H4]; · iexact H4
  isplitl [HS]; · iexact HS
  isplitl [J0 J1]
  · isplitl [J0]
    · iexists _; iexact J0
    · iexists _; iexact J1
  iexact HA

theorem refillX0_spec (c : Dev nD) (t : Fin 42) :
    Tri c (XR I c 0 (.inn (t.val / 7))) (refillX0 (grid0.coords t)) (XR I c 0 (Xdone t.val)) := by
  unfold refillX0 Xdone
  by_cases h : t.val % 7 = 6 ∧ t.val < 41
  · rw [dif_pos ((c5 t).2 h), if_pos h]
    exact Tri.conseq (xstart I c 0 (t.val / 7 + 1) (by omega) 0 512 (by omega) gOf0 _ _ (o18 t h.2) rfl _ _ _ (xsem_eq 0 _ _ rfl) _ _ _ rfl)
      (XR_to_free I c 0 (t.val / 7)) .rfl
  · rw [dif_neg (fun hc => h ((c5 t).1 hc)), if_neg h]
    exact Tri.ret

theorem finish_spec (c : Dev nD) (t : Fin 42) :
    Tri c iprop(OR I c (Ost t.val 4) ∗ ACC c (fun q i => AccV I t.val q i 74) ∗ Owe c) (finish (grid0.coords t))
      iprop(OR I c (OG (t.val + 1)) ∗ ACG I c (t.val + 1) ∗ Owe c) := by
  have ht := t.isLt
  unfold finish
  by_cases h : t.val = 41
  swap
  · have e1 : OG (t.val + 1) = Ost t.val 4 := by
      unfold OG Ost
      by_cases h0 : t.val = 0
      · rw [if_pos (by omega), if_pos h0]
      · rw [if_neg (by omega), if_pos (by omega), if_neg h0, if_neg (by omega), show t.val + 1 - 2 = t.val - 1 by omega]
    have e2 : ACG I c (t.val + 1) = ACC c (fun q i => AccV I t.val q i 74) := by
      unfold ACG; rw [if_neg (by omega)]; rfl
    rw [dif_neg (fun hc => h ((c10 t).1 hc)), e1, e2]
    exact Tri.ret
  have e0 : Ost t.val 4 = .fly 40 := by unfold Ost; rw [if_neg (by omega), if_neg (by omega), show t.val - 1 = 40 by omega]
  have e1 : OG (t.val + 1) = .free (t.val + 1) := by unfold OG; rw [if_neg (by omega), if_neg (by omega), h]
  have e2 : ACG I c (t.val + 1) = iprop(∃ d, ACC c d) := by unfold ACG; rw [if_pos (by omega)]
  rw [dif_pos ((c10 t).2 h), e0, e1, e2]
  unfold Tri finishA
  iintro ⟨HO, HA, Hw⟩
  iapply (Tri.use (owait I c 40 m8 (m5.slice (Rect.unit (s := S6144x3584) (k0_off38 (grid0.coords t)) S1024x512.size (k0_off38_inb (grid0.coords t) ((c10 t).2 h))) (fun _ => rfl))
      hm8.wordExact (hm5.wordExact_slice rfl _ (k0_off38_wordsbf16 (grid0.coords t) ((c10 t).2 h))) rfl)) $$ [HO Hw]
  · isplitl [HO]; · iexact HO
    iexact Hw
  iintro ⟨HO, Hw⟩
  have hor : OR I c (.free (40 + 1)) = iprop((∃ f, m8.view.loc (c : Thread nD τ) ↦{fullShare} f) ∗ (m5.view.loc (c : Thread nD τ) ↦{fullShare} OutC I (40 + 1))
      ∗ semVal ((c : Thread nD τ), .dma osem) 0) := rfl
  ihave HO' := (Entails.of_eq hor) $$ HO
  icases HO' with ⟨⟨%f, H8⟩, H5, Hv⟩
  iapply (Tri.use (popAll_spec c (fun q i => AccV I t.val q i 74) f)) $$ [HA H8]
  · isplitl [HA]; · iexact HA
    iexact H8
  iintro ⟨HA, H8⟩
  iapply (Tri.use (ostart I c t.val ht _ (o39 t h) _ _ _ _)) $$ [H5 Hv H8]
  · unfold OR
    isplitl [H5]; · rw [show t.val = 40 + 1 from h]; iexact H5
    isplitl [Hv]; · iexact Hv
    iexact H8
  iintro HO
  iapply (Tri.last (owait I c t.val m8 (m5.slice (Rect.unit (s := S6144x3584) (k0_off39 (grid0.coords t)) S1024x512.size (k0_off39_inb (grid0.coords t) ((c10 t).2 h))) (fun _ => rfl))
      hm8.wordExact (hm5.wordExact_slice rfl _ (k0_off39_wordsbf16 (grid0.coords t) ((c10 t).2 h))) rfl)) $$ [HO Hw]
  · isplitl [HO]; · iexact HO
    iexact Hw
  iintro ⟨HO, Hw⟩
  isplitl [HO]; · iexact HO
  isplitl [HA]; · iexists _; iexact HA
  iexact Hw

/-- The body at grid point `t`. -/
theorem bodyP_spec (c : Dev nD) (a4 : Memref sig .tc .vmem S3584x128 .f32) (t : Fin 42) :
    Tri c iprop(GI I c t.val ∗ owns c a4 fullShare I.S ∗ Owe c) (bodyP a4 (grid0.coords t)) iprop(GI I c (t.val + 1) ∗ owns c a4 fullShare I.S ∗ Owe c) := by
  have ht := t.isLt
  have hsw := XAll_swap I c (fun _ => Xpend t.val) (fun g => if g.val ≤ 0 then Xdone t.val else Xpend t.val) 0 (by
    intro g' hg
    have hne : g'.val ≠ 0 := fun e => hg (Fin.ext e)
    show _ = if g'.val ≤ 0 then _ else _
    rw [if_neg (by omega)])
  have e0 : (if (0 : Fin 5).val ≤ 0 then Xdone t.val else Xpend t.val) = Xdone t.val := if_pos (le_refl 0)
  rw [e0] at hsw
  have es : SGU I c t.val 0 = SG c (fun q => ST I (t.val % 7) q 1 false) := by unfold SGU; rw [if_pos (by omega)]
  have es4 : SGU I c t.val 4 ⊢ SGG I c (t.val + 1) := by
    unfold SGU SGG
    rw [if_neg (by omega)]
    by_cases h : t.val + 1 < 42
    · rw [if_pos h, if_neg (by omega)]
    · rw [if_neg h, if_pos (by omega)]
  have ew4 : Wst t.val 4 = WG (t.val + 1) := by
    unfold Wst WG
    by_cases h : t.val + 1 < 42
    · rw [if_pos h, if_neg (by omega), if_neg (by omega)]
    · rw [if_neg h, if_pos (by omega)]
  have esl : sl (t.val + 1 + 1) = sl t.val := Fin.ext (by show (t.val + 1 + 1) % 2 = t.val % 2; omega)
  have ex4 : XAll I c (fun g => if g.val ≤ 4 then Xdone t.val else Xpend t.val) ⊢ XAll I c (fun _ => XG (t.val + 1)) := by
    have e : (fun g : Fin 5 => if g.val ≤ 4 then Xdone t.val else Xpend t.val) = fun _ => Xdone t.val := by
      funext g; exact if_pos (by omega)
    rw [e]
    unfold XG
    by_cases h : t.val + 1 < 42
    · rw [if_neg (by omega)]
      have : Xdone t.val = Xpend (t.val + 1) := by
        unfold Xdone Xpend
        by_cases h6 : t.val % 7 = 6
        · rw [if_pos (by omega), if_pos (by omega), show (t.val + 1) / 7 = t.val / 7 + 1 by omega]
        · rw [if_neg (by omega), if_neg (by omega), show (t.val + 1) / 7 = t.val / 7 by omega]
      rw [this]
    · rw [if_pos (by omega)]
      have : Xdone t.val = .inn (t.val / 7) := by unfold Xdone; rw [if_neg (by omega)]
      rw [this]
      exact bigSep_mono fun g _ => XR_to_free I c g _
  unfold Tri bodyP
  iintro ⟨HG, H4, Hw⟩
  unfold GI
  rw [esl]
  icases HG with ⟨HX, HW, HV, HO, HS, HJ, HA⟩
  iapply (Tri.use (startAll_spec I c a4 t)) $$ [HX HW H4 HS Hw]
  · isplitl [HX]; · iexact HX
    isplitl [HW]; · iexact HW
    isplitl [H4]; · iexact H4
    isplitl [HS]; · iexact HS
    iexact Hw
  iintro ⟨HX, HW, H4, HS, Hw⟩
  icases (hsw) $$ HX with ⟨HX, HXr⟩
  iapply (Tri.use (waitX0_spec I c t)) $$ [HX Hw]
  · isplitl [HX]; · iexact HX
    iexact Hw
  iintro ⟨HX, Hw⟩
  iapply (Tri.use (startW_spec I c t)) $$ [HV]
  · iexact HV
  iintro HV
  iapply (Tri.use (waitO_spec I c t)) $$ [HO Hw]
  · isplitl [HO]; · iexact HO
    iexact Hw
  iintro ⟨HO, Hw⟩
  iapply (Tri.use (popAcc0_spec I c t)) $$ [HX HS HA HO]
  · isplitl [HX]; · iexact HX
    isplitl [HS]; · iexact HS
    isplitl [HA]; · iexact HA
    iexact HO
  iintro ⟨HX, HS, HA, HO⟩
  iapply (Tri.use (stage0_spec I c a4 t _)) $$ [HX HW H4 HS HJ HA]
  · unfold CS
    isplitl [HX]; · iexact HX
    isplitl [HW]; · iexact HW
    isplitl [H4]; · iexact H4
    isplitl [HS]; · iexact HS
    isplitl [HJ]; · iexact HJ
    iexact HA
  iintro HL
  unfold CS
  icases HL with ⟨HX, HW, H4, HS, HJ, HA⟩
  iapply (Tri.use (refillX0_spec I c t)) $$ [HX]
  · iexact HX
  iintro HX
  ihave HXX := HXr $$ HX
  iapply (Tri.use (loop_spec I c a4 t)) $$ [HXX HW HV HO H4 HS HJ HA Hw]
  · unfold TI
    rw [es]
    isplitl [HXX]; · iexact HXX
    isplitl [HW]; · iexact HW
    isplitl [HV]; · iexact HV
    isplitl [HO]; · iexact HO
    isplitl [H4]; · iexact H4
    isplitl [HS]; · iexact HS
    isplitl [HJ]; · iexact HJ
    isplitl [HA]; · iexact HA
    iexact Hw
  iintro HL
  unfold TI
  rw [ew4]
  icases HL with ⟨HX, HW, HV, HO, H4, HS, HJ, HA, Hw⟩
  iapply (Tri.last (finish_spec I c t)) $$ [HO HA Hw]
  · isplitl [HO]; · iexact HO
    isplitl [HA]; · iexact HA
    iexact Hw
  iintro ⟨HO, HA, Hw⟩
  ihave HS' := es4 $$ HS
  ihave HX' := ex4 $$ HX
  ihave HW' := (WR_to_free I c (sl t.val) (t.val % 7)) $$ HW
  isplitr [H4 Hw]
  · isplitl [HX']; · iexact HX'
    isplitl [HV]; · iexact HV
    isplitl [HW']; · iexact HW'
    isplitl [HO]; · iexact HO
    isplitl [HS']; · iexact HS'
    isplitl [HJ]; · iexact HJ
    iexact HA
  isplitl [H4]; · iexact H4
  iexact Hw

end Cert.KernelIdeal.Hand

end
-- ==== Proof.Printed.lean ====
/- The printed body is the small programs. -/
module

public import proofs.«01_k».proof.Proof.Progs

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- A guarded program whose continuation stands in both branches. -/
def j1 {α : Type} (c : Prop) [Decidable c] (A : c → Prog (TpuEff nD τ sig (Elt F) Λ₀ .tc) PUnit) (K : Prog (TpuEff nD τ sig (Elt F) Λ₀ .tc) α) : Prog (TpuEff nD τ sig (Elt F) Λ₀ .tc) α :=
  if h : c then (do A h; K) else K

theorem j1_eq {α : Type} (c : Prop) [Decidable c] (A : c → Prog (TpuEff nD τ sig (Elt F) Λ₀ .tc) PUnit) (K : Prog (TpuEff nD τ sig (Elt F) Λ₀ .tc) α) :
    j1 c A K = (do (if h : c then A h else pure ⟨⟩); K) := by
  unfold j1; split <;> rfl

theorem j1_bind {α β : Type} (c : Prop) [Decidable c] (A : c → Prog (TpuEff nD τ sig (Elt F) Λ₀ .tc) PUnit) (K : Prog (TpuEff nD τ sig (Elt F) Λ₀ .tc) α) (k : α → Prog (TpuEff nD τ sig (Elt F) Λ₀ .tc) β) :
    (j1 c A K >>= k) = j1 c A (K >>= k) := by
  unfold j1; split
  · exact Prog.bind_assoc _ _ _
  · rfl

/-- What follows the guarded transfers in the first window of the loop's region. -/
def tailT (i : grid0.Coords) (t : Fin k0_t1_loop.trips) : Prog (TpuEff nD τ sig (Elt F) Λ₀ .tc) (Σ' (arg24 : BitVec 32) (v480 : BitVec 32) (v485 : Vec F S256x256 .bf16), Vec F S256x256 .f32) := do
  let x : Vec F S256x256 .bf16 ← Prog.lift (.load m6 (Rect.unit (s := S1024x18944) (k0_off26 t 0#32 0#32) S256x256.size (k0_off26_inb t 0 0)).toLoadRect (View.loadsAt_vmem h_S256x256))
  acc1 m12 m16 x
  let v : Vec F S256x256 .f32 ← Prog.lift (.load m20 sq.toLoadRect (View.loadsAt_vmem h_S256x256))
  pure ⟨Scf.iv 0#32 1#32 t, chunkV t 0#32, x, v⟩

theorem part5_eq (i : grid0.Coords) (a4 : Memref sig .tc .vmem S3584x128 .f32) (h4 : a4.IsWhole) (t : Fin k0_t1_loop.trips) (b0 b1 v1 : BitVec 32) :
    k0_part5 (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 b0 b1 v1 0#32 1#32 t = j1 (k0_cond6 i = 1#1) (waitXA i t) (j1 (k0_cond7 i t = 1#1) (startOA i t) (j1 (k0_cond8 i t = 1#1) (waitWA i t) (tailT i t))) := by
  sl_kernel_rfl

theorem trip_eq (i : grid0.Coords) (a4 : Memref sig .tc .vmem S3584x128 .f32) (h4 : a4.IsWhole) (b0 b1 v1 : BitVec 32) (t : Fin k0_t1_loop.trips) :
    k0_t1_body (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 b0 b1 v1 t () = tripP a4 i t := by
  unfold k0_t1_body k0_part103
  rw [part5_eq, j1_bind, j1_bind, j1_bind, j1_bind, j1_bind, j1_bind, j1_eq, j1_eq, j1_eq]
  sl_kernel_rfl

/-- What follows the guarded transfers in the body's first window. -/
def tailH (i : grid0.Coords) : Prog (TpuEff nD τ sig (Elt F) Λ₀ .tc) (Σ' (arg0 : BitVec 32) (arg1 : BitVec 32) (v1 : BitVec 32) (v4 : BitVec 1) (v27 : Vec F S256x256 .f32), FVec F S256x256 .f32) := do
  pop1 m16 ![0, 0] inb_S1024x512_S256x256_0_0 packedbf16_S1024x512_S256x256_0_0
  let v : Vec F S256x256 .f32 ← Prog.lift (.load m20 sq.toLoadRect (View.loadsAt_vmem h_S256x256))
  pure ⟨(BitVec.ofNat 32 (i 0).val), (BitVec.ofNat 32 (i 1).val), (Scalar.addi (Scalar.muli (BitVec.ofNat 32 (i 0).val) 7#32) (BitVec.ofNat 32 (i 1).val)), Scalar.andi (Scalar.cmpi .eq (BitVec.ofNat 32 (i 1).val) 6#32) (Scalar.cmpi .slt (BitVec.ofNat 32 (i 0).val) 5#32), v, broadcast S256x256 (Scalar.ofBits .f32 0x00000000#32)⟩

theorem part109_eq (i : grid0.Coords) (a4 : Memref sig .tc .vmem S3584x128 .f32) (h4 : a4.IsWhole) :
    k0_part109 (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 = j1 (k0_cond1 i = 1#1) (startAllA a4 i) (j1 (k0_cond2 i = 1#1) (waitX0A i) (j1 (k0_cond3 i = 1#1) (startWA i) (j1 (k0_cond4 i = 1#1) (waitOA i) (tailH i)))) := by
  sl_kernel_rfl

/-- The body up to the refill of the first column group. -/
def midP (a4 : Memref sig .tc .vmem S3584x128 .f32) (i : grid0.Coords) (K : Prog (TpuEff nD τ sig (Elt F) Λ₀ .tc) PUnit) : Prog (TpuEff nD τ sig (Elt F) Λ₀ .tc) PUnit := do
  startAll a4 i
  waitX0 i
  startW i
  waitO i
  popAcc
  stage0 a4 i
  K

theorem tail_eq (i : grid0.Coords) (a4 : Memref sig .tc .vmem S3584x128 .f32) :
    (j1 (k0_cond5 i = 1#1) (refillX0A i) (do
      Scf.Loop.for k0_t1_loop k0_t1_ok ⟨⟩ (fun t _ => tripP (F := F) a4 i t)
      finish i))
    = (do refillX0 i; Scf.Loop.for k0_t1_loop k0_t1_ok ⟨⟩ (fun t _ => tripP (F := F) a4 i t); finish i) := by
  rw [j1_eq]; rfl

theorem body_eq (i : grid0.Coords) (a4 : Memref sig .tc .vmem S3584x128 .f32) (h4 : a4.IsWhole) :
    cc0_qwz_linear (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 = bodyP a4 i := by
  have e1 : (fun (t : Fin k0_t1_loop.trips) (_ : Unit) => tripP (F := F) a4 i t)
      = k0_t1_body (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 (BitVec.ofNat 32 (i 0).val) (BitVec.ofNat 32 (i 1).val) (Scalar.addi (Scalar.muli (BitVec.ofNat 32 (i 0).val) 7#32) (BitVec.ofNat 32 (i 1).val)) := by
    funext t u; exact (trip_eq i a4 h4 _ _ _ t).symm
  have e2 : bodyP (F := F) a4 i = midP a4 i (do refillX0 i; Scf.Loop.for k0_t1_loop k0_t1_ok ⟨⟩ (fun t _ => tripP (F := F) a4 i t); finish i) := by
    sl_kernel_rfl
  rw [e2, ← tail_eq, e1]
  unfold cc0_qwz_linear
  rw [part109_eq, j1_bind, j1_bind, j1_bind, j1_bind, j1_eq, j1_eq, j1_eq, j1_eq]
  sl_kernel_rfl

end Cert.KernelIdeal.Hand

end
-- ==== Proof.Run.lean ====
/- The launch: the buffers and counters the body's invariant is made of, and the run of the whole program. -/
module

public import proofs.«01_k».proof.Proof.Body
public import proofs.«01_k».proof.Proof.Printed
public import proofs.«01_k».proof.Proof.Gen.KernelIdeal.Frame
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

/-! ## A whole buffer block by block, and an array's read shares -/

theorem gOf_lt (k : ℕ) (h : k < 18944) : gOf k < 5 := by unfold gOf; split <;> omega

theorem Gs_disj : ∀ b b' : Fin 5, b ≠ b' → Disjoint (Gs b) (Gs b') := fun b b' h =>
  Finset.disjoint_left.mpr fun y h1 h2 => h (Fin.ext ((Finset.mem_filter.mp h1).2.symm.trans (Finset.mem_filter.mp h2).2))
theorem Gs_cover : (Finset.univ : Finset (Fin 5)).biUnion Gs = Finset.univ :=
  Finset.eq_univ_iff_forall.mpr fun y => Finset.mem_biUnion.mpr
    ⟨⟨gOf (y 1).val, gOf_lt _ (y 1).isLt⟩, Finset.mem_univ _, Finset.mem_filter.mpr ⟨Finset.mem_univ _, rfl⟩⟩
theorem Ws_disj : ∀ b b' : Fin 2, b ≠ b' → Disjoint (Ws b) (Ws b') := fun b b' h =>
  Finset.disjoint_left.mpr fun y h1 h2 => h (Fin.ext ((Finset.mem_filter.mp h1).2.symm.trans (Finset.mem_filter.mp h2).2))
theorem Ws_cover : (Finset.univ : Finset (Fin 2)).biUnion Ws = Finset.univ :=
  Finset.eq_univ_iff_forall.mpr fun y => Finset.mem_biUnion.mpr
    ⟨⟨(y 0).val / 18944, by have : (y 0).val < 37888 := (y 0).isLt; omega⟩, Finset.mem_univ _, Finset.mem_filter.mpr ⟨Finset.mem_univ _, rfl⟩⟩

theorem five (Φ : Fin 5 → sProp 𝕄) : bigSep Finset.univ Φ = iprop(Φ 0 ∗ Φ 1 ∗ Φ 2 ∗ Φ 3 ∗ Φ 4) :=
  BI.bigSep_eq_bigSepL_of_eq (S := Finset.univ) (Φ := Φ) [(0 : Fin 5), 1, 2, 3, 4] (by decide) (by decide)
theorem two (Φ : Fin 2 → sProp 𝕄) : bigSep Finset.univ Φ = iprop(Φ 0 ∗ Φ 1) :=
  BI.bigSep_eq_bigSepL_of_eq (S := Finset.univ) (Φ := Φ) [(0 : Fin 2), 1] (by decide) (by decide)

/-- The eight counters at zero. -/
def Sems (c : Dev nD) : sProp 𝕄 :=
  iprop((semVal ((c : Thread nD τ), .dma (xsem 0)) 0 ∗ semVal ((c : Thread nD τ), .dma (xsem 1)) 0 ∗ semVal ((c : Thread nD τ), .dma (xsem 2)) 0
    ∗ semVal ((c : Thread nD τ), .dma (xsem 3)) 0 ∗ semVal ((c : Thread nD τ), .dma (xsem 4)) 0)
    ∗ (semVal ((c : Thread nD τ), .dma (wsem 0)) 0 ∗ semVal ((c : Thread nD τ), .dma (wsem 1)) 0) ∗ semVal ((c : Thread nD τ), .dma osem) 0)

theorem x_in (c : Dev nD) (f : Buf (Elt F) (m6.view.loc (c : Thread nD τ))) :
    iprop((m6.view.loc (c : Thread nD τ) ↦{fullShare} f) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0) ∗ (m2.view.loc (c : Thread nD τ) ↦{fullShare} I.X))
    ⊢ iprop(XAll I c (fun _ => .free) ∗ (m2.view.loc (c : Thread nD τ) ↦{Transfers.shareDrop fullShare 5} I.X)) := by
  have e : (m6.view.loc (c : Thread nD τ) ↦{fullShare} f : sProp 𝕄) = _ := Ring.pointsTo_blocks Gs Gs_disj Gs_cover f
  rw [XAll5, e, five]
  unfold XR
  iintro ⟨⟨H0, H1, H2, H3, H4⟩, ⟨S0, S1, S2, S3, S4⟩, HX⟩
  ihave HX' := (Transfers.pointsTo_toks_split (S := Finset.univ) (f := I.X) fullShare 5) $$ HX
  rw [five]
  icases HX' with ⟨HD, T0, T1, T2, T3, T4⟩
  isplitr [HD]
  · isplitl [H0 S0 T0]; · isplitl [H0]; · iexists f; iexact H0
                          isplitl [S0]; · iexact S0
                          iexact T0
    isplitl [H1 S1 T1]; · isplitl [H1]; · iexists f; iexact H1
                          isplitl [S1]; · iexact S1
                          iexact T1
    isplitl [H2 S2 T2]; · isplitl [H2]; · iexists f; iexact H2
                          isplitl [S2]; · iexact S2
                          iexact T2
    isplitl [H3 S3 T3]; · isplitl [H3]; · iexists f; iexact H3
                          isplitl [S3]; · iexact S3
                          iexact T3
    isplitl [H4]; · iexists f; iexact H4
    isplitl [S4]; · iexact S4
    iexact T4
  · iexact HD

theorem x_out (c : Dev nD) :
    iprop(XAll I c (fun _ => .free) ∗ (m2.view.loc (c : Thread nD τ) ↦{Transfers.shareDrop fullShare 5} I.X))
    ⊢ iprop((∃ f, m6.view.loc (c : Thread nD τ) ↦{fullShare} f) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0) ∗ (m2.view.loc (c : Thread nD τ) ↦{fullShare} I.X)) := by
  have e := Ring.pointsTo_blocks_join_exists (Ix := Unit) (Val := Elt F) (Name := ℕ) (U := Pipeline.UD sig nD τ) (Lvl := ℕ) (ℓ := m6.view.loc (c : Thread nD τ)) (q := fullShare) Gs Gs_disj Gs_cover (XB I 0)
  have e2 := Transfers.pointsTo_toks_join (U := Pipeline.UD sig nD τ) (Ix := Unit) (Name := ℕ) (Lvl := ℕ) (ℓ := m2.view.loc (c : Thread nD τ)) (S := Finset.univ) (f := I.X) fullShare 5
  rw [five] at e e2
  rw [XAll5]
  unfold XR
  iintro ⟨⟨⟨H0, S0, T0⟩, ⟨H1, S1, T1⟩, ⟨H2, S2, T2⟩, ⟨H3, S3, T3⟩, ⟨H4, S4, T4⟩⟩, HD⟩
  isplitl [H0 H1 H2 H3 H4]
  · iapply e
    isplitl [H0]; · iexact H0
    isplitl [H1]; · iexact H1
    isplitl [H2]; · iexact H2
    isplitl [H3]; · iexact H3
    iexact H4
  isplitl [S0 S1 S2 S3 S4]
  · isplitl [S0]; · iexact S0
    isplitl [S1]; · iexact S1
    isplitl [S2]; · iexact S2
    isplitl [S3]; · iexact S3
    iexact S4
  iapply e2
  isplitl [HD]; · iexact HD
  isplitl [T0]; · iexact T0
  isplitl [T1]; · iexact T1
  isplitl [T2]; · iexact T2
  isplitl [T3]; · iexact T3
  iexact T4

theorem w_in (c : Dev nD) (f : Buf (Elt F) (m7.view.loc (c : Thread nD τ))) :
    iprop((m7.view.loc (c : Thread nD τ) ↦{fullShare} f) ∗ (semVal ((c : Thread nD τ), .dma (wsem 0)) 0 ∗ semVal ((c : Thread nD τ), .dma (wsem 1)) 0) ∗ (m3.view.loc (c : Thread nD τ) ↦{fullShare} I.W))
    ⊢ iprop(WR I c 0 .free ∗ WR I c 1 .free ∗ (m3.view.loc (c : Thread nD τ) ↦{Transfers.shareDrop fullShare 2} I.W)) := by
  have e : (m7.view.loc (c : Thread nD τ) ↦{fullShare} f : sProp 𝕄) = _ := Ring.pointsTo_blocks Ws Ws_disj Ws_cover f
  rw [e, two]
  unfold WR
  iintro ⟨⟨H0, H1⟩, ⟨S0, S1⟩, HX⟩
  ihave HX' := (Transfers.pointsTo_toks_split (S := Finset.univ) (f := I.W) fullShare 2) $$ HX
  rw [two]
  icases HX' with ⟨HD, T0, T1⟩
  isplitl [H0 S0 T0]; · isplitl [H0]; · iexists f; iexact H0
                        isplitl [S0]; · iexact S0
                        iexact T0
  isplitl [H1 S1 T1]; · isplitl [H1]; · iexists f; iexact H1
                        isplitl [S1]; · iexact S1
                        iexact T1
  iexact HD

theorem w_out (c : Dev nD) :
    iprop(WR I c 0 .free ∗ WR I c 1 .free ∗ (m3.view.loc (c : Thread nD τ) ↦{Transfers.shareDrop fullShare 2} I.W))
    ⊢ iprop((∃ f, m7.view.loc (c : Thread nD τ) ↦{fullShare} f) ∗ (semVal ((c : Thread nD τ), .dma (wsem 0)) 0 ∗ semVal ((c : Thread nD τ), .dma (wsem 1)) 0) ∗ (m3.view.loc (c : Thread nD τ) ↦{fullShare} I.W)) := by
  have e := Ring.pointsTo_blocks_join_exists (Ix := Unit) (Val := Elt F) (Name := ℕ) (U := Pipeline.UD sig nD τ) (Lvl := ℕ) (ℓ := m7.view.loc (c : Thread nD τ)) (q := fullShare) Ws Ws_disj Ws_cover (WB I 0)
  have e2 := Transfers.pointsTo_toks_join (U := Pipeline.UD sig nD τ) (Ix := Unit) (Name := ℕ) (Lvl := ℕ) (ℓ := m3.view.loc (c : Thread nD τ)) (S := Finset.univ) (f := I.W) fullShare 2
  rw [two] at e e2
  unfold WR
  iintro ⟨⟨H0, S0, T0⟩, ⟨H1, S1, T1⟩, HD⟩
  isplitl [H0 H1]
  · iapply e
    isplitl [H0]; · iexact H0
    iexact H1
  isplitl [S0 S1]
  · isplitl [S0]; · iexact S0
    iexact S1
  iapply e2
  isplitl [HD]; · iexact HD
  isplitl [T0]; · iexact T0
  iexact T1

/-! ## The invariant before the first grid point, and after the last -/

/-- The body's invariant: what it keeps between grid points, the arrays' undealt read shares, the generator register. -/
def ΦI (c : Dev nD) (t : ℕ) : sProp 𝕄 :=
  iprop(GI I c t ∗ (m2.view.loc (c : Thread nD τ) ↦{Transfers.shareDrop fullShare 5} I.X) ∗ (m3.view.loc (c : Thread nD τ) ↦{Transfers.shareDrop fullShare 2} I.W)
    ∗ (∃ r, prngReg c r))

theorem hold (c : Dev nD) (b : Ref sig .tc) :
    (iprop(∃ f : Buf (Elt F) ((c : Thread nD τ).loc b), ((c : Thread nD τ).loc b) ↦{fullShare} f) : sProp 𝕄)
      = iprop(∃ v, owns (c : Thread nD τ) (Memref.whole b) fullShare v) := by
  simp only [owns_whole]

theorem OutC_zero : OutC I 0 = I.Y := by
  funext i; unfold OutC; simp

/-- The scratch buffers. -/
def Scr (c : Dev nD) : sProp 𝕄 :=
  iprop((∃ f, m6.view.loc (c : Thread nD τ) ↦{fullShare} f) ∗ (∃ f, m7.view.loc (c : Thread nD τ) ↦{fullShare} f) ∗ (∃ f, m8.view.loc (c : Thread nD τ) ↦{fullShare} f)
    ∗ (∃ v : Vec F S256x256 .bf16, owns c m12 fullShare v) ∗ (∃ v : Vec F S256x256 .bf16, owns c m13 fullShare v)
    ∗ (∃ v : Vec F S256x256 .bf16, owns c m14 fullShare v) ∗ (∃ v : Vec F S256x256 .bf16, owns c m15 fullShare v)
    ∗ (∃ v : Vec F S256x256 .f32, owns c m16 fullShare v) ∗ (∃ v : Vec F S256x256 .f32, owns c m17 fullShare v)
    ∗ (∃ v : Vec F S256x256 .f32, owns c m18 fullShare v) ∗ (∃ v : Vec F S256x256 .f32, owns c m19 fullShare v)
    ∗ (∃ v : Vec F S256x256 .f32, owns c m20 fullShare v) ∗ (∃ v : Vec F S256x256 .f32, owns c m21 fullShare v)
    ∗ (∃ v : Vec F S256x256 .f32, owns c m22 fullShare v) ∗ (∃ v : Vec F S256x256 .f32, owns c m23 fullShare v))

theorem scr_eq (c : Dev nD) :
    (Pipeline.scopedRest (Ix := Unit) (Name := ℕ) (U := Pipeline.UD sig nD τ) (Lvl := ℕ) (Val := Elt F) spec0 c : sProp 𝕄) = Scr c := by
  rw [scopedRest0_eq]
  simp only [hold (F := F) c cc0_scratch6, hold (F := F) c cc0_scratch7, hold (F := F) c cc0_scratch8, hold (F := F) c cc0_scratch9, hold (F := F) c cc0_scratch10,
    hold (F := F) c cc0_scratch11, hold (F := F) c cc0_scratch12, hold (F := F) c cc0_scratch13, hold (F := F) c cc0_scratch14, hold (F := F) c cc0_scratch15,
    hold (F := F) c cc0_scratch16, hold (F := F) c cc0_scratch17]
  rfl

abbrev osem0 : Fin 8 → SemLoc sig := fun j =>
  (![SemLoc.dma 1, SemLoc.dma 2, SemLoc.dma 3, SemLoc.dma 4, SemLoc.dma 5, SemLoc.dma 6, SemLoc.dma 7, SemLoc.dma 8] : Fin 8 → SemLoc sig) j
theorem ownSemFacts0 : Pipeline.OwnSemFacts spec0 osem0 := by decide

theorem xsem_val (g : Fin 5) : xsem g = ⟨1 + g.val, by have := g.isLt; show _ < 9; omega⟩ := by revert g; decide
theorem wsem_val (s : Fin 2) : wsem s = ⟨6 + s.val, by have := s.isLt; show _ < 9; omega⟩ := by revert s; decide
theorem osem_val : osem = ⟨8, by decide⟩ := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (xsem 0)) 0 ∗ semVal ((c : Thread nD τ), .dma (xsem 1)) 0 ∗ semVal ((c : Thread nD τ), .dma (xsem 2)) 0
    ∗ semVal ((c : Thread nD τ), .dma (xsem 3)) 0 ∗ semVal ((c : Thread nD τ), .dma (xsem 4)) 0
    ∗ semVal ((c : Thread nD τ), .dma (wsem 0)) 0 ∗ semVal ((c : Thread nD τ), .dma (wsem 1)) 0 ∗ semVal ((c : Thread nD τ), .dma osem) 0) := by
  rw [Pipeline.ownSems0_eq_of_list c osem0 [0, 1, 2, 3, 4, 5, 6, 7] (by decide) (by decide)]
  simp only [xsem_val, wsem_val, osem_val]
  rfl

theorem phi_in (c : Dev nD) :
    iprop(Scr c ∗ (∃ r, prngReg c r) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0
      ∗ semVal ((c : Thread nD τ), .dma (wsem 0)) 0 ∗ semVal ((c : Thread nD τ), .dma (wsem 1)) 0 ∗ semVal ((c : Thread nD τ), .dma osem) 0)
      ∗ ((m2.view.loc (c : Thread nD τ) ↦{fullShare} I.X) ∗ (m3.view.loc (c : Thread nD τ) ↦{fullShare} I.W)) ∗ (m5.view.loc (c : Thread nD τ) ↦{fullShare} I.Y))
    ⊢ ΦI I c 0 := by
  unfold Scr ΦI GI OR SGG ACG JG0 JG ACC
  rw [show XG 0 = .free from rfl, show WG 0 = .free from rfl, show OG 0 = .free 0 from rfl, if_pos (Or.inl rfl), if_pos (Or.inl rfl), show sl 0 = 0 from rfl, show sl (0 + 1) = 1 from rfl]
  iintro ⟨⟨⟨%f6, H6⟩, ⟨%f7, H7⟩, H8, H12, H13, H14, H15, ⟨%a0, A0⟩, ⟨%a1, A1⟩, ⟨%a2, A2⟩, ⟨%a3, A3⟩, ⟨%b0, B0⟩, ⟨%b1, B1⟩, ⟨%b2, B2⟩, ⟨%b3, B3⟩⟩, Hg, ⟨S0, S1, S2, S3, S4, S5, S6, S7⟩, ⟨HX, HW⟩, HY⟩
  ihave HX' := (x_in I c f6) $$ [H6 S0 S1 S2 S3 S4 HX]
  · isplitl [H6]; · iexact H6
    isplitr [HX]
    · isplitl [S0]; · iexact S0
      isplitl [S1]; · iexact S1
      isplitl [S2]; · iexact S2
      isplitl [S3]; · iexact S3
      iexact S4
    iexact HX
  ihave HW' := (w_in I c f7) $$ [H7 S5 S6 HW]
  · isplitl [H7]; · iexact H7
    isplitr [HW]
    · isplitl [S5]; · iexact S5
      iexact S6
    iexact HW
  icases HX' with ⟨HXA, HXD⟩
  icases HW' with ⟨HW0, HW1, HWD⟩
  isplitr [HXD HWD Hg]
  · isplitl [HXA]; · iexact HXA
    isplitl [HW0]; · iexact HW0
    isplitl [HW1]; · iexact HW1
    isplitl [H8 HY S7]
    · isplitl [H8]; · iexact H8
      isplitl [HY]; · rw [OutC_zero]; iexact HY
      iexact S7
    isplitl [H12 H13]
    · isplitl [H12]; · iexact H12
      iexact H13
    isplitl [H14 H15]
    · isplitl [H14]; · iexact H14
      iexact H15
    iexists (fun q i => if q = 0 then (if i = 0 then a0 else if i = 1 then a1 else if i = 2 then a2 else a3) else (if i = 0 then b0 else if i = 1 then b1 else if i = 2 then b2 else b3))
    isplitl [A0 B0]; · isplitl [A0]; · iexact A0
                       iexact B0
    isplitl [A1 B1]; · isplitl [A1]; · iexact A1
                       iexact B1
    isplitl [A2 B2]; · isplitl [A2]; · iexact A2
                       iexact B2
    isplitl [A3]; · iexact A3
    iexact B3
  isplitl [HXD]; · iexact HXD
  isplitl [HWD]; · iexact HWD
  iexact Hg

theorem phi_out (c : Dev nD) :
    ΦI I c 42 ⊢ iprop(Scr c ∗ (∃ r, prngReg c r) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0
      ∗ semVal ((c : Thread nD τ), .dma (wsem 0)) 0 ∗ semVal ((c : Thread nD τ), .dma (wsem 1)) 0 ∗ semVal ((c : Thread nD τ), .dma osem) 0)
      ∗ ((m2.view.loc (c : Thread nD τ) ↦{fullShare} I.X) ∗ (m3.view.loc (c : Thread nD τ) ↦{fullShare} I.W)) ∗ (m5.view.loc (c : Thread nD τ) ↦{fullShare} OutC I 42)) := by
  unfold Scr ΦI GI OR SGG ACG JG0 JG ACC
  rw [show XG 42 = .free from rfl, show WG 42 = .free from rfl, show OG 42 = .free 42 from rfl, if_pos (Or.inr rfl), if_pos (Or.inr rfl), show sl 42 = 0 from rfl, show sl (42 + 1) = 1 from rfl]
  iintro ⟨⟨HXA, HW0, HW1, ⟨H8, HY, S7⟩, ⟨H12, H13⟩, ⟨H14, H15⟩, ⟨%d, ⟨A0, B0⟩, ⟨A1, B1⟩, ⟨A2, B2⟩, ⟨A3, B3⟩⟩⟩, HXD, HWD, Hg⟩
  ihave HX' := (x_out I c) $$ [HXA HXD]
  · isplitl [HXA]; · iexact HXA
    iexact HXD
  ihave HW' := (w_out I c) $$ [HW0 HW1 HWD]
  · isplitl [HW0]; · iexact HW0
    isplitl [HW1]; · iexact HW1
    iexact HWD
  icases HX' with ⟨H6, ⟨S0, S1, S2, S3, S4⟩, HX⟩
  icases HW' with ⟨H7, ⟨S5, S6⟩, HW⟩
  isplitl [H6 H7 H8 H12 H13 H14 H15 A0 A1 A2 A3 B0 B1 B2 B3]
  · isplitl [H6]; · iexact H6
    isplitl [H7]; · iexact H7
    isplitl [H8]; · iexact H8
    isplitl [H12]; · iexact H12
    isplitl [H13]; · iexact H13
    isplitl [H14]; · iexact H14
    isplitl [H15]; · iexact H15
    isplitl [A0]; · iexists _; iexact A0
    isplitl [A1]; · iexists _; iexact A1
    isplitl [A2]; · iexists _; iexact A2
    isplitl [A3]; · iexists _; iexact A3
    isplitl [B0]; · iexists _; iexact B0
    isplitl [B1]; · iexists _; iexact B1
    isplitl [B2]; · iexists _; iexact B2
    iexists _; iexact B3
  isplitl [Hg]; · iexact Hg
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [HX HW]
  · isplitl [HX]; · iexact HX
    iexact HW
  iexact HY

/-! ## The run -/

variable (m : (ℓ : Loc nD τ sig) → Buf (Elt F) ℓ) (ρ : Dev nD → PrngReg)

/-- The region's operands as the host lines leave them. -/
def inp (c : Dev nD) : Inp F := ⟨V m c main_v0, V m c main_v3, V m c main_v8, V m c main_v9⟩

def H0 : Finset (Ref sig .tc) := {main_v0, main_v3}
def R0 : Finset (Ref sig .tc) := {main_v9}
theorem H0_sub : H0 ⊆ Pipeline.restRefs sig spec0 := by decide
theorem R0_sub : R0 ⊆ Pipeline.restRefs sig spec0 \ H0 := by decide

/-- The result's contents at the end. -/
def G (c : Dev nD) : (b : Ref sig .tc) → Buf (Elt F) ((c : Thread nD τ).loc b) := Function.update (V m c) main_v9 (OutC (inp m c) 42)
theorem G_v9 (c : Dev nD) : G m c main_v9 = OutC (inp m c) 42 := Function.update_self _ _ _

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

def dats (_ : Fin 1) (c : Dev nD) : Dat τ (Elt F) Unit ℕ (Pipeline.UD sig nD τ) ℕ cfg0 c where
  A w := V m c (Pipeline.arrRef spec0 w)
  after := fun | 0, t => iblk m c 0 t | ⟨_ + 1, h⟩, _ => absurd h (Nat.not_lt.2 (Nat.le_add_left _ _))
  Φ t := ΦI (inp m c) c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staged block is the whole array of scales. -/
theorem iblk_eq (c : Dev nD) (t : Fin cfg0.N) : iblk m c 0 t = (inp m c).S := by
  funext y
  show V m c main_v8 _ = V m c main_v8 _
  congr 1
  funext a
  apply Fin.ext
  match a with
  | ⟨0, _⟩ => show 0 * 3584 + 1 * (y 0).val = (y 0).val; omega
  | ⟨1, _⟩ => show 0 * 128 + 1 * (y 1).val = (y 1).val; omega

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem bodyAt_eq (t : Fin cfg0.N) : bodyAt0 (F := F) t = bodyP (st0_0 t) (grid0.coords t) := body_eq _ _ _

theorem sound_body (c : Dev nD) (t : Fin cfg0.N) :
    bodyPre m c t ⊢ wp Idealize.ShloMosaic.frame (wpE (defs₀ (F := F)) Variants.none c none) Set.univ (bodyAt0 t) (fun _ => bodyPost m c t) := by
  have hb := bodyP_spec (inp m c) c (st0_0 t) t
  unfold Tri at hb
  rw [bodyAt_eq]
  unfold bodyPre bodyPost
  rw [after0_0, iblk_eq, show (dats m 0 c).Φ t.castSucc = ΦI (inp m c) c t.val from rfl, show (dats m 0 c).Φ t.succ = ΦI (inp m c) c (t.val + 1) from rfl]
  unfold Dat.owesAt Pipeline.owesWithin
  rw [show (dats m 0 c).owed t.castSucc = 0 from rfl, show (dats m 0 c).owed t.succ = 0 from rfl]
  unfold ΦI
  iintro ⟨⟨HG, HX, HW, Hg⟩, ⟨%W, -, HO⟩, ⟨%d0, H0⟩⟩
  rw [before0_0 m (dats m 0 c) (A_eq m c 0) (after0_0 m c) t d0, iblk_eq]
  iapply (wp_wand_r Idealize.ShloMosaic.frame _ _)
  isplitl [HG H0 HO]
  · iapply hb
    isplitl [HG]; · iexact HG
    isplitl [H0]; · iexact H0
    unfold Owe; iexists W; iexact HO
  iintro %_ ⟨HG, H0, HO⟩
  unfold Owe
  icases HO with ⟨%W', HO⟩
  isplitl [HG HX HW Hg]
  · isplitl [HG]; · iexact HG
    isplitl [HX]; · iexact HX
    isplitl [HW]; · iexact HW
    iexact Hg
  isplitl [HO]
  · iexists W'; isplitr; · ipureintro; exact fun _ _ => Or.inl trivial
    iexact HO
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hbm_eq (c : Dev nD) (W : (b : Ref sig .tc) → Buf (Elt F) ((c.tc : Thread nD τ).loc b)) :
    (bigSep H0 (fun b => ((c.tc : Thread nD τ).loc b) ↦{fullShare} W b) : sProp 𝕄)
      = iprop((((c : Thread nD τ).loc main_v0) ↦{fullShare} W main_v0) ∗ (((c : Thread nD τ).loc main_v3) ↦{fullShare} W main_v3)) :=
  BI.bigSep_eq_bigSepL_of_eq (S := H0) (Φ := fun b => ((c.tc : Thread nD τ).loc b) ↦{fullShare} W b) [main_v0, main_v3] (by decide) (by decide)
theorem routed_eq (c : Dev nD) (W : (b : Ref sig .tc) → Buf (Elt F) ((c.tc : Thread nD τ).loc b)) :
    (Pipeline.routed R0 c W : sProp 𝕄) = (((c : Thread nD τ).loc main_v9) ↦{fullShare} W main_v9) :=
  BI.bigSep_eq_bigSepL_of_eq (S := R0) (Φ := fun b => ((c.tc : Thread nD τ).loc b) ↦{fullShare} W b) [main_v9] (by decide) (by decide)

theorem hin (c : Dev nD) : Pipeline.ΦDRG osem0 spec0 H0 R0 (V m) (V m) c ⊢ (dats m 0 c).Φ 0 := by
  rw [Pipeline.ΦDRG_eq, scr_eq, ownSems00_eq, hbm_eq, routed_eq]
  exact phi_in (inp m c) c
theorem hout (c : Dev nD) : (dats m 0 c).Φ (Fin.last cfg0.N) ⊢ Pipeline.ΦDRG osem0 spec0 H0 R0 (V m) (G m) c := by
  rw [Pipeline.ΦDRG_eq, scr_eq, ownSems00_eq, hbm_eq, routed_eq, G_v9]
  exact phi_out (inp m c) c

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := hin m) (hout := hout m)

/-- The frame and the value: every run ends, the arguments are as launched, every counter is at zero, and the
    result array holds all 42 tiles. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) ∧ ∀ c : Dev nD, r.2.mem ((c.tc : Thread nD τ).loc main_v9) = OutC (inp m c) 42) :=
  (θ_run defs _ _).mono (fun _ h => ⟨⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c)⟩, h.2⟩,
    fun c => (h.1.written c (b := main_v9) (by decide)).trans (G_v9 m c)⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => h.1) (run m ρ)

end Cert.KernelIdeal.Hand

end
-- ==== Proof.K.Progs.lean ====
/- The kernel's body written again as a few small programs: one accumulation of a 256-wide half chunk, one
   staging of the next half chunk's weights, one copy of the accumulators to the output block, and the guarded
   transfers.  The printed body and these programs are one term up to unfolding. -/
module

public import proofs.«01_k».proof.Proof.Gen.Kernel.Skeleton
public import proofs.«01_k».proof.Proof.Gen.Kernel.Launch
public import Idealize.ShloMosaic.Lib.Tactic

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

abbrev BV : Type := BitVec 32
abbrev AccM : Type := Memref sig .tc .vmem S256x256 .f32
abbrev StgM : Type := Memref sig .tc .vmem S256x256 .bf16

/-! The operands, each a whole buffer. -/
abbrev m2 : Memref sig .tc .hbm S6144x18944 .bf16 := Memref.whole main_v0
abbrev m3 : Memref sig .tc .hbm S132608x128 .i32 := Memref.whole main_v3
abbrev m5 : Memref sig .tc .hbm S6144x3584 .bf16 := Memref.whole main_v9
abbrev m6 : Memref sig .tc .vmem S1024x18944 .bf16 := Memref.whole cc0_scratch0
abbrev m7 : Memref sig .tc .vmem S37888x128 .i32 := Memref.whole cc0_scratch1
abbrev m8 : Memref sig .tc .vmem S1024x512 .bf16 := Memref.whole cc0_scratch2
abbrev m12 : Memref sig .tc .vmem S256x256 .bf16 := Memref.whole cc0_scratch6
abbrev m13 : Memref sig .tc .vmem S256x256 .bf16 := Memref.whole cc0_scratch7
abbrev m14 : Memref sig .tc .vmem S256x256 .bf16 := Memref.whole cc0_scratch8
abbrev m15 : Memref sig .tc .vmem S256x256 .bf16 := Memref.whole cc0_scratch9
abbrev m16 : Memref sig .tc .vmem S256x256 .f32 := Memref.whole cc0_scratch10
abbrev m17 : Memref sig .tc .vmem S256x256 .f32 := Memref.whole cc0_scratch11
abbrev m18 : Memref sig .tc .vmem S256x256 .f32 := Memref.whole cc0_scratch12
abbrev m19 : Memref sig .tc .vmem S256x256 .f32 := Memref.whole cc0_scratch13
abbrev m20 : Memref sig .tc .vmem S256x256 .f32 := Memref.whole cc0_scratch14
abbrev m21 : Memref sig .tc .vmem S256x256 .f32 := Memref.whole cc0_scratch15
abbrev m22 : Memref sig .tc .vmem S256x256 .f32 := Memref.whole cc0_scratch16
abbrev m23 : Memref sig .tc .vmem S256x256 .f32 := Memref.whole cc0_scratch17
theorem hm2 : m2.IsWhole := Memref.isWhole_whole _
theorem hm3 : m3.IsWhole := Memref.isWhole_whole _
theorem hm5 : m5.IsWhole := Memref.isWhole_whole _
theorem hm6 : m6.IsWhole := Memref.isWhole_whole _
theorem hm7 : m7.IsWhole := Memref.isWhole_whole _
theorem hm8 : m8.IsWhole := Memref.isWhole_whole _
theorem hm12 : m12.IsWhole := Memref.isWhole_whole _
theorem hm13 : m13.IsWhole := Memref.isWhole_whole _
theorem hm14 : m14.IsWhole := Memref.isWhole_whole _
theorem hm15 : m15.IsWhole := Memref.isWhole_whole _
theorem hm16 : m16.IsWhole := Memref.isWhole_whole _
theorem hm17 : m17.IsWhole := Memref.isWhole_whole _
theorem hm18 : m18.IsWhole := Memref.isWhole_whole _
theorem hm19 : m19.IsWhole := Memref.isWhole_whole _
theorem hm20 : m20.IsWhole := Memref.isWhole_whole _
theorem hm21 : m21.IsWhole := Memref.isWhole_whole _
theorem hm22 : m22.IsWhole := Memref.isWhole_whole _
theorem hm23 : m23.IsWhole := Memref.isWhole_whole _
abbrev m9 : DmaSems sig S5 := cc0_scratch3
abbrev m10 : DmaSems sig S2 := cc0_scratch4
abbrev m11 : DmaSems sig S_ := cc0_scratch5

/-- A whole square tile. -/
abbrev sq : Rect S256x256 := Rect.unit (s := S256x256) ![0, 0] S256x256.size inb_S256x256_S256x256_0_0

/-- One accumulation: the tile `a` takes the product of the loaded rows and the staged weights added to it. -/
def acc1 (st : StgM) (a : AccM) (x : Vec F S256x256 .bf16) : Prog (TpuEff nD τ sig (Elt F) Λ₀ .tc) PUnit := do
  let v : Vec F S256x256 .f32 ← Prog.lift (.load a sq.toLoadRect (View.loadsAt_vmem h_S256x256))
  let s : Vec F S256x256 .bf16 ← Prog.lift (.load st sq.toLoadRect (View.loadsAt_vmem h_S256x256))
  let _ : Vec F S256x256 .f32 ← Prog.lift (.load a sq.toLoadRect (View.loadsAt_vmem h_S256x256))
  Prog.lift (.store a sq (shapeCast S256x256 (addf v (matmul dot_S256x256_S256x256_S256x256_1_1_0_0_n_n none x s (constant S256x256 .f32 0x00000000#32))) shapeCasts_S256x256_S256x256) Finset.univ (View.stores_vmem_bits_univ h_S256x256 rfl) (.inl rfl))

/-- One 256-row block of the activations against both staged tiles. -/
def accR (st0 st1 : StgM) (a0 a1 : AccM) (o : Fin 2 → Nat) (h : ∀ a, o a + S256x256.size a ≤ S1024x18944.size a) : Prog (TpuEff nD τ sig (Elt F) Λ₀ .tc) PUnit := do
  let x : Vec F S256x256 .bf16 ← Prog.lift (.load m6 (Rect.unit (s := S1024x18944) o S256x256.size h).toLoadRect (View.loadsAt_vmem h_S256x256))
  acc1 st0 a0 x
  acc1 st1 a1 x

/-- The weights of one half chunk as the kernel computes them: four strided word blocks, each word's byte pair
    taken in turn, times the scale column of the chunk. -/
def rhsV (w0 w1 w2 w3 : Vec F S64x128 .i32) (s : Vec F S256x128 .f32) (chunk : BV) (hi : Bool) : FVec F S256x256 .bf16 :=
  have v480 : BV := chunk
  have v580 : FVec F S256x128 .f32 := shapeCast S256x128 s shapeCasts_S256x128_S256x128
  have v581 : IVec S256x128 32 := broadcast S256x128 v480
  have v582 : IVec S256x128 32 := broadcast S256x128 0#32
  have v583 : IVec S256x128 1 := cmpi .slt v581 v582
  have v584 : IVec S256x128 32 := broadcast S256x128 128#32
  have v585 : IVec S256x128 32 := addi v581 v584
  have v586 : IVec S256x128 32 := select v583 v585 v581
  have v587 : IVec S256x128x1 32 := shapeCast S256x128x1 v586 shapeCasts_S256x128_S256x128x1
  have v588 : IVec S256x128 32 := shapeCast S256x128 v587 shapeCasts_S256x128x1_S256x128
  have v589 : FVec F S256x128 .f32 := dynamicGather 1 v580 v588
  have v590 : FVec F S256x128 .bf16 := truncf .bf16 v589 bitsLt_bf16_f32
  have sh : BV → Vec F S64x128 .i32 → IVec S64x128 32 := fun b w => shrui w (broadcast S64x128 b)
  have byte : (Vec F S64x128 .i32 → IVec S64x128 32) → FVec F S256x128 .bf16 := fun g =>
    mulf (sitofp .bf16 (bitcast S256x128 8 (packElementwiseInt 8 ![g w0, g w1, g w2, g w3]) bitcasts_S64x128_w32_S256x128_w8)) v590
  concatenate S256x256 1 [⟨S256x128, byte (match hi with | false => fun w => w | true => sh 16#32)⟩,
    ⟨S256x128, byte (match hi with | false => sh 8#32 | true => sh 24#32)⟩] concatenates_S256x128_S256x128_S256x256_d1

/-- Staging one tile of weights: four word blocks, the scale rows, the store. -/
def push1 (a4 : Memref sig .tc .vmem S3584x128 .f32) (st : StgM) (hst : st.IsWhole) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV) (hi : Bool) : Prog (TpuEff nD τ sig (Elt F) Λ₀ .tc) PUnit := do
  let w0 : Vec F S64x128 .i32 ← Prog.lift (.load m7 (⟨o 0, S64x128.size, ![148, 1], h 0⟩ : LoadRect S37888x128) (View.loadsAt_vmem h_S64x128))
  let w1 : Vec F S64x128 .i32 ← Prog.lift (.load m7 (⟨o 1, S64x128.size, ![148, 1], h 1⟩ : LoadRect S37888x128) (View.loadsAt_vmem h_S64x128))
  let w2 : Vec F S64x128 .i32 ← Prog.lift (.load m7 (⟨o 2, S64x128.size, ![148, 1], h 2⟩ : LoadRect S37888x128) (View.loadsAt_vmem h_S64x128))
  let w3 : Vec F S64x128 .i32 ← Prog.lift (.load m7 (⟨o 3, S64x128.size, ![148, 1], h 3⟩ : LoadRect S37888x128) (View.loadsAt_vmem h_S64x128))
  let s : Vec F S256x128 .f32 ← Prog.lift (.load a4 (Rect.unit (s := S3584x128) os S256x128.size hs).toLoadRect (View.loadsAt_vmem h_S256x128))
  let _ : Vec F S256x256 .bf16 ← Prog.lift (.load st sq.toLoadRect (View.loadsAt_vmem h_S256x256))
  Prog.lift (.store st sq (shapeCast S256x256 (rhsV w0 w1 w2 w3 s chunk hi) shapeCasts_S256x256_S256x256) Finset.univ (View.stores_vmem h_S256x256 (hst.storeExact_slice rfl _ packedbf16_S256x256_S256x256_0_0) (fun _ => rfl)) (.inl rfl))

/-- One accumulator tile taken: read, set to zero, rounded into its place of the output block. -/
def pop1 (a : AccM) (o : Fin 2 → Nat) (h : ∀ a, o a + S256x256.size a ≤ S1024x512.size a)
    (hp : (Rect.unit (s := S1024x512) o S256x256.size h).PackedRows (EltTy.packing .bf16)) : Prog (TpuEff nD τ sig (Elt F) Λ₀ .tc) PUnit := do
  let v : Vec F S256x256 .f32 ← Prog.lift (.load a sq.toLoadRect (View.loadsAt_vmem h_S256x256))
  let _ : Vec F S256x256 .f32 ← Prog.lift (.load a sq.toLoadRect (View.loadsAt_vmem h_S256x256))
  Prog.lift (.store a sq (shapeCast S256x256 (broadcast S256x256 (Scalar.ofBits .f32 0x00000000#32) : FVec F S256x256 .f32) shapeCasts_S256x256_S256x256) Finset.univ (View.stores_vmem_bits_univ h_S256x256 rfl) (.inl rfl))
  let _ : Vec F S256x256 .bf16 ← Prog.lift (.load m8 (Rect.unit (s := S1024x512) o S256x256.size h).toLoadRect (View.loadsAt_vmem h_S256x256))
  Prog.lift (.store m8 (Rect.unit (s := S1024x512) o S256x256.size h) (shapeCast S256x256 (truncf .bf16 v bitsLt_bf16_f32 : FVec F S256x256 .bf16) shapeCasts_S256x256_S256x256) Finset.univ (View.stores_vmem h_S256x256 (hm8.storeExact_slice rfl _ hp) (fun _ => rfl)) (.inl rfl))

/-- One half chunk against all four row blocks. -/
def accAll (st0 st1 : StgM) (o0 o1 o2 o3 : Fin 2 → Nat) (h0 : ∀ a, o0 a + S256x256.size a ≤ S1024x18944.size a)
    (h1 : ∀ a, o1 a + S256x256.size a ≤ S1024x18944.size a) (h2 : ∀ a, o2 a + S256x256.size a ≤ S1024x18944.size a)
    (h3 : ∀ a, o3 a + S256x256.size a ≤ S1024x18944.size a) : Prog (TpuEff nD τ sig (Elt F) Λ₀ .tc) PUnit := do
  accR st0 st1 m16 m20 o0 h0
  accR st0 st1 m17 m21 o1 h1
  accR st0 st1 m18 m22 o2 h2
  accR st0 st1 m19 m23 o3 h3

/-- The chunk number trip `t` of the inner loop works on at its `k`-th step, as the kernel computes it. -/
def chunkV (t : Fin k0_t1_loop.trips) (k : BV) : BV :=
  Scalar.addi (Scalar.addi 1#32 (Scalar.muli (Scf.iv 0#32 1#32 t) 9#32)) k

/-- A half chunk of the inner loop. -/
def accT (st0 st1 : StgM) (t : Fin k0_t1_loop.trips) (k : Fin 9) (hf : Fin 2) : Prog (TpuEff nD τ sig (Elt F) Λ₀ .tc) PUnit :=
  accAll st0 st1 (k0_off26 t (BitVec.ofNat 32 k.val) (BitVec.ofNat 32 (256 * hf.val))) (k0_off27 t (BitVec.ofNat 32 k.val) (BitVec.ofNat 32 (256 * hf.val)))
    (k0_off28 t (BitVec.ofNat 32 k.val) (BitVec.ofNat 32 (256 * hf.val))) (k0_off29 t (BitVec.ofNat 32 k.val) (BitVec.ofNat 32 (256 * hf.val)))
    (k0_off26_inb t k hf) (k0_off27_inb t k hf) (k0_off28_inb t k hf) (k0_off29_inb t k hf)

variable (a4 : Memref sig .tc .vmem S3584x128 .f32)

/-- Staging the second half of chunk `k` of trip `t`. -/
def pushT (i : grid0.Coords) (t : Fin k0_t1_loop.trips) (k : Fin 9) : Prog (TpuEff nD τ sig (Elt F) Λ₀ .tc) PUnit := do
  push1 a4 m14 hm14 (fun r => k0_off30 i t (BitVec.ofNat 32 (9472 * (0 : Fin 2).val)) (BitVec.ofNat 32 k.val) (BitVec.ofNat 32 (37 * r.val))) (fun r => k0_off30_inb i t 0 k r)
    (k0_off31 i (BitVec.ofNat 32 (0 : Fin 2).val)) (k0_off31_inb i 0) (chunkV t (BitVec.ofNat 32 k.val)) true
  push1 a4 m15 hm15 (fun r => k0_off30 i t (BitVec.ofNat 32 (9472 * (1 : Fin 2).val)) (BitVec.ofNat 32 k.val) (BitVec.ofNat 32 (37 * r.val))) (fun r => k0_off30_inb i t 1 k r)
    (k0_off31 i (BitVec.ofNat 32 (1 : Fin 2).val)) (k0_off31_inb i 1) (chunkV t (BitVec.ofNat 32 k.val)) true

/-- Staging the first half of the chunk after chunk `k` of trip `t`, `k < 8`. -/
def pushN (i : grid0.Coords) (t : Fin k0_t1_loop.trips) (k : Fin 8) : Prog (TpuEff nD τ sig (Elt F) Λ₀ .tc) PUnit := do
  push1 a4 m12 hm12 (fun r => k0_off32 i t (BitVec.ofNat 32 (9472 * (0 : Fin 2).val)) (BitVec.ofNat 32 k.val) (BitVec.ofNat 32 (37 * r.val))) (fun r => k0_off32_inb i t 0 k r)
    (k0_off31 i (BitVec.ofNat 32 (0 : Fin 2).val)) (k0_off31_inb i 0) (Scalar.addi (chunkV t (BitVec.ofNat 32 k.val)) 1#32) false
  push1 a4 m13 hm13 (fun r => k0_off32 i t (BitVec.ofNat 32 (9472 * (1 : Fin 2).val)) (BitVec.ofNat 32 k.val) (BitVec.ofNat 32 (37 * r.val))) (fun r => k0_off32_inb i t 1 k r)
    (k0_off31 i (BitVec.ofNat 32 (1 : Fin 2).val)) (k0_off31_inb i 1) (Scalar.addi (chunkV t (BitVec.ofNat 32 k.val)) 1#32) false

/-- The chunk staged last in trip `t`: the next trip's first, or the next tile's. -/
def lastV (t : Fin k0_t1_loop.trips) : BV :=
  Scalar.select (Scalar.cmpi .eq (Scf.iv 0#32 1#32 t) 3#32) 0#32 (Scalar.addi (chunkV t 8#32) 1#32)

/-- Staging at the end of a trip. -/
def pushL (i : grid0.Coords) (t : Fin k0_t1_loop.trips) : Prog (TpuEff nD τ sig (Elt F) Λ₀ .tc) PUnit := do
  push1 a4 m12 hm12 (fun r => k0_off33 i t (BitVec.ofNat 32 (9472 * (0 : Fin 2).val)) (BitVec.ofNat 32 (37 * r.val))) (fun r => k0_off33_inb i t 0 r)
    (k0_off34 i t (BitVec.ofNat 32 (0 : Fin 2).val)) (k0_off34_inb i t 0) (lastV t) false
  push1 a4 m13 hm13 (fun r => k0_off33 i t (BitVec.ofNat 32 (9472 * (1 : Fin 2).val)) (BitVec.ofNat 32 (37 * r.val))) (fun r => k0_off33_inb i t 1 r)
    (k0_off34 i t (BitVec.ofNat 32 (1 : Fin 2).val)) (k0_off34_inb i t 1) (lastV t) false

/-- A chunk of the inner loop up to its second half's products. -/
def chunkT (i : grid0.Coords) (t : Fin k0_t1_loop.trips) (k : Fin 9) : Prog (TpuEff nD τ sig (Elt F) Λ₀ .tc) PUnit := do
  accT m12 m13 t k 0
  pushT a4 i t k
  accT m14 m15 t k 1

/-- Waiting for the activations' column group of trip `t`. -/
def waitXA (i : grid0.Coords) (t : Fin k0_t1_loop.trips) (h : k0_cond6 i = 1#1) : Prog (TpuEff nD τ sig (Elt F) Λ₀ .tc) PUnit :=
    Prog.lift (.waitDma2 ((m9.slice (Rect.unit (s := S5) (k0_off19 t) S1.size (k0_off19_inb i t h))).squeeze S_ squeezes_S1_S_).sem
      (m2.slice (Rect.unit (s := S6144x18944) (k0_off21 i t) S1024x4608.size (k0_off21_inb i t h)) (fun _ => rfl))
      (m6.slice (Rect.unit (s := S1024x18944) (k0_off20 t) S1024x4608.size (k0_off20_inb i t h)) (fun _ => rfl))
      (hm2.wordExact_slice rfl _ (k0_off21_wordsbf16 i t h)) (hm6.wordExact_slice rfl _ (k0_off20_wordsbf16 i t h)))

def waitX (i : grid0.Coords) (t : Fin k0_t1_loop.trips) : Prog (TpuEff nD τ sig (Elt F) Λ₀ .tc) PUnit :=
  if h : k0_cond6 i = 1#1 then waitXA i t h else pure ⟨⟩

/-- Starting the copy of the previous tile's output block. -/
def startOA (i : grid0.Coords) (t : Fin k0_t1_loop.trips) (h : k0_cond7 i t = 1#1) : Prog (TpuEff nD τ sig (Elt F) Λ₀ .tc) PUnit :=
    Prog.lift (.enqueueDma m8 (.here (m5.slice (Rect.unit (s := S6144x3584) (k0_off22 i) S1024x512.size (k0_off22_inb i t h)) (fun _ => rfl))) (.dma m11.sem)
      hm8.wordExact (hm5.wordExact_slice rfl _ (k0_off22_wordsbf16 i t h)) ⟨Or.inl rfl, trivial⟩)

def startO (i : grid0.Coords) (t : Fin k0_t1_loop.trips) : Prog (TpuEff nD τ sig (Elt F) Λ₀ .tc) PUnit :=
  if h : k0_cond7 i t = 1#1 then startOA i t h else pure ⟨⟩

/-- Waiting for the next tile's words. -/
def waitWA (i : grid0.Coords) (t : Fin k0_t1_loop.trips) (h : k0_cond8 i t = 1#1) : Prog (TpuEff nD τ sig (Elt F) Λ₀ .tc) PUnit :=
    Prog.lift (.waitDma2 ((m10.slice (Rect.unit (s := S2) (k0_off23 i) S1.size (k0_off23_inb i t h))).squeeze S_ squeezes_S1_S_).sem
      (m3.slice (Rect.unit (s := S132608x128) (k0_off25 i) S18944x128.size (k0_off25_inb i t h)) (fun _ => rfl))
      (m7.slice (Rect.unit (s := S37888x128) (k0_off24 i) S18944x128.size (k0_off24_inb i t h)) (fun _ => rfl))
      (View.wordExact_bits rfl) (View.wordExact_bits rfl))

def waitW (i : grid0.Coords) (t : Fin k0_t1_loop.trips) : Prog (TpuEff nD τ sig (Elt F) Λ₀ .tc) PUnit :=
  if h : k0_cond8 i t = 1#1 then waitWA i t h else pure ⟨⟩

/-- Refilling the column group trip `t` has finished with. -/
def refillXA (i : grid0.Coords) (t : Fin k0_t1_loop.trips) (h : k0_cond9 i = 1#1) : Prog (TpuEff nD τ sig (Elt F) Λ₀ .tc) PUnit :=
    Prog.lift (.enqueueDma (m2.slice (Rect.unit (s := S6144x18944) (k0_off37 i t) S1024x4608.size (k0_off37_inb i t h)) (fun _ => rfl))
      (.here (m6.slice (Rect.unit (s := S1024x18944) (k0_off36 t) S1024x4608.size (k0_off36_inb i t h)) (fun _ => rfl)))
      (.dma ((m9.slice (Rect.unit (s := S5) (k0_off35 t) S1.size (k0_off35_inb i t h))).squeeze S_ squeezes_S1_S_).sem)
      (hm2.wordExact_slice rfl _ (k0_off37_wordsbf16 i t h)) (hm6.wordExact_slice rfl _ (k0_off36_wordsbf16 i t h)) ⟨Or.inl rfl, trivial⟩)

def refillX (i : grid0.Coords) (t : Fin k0_t1_loop.trips) : Prog (TpuEff nD τ sig (Elt F) Λ₀ .tc) PUnit :=
  if h : k0_cond9 i = 1#1 then refillXA i t h else pure ⟨⟩

/-- One trip of the inner loop. -/
def tripP (i : grid0.Coords) (t : Fin k0_t1_loop.trips) : Prog (TpuEff nD τ sig (Elt F) Λ₀ .tc) Unit := do
  waitX i t
  startO i t
  waitW i t
  chunkT a4 i t 0
  pushN a4 i t 0
  chunkT a4 i t 1
  pushN a4 i t 1
  chunkT a4 i t 2
  pushN a4 i t 2
  chunkT a4 i t 3
  pushN a4 i t 3
  chunkT a4 i t 4
  pushN a4 i t 4
  chunkT a4 i t 5
  pushN a4 i t 5
  chunkT a4 i t 6
  pushN a4 i t 6
  chunkT a4 i t 7
  pushN a4 i t 7
  chunkT a4 i t 8
  pushL a4 i t
  refillX i t

/-- The start of everything: the first words and all of the first activations, the first weights staged. -/
def startAllA (i : grid0.Coords) (h : k0_cond1 i = 1#1) : Prog (TpuEff nD τ sig (Elt F) Λ₀ .tc) PUnit := do
    Prog.lift (.enqueueDma (m3.slice (Rect.unit (s := S132608x128) (k0_off3 i) S18944x128.size (k0_off3_inb i h)) (fun _ => rfl))
      (.here (m7.slice (Rect.unit (s := S37888x128) (k0_off2 i) S18944x128.size (k0_off2_inb i h)) (fun _ => rfl)))
      (.dma ((m10.slice (Rect.unit (s := S2) (k0_off1 i) S1.size (k0_off1_inb i h))).squeeze S_ squeezes_S1_S_).sem)
      (View.wordExact_bits rfl) (View.wordExact_bits rfl) ⟨Or.inl rfl, trivial⟩)
    Prog.lift (.enqueueDma (m2.slice (Rect.unit (s := S6144x18944) (k0_off4 i) S1024x512.size (k0_off4_inb i h)) (fun _ => rfl))
      (.here (m6.slice (Rect.unit (s := S1024x18944) ![0, 0] S1024x512.size inb_S1024x18944_S1024x512_0_0) (fun _ => rfl)))
      (.dma ((m9.slice (Rect.unit (s := S5) ![0] S1.size inb_S5_S1_0)).squeeze S_ squeezes_S1_S_).sem)
      (hm2.wordExact_slice rfl _ (k0_off4_wordsbf16 i h)) (hm6.wordExact_slice rfl _ wordsbf16_S1024x18944_S1024x512_0_0) ⟨Or.inl rfl, trivial⟩)
    Prog.lift (.enqueueDma (m2.slice (Rect.unit (s := S6144x18944) (k0_off5 i) S1024x4608.size (k0_off5_inb i h)) (fun _ => rfl))
      (.here (m6.slice (Rect.unit (s := S1024x18944) ![0, 512] S1024x4608.size inb_S1024x18944_S1024x4608_0_512) (fun _ => rfl)))
      (.dma ((m9.slice (Rect.unit (s := S5) ![1] S1.size inb_S5_S1_1)).squeeze S_ squeezes_S1_S_).sem)
      (hm2.wordExact_slice rfl _ (k0_off5_wordsbf16 i h)) (hm6.wordExact_slice rfl _ wordsbf16_S1024x18944_S1024x4608_0_512) ⟨Or.inl rfl, trivial⟩)
    Prog.lift (.enqueueDma (m2.slice (Rect.unit (s := S6144x18944) (k0_off6 i) S1024x4608.size (k0_off6_inb i h)) (fun _ => rfl))
      (.here (m6.slice (Rect.unit (s := S1024x18944) ![0, 5120] S1024x4608.size inb_S1024x18944_S1024x4608_0_5120) (fun _ => rfl)))
      (.dma ((m9.slice (Rect.unit (s := S5) ![2] S1.size inb_S5_S1_2)).squeeze S_ squeezes_S1_S_).sem)
      (hm2.wordExact_slice rfl _ (k0_off6_wordsbf16 i h)) (hm6.wordExact_slice rfl _ wordsbf16_S1024x18944_S1024x4608_0_5120) ⟨Or.inl rfl, trivial⟩)
    Prog.lift (.enqueueDma (m2.slice (Rect.unit (s := S6144x18944) (k0_off7 i) S1024x4608.size (k0_off7_inb i h)) (fun _ => rfl))
      (.here (m6.slice (Rect.unit (s := S1024x18944) ![0, 9728] S1024x4608.size inb_S1024x18944_S1024x4608_0_9728) (fun _ => rfl)))
      (.dma ((m9.slice (Rect.unit (s := S5) ![3] S1.size inb_S5_S1_3)).squeeze S_ squeezes_S1_S_).sem)
      (hm2.wordExact_slice rfl _ (k0_off7_wordsbf16 i h)) (hm6.wordExact_slice rfl _ wordsbf16_S1024x18944_S1024x4608_0_9728) ⟨Or.inl rfl, trivial⟩)
    Prog.lift (.enqueueDma (m2.slice (Rect.unit (s := S6144x18944) (k0_off8 i) S1024x4608.size (k0_off8_inb i h)) (fun _ => rfl))
      (.here (m6.slice (Rect.unit (s := S1024x18944) ![0, 14336] S1024x4608.size inb_S1024x18944_S1024x4608_0_14336) (fun _ => rfl)))
      (.dma ((m9.slice (Rect.unit (s := S5) ![4] S1.size inb_S5_S1_4)).squeeze S_ squeezes_S1_S_).sem)
      (hm2.wordExact_slice rfl _ (k0_off8_wordsbf16 i h)) (hm6.wordExact_slice rfl _ wordsbf16_S1024x18944_S1024x4608_0_14336) ⟨Or.inl rfl, trivial⟩)
    Prog.lift (.waitDma2 ((m10.slice (Rect.unit (s := S2) (k0_off1 i) S1.size (k0_off1_inb i h))).squeeze S_ squeezes_S1_S_).sem
      (m3.slice (Rect.unit (s := S132608x128) (k0_off3 i) S18944x128.size (k0_off3_inb i h)) (fun _ => rfl))
      (m7.slice (Rect.unit (s := S37888x128) (k0_off2 i) S18944x128.size (k0_off2_inb i h)) (fun _ => rfl))
      (View.wordExact_bits rfl) (View.wordExact_bits rfl))
    push1 a4 m12 hm12 (fun r => k0_off9 i (BitVec.ofNat 32 (9472 * (0 : Fin 2).val)) (BitVec.ofNat 32 (37 * r.val))) (fun r => k0_off9_inb i h 0 r)
      (k0_off10 i (BitVec.ofNat 32 (0 : Fin 2).val)) (k0_off10_inb i h 0) 0#32 false
    push1 a4 m13 hm13 (fun r => k0_off9 i (BitVec.ofNat 32 (9472 * (1 : Fin 2).val)) (BitVec.ofNat 32 (37 * r.val))) (fun r => k0_off9_inb i h 1 r)
      (k0_off10 i (BitVec.ofNat 32 (1 : Fin 2).val)) (k0_off10_inb i h 1) 0#32 false

def startAll (i : grid0.Coords) : Prog (TpuEff nD τ sig (Elt F) Λ₀ .tc) PUnit :=
  if h : k0_cond1 i = 1#1 then startAllA a4 i h else pure ⟨⟩

/-- Waiting for the first column group of a row of tiles. -/
def waitX0A (i : grid0.Coords) (h : k0_cond2 i = 1#1) : Prog (TpuEff nD τ sig (Elt F) Λ₀ .tc) PUnit :=
    Prog.lift (.waitDma2 ((m9.slice (Rect.unit (s := S5) ![0] S1.size inb_S5_S1_0)).squeeze S_ squeezes_S1_S_).sem
      (m2.slice (Rect.unit (s := S6144x18944) (k0_off11 i) S1024x512.size (k0_off11_inb i h)) (fun _ => rfl))
      (m6.slice (Rect.unit (s := S1024x18944) ![0, 0] S1024x512.size inb_S1024x18944_S1024x512_0_0) (fun _ => rfl))
      (hm2.wordExact_slice rfl _ (k0_off11_wordsbf16 i h)) (hm6.wordExact_slice rfl _ wordsbf16_S1024x18944_S1024x512_0_0))

def waitX0 (i : grid0.Coords) : Prog (TpuEff nD τ sig (Elt F) Λ₀ .tc) PUnit :=
  if h : k0_cond2 i = 1#1 then waitX0A i h else pure ⟨⟩

/-- Starting the next tile's words. -/
def startWA (i : grid0.Coords) (h : k0_cond3 i = 1#1) : Prog (TpuEff nD τ sig (Elt F) Λ₀ .tc) PUnit :=
    Prog.lift (.enqueueDma (m3.slice (Rect.unit (s := S132608x128) (k0_off14 i) S18944x128.size (k0_off14_inb i h)) (fun _ => rfl))
      (.here (m7.slice (Rect.unit (s := S37888x128) (k0_off13 i) S18944x128.size (k0_off13_inb i h)) (fun _ => rfl)))
      (.dma ((m10.slice (Rect.unit (s := S2) (k0_off12 i) S1.size (k0_off12_inb i h))).squeeze S_ squeezes_S1_S_).sem)
      (View.wordExact_bits rfl) (View.wordExact_bits rfl) ⟨Or.inl rfl, trivial⟩)

def startW (i : grid0.Coords) : Prog (TpuEff nD τ sig (Elt F) Λ₀ .tc) PUnit :=
  if h : k0_cond3 i = 1#1 then startWA i h else pure ⟨⟩

/-- Waiting for the output block two tiles back. -/
def waitOA (i : grid0.Coords) (h : k0_cond4 i = 1#1) : Prog (TpuEff nD τ sig (Elt F) Λ₀ .tc) PUnit :=
    Prog.lift (.waitDma2 m11.sem m8 (m5.slice (Rect.unit (s := S6144x3584) (k0_off15 i) S1024x512.size (k0_off15_inb i h)) (fun _ => rfl))
      hm8.wordExact (hm5.wordExact_slice rfl _ (k0_off15_wordsbf16 i h)))

def waitO (i : grid0.Coords) : Prog (TpuEff nD τ sig (Elt F) Λ₀ .tc) PUnit :=
  if h : k0_cond4 i = 1#1 then waitOA i h else pure ⟨⟩

/-- Refilling the first column group. -/
def refillX0A (i : grid0.Coords) (h : k0_cond5 i = 1#1) : Prog (TpuEff nD τ sig (Elt F) Λ₀ .tc) PUnit :=
    Prog.lift (.enqueueDma (m2.slice (Rect.unit (s := S6144x18944) (k0_off18 i) S1024x512.size (k0_off18_inb i h)) (fun _ => rfl))
      (.here (m6.slice (Rect.unit (s := S1024x18944) ![0, 0] S1024x512.size inb_S1024x18944_S1024x512_0_0) (fun _ => rfl)))
      (.dma ((m9.slice (Rect.unit (s := S5) ![0] S1.size inb_S5_S1_0)).squeeze S_ squeezes_S1_S_).sem)
      (hm2.wordExact_slice rfl _ (k0_off18_wordsbf16 i h)) (hm6.wordExact_slice rfl _ wordsbf16_S1024x18944_S1024x512_0_0) ⟨Or.inl rfl, trivial⟩)

def refillX0 (i : grid0.Coords) : Prog (TpuEff nD τ sig (Elt F) Λ₀ .tc) PUnit :=
  if h : k0_cond5 i = 1#1 then refillX0A i h else pure ⟨⟩

/-- Two tiles taken: one row block of the output. -/
def pop2 (a0 a1 : AccM) (o0 o1 : Fin 2 → Nat) (h0 : ∀ a, o0 a + S256x256.size a ≤ S1024x512.size a) (h1 : ∀ a, o1 a + S256x256.size a ≤ S1024x512.size a)
    (p0 : (Rect.unit (s := S1024x512) o0 S256x256.size h0).PackedRows (EltTy.packing .bf16))
    (p1 : (Rect.unit (s := S1024x512) o1 S256x256.size h1).PackedRows (EltTy.packing .bf16)) : Prog (TpuEff nD τ sig (Elt F) Λ₀ .tc) PUnit := do
  pop1 a0 o0 h0 p0
  pop1 a1 o1 h1 p1

/-- The four row blocks of the output taken. -/
def popAll : Prog (TpuEff nD τ sig (Elt F) Λ₀ .tc) PUnit := do
  pop2 m16 m20 ![0, 0] ![0, 256] inb_S1024x512_S256x256_0_0 inb_S1024x512_S256x256_0_256 packedbf16_S1024x512_S256x256_0_0 packedbf16_S1024x512_S256x256_0_256
  pop2 m17 m21 ![256, 0] ![256, 256] inb_S1024x512_S256x256_256_0 inb_S1024x512_S256x256_256_256 packedbf16_S1024x512_S256x256_256_0 packedbf16_S1024x512_S256x256_256_256
  pop2 m18 m22 ![512, 0] ![512, 256] inb_S1024x512_S256x256_512_0 inb_S1024x512_S256x256_512_256 packedbf16_S1024x512_S256x256_512_0 packedbf16_S1024x512_S256x256_512_256
  pop2 m19 m23 ![768, 0] ![768, 256] inb_S1024x512_S256x256_768_0 inb_S1024x512_S256x256_768_256 packedbf16_S1024x512_S256x256_768_0 packedbf16_S1024x512_S256x256_768_256

/-- Taking the previous tile's accumulators, each row block at once started on the new tile's first half chunk. -/
def popAcc : Prog (TpuEff nD τ sig (Elt F) Λ₀ .tc) PUnit := do
  pop2 m16 m20 ![0, 0] ![0, 256] inb_S1024x512_S256x256_0_0 inb_S1024x512_S256x256_0_256 packedbf16_S1024x512_S256x256_0_0 packedbf16_S1024x512_S256x256_0_256
  accR m12 m13 m16 m20 ![0, 0] inb_S1024x18944_S256x256_0_0
  pop2 m17 m21 ![256, 0] ![256, 256] inb_S1024x512_S256x256_256_0 inb_S1024x512_S256x256_256_256 packedbf16_S1024x512_S256x256_256_0 packedbf16_S1024x512_S256x256_256_256
  accR m12 m13 m17 m21 ![256, 0] inb_S1024x18944_S256x256_256_0
  pop2 m18 m22 ![512, 0] ![512, 256] inb_S1024x512_S256x256_512_0 inb_S1024x512_S256x256_512_256 packedbf16_S1024x512_S256x256_512_0 packedbf16_S1024x512_S256x256_512_256
  accR m12 m13 m18 m22 ![512, 0] inb_S1024x18944_S256x256_512_0
  pop2 m19 m23 ![768, 0] ![768, 256] inb_S1024x512_S256x256_768_0 inb_S1024x512_S256x256_768_256 packedbf16_S1024x512_S256x256_768_0 packedbf16_S1024x512_S256x256_768_256
  accR m12 m13 m19 m23 ![768, 0] inb_S1024x18944_S256x256_768_0

/-- The end of everything: the last output block copied out. -/
def finishA (i : grid0.Coords) (h : k0_cond10 i = 1#1) : Prog (TpuEff nD τ sig (Elt F) Λ₀ .tc) PUnit := do
    Prog.lift (.waitDma2 m11.sem m8 (m5.slice (Rect.unit (s := S6144x3584) (k0_off38 i) S1024x512.size (k0_off38_inb i h)) (fun _ => rfl))
      hm8.wordExact (hm5.wordExact_slice rfl _ (k0_off38_wordsbf16 i h)))
    popAll
    Prog.lift (.enqueueDma m8 (.here (m5.slice (Rect.unit (s := S6144x3584) (k0_off39 i) S1024x512.size (k0_off39_inb i h)) (fun _ => rfl))) (.dma m11.sem)
      hm8.wordExact (hm5.wordExact_slice rfl _ (k0_off39_wordsbf16 i h)) ⟨Or.inl rfl, trivial⟩)
    Prog.lift (.waitDma2 m11.sem m8 (m5.slice (Rect.unit (s := S6144x3584) (k0_off39 i) S1024x512.size (k0_off39_inb i h)) (fun _ => rfl))
      hm8.wordExact (hm5.wordExact_slice rfl _ (k0_off39_wordsbf16 i h)))

def finish (i : grid0.Coords) : Prog (TpuEff nD τ sig (Elt F) Λ₀ .tc) PUnit :=
  if h : k0_cond10 i = 1#1 then finishA i h else pure ⟨⟩

/-- Chunk 0's second half, and the first half of chunk 1 staged. -/
def stage0 (i : grid0.Coords) : Prog (TpuEff nD τ sig (Elt F) Λ₀ .tc) PUnit := do
  push1 a4 m14 hm14 (fun r => k0_off16 i (BitVec.ofNat 32 (9472 * (0 : Fin 2).val)) (BitVec.ofNat 32 (0 : Fin 2).val) (BitVec.ofNat 32 (37 * r.val))) (fun r => k0_off16_inb i 0 0 r)
    (k0_off17 i (BitVec.ofNat 32 (0 : Fin 2).val)) (k0_off17_inb i 0) 0#32 true
  push1 a4 m15 hm15 (fun r => k0_off16 i (BitVec.ofNat 32 (9472 * (1 : Fin 2).val)) (BitVec.ofNat 32 (0 : Fin 2).val) (BitVec.ofNat 32 (37 * r.val))) (fun r => k0_off16_inb i 1 0 r)
    (k0_off17 i (BitVec.ofNat 32 (1 : Fin 2).val)) (k0_off17_inb i 1) 0#32 true
  accAll m14 m15 ![0, 256] ![256, 256] ![512, 256] ![768, 256] inb_S1024x18944_S256x256_0_256 inb_S1024x18944_S256x256_256_256 inb_S1024x18944_S256x256_512_256 inb_S1024x18944_S256x256_768_256
  push1 a4 m12 hm12 (fun r => k0_off16 i (BitVec.ofNat 32 (9472 * (0 : Fin 2).val)) (BitVec.ofNat 32 (1 : Fin 2).val) (BitVec.ofNat 32 (37 * r.val))) (fun r => k0_off16_inb i 0 1 r)
    (k0_off17 i (BitVec.ofNat 32 (0 : Fin 2).val)) (k0_off17_inb i 0) 1#32 false
  push1 a4 m13 hm13 (fun r => k0_off16 i (BitVec.ofNat 32 (9472 * (1 : Fin 2).val)) (BitVec.ofNat 32 (1 : Fin 2).val) (BitVec.ofNat 32 (37 * r.val))) (fun r => k0_off16_inb i 1 1 r)
    (k0_off17 i (BitVec.ofNat 32 (1 : Fin 2).val)) (k0_off17_inb i 1) 1#32 false

/-- The body at a grid point. -/
def bodyP (i : grid0.Coords) : Prog (TpuEff nD τ sig (Elt F) Λ₀ .tc) PUnit := do
  startAll a4 i
  waitX0 i
  startW i
  waitO i
  popAcc
  stage0 a4 i
  refillX0 i
  Scf.Loop.for k0_t1_loop k0_t1_ok ⟨⟩ (fun t _ => tripP a4 i t)
  finish i

end Cert.Kernel.Hand

end
-- ==== Proof.K.Spec1.lean ====
/- What the small programs do to the buffers they touch: one accumulation, one staging, one tile taken, one
   transfer started or waited for. -/
module

public import proofs.«01_k».proof.Proof.K.Progs
public import Idealize.ShloMosaic.Lib.Pipeline.FrameBody
public import Idealize.ShloMosaic.Lib.Pipeline.FrameValue
public import Idealize.ShloMosaic.Lib.MixedBatch
public import Idealize.ShloMosaic.Lib.Ring
public import Idealize.ShloMosaic.Lib.Tactic

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Running `p` from `P` ends in `Q`. -/
def Tri (c : Dev nD) (P : sProp 𝕄) (p : Prog (TpuEff nD τ sig (Elt F) Λ₀ .tc) PUnit) (Q : sProp 𝕄) : Prop :=
  P ⊢ wp frame (wpE (defs₀ (F := F)) Variants.none (c : Thread nD τ) none) Set.univ p (fun _ => Q)

theorem Tri.bind {c : Dev nD} {P Q R : sProp 𝕄} {p q : Prog (TpuEff nD τ sig (Elt F) Λ₀ .tc) PUnit}
    (h₁ : Tri c P p Q) (h₂ : Tri c Q q R) : Tri c P (p >>= fun _ => q) R := by
  unfold Tri at *
  rw [wp_bind]
  exact h₁.trans (wp_mono _ _ _ fun _ => h₂)

theorem Tri.conseq {c : Dev nD} {P P' Q Q' : sProp 𝕄} {p : Prog (TpuEff nD τ sig (Elt F) Λ₀ .tc) PUnit}
    (h : Tri c P p Q) (hP : P' ⊢ P) (hQ : Q ⊢ Q') : Tri c P' p Q' := by
  unfold Tri at *
  exact hP.trans (h.trans (wp_mono _ _ _ fun _ => hQ))

theorem Tri.frm {c : Dev nD} {P Q : sProp 𝕄} {p : Prog (TpuEff nD τ sig (Elt F) Λ₀ .tc) PUnit}
    (h : Tri c P p Q) (R : sProp 𝕄) : Tri c iprop(P ∗ R) p iprop(Q ∗ R) := by
  unfold Tri at *
  exact (sep_mono_left h).trans (wp_frame_r Idealize.ShloMosaic.frame _ _)

theorem Tri.ret {c : Dev nD} {P : sProp 𝕄} : Tri c P (pure ⟨⟩) P := by
  unfold Tri
  exact le_wp_ret _ _ _ PUnit.unit (fun _ => P)

theorem sq_emb (y : S256x256.Idx) : sq.emb y = y := by
  funext a; apply Fin.ext
  fin_cases a <;> simp [Rect.emb, sq, Rect.unit]

theorem readAt_sq {e : EltTy} (a : Memref sig .tc .vmem S256x256 e) (f : a.view.ty.Contents (Elt F)) :
    a.view.readAt (Elt F) sq.toLoadRect f = a.view.read (Elt F) f := by
  funext y
  exact congrArg (a.view.read (Elt F) f) (sq_emb y)

theorem read_write_sq {e : EltTy} (a : Memref sig .tc .vmem S256x256 e) (f : a.view.ty.Contents (Elt F)) (w : Vec F S256x256 e) :
    a.view.read (Elt F) (a.view.writes (Elt F) f [⟨sq, w⟩]) = w := by
  rw [← readAt_sq]
  exact View.read_write_univ (v := a.view.slice sq) f w

/-- The tile after one accumulation. -/
def accF (d : Vec F S256x256 .f32) (x s : Vec F S256x256 .bf16) : Vec F S256x256 .f32 :=
  shapeCast S256x256 (addf d (matmul dot_S256x256_S256x256_S256x256_1_1_0_0_n_n none x s (constant S256x256 .f32 0x00000000#32))) shapeCasts_S256x256_S256x256

theorem acc1_spec (c : Dev nD) (st : StgM) (a : AccM) (x s : Vec F S256x256 .bf16) (d : Vec F S256x256 .f32) :
    Tri c iprop(owns c st fullShare s ∗ owns c a fullShare d) (acc1 st a x)
      iprop(owns c st fullShare s ∗ owns c a fullShare (accF d x s)) := by
  unfold Tri acc1 owns
  iintro ⟨⟨%fs, %hs, Hs⟩, ⟨%fa, %ha, Ha⟩⟩
  sl_exec
  sl_step
  isplitl [Hs]
  · iexists _; isplitr; swap; · iexact Hs
    ipureintro; exact hs
  · iexists _; isplitr; swap; · iexact Ha
    ipureintro
    rw [read_write_sq, readAt_sq, readAt_sq, ha, hs]; rfl

/-! ## Transfers -/

/-- A transfer in flight: `P` is delivered at the wait, with the share of the source it reads. -/
def Fly (c : Dev nD) (sm : SemLoc sig) (N : ℕ) (P : sProp 𝕄) (ℓ : Loc nD τ sig) (q : PosShare TreeShare) (fs : Buf (Elt F) ℓ) : sProp 𝕄 :=
  iprop(∃ A, Transfers.Flight (countersEmb (U := Pipeline.UD sig nD τ)) (c : Thread nD τ) sm () N iprop(P ∗ (ℓ ↦[A]{q} fs)) ∗ (ℓ ↦[Finset.univ \ A]{q} fs))

/-- What the core owes: nothing, having waited for some. -/
def Owe (c : Dev nD) : sProp 𝕄 := iprop(∃ W, owes (c : Thread nD τ) 0 W)

theorem start_spec (c : Dev nD) {sp sp' : Space} {s : Shape} {e : EltTy} {src : Memref sig .tc sp s e} {dst : Memref sig .tc sp' s e}
    {sm : SemLoc sig} {hsrc : src.view.WordExact} {hdst : dst.view.WordExact} {hsem : DmaTarget.Typed (nD := nD) (τ := τ) sp sm (.here (p := .tc) dst)}
    (N : ℕ) (hN : dst.view.amount sm = N) (hN0 : 0 < s.numel)
    {q : PosShare TreeShare} {fs : Buf (Elt F) (src.view.loc (c : Thread nD τ))}
    {Sd : Finset (Idx (dst.view.loc (c : Thread nD τ)))} (hSd : dst.view.set ⊆ Sd) {fd G : Buf (Elt F) (dst.view.loc (c : Thread nD τ))}
    (hG : ∀ i ∈ Sd, dst.view.write (Elt F) fd (src.view.read (Elt F) fs) Finset.univ i = G i) :
    Tri c iprop((dst.view.loc (c : Thread nD τ) ↦[Sd]{fullShare} fd) ∗ semVal ((c : Thread nD τ), sm) 0 ∗ (src.view.loc (c : Thread nD τ) ↦{q} fs))
      (Prog.lift (.enqueueDma src (.here dst) sm hsrc hdst hsem))
      (Fly c sm N (dst.view.loc (c : Thread nD τ) ↦[Sd]{fullShare} G) (src.view.loc (c : Thread nD τ)) q fs) := by
  unfold Tri Fly
  iintro ⟨Hd, Hv, Hs⟩
  ihave Hs' := (pointsTo_split_subset (Finset.subset_univ src.view.set)).1 $$ Hs
  icases Hs' with ⟨Hs, Hr⟩
  have hN1 : 0 < N := hN ▸ View.amount_pos dst.view sm hN0
  iapply (Transfers.wp_dmaLocal (countersEmb (U := Pipeline.UD sig nD τ)) Variants.none (c : Thread nD τ) none () N hN hN1 hSd
    (src := src) (dst := dst) (sm := sm) (via := ReadAs.same) (fs := fs) (fd := fd) (q := q)) $$ [Hs Hd Hv]
  · isplitl [Hs]; · iexact Hs
    isplitl [Hd]; · iexact Hd
    iexact Hv
  iintro HF
  rw [wp_ret]
  imodintro
  iexists src.view.set
  isplitr [Hr]; swap; · iexact Hr
  have h := pointsTo_congr (nD := nD) (τ := τ) (sig := sig) (Ix := Unit) (Name := ℕ) (U := Pipeline.UD sig nD τ) (Lvl := ℕ) (ℓ := dst.view.loc (c : Thread nD τ)) (q := fullShare) hG
  rw [← h]
  iexact HF

theorem wait_spec (c : Dev nD) {sp sp' : Space} {s s' : Shape} {e e' : EltTy} {src : Memref sig .tc sp' s' e'} {dst : Memref sig .tc sp s e}
    {sem : DmaSem sig} {hsrc : src.view.WordExact} {hdst : dst.view.WordExact}
    (N : ℕ) (hN : dst.view.dmaCredit = N) {P : sProp 𝕄} {ℓ : Loc nD τ sig} {q : PosShare TreeShare} {fs : Buf (Elt F) ℓ} :
    Tri c iprop(Fly c (.dma sem) N P ℓ q fs ∗ Owe c)
      (Prog.lift (.waitDma2 sem src dst hsrc hdst))
      iprop((P ∗ semVal ((c : Thread nD τ), .dma sem) 0 ∗ (ℓ ↦{q} fs)) ∗ Owe c) := by
  unfold Tri Fly Owe
  iintro ⟨⟨%A, HF, Hr⟩, ⟨%W, HW⟩⟩
  iapply (Transfers.wp_waitLocal (countersEmb (U := Pipeline.UD sig nD τ)) Variants.none (c : Thread nD τ) none () hN
    (sem := sem) (srcw := src) (dstw := dst)) $$ [HF HW]
  · isplitl [HF]; · iexact HF
    iexact HW
  iintro ⟨⟨HP, HA⟩, Hv, HW⟩
  rw [wp_ret]
  imodintro
  isplitr [HW]; swap; · iexists _; iexact HW
  isplitl [HP]; · iexact HP
  isplitl [Hv]; · iexact Hv
  iapply (pointsTo_split_subset (Finset.subset_univ A)).2
  isplitl [HA]; · iexact HA
  iexact Hr

end Cert.Kernel.Hand

end
-- ==== Proof.K.Forms.lean ====
/- The printed offsets and conditions in closed form: each is a table over the grid's 42 points, the loop's four
   trips and the step within a trip. -/
module

public import proofs.«01_k».proof.Proof.K.Progs

@[expose] public section

set_option maxRecDepth 65536

namespace Cert.Kernel.Hand

open Cert.Kernel Cert.Kernel.Gen
open Idealize.ShloMosaic Idealize.ShloMosaic.TcCoe

abbrev Trip : Type := Fin k0_t1_loop.trips

theorem trips4 : k0_t1_loop.trips = 4 := by decide +kernel
theorem c1 : ∀ t : Fin 42, k0_cond1 (grid0.coords t) = 1#1 ↔ t.val = 0 := by decide +kernel
theorem c2 : ∀ t : Fin 42, k0_cond2 (grid0.coords t) = 1#1 ↔ t.val % 7 = 0 := by decide +kernel
theorem c3 : ∀ t : Fin 42, k0_cond3 (grid0.coords t) = 1#1 ↔ t.val + 1 < 42 := by decide +kernel
theorem c4 : ∀ t : Fin 42, k0_cond4 (grid0.coords t) = 1#1 ↔ 2 ≤ t.val := by decide +kernel
theorem c5 : ∀ t : Fin 42, k0_cond5 (grid0.coords t) = 1#1 ↔ (t.val % 7 = 6 ∧ t.val < 41) := by decide +kernel
theorem c6 : ∀ t : Fin 42, k0_cond6 (grid0.coords t) = 1#1 ↔ t.val % 7 = 0 := by decide +kernel
theorem c7 : ∀ (t : Fin 42) (u : Trip), k0_cond7 (grid0.coords t) u = 1#1 ↔ (u.val = 1 ∧ 1 ≤ t.val) := by decide +kernel
theorem c8 : ∀ (t : Fin 42) (u : Trip), k0_cond8 (grid0.coords t) u = 1#1 ↔ (u.val = 3 ∧ t.val + 1 < 42) := by decide +kernel
theorem c9 : ∀ t : Fin 42, k0_cond9 (grid0.coords t) = 1#1 ↔ (t.val % 7 = 6 ∧ t.val < 41) := by decide +kernel
theorem c10 : ∀ t : Fin 42, k0_cond10 (grid0.coords t) = 1#1 ↔ t.val = 41 := by decide +kernel
theorem o1 : ∀ t : Fin 42, k0_off1 (grid0.coords t) = ![t.val % 2] := by decide +kernel
theorem o2 : ∀ t : Fin 42, k0_off2 (grid0.coords t) = ![18944 * (t.val % 2), 0] := by decide +kernel
theorem o3 : ∀ t : Fin 42, k0_off3 (grid0.coords t) = ![18944 * (t.val % 7), 0] := by decide +kernel
theorem o4 : ∀ t : Fin 42, k0_off4 (grid0.coords t) = ![1024 * (t.val / 7), 0] := by decide +kernel
theorem o5 : ∀ t : Fin 42, k0_off5 (grid0.coords t) = ![1024 * (t.val / 7), 512] := by decide +kernel
theorem o6 : ∀ t : Fin 42, k0_off6 (grid0.coords t) = ![1024 * (t.val / 7), 5120] := by decide +kernel
theorem o7 : ∀ t : Fin 42, k0_off7 (grid0.coords t) = ![1024 * (t.val / 7), 9728] := by decide +kernel
theorem o8 : ∀ t : Fin 42, k0_off8 (grid0.coords t) = ![1024 * (t.val / 7), 14336] := by decide +kernel
theorem o9 : ∀ t : Fin 42, ∀ (q : Fin 2) (r : Fin 4), k0_off9 (grid0.coords t) (BitVec.ofNat 32 (9472 * q.val)) (BitVec.ofNat 32 (37 * r.val)) = ![18944 * (t.val % 2) + 9472 * q.val + 0 + 37 * r.val, 0] := by decide +kernel
theorem o10 : ∀ t : Fin 42, ∀ (q : Fin 2), k0_off10 (grid0.coords t) (BitVec.ofNat 32 q.val) = ![512 * (t.val % 7) + 256 * q.val, 0] := by decide +kernel
theorem o11 : ∀ t : Fin 42, k0_off11 (grid0.coords t) = ![1024 * (t.val / 7), 0] := by decide +kernel
theorem o12 : ∀ t : Fin 42, t.val + 1 < 42 → k0_off12 (grid0.coords t) = ![(t.val + 1) % 2] := by decide +kernel
theorem o13 : ∀ t : Fin 42, t.val + 1 < 42 → k0_off13 (grid0.coords t) = ![18944 * ((t.val + 1) % 2), 0] := by decide +kernel
theorem o14 : ∀ t : Fin 42, t.val + 1 < 42 → k0_off14 (grid0.coords t) = ![18944 * ((t.val + 1) % 7), 0] := by decide +kernel
theorem o15 : ∀ t : Fin 42, 2 ≤ t.val → k0_off15 (grid0.coords t) = ![1024 * ((t.val - 2) / 7), 512 * ((t.val - 2) % 7)] := by decide +kernel
theorem o16 : ∀ t : Fin 42, ∀ (q : Fin 2) (k : Fin 2) (r : Fin 4), k0_off16 (grid0.coords t) (BitVec.ofNat 32 (9472 * q.val)) (BitVec.ofNat 32 k.val) (BitVec.ofNat 32 (37 * r.val)) = ![18944 * (t.val % 2) + 9472 * q.val + k.val + 37 * r.val, 0] := by decide +kernel
theorem o17 : ∀ t : Fin 42, ∀ (q : Fin 2), k0_off17 (grid0.coords t) (BitVec.ofNat 32 q.val) = ![512 * (t.val % 7) + 256 * q.val, 0] := by decide +kernel
theorem o18 : ∀ t : Fin 42, t.val < 41 → k0_off18 (grid0.coords t) = ![1024 * (t.val / 7 + 1), 0] := by decide +kernel
theorem o19 : ∀ u : Trip, k0_off19 u = ![u.val + 1] := by decide +kernel
theorem o20 : ∀ u : Trip, k0_off20 u = ![0, 512 + 4608 * u.val] := by decide +kernel
theorem o21 : ∀ (t : Fin 42) (u : Trip), k0_off21 (grid0.coords t) u = ![1024 * (t.val / 7), 512 + 4608 * u.val] := by decide +kernel
theorem o22 : ∀ t : Fin 42, 1 ≤ t.val → k0_off22 (grid0.coords t) = ![1024 * ((t.val - 1) / 7), 512 * ((t.val - 1) % 7)] := by decide +kernel
theorem o23 : ∀ t : Fin 42, t.val + 1 < 42 → k0_off23 (grid0.coords t) = ![(t.val + 1) % 2] := by decide +kernel
theorem o24 : ∀ t : Fin 42, t.val + 1 < 42 → k0_off24 (grid0.coords t) = ![18944 * ((t.val + 1) % 2), 0] := by decide +kernel
theorem o25 : ∀ t : Fin 42, t.val + 1 < 42 → k0_off25 (grid0.coords t) = ![18944 * ((t.val + 1) % 7), 0] := by decide +kernel
theorem o26 : ∀ (u : Trip) (k : Fin 9) (h : Fin 2), k0_off26 u (BitVec.ofNat 32 k.val) (BitVec.ofNat 32 (256 * h.val)) = ![0, 512 * (1 + 9 * u.val + k.val) + 256 * h.val] := by decide +kernel
theorem o27 : ∀ (u : Trip) (k : Fin 9) (h : Fin 2), k0_off27 u (BitVec.ofNat 32 k.val) (BitVec.ofNat 32 (256 * h.val)) = ![256, 512 * (1 + 9 * u.val + k.val) + 256 * h.val] := by decide +kernel
theorem o28 : ∀ (u : Trip) (k : Fin 9) (h : Fin 2), k0_off28 u (BitVec.ofNat 32 k.val) (BitVec.ofNat 32 (256 * h.val)) = ![512, 512 * (1 + 9 * u.val + k.val) + 256 * h.val] := by decide +kernel
theorem o29 : ∀ (u : Trip) (k : Fin 9) (h : Fin 2), k0_off29 u (BitVec.ofNat 32 k.val) (BitVec.ofNat 32 (256 * h.val)) = ![768, 512 * (1 + 9 * u.val + k.val) + 256 * h.val] := by decide +kernel
theorem o30 : ∀ (t : Fin 42) (u : Trip), ∀ (q : Fin 2) (k : Fin 9) (r : Fin 4), k0_off30 (grid0.coords t) u (BitVec.ofNat 32 (9472 * q.val)) (BitVec.ofNat 32 k.val) (BitVec.ofNat 32 (37 * r.val)) = ![18944 * (t.val % 2) + 9472 * q.val + (1 + 9 * u.val + k.val) + 37 * r.val, 0] := by decide +kernel
theorem o31 : ∀ t : Fin 42, ∀ (q : Fin 2), k0_off31 (grid0.coords t) (BitVec.ofNat 32 q.val) = ![512 * (t.val % 7) + 256 * q.val, 0] := by decide +kernel
theorem o32 : ∀ (t : Fin 42) (u : Trip), ∀ (q : Fin 2) (k : Fin 8) (r : Fin 4), k0_off32 (grid0.coords t) u (BitVec.ofNat 32 (9472 * q.val)) (BitVec.ofNat 32 k.val) (BitVec.ofNat 32 (37 * r.val)) = ![18944 * (t.val % 2) + 9472 * q.val + (1 + 9 * u.val + k.val + 1) + 37 * r.val, 0] := by decide +kernel
theorem o33 : ∀ (t : Fin 42) (u : Trip), ∀ (q : Fin 2) (r : Fin 4), k0_off33 (grid0.coords t) u (BitVec.ofNat 32 (9472 * q.val)) (BitVec.ofNat 32 (37 * r.val)) = (if u.val = 3 then ![18944 * ((t.val + 1) % 2) + 9472 * q.val + 0 + 37 * r.val, 0] else ![18944 * (t.val % 2) + 9472 * q.val + (1 + 9 * u.val + 8 + 1) + 37 * r.val, 0]) := by decide +kernel
theorem o34 : ∀ (t : Fin 42) (u : Trip), ∀ (q : Fin 2), k0_off34 (grid0.coords t) u (BitVec.ofNat 32 q.val) = (if u.val = 3 then ![512 * ((t.val + 1) % 7) + 256 * q.val, 0] else ![512 * (t.val % 7) + 256 * q.val, 0]) := by decide +kernel
theorem o35 : ∀ u : Trip, k0_off35 u = ![u.val + 1] := by decide +kernel
theorem o36 : ∀ u : Trip, k0_off36 u = ![0, 512 + 4608 * u.val] := by decide +kernel
theorem o37 : ∀ (t : Fin 42) (u : Trip), t.val < 41 → k0_off37 (grid0.coords t) u = ![1024 * (t.val / 7 + 1), 512 + 4608 * u.val] := by decide +kernel
theorem o38 : ∀ t : Fin 42, t.val = 41 → k0_off38 (grid0.coords t) = ![1024 * ((t.val - 1) / 7), 512 * ((t.val - 1) % 7)] := by decide +kernel
theorem o39 : ∀ t : Fin 42, t.val = 41 → k0_off39 (grid0.coords t) = ![1024 * (t.val / 7), 512 * (t.val % 7)] := by decide +kernel
theorem chv : ∀ (u : Trip) (k : Fin 9), chunkV u (BitVec.ofNat 32 k.val) = BitVec.ofNat 32 (1 + 9 * u.val + k.val) := by decide +kernel
theorem chv1 : ∀ (u : Trip) (k : Fin 8), Scalar.addi (chunkV u (BitVec.ofNat 32 k.val)) 1#32 = BitVec.ofNat 32 (1 + 9 * u.val + k.val + 1) := by decide +kernel
theorem lastV_eq : ∀ (u : Trip), lastV u = (if u.val = 3 then BitVec.ofNat 32 0 else BitVec.ofNat 32 (1 + 9 * u.val + 8 + 1)) := by decide +kernel

end Cert.Kernel.Hand
-- ==== Proof.K.State.lean ====
/- The values the kernel's buffers hold, as functions of the operands, and the programs' effects on them. -/
module

public import proofs.«01_k».proof.Proof.K.Spec1
public import proofs.«01_k».proof.Proof.K.Forms

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The index `(i, j)` of a matrix, each coordinate reduced below its extent. -/
def ixn (a b : ℕ) (ha : 0 < a) (hb : 0 < b) (i j : ℕ) : (⟨2, ![a, b]⟩ : Shape).Idx := fun k =>
  match k with
  | ⟨0, _⟩ => ⟨i % a, Nat.mod_lt _ ha⟩
  | ⟨1, _⟩ => ⟨j % b, Nat.mod_lt _ hb⟩

theorem idx_ext {a b : ℕ} (x y : (⟨2, ![a, b]⟩ : Shape).Idx) (h0 : (x 0).val = (y 0).val) (h1 : (x 1).val = (y 1).val) : x = y := by
  funext k; apply Fin.ext
  match k with
  | ⟨0, _⟩ => exact h0
  | ⟨1, _⟩ => exact h1

/-- The kernel's operands and what its result held before. -/
structure Inp (F : FTy → Type) [FloatOps F] where
  X : Vec F S6144x18944 .bf16
  W : Vec F S132608x128 .i32
  S : Vec F S3584x128 .f32
  Y : Vec F S6144x3584 .bf16

variable (I : Inp F)

/-- The activations' buffer holding row block `mm`. -/
def XB (mm : ℕ) : Vec F S1024x18944 .bf16 := fun y => I.X (ixn 6144 18944 (by omega) (by omega) (1024 * mm + (y 0).val) (y 1).val)
/-- The words' buffer, each slot holding column tile `n`. -/
def WB (n : ℕ) : Vec F S37888x128 .i32 := fun y => I.W (ixn 132608 128 (by omega) (by omega) (18944 * n + (y 0).val % 18944) (y 1).val)
/-- The activations of row block `i` of the tile at step `s`. -/
def XT (mm i s : ℕ) : Vec F S256x256 .bf16 := fun y => I.X (ixn 6144 18944 (by omega) (by omega) (1024 * mm + 256 * i + (y 0).val) (256 * s + (y 1).val))
/-- The word block `r` of chunk `ch`, half `q` of column tile `n`. -/
def WT (n q ch r : ℕ) : Vec F S64x128 .i32 := fun y => I.W (ixn 132608 128 (by omega) (by omega) (18944 * n + (9472 * q + ch + 37 * r + 148 * (y 0).val)) (y 1).val)
/-- The scale rows of half `q` of column tile `n`. -/
def ScT (n q : ℕ) : Vec F S256x128 .f32 := fun y => I.S (ixn 3584 128 (by omega) (by omega) (512 * n + 256 * q + (y 0).val) (y 1).val)
/-- The staged weights of chunk `ch`. -/
def ST (n q ch : ℕ) (hi : Bool) : Vec F S256x256 .bf16 :=
  shapeCast S256x256 (rhsV (WT I n q ch 0) (WT I n q ch 1) (WT I n q ch 2) (WT I n q ch 3) (ScT I n q) (BitVec.ofNat 32 ch) hi) shapeCasts_S256x256_S256x256

/-- The zero tile. -/
def zeroT : Vec F S256x256 .f32 :=
  shapeCast S256x256 (broadcast S256x256 (Scalar.ofBits .f32 0x00000000#32) : FVec F S256x256 .f32) shapeCasts_S256x256_S256x256

/-- The accumulator of tile `t` after `s` half chunks. -/
def AccV (t q i : ℕ) : ℕ → Vec F S256x256 .f32
  | 0 => zeroT
  | s + 1 => accF (AccV t q i s) (XT I (t / 7) i s) (ST I (t % 7) q (s / 2) (decide (s % 2 = 1)))

/-- The output tile `t`, one of its blocks rounded. -/
def truncT (d : Vec F S256x256 .f32) : Vec F S256x256 .bf16 :=
  shapeCast S256x256 (truncf .bf16 d bitsLt_bf16_f32 : FVec F S256x256 .bf16) shapeCasts_S256x256_S256x256
def OV (d : ℕ → ℕ → Vec F S256x256 .f32) : Vec F S1024x512 .bf16 := fun y =>
  truncT (d ((y 1).val / 256) ((y 0).val / 256)) (ixn 256 256 (by omega) (by omega) (y 0).val (y 1).val)
/-- The result when the tiles below `k` are written. -/
def OutC (k : ℕ) : Vec F S6144x3584 .bf16 := fun y =>
  if 7 * ((y 0).val / 1024) + (y 1).val / 512 < k then
    OV (fun q i => AccV I (7 * ((y 0).val / 1024) + (y 1).val / 512) q i 74) (ixn 1024 512 (by omega) (by omega) (y 0).val (y 1).val)
  else I.Y y

theorem setOn_m6 (M : Finset S1024x18944.Idx) : m6.view.setOn M = M := by
  ext i; constructor
  · intro h; obtain ⟨j, hj, rfl⟩ := Finset.mem_map.mp h; exact hj
  · intro h; exact Finset.mem_map.mpr ⟨i, h, rfl⟩
theorem setOn_m7 (M : Finset S37888x128.Idx) : m7.view.setOn M = M := by
  ext i; constructor
  · intro h; obtain ⟨j, hj, rfl⟩ := Finset.mem_map.mp h; exact hj
  · intro h; exact Finset.mem_map.mpr ⟨i, h, rfl⟩

theorem unit_exists {s : Shape} {off size : Fin s.rank → ℕ} {inb} {y : s.Idx} (hy : y ∈ (Rect.unit (s := s) off size inb).set) :
    ∃ z : (Rect.unit (s := s) off size inb).shape.Idx, (Rect.unit (s := s) off size inb).emb z = y := by
  rw [Rect.mem_set_unit] at hy
  refine ⟨fun a => ⟨(y a).val - off a, ?_⟩, ?_⟩
  · have := hy a; show (y a).val - off a < size a; omega
  · funext a; apply Fin.ext
    have := hy a
    rw [Rect.emb_apply]
    show off a + 1 * ((y a).val - off a) = (y a).val
    omega

theorem unit_emb_mem {s : Shape} {off size : Fin s.rank → ℕ} {inb} (z : (Rect.unit (s := s) off size inb).shape.Idx) :
    (Rect.unit (s := s) off size inb).emb z ∈ (Rect.unit (s := s) off size inb).set := by
  rw [Rect.mem_set_unit]
  intro a
  have h : (z a).val < size a := (z a).isLt
  rw [Rect.emb_apply]
  show off a ≤ off a + 1 * (z a).val ∧ off a + 1 * (z a).val < off a + size a
  omega

theorem push1_spec (c : Dev nD) (a4 : Memref sig .tc .vmem S3584x128 .f32) (st : StgM) (hst : st.IsWhole) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV) (hi : Bool)
    (S : Finset S37888x128.Idx) (B : Vec F S37888x128 .i32) (Sc : Vec F S3584x128 .f32)
    (hS : ∀ r, m7.view.setOn (⟨o r, S64x128.size, ![148, 1], h r⟩ : LoadRect S37888x128).set ⊆ S) :
    Tri c iprop((m7.view.loc (c : Thread nD τ) ↦[S]{fullShare} B) ∗ owns c a4 fullShare Sc ∗ (∃ v, owns c st fullShare v))
      (push1 a4 st hst o h os hs chunk hi)
      iprop((m7.view.loc (c : Thread nD τ) ↦[S]{fullShare} B) ∗ owns c a4 fullShare Sc ∗ owns c st fullShare
        (shapeCast S256x256 (rhsV (fun y => B ((⟨o 0, S64x128.size, ![148, 1], h 0⟩ : LoadRect S37888x128).idx y)) (fun y => B ((⟨o 1, S64x128.size, ![148, 1], h 1⟩ : LoadRect S37888x128).idx y))
          (fun y => B ((⟨o 2, S64x128.size, ![148, 1], h 2⟩ : LoadRect S37888x128).idx y)) (fun y => B ((⟨o 3, S64x128.size, ![148, 1], h 3⟩ : LoadRect S37888x128).idx y))
          (fun y => Sc ((Rect.unit (s := S3584x128) os S256x128.size hs).emb y)) chunk hi) shapeCasts_S256x256_S256x256)) := by
  unfold Tri push1 owns
  iintro ⟨Hm, ⟨%f4, %h4, H4⟩, ⟨%v, %fs, %hv, Hs⟩⟩
  rw [wp_bind]
  iapply (wp_load Variants.none (c : Thread nD τ) none Set.univ (hS 0)) $$ Hm
  iintro Hm
  rw [wp_ret]; imodintro
  rw [wp_bind]
  iapply (wp_load Variants.none (c : Thread nD τ) none Set.univ (hS 1)) $$ Hm
  iintro Hm
  rw [wp_ret]; imodintro
  rw [wp_bind]
  iapply (wp_load Variants.none (c : Thread nD τ) none Set.univ (hS 2)) $$ Hm
  iintro Hm
  rw [wp_ret]; imodintro
  rw [wp_bind]
  iapply (wp_load Variants.none (c : Thread nD τ) none Set.univ (hS 3)) $$ Hm
  iintro Hm
  rw [wp_ret]; imodintro
  sl_exec
  sl_step
  isplitl [Hm]; · iexact Hm
  isplitl [H4]
  · iexists _; isplitr; swap; · iexact H4
    ipureintro; exact h4
  · iexists _; isplitr; swap; · iexact Hs
    ipureintro
    rw [read_write_sq, ← h4]; rfl

theorem Tri.use {c : Dev nD} {P Q : sProp 𝕄} {p : Prog (TpuEff nD τ sig (Elt F) Λ₀ .tc) PUnit} (h : Tri c P p Q)
    {β : Type} {q : Prog (TpuEff nD τ sig (Elt F) Λ₀ .tc) β} {K : β → sProp 𝕄} :
    P ⊢ iprop((Q -∗ wp frame (wpE (defs₀ (F := F)) Variants.none (c : Thread nD τ) none) Set.univ q K)
      -∗ wp frame (wpE (defs₀ (F := F)) Variants.none (c : Thread nD τ) none) Set.univ (p >>= fun _ => q) K) := by
  unfold Tri at h
  rw [wp_bind]
  iintro HP HK
  iapply (wp_wand_r Idealize.ShloMosaic.frame _ _)
  isplitl [HP]; · iapply h; iexact HP
  iintro %a HQ
  iapply HK; iexact HQ

theorem Tri.last {c : Dev nD} {P Q : sProp 𝕄} {p : Prog (TpuEff nD τ sig (Elt F) Λ₀ .tc) PUnit} (h : Tri c P p Q)
    {K : PUnit → sProp 𝕄} :
    P ⊢ iprop((Q -∗ K ⟨⟩) -∗ wp frame (wpE (defs₀ (F := F)) Variants.none (c : Thread nD τ) none) Set.univ p K) := by
  unfold Tri at h
  iintro HP HK
  iapply (wp_wand_r Idealize.ShloMosaic.frame _ _)
  isplitl [HP]; · iapply h; iexact HP
  iintro %a HQ
  iapply HK; iexact HQ

theorem accR_spec (c : Dev nD) (st0 st1 : StgM) (a0 a1 : AccM) (o : Fin 2 → Nat) (h : ∀ a, o a + S256x256.size a ≤ S1024x18944.size a)
    (S : Finset S1024x18944.Idx) (B : Vec F S1024x18944 .bf16) (x s0 s1 : Vec F S256x256 .bf16) (d0 d1 : Vec F S256x256 .f32)
    (hS : (Rect.unit (s := S1024x18944) o S256x256.size h).set ⊆ S)
    (hx : ∀ y : S256x256.Idx, B ((Rect.unit (s := S1024x18944) o S256x256.size h).emb y) = x y) :
    Tri c iprop((m6.view.loc (c : Thread nD τ) ↦[S]{fullShare} B) ∗ owns c st0 fullShare s0 ∗ owns c st1 fullShare s1
        ∗ owns c a0 fullShare d0 ∗ owns c a1 fullShare d1)
      (accR st0 st1 a0 a1 o h)
      iprop((m6.view.loc (c : Thread nD τ) ↦[S]{fullShare} B) ∗ owns c st0 fullShare s0 ∗ owns c st1 fullShare s1
        ∗ owns c a0 fullShare (accF d0 x s0) ∗ owns c a1 fullShare (accF d1 x s1)) := by
  have hS' : m6.view.setOn (Rect.unit (s := S1024x18944) o S256x256.size h).toLoadRect.set ⊆ S := by rw [setOn_m6]; exact hS
  have hr : m6.view.readAt (Elt F) (Rect.unit (s := S1024x18944) o S256x256.size h).toLoadRect B = x := funext hx
  unfold Tri accR
  iintro ⟨Hm, Hs0, Hs1, Ha0, Ha1⟩
  rw [wp_bind]
  iapply (wp_load Variants.none (c : Thread nD τ) none Set.univ hS') $$ Hm
  iintro Hm
  rw [wp_ret]; imodintro
  rw [hr]
  iapply (Tri.use (acc1_spec c st0 a0 x s0 d0)) $$ [Hs0 Ha0]
  · isplitl [Hs0]; · iexact Hs0
    iexact Ha0
  iintro ⟨Hs0, Ha0⟩
  iapply (Tri.last (acc1_spec c st1 a1 x s1 d1)) $$ [Hs1 Ha1]
  · isplitl [Hs1]; · iexact Hs1
    iexact Ha1
  iintro ⟨Hs1, Ha1⟩
  isplitl [Hm]; · iexact Hm
  isplitl [Hs0]; · iexact Hs0
  isplitl [Hs1]; · iexact Hs1
  isplitl [Ha0]; · iexact Ha0
  iexact Ha1

/-- The eight accumulators. -/
def ACC (c : Dev nD) (d : ℕ → ℕ → Vec F S256x256 .f32) : sProp 𝕄 :=
  iprop((owns c m16 fullShare (d 0 0) ∗ owns c m20 fullShare (d 1 0)) ∗ (owns c m17 fullShare (d 0 1) ∗ owns c m21 fullShare (d 1 1))
    ∗ (owns c m18 fullShare (d 0 2) ∗ owns c m22 fullShare (d 1 2)) ∗ (owns c m19 fullShare (d 0 3) ∗ owns c m23 fullShare (d 1 3)))

theorem accAll_spec (c : Dev nD) (st0 st1 : StgM) (o0 o1 o2 o3 : Fin 2 → Nat) (h0 : ∀ a, o0 a + S256x256.size a ≤ S1024x18944.size a)
    (h1 : ∀ a, o1 a + S256x256.size a ≤ S1024x18944.size a) (h2 : ∀ a, o2 a + S256x256.size a ≤ S1024x18944.size a)
    (h3 : ∀ a, o3 a + S256x256.size a ≤ S1024x18944.size a)
    (S : Finset S1024x18944.Idx) (B : Vec F S1024x18944 .bf16) (x : ℕ → Vec F S256x256 .bf16) (s : ℕ → Vec F S256x256 .bf16)
    (d : ℕ → ℕ → Vec F S256x256 .f32)
    (hS0 : (Rect.unit (s := S1024x18944) o0 S256x256.size h0).set ⊆ S) (hS1 : (Rect.unit (s := S1024x18944) o1 S256x256.size h1).set ⊆ S)
    (hS2 : (Rect.unit (s := S1024x18944) o2 S256x256.size h2).set ⊆ S) (hS3 : (Rect.unit (s := S1024x18944) o3 S256x256.size h3).set ⊆ S)
    (hx0 : ∀ y : S256x256.Idx, B ((Rect.unit (s := S1024x18944) o0 S256x256.size h0).emb y) = x 0 y)
    (hx1 : ∀ y : S256x256.Idx, B ((Rect.unit (s := S1024x18944) o1 S256x256.size h1).emb y) = x 1 y)
    (hx2 : ∀ y : S256x256.Idx, B ((Rect.unit (s := S1024x18944) o2 S256x256.size h2).emb y) = x 2 y)
    (hx3 : ∀ y : S256x256.Idx, B ((Rect.unit (s := S1024x18944) o3 S256x256.size h3).emb y) = x 3 y) :
    Tri c iprop((m6.view.loc (c : Thread nD τ) ↦[S]{fullShare} B) ∗ (owns c st0 fullShare (s 0) ∗ owns c st1 fullShare (s 1)) ∗ ACC c d)
      (accAll st0 st1 o0 o1 o2 o3 h0 h1 h2 h3)
      iprop((m6.view.loc (c : Thread nD τ) ↦[S]{fullShare} B) ∗ (owns c st0 fullShare (s 0) ∗ owns c st1 fullShare (s 1))
        ∗ ACC c (fun q i => accF (d q i) (x i) (s q))) := by
  unfold Tri accAll ACC
  iintro ⟨Hm, ⟨Hs0, Hs1⟩, ⟨⟨A0, B0⟩, ⟨A1, B1⟩, ⟨A2, B2⟩, ⟨A3, B3⟩⟩⟩
  iapply (Tri.use (accR_spec c st0 st1 m16 m20 o0 h0 S B (x 0) (s 0) (s 1) (d 0 0) (d 1 0) hS0 hx0)) $$ [Hm Hs0 Hs1 A0 B0]
  · isplitl [Hm]; · iexact Hm
    isplitl [Hs0]; · iexact Hs0
    isplitl [Hs1]; · iexact Hs1
    isplitl [A0]; · iexact A0
    iexact B0
  iintro ⟨Hm, Hs0, Hs1, A0, B0⟩
  iapply (Tri.use (accR_spec c st0 st1 m17 m21 o1 h1 S B (x 1) (s 0) (s 1) (d 0 1) (d 1 1) hS1 hx1)) $$ [Hm Hs0 Hs1 A1 B1]
  · isplitl [Hm]; · iexact Hm
    isplitl [Hs0]; · iexact Hs0
    isplitl [Hs1]; · iexact Hs1
    isplitl [A1]; · iexact A1
    iexact B1
  iintro ⟨Hm, Hs0, Hs1, A1, B1⟩
  iapply (Tri.use (accR_spec c st0 st1 m18 m22 o2 h2 S B (x 2) (s 0) (s 1) (d 0 2) (d 1 2) hS2 hx2)) $$ [Hm Hs0 Hs1 A2 B2]
  · isplitl [Hm]; · iexact Hm
    isplitl [Hs0]; · iexact Hs0
    isplitl [Hs1]; · iexact Hs1
    isplitl [A2]; · iexact A2
    iexact B2
  iintro ⟨Hm, Hs0, Hs1, A2, B2⟩
  iapply (Tri.last (accR_spec c st0 st1 m19 m23 o3 h3 S B (x 3) (s 0) (s 1) (d 0 3) (d 1 3) hS3 hx3)) $$ [Hm Hs0 Hs1 A3 B3]
  · isplitl [Hm]; · iexact Hm
    isplitl [Hs0]; · iexact Hs0
    isplitl [Hs1]; · iexact Hs1
    isplitl [A3]; · iexact A3
    iexact B3
  iintro ⟨Hm, Hs0, Hs1, A3, B3⟩
  isplitl [Hm]; · iexact Hm
  isplitl [Hs0 Hs1]
  · isplitl [Hs0]; · iexact Hs0
    iexact Hs1
  isplitl [A0 B0]
  · isplitl [A0]; · iexact A0
    iexact B0
  isplitl [A1 B1]
  · isplitl [A1]; · iexact A1
    iexact B1
  isplitl [A2 B2]
  · isplitl [A2]; · iexact A2
    iexact B2
  isplitl [A3]; · iexact A3
  iexact B3

/-- One block of the output block replaced. -/
def updO (i q : ℕ) (f : Vec F S1024x512 .bf16) (w : Vec F S256x256 .bf16) : Vec F S1024x512 .bf16 := fun y =>
  if (y 0).val / 256 = i ∧ (y 1).val / 256 = q then w (ixn 256 256 (by omega) (by omega) (y 0).val (y 1).val) else f y

theorem pop1_spec (c : Dev nD) (a : AccM) (i q : ℕ) (h : ∀ k, (![256 * i, 256 * q] : Fin 2 → ℕ) k + S256x256.size k ≤ S1024x512.size k)
    (hp : (Rect.unit (s := S1024x512) ![256 * i, 256 * q] S256x256.size h).PackedRows (EltTy.packing .bf16)) (d : Vec F S256x256 .f32) (f : Vec F S1024x512 .bf16) :
    Tri c iprop(owns c a fullShare d ∗ (m8.view.loc (c : Thread nD τ) ↦{fullShare} f)) (pop1 a ![256 * i, 256 * q] h hp)
      iprop(owns c a fullShare zeroT ∗ (m8.view.loc (c : Thread nD τ) ↦{fullShare} (updO i q f (truncT d)))) := by
  have hw : (m8.access (Rect.unit (s := S1024x512) ![256 * i, 256 * q] S256x256.size h)).write (Elt F) f (truncT d) Finset.univ = updO i q f (truncT d) := by
    funext y
    by_cases hy : y ∈ (Rect.unit (s := S1024x512) ![256 * i, 256 * q] S256x256.size h).set
    · obtain ⟨z, rfl⟩ := unit_exists hy
      refine (View.write_emb_of_mem (v := m8.access (Rect.unit (s := S1024x512) ![256 * i, 256 * q] S256x256.size h)) f (truncT d) (Finset.mem_univ z)).trans ?_
      unfold updO
      have e0 : ((Rect.unit (s := S1024x512) ![256 * i, 256 * q] S256x256.size h).emb z 0).val = 256 * i + (z 0).val := by
        simp [Rect.emb_apply]
      have e1 : ((Rect.unit (s := S1024x512) ![256 * i, 256 * q] S256x256.size h).emb z 1).val = 256 * q + (z 1).val := by
        simp [Rect.emb_apply]
      have z0 : (z 0).val < 256 := (z 0).isLt
      have z1 : (z 1).val < 256 := (z 1).isLt
      rw [if_pos (by constructor <;> omega)]
      refine congrArg (truncT d) (idx_ext _ _ ?_ ?_)
      · show (z 0).val = _ % 256
        rw [e0]; omega
      · show (z 1).val = _ % 256
        rw [e1]; omega
    · refine (View.write_of_not_mem (v := m8.access (Rect.unit (s := S1024x512) ![256 * i, 256 * q] S256x256.size h)) f (truncT d) Finset.univ ?_).trans ?_
      · intro hm
        apply hy
        obtain ⟨z, -, rfl⟩ := Finset.mem_map.mp hm
        exact unit_emb_mem z
      · unfold updO
        rw [if_neg]
        rintro ⟨h0, h1⟩
        apply hy
        rw [Rect.mem_set_unit]
        intro k
        match k with
        | ⟨0, _⟩ => show 256 * i ≤ (y 0).val ∧ (y 0).val < 256 * i + 256; omega
        | ⟨1, _⟩ => show 256 * q ≤ (y 1).val ∧ (y 1).val < 256 * q + 256; omega
  rw [← hw]
  unfold Tri pop1 owns
  iintro ⟨⟨%fa, %ha, Ha⟩, H8⟩
  sl_exec
  sl_step
  isplitl [Ha]
  · iexists _; isplitr; swap; · iexact Ha
    ipureintro
    rw [read_write_sq]; rfl
  · rw [readAt_sq, ha]
    iexact H8

end Cert.Kernel.Hand

end
-- ==== Proof.K.Machine.lean ====
/- The transfers' states: a column group of the activations' buffer, a slot of the words' buffer and the output
   block are each free, in flight, or in; each guarded transfer moves one of them along. -/
module

public import proofs.«01_k».proof.Proof.K.State

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

/-- The column group of a column. -/
def gOf (k : ℕ) : ℕ := if k < 512 then 0 else 1 + (k - 512) / 4608
/-- The elements of column group `g`. -/
def Gs (g : Fin 5) : Finset S1024x18944.Idx := Finset.univ.filter fun y => gOf (y 1).val = g.val
/-- The elements of word slot `s`. -/
def Ws (s : Fin 2) : Finset S37888x128.Idx := Finset.univ.filter fun y => (y 0).val / 18944 = s.val

theorem xsem_inb (g : Fin 5) : ∀ a, (![g.val] : Fin 1 → ℕ) a + S1.size a ≤ S5.size a := by revert g; decide
theorem wsem_inb (s : Fin 2) : ∀ a, (![s.val] : Fin 1 → ℕ) a + S1.size a ≤ S2.size a := by revert s; decide
def xsem (g : Fin 5) : DmaSem sig := ((m9.slice (Rect.unit (s := S5) ![g.val] S1.size (xsem_inb g))).squeeze S_ squeezes_S1_S_).sem
def wsem (s : Fin 2) : DmaSem sig := ((m10.slice (Rect.unit (s := S2) ![s.val] S1.size (wsem_inb s))).squeeze S_ squeezes_S1_S_).sem
def osem : DmaSem sig := m11.sem

def xN (g : Fin 5) : ℕ := if g = 0 then
    (m6.slice (Rect.unit (s := S1024x18944) ![0, 0] S1024x512.size inb_S1024x18944_S1024x512_0_0) (fun _ => rfl)).view.dmaCredit
  else (m6.slice (Rect.unit (s := S1024x18944) ![0, 512] S1024x4608.size inb_S1024x18944_S1024x4608_0_512) (fun _ => rfl)).view.dmaCredit
theorem w0_inb : ∀ a, (![0, 0] : Fin 2 → ℕ) a + S18944x128.size a ≤ S37888x128.size a := by decide
theorem o0_inb : ∀ a, (![0, 0] : Fin 2 → ℕ) a + S1024x512.size a ≤ S6144x3584.size a := by decide
def wN : ℕ := (m7.slice (Rect.unit (s := S37888x128) ![0, 0] S18944x128.size w0_inb) (fun _ => rfl)).view.dmaCredit
def oN : ℕ := (m5.slice (Rect.unit (s := S6144x3584) ![0, 0] S1024x512.size o0_inb) (fun _ => rfl)).view.dmaCredit

/-- A transfer's state: nothing there, block `n` on its way, block `n` there. -/
inductive TS | free | fly (n : ℕ) | inn (n : ℕ)

def XR (c : Dev nD) (g : Fin 5) : TS → sProp 𝕄
  | .free => iprop((∃ f, m6.view.loc (c : Thread nD τ) ↦[Gs g]{fullShare} f) ∗ semVal ((c : Thread nD τ), .dma (xsem g)) 0
      ∗ (m2.view.loc (c : Thread nD τ) ↦{Transfers.shareTok fullShare 5 g} I.X))
  | .fly mm => Fly c (.dma (xsem g)) (xN g) (m6.view.loc (c : Thread nD τ) ↦[Gs g]{fullShare} XB I mm)
      (m2.view.loc (c : Thread nD τ)) (Transfers.shareTok fullShare 5 g) I.X
  | .inn mm => iprop((m6.view.loc (c : Thread nD τ) ↦[Gs g]{fullShare} XB I mm) ∗ semVal ((c : Thread nD τ), .dma (xsem g)) 0
      ∗ (m2.view.loc (c : Thread nD τ) ↦{Transfers.shareTok fullShare 5 g} I.X))

def WR (c : Dev nD) (s : Fin 2) : TS → sProp 𝕄
  | .free => iprop((∃ f, m7.view.loc (c : Thread nD τ) ↦[Ws s]{fullShare} f) ∗ semVal ((c : Thread nD τ), .dma (wsem s)) 0
      ∗ (m3.view.loc (c : Thread nD τ) ↦{Transfers.shareTok fullShare 2 s} I.W))
  | .fly n => Fly c (.dma (wsem s)) wN (m7.view.loc (c : Thread nD τ) ↦[Ws s]{fullShare} WB I n)
      (m3.view.loc (c : Thread nD τ)) (Transfers.shareTok fullShare 2 s) I.W
  | .inn n => iprop((m7.view.loc (c : Thread nD τ) ↦[Ws s]{fullShare} WB I n) ∗ semVal ((c : Thread nD τ), .dma (wsem s)) 0
      ∗ (m3.view.loc (c : Thread nD τ) ↦{Transfers.shareTok fullShare 2 s} I.W))

/-- The output block's state. -/
inductive OS | free (k : ℕ) | inn (k : ℕ) | fly (k : ℕ)

/-- The output block's resources: `free k`, tiles below `k` written; `inn k`, also holding tile `k`; `fly k`, tile `k` on its way out. -/
def OR (c : Dev nD) : OS → sProp 𝕄
  | .free k => iprop((∃ f, m8.view.loc (c : Thread nD τ) ↦{fullShare} f) ∗ (m5.view.loc (c : Thread nD τ) ↦{fullShare} OutC I k)
      ∗ semVal ((c : Thread nD τ), .dma osem) 0)
  | .inn k => iprop((m5.view.loc (c : Thread nD τ) ↦{fullShare} OutC I k) ∗ semVal ((c : Thread nD τ), .dma osem) 0
      ∗ (m8.view.loc (c : Thread nD τ) ↦{fullShare} OV (fun q i => AccV I k q i 74)))
  | .fly k => Fly c (.dma osem) oN (m5.view.loc (c : Thread nD τ) ↦{fullShare} OutC I (k + 1))
      (m8.view.loc (c : Thread nD τ)) fullShare (OV (fun q i => AccV I k q i 74))

theorem XR_to_free (c : Dev nD) (g : Fin 5) (mm : ℕ) : XR I c g (.inn mm) ⊢ XR I c g .free := by
  unfold XR
  iintro ⟨H, Hv, Hs⟩
  isplitl [H]; · iexists _; iexact H
  isplitl [Hv]; · iexact Hv
  iexact Hs
theorem WR_to_free (c : Dev nD) (s : Fin 2) (n : ℕ) : WR I c s (.inn n) ⊢ WR I c s .free := by
  unfold WR
  iintro ⟨H, Hv, Hs⟩
  isplitl [H]; · iexists _; iexact H
  isplitl [Hv]; · iexact Hv
  iexact Hs

theorem xstart (c : Dev nD) (g : Fin 5) (mm : ℕ) (hmm : mm < 6) (col w : ℕ) (hw : 0 < w)
    (hcw : ∀ k < 18944, gOf k = g.val ↔ col ≤ k ∧ k < col + w)
    (so d : Fin 2 → ℕ) (hso : so = ![1024 * mm, col]) (hd : d = ![0, col])
    (bs : ∀ a, so a + (![1024, w] : Fin 2 → ℕ) a ≤ S6144x18944.size a) (bd : ∀ a, d a + (![1024, w] : Fin 2 → ℕ) a ≤ S1024x18944.size a)
    (sm : DmaSem sig) (hsm : sm = xsem g)
    (hsrc : (m2.slice (Rect.unit (s := S6144x18944) so ![1024, w] bs) (fun _ => rfl)).view.WordExact)
    (hdst : (m6.slice (Rect.unit (s := S1024x18944) d ![1024, w] bd) (fun _ => rfl)).view.WordExact)
    (hsem : DmaTarget.Typed (nD := nD) (τ := τ) .hbm (.dma sm) (.here (p := .tc) (m6.slice (Rect.unit (s := S1024x18944) d ![1024, w] bd) (fun _ => rfl))))
    (hN : (m6.slice (Rect.unit (s := S1024x18944) d ![1024, w] bd) (fun _ => rfl)).view.dmaCredit = xN g) :
    Tri c (XR I c g .free)
      (Prog.lift (.enqueueDma (m2.slice (Rect.unit (s := S6144x18944) so ![1024, w] bs) (fun _ => rfl))
        (.here (m6.slice (Rect.unit (s := S1024x18944) d ![1024, w] bd) (fun _ => rfl))) (.dma sm) hsrc hdst hsem))
      (XR I c g (.fly mm)) := by
  subst hso hd hsm
  have hset : (m6.slice (Rect.unit (s := S1024x18944) ![0, col] ![1024, w] bd) (fun _ => rfl)).view.set ⊆ Gs g := by
    intro i hi
    obtain ⟨z, -, rfl⟩ := Finset.mem_map.mp hi
    refine Finset.mem_filter.mpr ⟨Finset.mem_univ _, ?_⟩
    have z1 : (z 1).val < w := (z 1).isLt
    have e1 : (((Rect.unit (s := S1024x18944) ![0, col] ![1024, w] bd).emb z) 1).val = col + (z 1).val := by simp [Rect.emb_apply]
    exact (hcw _ (((Rect.unit (s := S1024x18944) ![0, col] ![1024, w] bd).emb z) 1).isLt).2 (by rw [e1]; omega)
  have hG (fd : Vec F S1024x18944 .bf16) : ∀ i ∈ Gs g, (m6.slice (Rect.unit (s := S1024x18944) ![0, col] ![1024, w] bd) (fun _ => rfl)).view.write (Elt F) fd
      ((m2.slice (Rect.unit (s := S6144x18944) ![1024 * mm, col] ![1024, w] bs) (fun _ => rfl)).view.read (Elt F) I.X) Finset.univ i = XB I mm i := by
    intro i hi
    have hc := (hcw _ (i 1).isLt).1 (Finset.mem_filter.mp hi).2
    have hi0 : (i 0).val < 1024 := (i 0).isLt
    have hy : i ∈ (Rect.unit (s := S1024x18944) ![0, col] ![1024, w] bd).set := by
      rw [Rect.mem_set_unit]
      intro k
      match k with
      | ⟨0, _⟩ => show 0 ≤ (i 0).val ∧ (i 0).val < 0 + 1024; omega
      | ⟨1, _⟩ => exact hc
    obtain ⟨z, rfl⟩ := unit_exists hy
    refine (View.write_emb_of_mem (v := (m6.slice (Rect.unit (s := S1024x18944) ![0, col] ![1024, w] bd) (fun _ => rfl)).view) fd _ (Finset.mem_univ z)).trans ?_
    have z0 : (z 0).val < 1024 := (z 0).isLt
    have z1 : (z 1).val < w := (z 1).isLt
    have e0 : (((Rect.unit (s := S1024x18944) ![0, col] ![1024, w] bd).emb z) 0).val = (z 0).val := by simp [Rect.emb_apply]
    have e1 : (((Rect.unit (s := S1024x18944) ![0, col] ![1024, w] bd).emb z) 1).val = col + (z 1).val := by simp [Rect.emb_apply]
    have f0 : (((Rect.unit (s := S6144x18944) ![1024 * mm, col] ![1024, w] bs).emb z) 0).val = 1024 * mm + (z 0).val := by simp [Rect.emb_apply]
    have f1 : (((Rect.unit (s := S6144x18944) ![1024 * mm, col] ![1024, w] bs).emb z) 1).val = col + (z 1).val := by simp [Rect.emb_apply]
    have hb : col + (z 1).val < 18944 := e1 ▸ (((Rect.unit (s := S1024x18944) ![0, col] ![1024, w] bd).emb z) 1).isLt
    unfold XB
    refine congrArg I.X (idx_ext _ _ ?_ ?_)
    · refine f0.trans ?_; show _ = (1024 * mm + (((Rect.unit (s := S1024x18944) ![0, col] ![1024, w] bd).emb z) 0).val) % 6144
      rw [e0]; omega
    · refine f1.trans ?_; show _ = (((Rect.unit (s := S1024x18944) ![0, col] ![1024, w] bd).emb z) 1).val % 18944
      rw [e1]; omega
  unfold Tri
  have hn : 0 < (⟨2, ![1024, w]⟩ : Shape).numel := by
    simp [Shape.numel, Fin.prod_univ_two]; omega
  have key (fd : Vec F S1024x18944 .bf16) := start_spec c (src := m2.slice (Rect.unit (s := S6144x18944) ![1024 * mm, col] ![1024, w] bs) (fun _ => rfl))
    (dst := m6.slice (Rect.unit (s := S1024x18944) ![0, col] ![1024, w] bd) (fun _ => rfl)) (sm := .dma (xsem g)) (hsrc := hsrc) (hdst := hdst) (hsem := hsem)
    (xN g) hN hn (q := Transfers.shareTok fullShare 5 g) (fs := I.X) hset (hG fd)
  unfold XR
  iintro ⟨⟨%f, H⟩, Hv, Hs⟩
  iapply (Tri.last (key f)) $$ [H Hv Hs]
  · isplitl [H]; · iexact H
    isplitl [Hv]; · iexact Hv
    iexact Hs
  iintro H
  iexact H

theorem wstart (c : Dev nD) (s : Fin 2) (n : ℕ) (hn : n < 7)
    (so d : Fin 2 → ℕ) (hso : so = ![18944 * n, 0]) (hd : d = ![18944 * s.val, 0])
    (bs : ∀ a, so a + S18944x128.size a ≤ S132608x128.size a) (bd : ∀ a, d a + S18944x128.size a ≤ S37888x128.size a)
    (sm : DmaSem sig) (hsm : sm = wsem s)
    (hsrc : (m3.slice (Rect.unit (s := S132608x128) so S18944x128.size bs) (fun _ => rfl)).view.WordExact)
    (hdst : (m7.slice (Rect.unit (s := S37888x128) d S18944x128.size bd) (fun _ => rfl)).view.WordExact)
    (hsem : DmaTarget.Typed (nD := nD) (τ := τ) .hbm (.dma sm) (.here (p := .tc) (m7.slice (Rect.unit (s := S37888x128) d S18944x128.size bd) (fun _ => rfl)))) :
    Tri c (WR I c s .free)
      (Prog.lift (.enqueueDma (m3.slice (Rect.unit (s := S132608x128) so S18944x128.size bs) (fun _ => rfl))
        (.here (m7.slice (Rect.unit (s := S37888x128) d S18944x128.size bd) (fun _ => rfl))) (.dma sm) hsrc hdst hsem))
      (WR I c s (.fly n)) := by
  subst hso hd hsm
  have hs2 : s.val < 2 := s.isLt
  have hset : (m7.slice (Rect.unit (s := S37888x128) ![18944 * s.val, 0] S18944x128.size bd) (fun _ => rfl)).view.set ⊆ Ws s := by
    intro i hi
    obtain ⟨z, -, rfl⟩ := Finset.mem_map.mp hi
    refine Finset.mem_filter.mpr ⟨Finset.mem_univ _, ?_⟩
    have z0 : (z 0).val < 18944 := (z 0).isLt
    have e0 : (((Rect.unit (s := S37888x128) ![18944 * s.val, 0] S18944x128.size bd).emb z) 0).val = 18944 * s.val + (z 0).val := by simp [Rect.emb_apply]
    show (((Rect.unit (s := S37888x128) ![18944 * s.val, 0] S18944x128.size bd).emb z) 0).val / 18944 = s.val
    rw [e0]; omega
  have hG (fd : Vec F S37888x128 .i32) : ∀ i ∈ Ws s, (m7.slice (Rect.unit (s := S37888x128) ![18944 * s.val, 0] S18944x128.size bd) (fun _ => rfl)).view.write (Elt F) fd
      ((m3.slice (Rect.unit (s := S132608x128) ![18944 * n, 0] S18944x128.size bs) (fun _ => rfl)).view.read (Elt F) I.W) Finset.univ i = WB I n i := by
    intro i hi
    have hc := (Finset.mem_filter.mp hi).2
    have hi1 : (i 1).val < 128 := (i 1).isLt
    have hy : i ∈ (Rect.unit (s := S37888x128) ![18944 * s.val, 0] S18944x128.size bd).set := by
      rw [Rect.mem_set_unit]
      intro k
      match k with
      | ⟨0, _⟩ => show 18944 * s.val ≤ (i 0).val ∧ (i 0).val < 18944 * s.val + 18944; omega
      | ⟨1, _⟩ => show 0 ≤ (i 1).val ∧ (i 1).val < 0 + 128; omega
    obtain ⟨z, rfl⟩ := unit_exists hy
    refine (View.write_emb_of_mem (v := (m7.slice (Rect.unit (s := S37888x128) ![18944 * s.val, 0] S18944x128.size bd) (fun _ => rfl)).view) fd _ (Finset.mem_univ z)).trans ?_
    have z0 : (z 0).val < 18944 := (z 0).isLt
    have z1 : (z 1).val < 128 := (z 1).isLt
    have e0 : (((Rect.unit (s := S37888x128) ![18944 * s.val, 0] S18944x128.size bd).emb z) 0).val = 18944 * s.val + (z 0).val := by simp [Rect.emb_apply]
    have e1 : (((Rect.unit (s := S37888x128) ![18944 * s.val, 0] S18944x128.size bd).emb z) 1).val = (z 1).val := by simp [Rect.emb_apply]
    have f0 : (((Rect.unit (s := S132608x128) ![18944 * n, 0] S18944x128.size bs).emb z) 0).val = 18944 * n + (z 0).val := by simp [Rect.emb_apply]
    have f1 : (((Rect.unit (s := S132608x128) ![18944 * n, 0] S18944x128.size bs).emb z) 1).val = (z 1).val := by simp [Rect.emb_apply]
    unfold WB
    refine congrArg I.W (idx_ext _ _ ?_ ?_)
    · refine f0.trans ?_; show _ = (18944 * n + (((Rect.unit (s := S37888x128) ![18944 * s.val, 0] S18944x128.size bd).emb z) 0).val % 18944) % 132608
      rw [e0]; omega
    · refine f1.trans ?_; show _ = (((Rect.unit (s := S37888x128) ![18944 * s.val, 0] S18944x128.size bd).emb z) 1).val % 128
      rw [e1]; omega
  unfold Tri
  have hn : 0 < S18944x128.numel := by
    simp [Shape.numel, Fin.prod_univ_two]
  have key (fd : Vec F S37888x128 .i32) := start_spec c (src := m3.slice (Rect.unit (s := S132608x128) ![18944 * n, 0] S18944x128.size bs) (fun _ => rfl))
    (dst := m7.slice (Rect.unit (s := S37888x128) ![18944 * s.val, 0] S18944x128.size bd) (fun _ => rfl)) (sm := .dma (wsem s)) (hsrc := hsrc) (hdst := hdst) (hsem := hsem)
    wN rfl hn (q := Transfers.shareTok fullShare 2 s) (fs := I.W) hset (hG fd)
  unfold WR
  iintro ⟨⟨%f, H⟩, Hv, Hs⟩
  iapply (Tri.last (key f)) $$ [H Hv Hs]
  · isplitl [H]; · iexact H
    isplitl [Hv]; · iexact Hv
    iexact Hs
  iintro H
  iexact H

theorem ostart (c : Dev nD) (k : ℕ) (hk : k < 42)
    (d : Fin 2 → ℕ) (hd : d = ![1024 * (k / 7), 512 * (k % 7)])
    (bd : ∀ a, d a + S1024x512.size a ≤ S6144x3584.size a)
    (hsrc : m8.view.WordExact)
    (hdst : (m5.slice (Rect.unit (s := S6144x3584) d S1024x512.size bd) (fun _ => rfl)).view.WordExact)
    (hsem : DmaTarget.Typed (nD := nD) (τ := τ) .vmem (.dma m11.sem) (.here (p := .tc) (m5.slice (Rect.unit (s := S6144x3584) d S1024x512.size bd) (fun _ => rfl)))) :
    Tri c (OR I c (.inn k))
      (Prog.lift (.enqueueDma m8 (.here (m5.slice (Rect.unit (s := S6144x3584) d S1024x512.size bd) (fun _ => rfl))) (.dma m11.sem) hsrc hdst hsem))
      (OR I c (.fly k)) := by
  subst hd
  have hG : ∀ i ∈ (Finset.univ : Finset S6144x3584.Idx), (m5.slice (Rect.unit (s := S6144x3584) ![1024 * (k / 7), 512 * (k % 7)] S1024x512.size bd) (fun _ => rfl)).view.write (Elt F) (OutC I k)
      (m8.view.read (Elt F) (OV (fun q i => AccV I k q i 74))) Finset.univ i = OutC I (k + 1) i := by
    intro y _
    by_cases hy : y ∈ (Rect.unit (s := S6144x3584) ![1024 * (k / 7), 512 * (k % 7)] S1024x512.size bd).set
    · obtain ⟨z, rfl⟩ := unit_exists hy
      refine (View.write_emb_of_mem (v := (m5.slice (Rect.unit (s := S6144x3584) ![1024 * (k / 7), 512 * (k % 7)] S1024x512.size bd) (fun _ => rfl)).view) _ _ (Finset.mem_univ z)).trans ?_
      have z0 : (z 0).val < 1024 := (z 0).isLt
      have z1 : (z 1).val < 512 := (z 1).isLt
      have e0 : (((Rect.unit (s := S6144x3584) ![1024 * (k / 7), 512 * (k % 7)] S1024x512.size bd).emb z) 0).val = 1024 * (k / 7) + (z 0).val := by simp [Rect.emb_apply]
      have e1 : (((Rect.unit (s := S6144x3584) ![1024 * (k / 7), 512 * (k % 7)] S1024x512.size bd).emb z) 1).val = 512 * (k % 7) + (z 1).val := by simp [Rect.emb_apply]
      unfold OutC
      rw [e0, e1]
      have ht : 7 * ((1024 * (k / 7) + (z 0).val) / 1024) + (512 * (k % 7) + (z 1).val) / 512 = k := by omega
      rw [ht, if_pos (by omega)]
      refine congrArg (OV (fun q i => AccV I k q i 74)) (idx_ext _ _ ?_ ?_)
      · show (z 0).val = (1024 * (k / 7) + (z 0).val) % 1024; omega
      · show (z 1).val = (512 * (k % 7) + (z 1).val) % 512; omega
    · refine (View.write_of_not_mem (v := (m5.slice (Rect.unit (s := S6144x3584) ![1024 * (k / 7), 512 * (k % 7)] S1024x512.size bd) (fun _ => rfl)).view) _ _ Finset.univ ?_).trans ?_
      · intro hm
        apply hy
        obtain ⟨z, -, rfl⟩ := Finset.mem_map.mp hm
        exact unit_emb_mem z
      · have hne : 7 * ((y 0).val / 1024) + (y 1).val / 512 ≠ k := by
          intro he
          apply hy
          rw [Rect.mem_set_unit]
          have y0 : (y 0).val < 6144 := (y 0).isLt
          have y1 : (y 1).val < 3584 := (y 1).isLt
          intro a
          match a with
          | ⟨0, _⟩ => show 1024 * (k / 7) ≤ (y 0).val ∧ (y 0).val < 1024 * (k / 7) + 1024; omega
          | ⟨1, _⟩ => show 512 * (k % 7) ≤ (y 1).val ∧ (y 1).val < 512 * (k % 7) + 512; omega
        unfold OutC
        by_cases hl : 7 * ((y 0).val / 1024) + (y 1).val / 512 < k
        · rw [if_pos hl, if_pos (by omega)]
        · rw [if_neg hl, if_neg (by omega)]
  have hn : 0 < S1024x512.numel := by
    simp [Shape.numel, Fin.prod_univ_two]
  have key := start_spec c (src := m8)
    (dst := m5.slice (Rect.unit (s := S6144x3584) ![1024 * (k / 7), 512 * (k % 7)] S1024x512.size bd) (fun _ => rfl)) (sm := .dma osem) (hsrc := hsrc) (hdst := hdst) (hsem := hsem)
    oN rfl hn (q := fullShare) (fs := OV (fun q i => AccV I k q i 74)) (Sd := Finset.univ) (Finset.subset_univ _) hG
  unfold OR
  exact key

theorem xwait (c : Dev nD) (g : Fin 5) (mm : ℕ) {sp sp' : Space} {s s' : Shape} {e e' : EltTy} (src : Memref sig .tc sp' s' e') (dst : Memref sig .tc sp s e)
    (sm : DmaSem sig) (hsm : sm = xsem g) (hsrc : src.view.WordExact) (hdst : dst.view.WordExact) (hN : dst.view.dmaCredit = xN g) :
    Tri c iprop(XR I c g (.fly mm) ∗ Owe c) (Prog.lift (.waitDma2 sm src dst hsrc hdst)) iprop(XR I c g (.inn mm) ∗ Owe c) := by
  subst hsm
  exact wait_spec c (xN g) hN
theorem wwait (c : Dev nD) (g : Fin 2) (n : ℕ) {sp sp' : Space} {s s' : Shape} {e e' : EltTy} (src : Memref sig .tc sp' s' e') (dst : Memref sig .tc sp s e)
    (sm : DmaSem sig) (hsm : sm = wsem g) (hsrc : src.view.WordExact) (hdst : dst.view.WordExact) (hN : dst.view.dmaCredit = wN) :
    Tri c iprop(WR I c g (.fly n) ∗ Owe c) (Prog.lift (.waitDma2 sm src dst hsrc hdst)) iprop(WR I c g (.inn n) ∗ Owe c) := by
  subst hsm
  exact wait_spec c wN hN
theorem owait (c : Dev nD) (k : ℕ) {sp sp' : Space} {s s' : Shape} {e e' : EltTy} (src : Memref sig .tc sp' s' e') (dst : Memref sig .tc sp s e)
    (hsrc : src.view.WordExact) (hdst : dst.view.WordExact) (hN : dst.view.dmaCredit = oN) :
    Tri c iprop(OR I c (.fly k) ∗ Owe c) (Prog.lift (.waitDma2 m11.sem src dst hsrc hdst)) iprop(OR I c (.free (k + 1)) ∗ Owe c) := by
  refine Tri.conseq (wait_spec (sem := osem) (src := src) (dst := dst) (hsrc := hsrc) (hdst := hdst) c oN hN) .rfl ?_
  unfold OR
  iintro ⟨⟨H5, Hv, H8⟩, HO⟩
  isplitr [HO]; swap; · iexact HO
  isplitl [H8]; · iexists _; iexact H8
  isplitl [H5]; · iexact H5
  iexact Hv

end Cert.Kernel.Hand

end
-- ==== Proof.K.Chunk.lean ====
/- One half chunk, one chunk and the taking of the accumulators, at the values the buffers hold. -/
module

public import proofs.«01_k».proof.Proof.K.Machine

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

theorem push_sub (s : Fin 2) (q r ch : ℕ) (hq : q < 2) (hr : r < 4) (hch : ch < 37) (o : Fin 2 → ℕ) (h)
    (ho : o = ![18944 * s.val + 9472 * q + ch + 37 * r, 0]) :
    m7.view.setOn (⟨o, S64x128.size, ![148, 1], h⟩ : LoadRect S37888x128).set ⊆ Ws s := by
  subst ho
  rw [setOn_m7]
  intro i hi
  refine Finset.mem_filter.mpr ⟨Finset.mem_univ _, ?_⟩
  obtain ⟨j, hj, e⟩ := (LoadRect.mem_set _).mp hi 0
  have hj' : j < 64 := hj
  have e' : (i 0).val = 18944 * s.val + 9472 * q + ch + 37 * r + 148 * j := e
  omega

theorem idx0 (o : Fin 2 → ℕ) (h) (y : S64x128.Idx) :
    (((⟨o, S64x128.size, ![148, 1], h⟩ : LoadRect S37888x128).idx y) 0).val = o 0 + 148 * (y 0).val := rfl
theorem idx1 (o : Fin 2 → ℕ) (h) (y : S64x128.Idx) :
    (((⟨o, S64x128.size, ![148, 1], h⟩ : LoadRect S37888x128).idx y) 1).val = o 1 + 1 * (y 1).val := rfl

theorem pushV_w (s : Fin 2) (n q r ch : ℕ) (hq : q < 2) (hr : r < 4) (hch : ch < 37) (o : Fin 2 → ℕ) (h)
    (ho : o = ![18944 * s.val + 9472 * q + ch + 37 * r, 0]) :
    (fun y : S64x128.Idx => WB I n ((⟨o, S64x128.size, ![148, 1], h⟩ : LoadRect S37888x128).idx y)) = WT I n q ch r := by
  subst ho
  funext y
  unfold WB WT
  have y0 : (y 0).val < 64 := (y 0).isLt
  have y1 : (y 1).val < 128 := (y 1).isLt
  refine congrArg I.W (idx_ext _ _ ?_ ?_)
  · show (18944 * n + (18944 * s.val + 9472 * q + ch + 37 * r + 148 * (y 0).val) % 18944) % 132608
      = (18944 * n + (9472 * q + ch + 37 * r + 148 * (y 0).val)) % 132608
    omega
  · show (0 + 1 * (y 1).val) % 128 = (y 1).val % 128
    omega

theorem pushV_s (n q : ℕ) (hn : n < 7) (hq : q < 2) (os : Fin 2 → ℕ) (hs) (hos : os = ![512 * n + 256 * q, 0]) :
    (fun y : S256x128.Idx => I.S ((Rect.unit (s := S3584x128) os S256x128.size hs).emb y)) = ScT I n q := by
  subst hos
  funext y
  unfold ScT
  have y0 : (y 0).val < 256 := (y 0).isLt
  have y1 : (y 1).val < 128 := (y 1).isLt
  refine congrArg I.S (idx_ext _ _ ?_ ?_)
  · show 512 * n + 256 * q + 1 * (y 0).val = (512 * n + 256 * q + (y 0).val) % 3584
    omega
  · show 0 + 1 * (y 1).val = (y 1).val % 128
    omega

/-- Staging from a slot that holds column tile `n`. -/
theorem pushV (c : Dev nD) (a4 : Memref sig .tc .vmem S3584x128 .f32) (st : StgM) (hst : st.IsWhole) (s : Fin 2) (n q ch : ℕ) (hi : Bool)
    (hn : n < 7) (hq : q < 2) (hch : ch < 37) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV)
    (ho : ∀ r, o r = ![18944 * s.val + 9472 * q + ch + 37 * r.val, 0]) (hos : os = ![512 * n + 256 * q, 0]) (hc : chunk = BitVec.ofNat 32 ch) :
    Tri c iprop(WR I c s (.inn n) ∗ owns c a4 fullShare I.S ∗ (∃ v, owns c st fullShare v))
      (push1 a4 st hst o h os hs chunk hi)
      iprop(WR I c s (.inn n) ∗ owns c a4 fullShare I.S ∗ owns c st fullShare (ST I n q ch hi)) := by
  have key := push1_spec c a4 st hst o h os hs chunk hi (Ws s) (WB I n) I.S (fun r => push_sub s q r.val ch hq r.isLt hch _ _ (ho r))
  rw [pushV_w I s n q 0 ch hq (by omega) hch _ _ (ho 0), pushV_w I s n q 1 ch hq (by omega) hch _ _ (ho 1),
    pushV_w I s n q 2 ch hq (by omega) hch _ _ (ho 2), pushV_w I s n q 3 ch hq (by omega) hch _ _ (ho 3), pushV_s I n q hn hq os hs hos, hc] at key
  subst hc
  unfold Tri WR
  iintro ⟨⟨Hm, Hv, Hs⟩, H4, Hst⟩
  iapply (Tri.last key) $$ [Hm H4 Hst]
  · isplitl [Hm]; · iexact Hm
    isplitl [H4]; · iexact H4
    iexact Hst
  iintro ⟨Hm, H4, Hst⟩
  isplitr [H4 Hst]
  · isplitl [Hm]; · iexact Hm
    isplitl [Hv]; · iexact Hv
    iexact Hs
  isplitl [H4]; · iexact H4
  iexact Hst

/-- Staging from a slot that holds anything. -/
theorem pushJ (c : Dev nD) (a4 : Memref sig .tc .vmem S3584x128 .f32) (st : StgM) (hst : st.IsWhole) (s : Fin 2) (q ch : ℕ) (hi : Bool)
    (hq : q < 2) (hch : ch < 37) (o : Fin 4 → Fin 2 → Nat)
    (h : ∀ r a, S64x128.size a = 0 ∨ o r a + (![148, 1] : Fin 2 → Nat) a * (S64x128.size a - 1) < S37888x128.size a)
    (os : Fin 2 → Nat) (hs : ∀ a, os a + S256x128.size a ≤ S3584x128.size a) (chunk : BV)
    (ho : ∀ r, o r = ![18944 * s.val + 9472 * q + ch + 37 * r.val, 0]) :
    Tri c iprop(WR I c s .free ∗ owns c a4 fullShare I.S ∗ (∃ v, owns c st fullShare v))
      (push1 a4 st hst o h os hs chunk hi)
      iprop(WR I c s .free ∗ owns c a4 fullShare I.S ∗ (∃ v, owns c st fullShare v)) := by
  have key (f : Vec F S37888x128 .i32) := push1_spec c a4 st hst o h os hs chunk hi (Ws s) f I.S (fun r => push_sub s q r.val ch hq r.isLt hch _ _ (ho r))
  unfold Tri WR
  iintro ⟨⟨⟨%f, Hm⟩, Hv, Hs⟩, H4, Hst⟩
  iapply (Tri.last (key f)) $$ [Hm H4 Hst]
  · isplitl [Hm]; · iexact Hm
    isplitl [H4]; · iexact H4
    iexact Hst
  iintro ⟨Hm, H4, Hst⟩
  isplitr [H4 Hst]
  · isplitl [Hm]; · iexists _; iexact Hm
    isplitl [Hv]; · iexact Hv
    iexact Hs
  isplitl [H4]; · iexact H4
  iexists _; iexact Hst

theorem acc_sub (g : Fin 5) (i s : ℕ) (hg : ∀ k < 256, gOf (256 * s + k) = g.val) (o : Fin 2 → ℕ) (h : ∀ a, o a + S256x256.size a ≤ S1024x18944.size a)
    (ho : o = ![256 * i, 256 * s]) : (Rect.unit (s := S1024x18944) o S256x256.size h).set ⊆ Gs g := by
  subst ho
  intro y hy
  refine Finset.mem_filter.mpr ⟨Finset.mem_univ _, ?_⟩
  have h1 : 256 * s ≤ (y 1).val ∧ (y 1).val < 256 * s + 256 := (Rect.mem_set_unit.mp hy) 1
  have := hg ((y 1).val - 256 * s) (by omega)
  rwa [show 256 * s + ((y 1).val - 256 * s) = (y 1).val by omega] at this

theorem acc_x (mm i s : ℕ) (o : Fin 2 → ℕ) (h : ∀ a, o a + S256x256.size a ≤ S1024x18944.size a)
    (ho : o = ![256 * i, 256 * s]) (y : S256x256.Idx) : XB I mm ((Rect.unit (s := S1024x18944) o S256x256.size h).emb y) = XT I mm i s y := by
  subst ho
  unfold XB XT
  refine congrArg I.X (idx_ext _ _ ?_ ?_)
  · show (1024 * mm + (256 * i + 1 * (y 0).val)) % 6144 = (1024 * mm + 256 * i + (y 0).val) % 6144
    rw [Nat.one_mul, ← Nat.add_assoc]
  · show (256 * s + 1 * (y 1).val) % 18944 = (256 * s + (y 1).val) % 18944
    rw [Nat.one_mul]

theorem accRV (c : Dev nD) (st0 st1 : StgM) (a0 a1 : AccM) (g : Fin 5) (mm i s : ℕ) (hg : ∀ k < 256, gOf (256 * s + k) = g.val)
    (o : Fin 2 → Nat) (h : ∀ a, o a + S256x256.size a ≤ S1024x18944.size a) (ho : o = ![256 * i, 256 * s])
    (s0 s1 : Vec F S256x256 .bf16) (d0 d1 : Vec F S256x256 .f32) :
    Tri c iprop(XR I c g (.inn mm) ∗ (owns c st0 fullShare s0 ∗ owns c st1 fullShare s1) ∗ owns c a0 fullShare d0 ∗ owns c a1 fullShare d1)
      (accR st0 st1 a0 a1 o h)
      iprop(XR I c g (.inn mm) ∗ (owns c st0 fullShare s0 ∗ owns c st1 fullShare s1) ∗ owns c a0 fullShare (accF d0 (XT I mm i s) s0) ∗ owns c a1 fullShare (accF d1 (XT I mm i s) s1)) := by
  unfold Tri XR
  iintro ⟨⟨Hm, Hv, Hx⟩, ⟨Hs0, Hs1⟩, H0, H1⟩
  iapply (Tri.last (accR_spec c st0 st1 a0 a1 o h (Gs g) (XB I mm) (XT I mm i s) s0 s1 d0 d1 (acc_sub g i s hg o h ho) (acc_x I mm i s o h ho))) $$ [Hm Hs0 Hs1 H0 H1]
  · isplitl [Hm]; · iexact Hm
    isplitl [Hs0]; · iexact Hs0
    isplitl [Hs1]; · iexact Hs1
    isplitl [H0]; · iexact H0
    iexact H1
  iintro ⟨Hm, Hs0, Hs1, H0, H1⟩
  isplitl [Hm Hv Hx]
  · isplitl [Hm]; · iexact Hm
    isplitl [Hv]; · iexact Hv
    iexact Hx
  isplitl [Hs0 Hs1]
  · isplitl [Hs0]; · iexact Hs0
    iexact Hs1
  isplitl [H0]; · iexact H0
  iexact H1

theorem accV (c : Dev nD) (st0 st1 : StgM) (g : Fin 5) (mm s : ℕ) (hg : ∀ k < 256, gOf (256 * s + k) = g.val)
    (o0 o1 o2 o3 : Fin 2 → Nat) (h0 : ∀ a, o0 a + S256x256.size a ≤ S1024x18944.size a)
    (h1 : ∀ a, o1 a + S256x256.size a ≤ S1024x18944.size a) (h2 : ∀ a, o2 a + S256x256.size a ≤ S1024x18944.size a)
    (h3 : ∀ a, o3 a + S256x256.size a ≤ S1024x18944.size a)
    (e0 : o0 = ![256 * 0, 256 * s]) (e1 : o1 = ![256 * 1, 256 * s]) (e2 : o2 = ![256 * 2, 256 * s]) (e3 : o3 = ![256 * 3, 256 * s])
    (sv : ℕ → Vec F S256x256 .bf16) (d : ℕ → ℕ → Vec F S256x256 .f32) :
    Tri c iprop(XR I c g (.inn mm) ∗ (owns c st0 fullShare (sv 0) ∗ owns c st1 fullShare (sv 1)) ∗ ACC c d)
      (accAll st0 st1 o0 o1 o2 o3 h0 h1 h2 h3)
      iprop(XR I c g (.inn mm) ∗ (owns c st0 fullShare (sv 0) ∗ owns c st1 fullShare (sv 1)) ∗ ACC c (fun q i => accF (d q i) (XT I mm i s) (sv q))) := by
  unfold Tri XR
  iintro ⟨⟨Hm, Hv, Hx⟩, Hst, HA⟩
  iapply (Tri.last (accAll_spec c st0 st1 o0 o1 o2 o3 h0 h1 h2 h3 (Gs g) (XB I mm) (fun i => XT I mm i s) sv d
    (acc_sub g 0 s hg _ h0 e0) (acc_sub g 1 s hg _ h1 e1) (acc_sub g 2 s hg _ h2 e2) (acc_sub g 3 s hg _ h3 e3)
    (acc_x I mm 0 s _ h0 e0) (acc_x I mm 1 s _ h1 e1) (acc_x I mm 2 s _ h2 e2) (acc_x I mm 3 s _ h3 e3))) $$ [Hm Hst HA]
  · isplitl [Hm]; · iexact Hm
    isplitl [Hst]; · iexact Hst
    iexact HA
  iintro ⟨Hm, Hst, HA⟩
  isplitl [Hm Hv Hx]
  · isplitl [Hm]; · iexact Hm
    isplitl [Hv]; · iexact Hv
    iexact Hx
  isplitl [Hst]; · iexact Hst
  iexact HA

/-! ## Taking the accumulators -/

theorem pop2V (c : Dev nD) (a0 a1 : AccM) (i : ℕ) (o0 o1 : Fin 2 → Nat) (h0 : ∀ a, o0 a + S256x256.size a ≤ S1024x512.size a) (h1 : ∀ a, o1 a + S256x256.size a ≤ S1024x512.size a)
    (p0 : (Rect.unit (s := S1024x512) o0 S256x256.size h0).PackedRows (EltTy.packing .bf16))
    (p1 : (Rect.unit (s := S1024x512) o1 S256x256.size h1).PackedRows (EltTy.packing .bf16))
    (e0 : o0 = ![256 * i, 256 * 0]) (e1 : o1 = ![256 * i, 256 * 1]) (d0 d1 : Vec F S256x256 .f32) (f : Vec F S1024x512 .bf16) :
    Tri c iprop((owns c a0 fullShare d0 ∗ owns c a1 fullShare d1) ∗ (m8.view.loc (c : Thread nD τ) ↦{fullShare} f)) (pop2 a0 a1 o0 o1 h0 h1 p0 p1)
      iprop((owns c a0 fullShare zeroT ∗ owns c a1 fullShare zeroT) ∗ (m8.view.loc (c : Thread nD τ) ↦{fullShare} (updO i 1 (updO i 0 f (truncT d0)) (truncT d1)))) := by
  subst e0 e1
  unfold Tri pop2
  iintro ⟨⟨H0, H1⟩, H8⟩
  iapply (Tri.use (pop1_spec c a0 i 0 h0 p0 d0 f)) $$ [H0 H8]
  · isplitl [H0]; · iexact H0
    iexact H8
  iintro ⟨H0, H8⟩
  iapply (Tri.last (pop1_spec c a1 i 1 h1 p1 d1 (updO i 0 f (truncT d0)))) $$ [H1 H8]
  · isplitl [H1]; · iexact H1
    iexact H8
  iintro ⟨H1, H8⟩
  isplitr [H8]; swap; · iexact H8
  isplitl [H0]; · iexact H0
  iexact H1

theorem updO_all (d : ℕ → ℕ → Vec F S256x256 .f32) (f : Vec F S1024x512 .bf16) :
    updO 3 1 (updO 3 0 (updO 2 1 (updO 2 0 (updO 1 1 (updO 1 0 (updO 0 1 (updO 0 0 f (truncT (d 0 0))) (truncT (d 1 0))) (truncT (d 0 1))) (truncT (d 1 1)))
      (truncT (d 0 2))) (truncT (d 1 2))) (truncT (d 0 3))) (truncT (d 1 3)) = OV d := by
  funext y
  have y0 : (y 0).val < 1024 := (y 0).isLt
  have y1 : (y 1).val < 512 := (y 1).isLt
  have a0 : (y 0).val / 256 = 0 ∨ (y 0).val / 256 = 1 ∨ (y 0).val / 256 = 2 ∨ (y 0).val / 256 = 3 := by omega
  have a1 : (y 1).val / 256 = 0 ∨ (y 1).val / 256 = 1 := by omega
  unfold updO OV
  rcases a0 with h | h | h | h <;> rcases a1 with h' | h' <;> simp [h, h']

theorem popAcc_spec (c : Dev nD) (mm : ℕ) (sv : ℕ → Vec F S256x256 .bf16) (d : ℕ → ℕ → Vec F S256x256 .f32) (f : Vec F S1024x512 .bf16) :
    Tri c iprop(XR I c 0 (.inn mm) ∗ (owns c m12 fullShare (sv 0) ∗ owns c m13 fullShare (sv 1)) ∗ ACC c d ∗ (m8.view.loc (c : Thread nD τ) ↦{fullShare} f))
      popAcc
      iprop(XR I c 0 (.inn mm) ∗ (owns c m12 fullShare (sv 0) ∗ owns c m13 fullShare (sv 1)) ∗ ACC c (fun q i => accF zeroT (XT I mm i 0) (sv q))
        ∗ (m8.view.loc (c : Thread nD τ) ↦{fullShare} OV d)) := by
  have hg : ∀ k < 256, gOf (256 * 0 + k) = (0 : Fin 5).val := by
    intro k hk; unfold gOf; rw [if_pos (by omega)]; rfl
  unfold Tri popAcc ACC
  iintro ⟨HX, Hst, ⟨⟨A0, B0⟩, ⟨A1, B1⟩, ⟨A2, B2⟩, ⟨A3, B3⟩⟩, H8⟩
  iapply (Tri.use (pop2V c m16 m20 0 _ _ _ _ _ _ rfl rfl (d 0 0) (d 1 0) _)) $$ [A0 B0 H8]
  · isplitr [H8]; swap; · iexact H8
    isplitl [A0]; · iexact A0
    iexact B0
  iintro ⟨⟨A0, B0⟩, H8⟩
  iapply (Tri.use (accRV I c m12 m13 m16 m20 0 mm 0 0 hg _ _ rfl (sv 0) (sv 1) zeroT zeroT)) $$ [HX Hst A0 B0]
  · isplitl [HX]; · iexact HX
    isplitl [Hst]; · iexact Hst
    isplitl [A0]; · iexact A0
    iexact B0
  iintro ⟨HX, Hst, A0, B0⟩
  iapply (Tri.use (pop2V c m17 m21 1 _ _ _ _ _ _ rfl rfl (d 0 1) (d 1 1) _)) $$ [A1 B1 H8]
  · isplitr [H8]; swap; · iexact H8
    isplitl [A1]; · iexact A1
    iexact B1
  iintro ⟨⟨A1, B1⟩, H8⟩
  iapply (Tri.use (accRV I c m12 m13 m17 m21 0 mm 1 0 hg _ _ rfl (sv 0) (sv 1) zeroT zeroT)) $$ [HX Hst A1 B1]
  · isplitl [HX]; · iexact HX
    isplitl [Hst]; · iexact Hst
    isplitl [A1]; · iexact A1
    iexact B1
  iintro ⟨HX, Hst, A1, B1⟩
  iapply (Tri.use (pop2V c m18 m22 2 _ _ _ _ _ _ rfl rfl (d 0 2) (d 1 2) _)) $$ [A2 B2 H8]
  · isplitr [H8]; swap; · iexact H8
    isplitl [A2]; · iexact A2
    iexact B2
  iintro ⟨⟨A2, B2⟩, H8⟩
  iapply (Tri.use (accRV I c m12 m13 m18 m22 0 mm 2 0 hg _ _ rfl (sv 0) (sv 1) zeroT zeroT)) $$ [HX Hst A2 B2]
  · isplitl [HX]; · iexact HX
    isplitl [Hst]; · iexact Hst
    isplitl [A2]; · iexact A2
    iexact B2
  iintro ⟨HX, Hst, A2, B2⟩
  iapply (Tri.use (pop2V c m19 m23 3 _ _ _ _ _ _ rfl rfl (d 0 3) (d 1 3) _)) $$ [A3 B3 H8]
  · isplitr [H8]; swap; · iexact H8
    isplitl [A3]; · iexact A3
    iexact B3
  iintro ⟨⟨A3, B3⟩, H8⟩
  iapply (Tri.last (accRV I c m12 m13 m19 m23 0 mm 3 0 hg _ _ rfl (sv 0) (sv 1) zeroT zeroT)) $$ [HX Hst A3 B3]
  · isplitl [HX]; · iexact HX
    isplitl [Hst]; · iexact Hst
    isplitl [A3]; · iexact A3
    iexact B3
  iintro ⟨HX, Hst, A3, B3⟩
  rw [← updO_all d f]
  isplitl [HX]; · iexact HX
  isplitl [Hst]; · iexact Hst
  isplitr [H8]; swap; · iexact H8
  isplitl [A0 B0]
  · isplitl [A0]; · iexact A0
    iexact B0
  isplitl [A1 B1]
  · isplitl [A1]; · iexact A1
    iexact B1
  isplitl [A2 B2]
  · isplitl [A2]; · iexact A2
    iexact B2
  isplitl [A3]; · iexact A3
  iexact B3

theorem popAll_spec (c : Dev nD) (d : ℕ → ℕ → Vec F S256x256 .f32) (f : Vec F S1024x512 .bf16) :
    Tri c iprop(ACC c d ∗ (m8.view.loc (c : Thread nD τ) ↦{fullShare} f)) popAll
      iprop(ACC c (fun q i => zeroT) ∗ (m8.view.loc (c : Thread nD τ) ↦{fullShare} OV d)) := by
  unfold Tri popAll ACC
  iintro ⟨⟨P0, P1, P2, P3⟩, H8⟩
  iapply (Tri.use (pop2V c m16 m20 0 _ _ _ _ _ _ rfl rfl (d 0 0) (d 1 0) _)) $$ [P0 H8]
  · isplitl [P0]; · iexact P0
    iexact H8
  iintro ⟨P0, H8⟩
  iapply (Tri.use (pop2V c m17 m21 1 _ _ _ _ _ _ rfl rfl (d 0 1) (d 1 1) _)) $$ [P1 H8]
  · isplitl [P1]; · iexact P1
    iexact H8
  iintro ⟨P1, H8⟩
  iapply (Tri.use (pop2V c m18 m22 2 _ _ _ _ _ _ rfl rfl (d 0 2) (d 1 2) _)) $$ [P2 H8]
  · isplitl [P2]; · iexact P2
    iexact H8
  iintro ⟨P2, H8⟩
  iapply (Tri.last (pop2V c m19 m23 3 _ _ _ _ _ _ rfl rfl (d 0 3) (d 1 3) _)) $$ [P3 H8]
  · isplitl [P3]; · iexact P3
    iexact H8
  iintro ⟨P3, H8⟩
  rw [← updO_all d f]
  isplitr [H8]; swap; · iexact H8
  isplitl [P0]; · iexact P0
  isplitl [P1]; · iexact P1
  isplitl [P2]; · iexact P2
  iexact P3

end Cert.Kernel.Hand

end
-- ==== Proof.K.Trip.lean ====
/- One trip of the inner loop: its transfers, its nine chunks and what is staged at its end. -/
module

public import proofs.«01_k».proof.Proof.K.Chunk

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

def sl (k : ℕ) : Fin 2 := ⟨k % 2, Nat.mod_lt _ (by omega)⟩
theorem ult (u : Trip) : u.val < 4 := lt_of_lt_of_eq u.isLt trips4
def gx (u : Trip) : Fin 5 := ⟨u.val + 1, by have := ult u; omega⟩
theorem vec2 {a b a' b' : ℕ} (h : a = a') (h' : b = b') : (![a, b] : Fin 2 → ℕ) = ![a', b'] := by rw [h, h']

/-- The tiles staged for the next half chunk's products. -/
def SG (c : Dev nD) (v : ℕ → Vec F S256x256 .bf16) : sProp 𝕄 := iprop(owns c m12 fullShare (v 0) ∗ owns c m13 fullShare (v 1))
def JG (c : Dev nD) : sProp 𝕄 := iprop((∃ v : Vec F S256x256 .bf16, owns c m14 fullShare v) ∗ (∃ v : Vec F S256x256 .bf16, owns c m15 fullShare v))
def JG0 (c : Dev nD) : sProp 𝕄 := iprop((∃ v : Vec F S256x256 .bf16, owns c m12 fullShare v) ∗ (∃ v : Vec F S256x256 .bf16, owns c m13 fullShare v))

theorem SG_JG0 (c : Dev nD) (v : ℕ → Vec F S256x256 .bf16) : SG c v ⊢ JG0 c := by
  unfold SG JG0
  iintro ⟨H0, H1⟩
  isplitl [H0]
  · iexists _; iexact H0
  · iexists _; iexact H1

theorem pushPair (c : Dev nD) (a4 : Memref sig .tc .vmem S3584x128 .f32) (st0 st1 : StgM) (hst0 : st0.IsWhole) (hst1 : st1.IsWhole) (s : Fin 2) (n ch : ℕ) (hi : Bool)
    (hn : n < 7) (hch : ch < 37) (o0 o1 : Fin 4 → Fin 2 → Nat)
    (h0 : ∀ r a, S64x128.size a = 0 ∨ o0 r a + (![148, 1] : Fin 2 → Nat) a * (S64x128.size a - 1) < S37888x128.size a)
    (h1 : ∀ r a, S64x128.size a = 0 ∨ o1 r a + (![148, 1] : Fin 2 → Nat) a * (S64x128.size a - 1) < S37888x128.size a)
    (os0 os1 : Fin 2 → Nat) (hs0 : ∀ a, os0 a + S256x128.size a ≤ S3584x128.size a) (hs1 : ∀ a, os1 a + S256x128.size a ≤ S3584x128.size a) (chunk : BV)
    (ho0 : ∀ r, o0 r = ![18944 * s.val + 9472 * 0 + ch + 37 * r.val, 0]) (ho1 : ∀ r, o1 r = ![18944 * s.val + 9472 * 1 + ch + 37 * r.val, 0])
    (hos0 : os0 = ![512 * n + 256 * 0, 0]) (hos1 : os1 = ![512 * n + 256 * 1, 0]) (hc : chunk = BitVec.ofNat 32 ch) :
    Tri c iprop(WR I c s (.inn n) ∗ owns c a4 fullShare I.S ∗ (∃ v : Vec F S256x256 .bf16, owns c st0 fullShare v) ∗ (∃ v : Vec F S256x256 .bf16, owns c st1 fullShare v))
      (push1 a4 st0 hst0 o0 h0 os0 hs0 chunk hi >>= fun _ => push1 a4 st1 hst1 o1 h1 os1 hs1 chunk hi)
      iprop(WR I c s (.inn n) ∗ owns c a4 fullShare I.S ∗ owns c st0 fullShare (ST I n 0 ch hi) ∗ owns c st1 fullShare (ST I n 1 ch hi)) := by
  unfold Tri
  iintro ⟨HW, H4, H0, H1⟩
  iapply (Tri.use (pushV I c a4 st0 hst0 s n 0 ch hi hn (by omega) hch o0 h0 os0 hs0 chunk ho0 hos0 hc)) $$ [HW H4 H0]
  · isplitl [HW]; · iexact HW
    isplitl [H4]; · iexact H4
    iexact H0
  iintro ⟨HW, H4, H0⟩
  iapply (Tri.last (pushV I c a4 st1 hst1 s n 1 ch hi hn (by omega) hch o1 h1 os1 hs1 chunk ho1 hos1 hc)) $$ [HW H4 H1]
  · isplitl [HW]; · iexact HW
    isplitl [H4]; · iexact H4
    iexact H1
  iintro ⟨HW, H4, H1⟩
  isplitl [HW]; · iexact HW
  isplitl [H4]; · iexact H4
  isplitl [H0]; · iexact H0
  iexact H1

theorem pushPairJ (c : Dev nD) (a4 : Memref sig .tc .vmem S3584x128 .f32) (st0 st1 : StgM) (hst0 : st0.IsWhole) (hst1 : st1.IsWhole) (s : Fin 2) (ch : ℕ) (hi : Bool)
    (hch : ch < 37) (o0 o1 : Fin 4 → Fin 2 → Nat)
    (h0 : ∀ r a, S64x128.size a = 0 ∨ o0 r a + (![148, 1] : Fin 2 → Nat) a * (S64x128.size a - 1) < S37888x128.size a)
    (h1 : ∀ r a, S64x128.size a = 0 ∨ o1 r a + (![148, 1] : Fin 2 → Nat) a * (S64x128.size a - 1) < S37888x128.size a)
    (os0 os1 : Fin 2 → Nat) (hs0 : ∀ a, os0 a + S256x128.size a ≤ S3584x128.size a) (hs1 : ∀ a, os1 a + S256x128.size a ≤ S3584x128.size a) (chunk : BV)
    (ho0 : ∀ r, o0 r = ![18944 * s.val + 9472 * 0 + ch + 37 * r.val, 0]) (ho1 : ∀ r, o1 r = ![18944 * s.val + 9472 * 1 + ch + 37 * r.val, 0]) :
    Tri c iprop(WR I c s .free ∗ owns c a4 fullShare I.S ∗ (∃ v : Vec F S256x256 .bf16, owns c st0 fullShare v) ∗ (∃ v : Vec F S256x256 .bf16, owns c st1 fullShare v))
      (push1 a4 st0 hst0 o0 h0 os0 hs0 chunk hi >>= fun _ => push1 a4 st1 hst1 o1 h1 os1 hs1 chunk hi)
      iprop(WR I c s .free ∗ owns c a4 fullShare I.S ∗ (∃ v : Vec F S256x256 .bf16, owns c st0 fullShare v) ∗ (∃ v : Vec F S256x256 .bf16, owns c st1 fullShare v)) := by
  unfold Tri
  iintro ⟨HW, H4, H0, H1⟩
  iapply (Tri.use (pushJ I c a4 st0 hst0 s 0 ch hi (by omega) hch o0 h0 os0 hs0 chunk ho0)) $$ [HW H4 H0]
  · isplitl [HW]; · iexact HW
    isplitl [H4]; · iexact H4
    iexact H0
  iintro ⟨HW, H4, H0⟩
  iapply (Tri.last (pushJ I c a4 st1 hst1 s 1 ch hi (by omega) hch o1 h1 os1 hs1 chunk ho1)) $$ [HW H4 H1]
  · isplitl [HW]; · iexact HW
    isplitl [H4]; · iexact H4
    iexact H1
  iintro ⟨HW, H4, H1⟩
  isplitl [HW]; · iexact HW
  isplitl [H4]; · iexact H4
  isplitl [H0]; · iexact H0
  iexact H1

/-- What the chunks work on: a column group of activations, this tile's words, the scales, the staged tiles and the accumulators. -/
def CS (c : Dev nD) (a4 : Memref sig .tc .vmem S3584x128 .f32) (g : Fin 5) (t : ℕ) (v : ℕ → Vec F S256x256 .bf16) (n : ℕ) : sProp 𝕄 :=
  iprop(XR I c g (.inn (t / 7)) ∗ WR I c (sl t) (.inn (t % 7)) ∗ owns c a4 fullShare I.S ∗ SG c v ∗ JG c ∗ ACC c (fun q i => AccV I t q i n))

theorem hgu (u : Trip) (k : Fin 9) (h : ℕ) (hh : h < 2) : ∀ j < 256, gOf (256 * (2 * (1 + 9 * u.val + k.val) + h) + j) = (gx u).val := by
  intro j hj
  have := ult u
  have := k.isLt
  show _ = u.val + 1
  unfold gOf
  rw [if_neg (by omega)]
  omega

theorem accT_spec (c : Dev nD) (st0 st1 : StgM) (t : Fin 42) (u : Trip) (k : Fin 9) (h : Fin 2) (d : ℕ → ℕ → Vec F S256x256 .f32) (sv : ℕ → Vec F S256x256 .bf16) :
    Tri c iprop(XR I c (gx u) (.inn (t.val / 7)) ∗ (owns c st0 fullShare (sv 0) ∗ owns c st1 fullShare (sv 1)) ∗ ACC c d) (accT st0 st1 u k h)
      iprop(XR I c (gx u) (.inn (t.val / 7)) ∗ (owns c st0 fullShare (sv 0) ∗ owns c st1 fullShare (sv 1))
        ∗ ACC c (fun q i => accF (d q i) (XT I (t.val / 7) i (2 * (1 + 9 * u.val + k.val) + h.val)) (sv q))) :=
  accV I c st0 st1 (gx u) (t.val / 7) (2 * (1 + 9 * u.val + k.val) + h.val) (hgu u k h.val h.isLt) _ _ _ _ _ _ _ _
    ((o26 u k h).trans (vec2 rfl (by omega))) ((o27 u k h).trans (vec2 rfl (by omega)))
    ((o28 u k h).trans (vec2 rfl (by omega))) ((o29 u k h).trans (vec2 rfl (by omega))) sv d

theorem AccV_lo (t n : ℕ) : (fun q i => accF (AccV I t q i (2 * n)) (XT I (t / 7) i (2 * n + 0)) (ST I (t % 7) q n false)) = fun q i => AccV I t q i (2 * n + 1) := by
  funext q i
  show _ = accF (AccV I t q i (2 * n)) (XT I (t / 7) i (2 * n)) (ST I (t % 7) q (2 * n / 2) (decide (2 * n % 2 = 1)))
  rw [show 2 * n / 2 = n by omega, show 2 * n % 2 = 0 by omega]; rfl
theorem AccV_hi (t n : ℕ) : (fun q i => accF (AccV I t q i (2 * n + 1)) (XT I (t / 7) i (2 * n + 1)) (ST I (t % 7) q n true)) = fun q i => AccV I t q i (2 * (n + 1)) := by
  funext q i
  rw [show 2 * (n + 1) = 2 * n + 1 + 1 by omega]
  show _ = accF (AccV I t q i (2 * n + 1)) (XT I (t / 7) i (2 * n + 1)) (ST I (t % 7) q ((2 * n + 1) / 2) (decide ((2 * n + 1) % 2 = 1)))
  rw [show (2 * n + 1) / 2 = n by omega, show (2 * n + 1) % 2 = 1 by omega]; rfl

theorem chunkT_spec (c : Dev nD) (a4 : Memref sig .tc .vmem S3584x128 .f32) (t : Fin 42) (u : Trip) (k : Fin 9) :
    Tri c (CS I c a4 (gx u) t.val (fun q => ST I (t.val % 7) q (1 + 9 * u.val + k.val) false) (2 * (1 + 9 * u.val + k.val)))
      (chunkT a4 (grid0.coords t) u k)
      (CS I c a4 (gx u) t.val (fun q => ST I (t.val % 7) q (1 + 9 * u.val + k.val) false) (2 * (1 + 9 * u.val + k.val + 1))) := by
  have hu := ult u
  have hk := k.isLt
  have A1 := accT_spec I c m12 m13 t u k 0 (fun q i => AccV I t.val q i (2 * (1 + 9 * u.val + k.val))) (fun q => ST I (t.val % 7) q (1 + 9 * u.val + k.val) false)
  have A2 := accT_spec I c m14 m15 t u k 1 (fun q i => AccV I t.val q i (2 * (1 + 9 * u.val + k.val) + 1)) (fun q => ST I (t.val % 7) q (1 + 9 * u.val + k.val) true)
  have P := pushPair I c a4 m14 m15 hm14 hm15 (sl t.val) (t.val % 7) (1 + 9 * u.val + k.val) true (by omega) (by omega) _ _
    (fun r => k0_off30_inb (grid0.coords t) u 0 k r) (fun r => k0_off30_inb (grid0.coords t) u 1 k r) _ _ (k0_off31_inb (grid0.coords t) 0) (k0_off31_inb (grid0.coords t) 1)
    (chunkV u (BitVec.ofNat 32 k.val)) (fun r => o30 t u 0 k r) (fun r => o30 t u 1 k r) (o31 t 0) (o31 t 1) (chv u k)
  rw [show (fun q i => accF (AccV I t.val q i (2 * (1 + 9 * u.val + k.val))) (XT I (t.val / 7) i (2 * (1 + 9 * u.val + k.val) + (0 : Fin 2).val)) (ST I (t.val % 7) q (1 + 9 * u.val + k.val) false)) = _ from AccV_lo I t.val (1 + 9 * u.val + k.val)] at A1
  rw [show (fun q i => accF (AccV I t.val q i (2 * (1 + 9 * u.val + k.val) + 1)) (XT I (t.val / 7) i (2 * (1 + 9 * u.val + k.val) + (1 : Fin 2).val)) (ST I (t.val % 7) q (1 + 9 * u.val + k.val) true)) = _ from AccV_hi I t.val (1 + 9 * u.val + k.val)] at A2
  unfold Tri CS chunkT SG JG
  iintro ⟨HX, HW, H4, HS, ⟨J0, J1⟩, HA⟩
  iapply (Tri.use A1) $$ [HX HS HA]
  · isplitl [HX]; · iexact HX
    isplitl [HS]; · iexact HS
    iexact HA
  iintro ⟨HX, HS, HA⟩
  iapply (Tri.use P) $$ [HW H4 J0 J1]
  · isplitl [HW]; · iexact HW
    isplitl [H4]; · iexact H4
    isplitl [J0]; · iexact J0
    iexact J1
  iintro ⟨HW, H4, HJ⟩
  iapply (Tri.last A2) $$ [HX HJ HA]
  · isplitl [HX]; · iexact HX
    isplitl [HJ]; · iexact HJ
    iexact HA
  iintro ⟨HX, ⟨J0, J1⟩, HA⟩
  isplitl [HX]; · iexact HX
  isplitl [HW]; · iexact HW
  isplitl [H4]; · iexact H4
  isplitl [HS]; · iexact HS
  isplitl [J0 J1]
  · isplitl [J0]
    · iexists _; iexact J0
    · iexists _; iexact J1
  iexact HA

theorem pushN_spec (c : Dev nD) (a4 : Memref sig .tc .vmem S3584x128 .f32) (t : Fin 42) (u : Trip) (k : Fin 8) (v : ℕ → Vec F S256x256 .bf16) (n : ℕ) :
    Tri c (CS I c a4 (gx u) t.val v n) (pushN a4 (grid0.coords t) u k)
      (CS I c a4 (gx u) t.val (fun q => ST I (t.val % 7) q (1 + 9 * u.val + k.val + 1) false) n) := by
  have hu := ult u
  have hk := k.isLt
  have P := pushPair I c a4 m12 m13 hm12 hm13 (sl t.val) (t.val % 7) (1 + 9 * u.val + k.val + 1) false (by omega) (by omega) _ _
    (fun r => k0_off32_inb (grid0.coords t) u 0 k r) (fun r => k0_off32_inb (grid0.coords t) u 1 k r) _ _ (k0_off31_inb (grid0.coords t) 0) (k0_off31_inb (grid0.coords t) 1)
    (Scalar.addi (chunkV u (BitVec.ofNat 32 k.val)) 1#32) (fun r => o32 t u 0 k r) (fun r => o32 t u 1 k r) (o31 t 0) (o31 t 1) (chv1 u k)
  unfold Tri CS pushN SG
  iintro ⟨HX, HW, H4, ⟨S0, S1⟩, HJ, HA⟩
  iapply (Tri.last P) $$ [HW H4 S0 S1]
  · isplitl [HW]; · iexact HW
    isplitl [H4]; · iexact H4
    isplitl [S0]
    · iexists _; iexact S0
    · iexists _; iexact S1
  iintro ⟨HW, H4, HS⟩
  isplitl [HX]; · iexact HX
  isplitl [HW]; · iexact HW
  isplitl [H4]; · iexact H4
  isplitl [HS]; · iexact HS
  isplitl [HJ]; · iexact HJ
  iexact HA

/-- What is staged at the start of trip `u`, and after the last. -/
def SGU (c : Dev nD) (t u : ℕ) : sProp 𝕄 :=
  if u < 4 then SG c (fun q => ST I (t % 7) q (1 + 9 * u) false)
  else if t + 1 < 42 then SG c (fun q => ST I ((t + 1) % 7) q 0 false) else JG0 c

/-- The state of the other slot at the start of trip `u`, and after the last. -/
def Wst (t u : ℕ) : TS := if t + 1 < 42 then (if u ≤ 3 then .fly ((t + 1) % 7) else .inn ((t + 1) % 7)) else .free
/-- The output block's state at the start of trip `u`, and after the last. -/
def Ost (t u : ℕ) : OS := if t = 0 then .free 0 else if u ≤ 1 then .inn (t - 1) else .fly (t - 1)
/-- A column group's state at the start of tile `t`, and when tile `t` is through with it. -/
def Xpend (t : ℕ) : TS := if t % 7 = 0 then .fly (t / 7) else .inn (t / 7)
def Xdone (t : ℕ) : TS := if t % 7 = 6 ∧ t < 41 then .fly (t / 7 + 1) else .inn (t / 7)

theorem pushL_spec (c : Dev nD) (a4 : Memref sig .tc .vmem S3584x128 .f32) (t : Fin 42) (u : Trip) (v : ℕ → Vec F S256x256 .bf16) :
    Tri c iprop(WR I c (sl t.val) (.inn (t.val % 7)) ∗ WR I c (sl (t.val + 1)) (Wst t.val (u.val + 1)) ∗ owns c a4 fullShare I.S ∗ SG c v) (pushL a4 (grid0.coords t) u)
      iprop(WR I c (sl t.val) (.inn (t.val % 7)) ∗ WR I c (sl (t.val + 1)) (Wst t.val (u.val + 1)) ∗ owns c a4 fullShare I.S ∗ SGU I c t.val (u.val + 1)) := by
  have hu := ult u
  have ht := t.isLt
  by_cases h3 : u.val = 3
  · by_cases h41 : t.val + 1 < 42
    · have P := pushPair I c a4 m12 m13 hm12 hm13 (sl (t.val + 1)) ((t.val + 1) % 7) 0 false (by omega) (by omega) _ _
        (fun r => k0_off33_inb (grid0.coords t) u 0 r) (fun r => k0_off33_inb (grid0.coords t) u 1 r) _ _ (k0_off34_inb (grid0.coords t) u 0) (k0_off34_inb (grid0.coords t) u 1)
        (lastV u) (fun r => (o33 t u 0 r).trans (if_pos h3)) (fun r => (o33 t u 1 r).trans (if_pos h3)) ((o34 t u 0).trans (if_pos h3)) ((o34 t u 1).trans (if_pos h3)) ((lastV_eq u).trans (if_pos h3))
      have e1 : Wst t.val (u.val + 1) = .inn ((t.val + 1) % 7) := by unfold Wst; rw [if_pos h41, if_neg (by omega)]
      have e2 : SGU I c t.val (u.val + 1) = SG c (fun q => ST I ((t.val + 1) % 7) q 0 false) := by unfold SGU; rw [if_neg (by omega), if_pos h41]
      rw [e1, e2]
      unfold Tri pushL SG
      iintro ⟨HV, HW, H4, S0, S1⟩
      iapply (Tri.last P) $$ [HW H4 S0 S1]
      · isplitl [HW]; · iexact HW
        isplitl [H4]; · iexact H4
        isplitl [S0]
        · iexists _; iexact S0
        · iexists _; iexact S1
      iintro ⟨HW, H4, HS⟩
      isplitl [HV]; · iexact HV
      isplitl [HW]; · iexact HW
      isplitl [H4]; · iexact H4
      iexact HS
    · have P := pushPairJ I c a4 m12 m13 hm12 hm13 (sl (t.val + 1)) 0 false (by omega) _ _
        (fun r => k0_off33_inb (grid0.coords t) u 0 r) (fun r => k0_off33_inb (grid0.coords t) u 1 r) _ _ (k0_off34_inb (grid0.coords t) u 0) (k0_off34_inb (grid0.coords t) u 1)
        (lastV u) (fun r => (o33 t u 0 r).trans (if_pos h3)) (fun r => (o33 t u 1 r).trans (if_pos h3))
      have e1 : Wst t.val (u.val + 1) = .free := by unfold Wst; rw [if_neg h41]
      have e2 : SGU I c t.val (u.val + 1) = JG0 c := by unfold SGU; rw [if_neg (by omega), if_neg h41]
      rw [e1, e2]
      unfold Tri pushL SG JG0
      iintro ⟨HV, HW, H4, S0, S1⟩
      iapply (Tri.last P) $$ [HW H4 S0 S1]
      · isplitl [HW]; · iexact HW
        isplitl [H4]; · iexact H4
        isplitl [S0]
        · iexists _; iexact S0
        · iexists _; iexact S1
      iintro ⟨HW, H4, HS⟩
      isplitl [HV]; · iexact HV
      isplitl [HW]; · iexact HW
      isplitl [H4]; · iexact H4
      iexact HS
  · have P := pushPair I c a4 m12 m13 hm12 hm13 (sl t.val) (t.val % 7) (1 + 9 * u.val + 8 + 1) false (by omega) (by omega) _ _
      (fun r => k0_off33_inb (grid0.coords t) u 0 r) (fun r => k0_off33_inb (grid0.coords t) u 1 r) _ _ (k0_off34_inb (grid0.coords t) u 0) (k0_off34_inb (grid0.coords t) u 1)
      (lastV u) (fun r => (o33 t u 0 r).trans (if_neg h3)) (fun r => (o33 t u 1 r).trans (if_neg h3)) ((o34 t u 0).trans (if_neg h3)) ((o34 t u 1).trans (if_neg h3)) ((lastV_eq u).trans (if_neg h3))
    have e2 : SGU I c t.val (u.val + 1) = SG c (fun q => ST I (t.val % 7) q (1 + 9 * u.val + 8 + 1) false) := by
      unfold SGU; rw [if_pos (by omega), show 1 + 9 * (u.val + 1) = 1 + 9 * u.val + 8 + 1 by omega]
    rw [e2]
    unfold Tri pushL SG
    iintro ⟨HV, HW, H4, S0, S1⟩
    iapply (Tri.last P) $$ [HV H4 S0 S1]
    · isplitl [HV]; · iexact HV
      isplitl [H4]; · iexact H4
      isplitl [S0]
      · iexists _; iexact S0
      · iexists _; iexact S1
    iintro ⟨HV, H4, HS⟩
    isplitl [HV]; · iexact HV
    isplitl [HW]; · iexact HW
    isplitl [H4]; · iexact H4
    iexact HS

/-! ## The trip's guarded transfers -/

theorem wsem_eq (k : ℕ) (o : Fin 1 → ℕ) (h : ∀ a, o a + S1.size a ≤ S2.size a) (e : o = ![k % 2]) :
    ((m10.slice (Rect.unit (s := S2) o S1.size h)).squeeze S_ squeezes_S1_S_).sem = wsem (sl k) := by
  subst e; rfl
theorem xsem_eq (g : Fin 5) (o : Fin 1 → ℕ) (h : ∀ a, o a + S1.size a ≤ S5.size a) (e : o = ![g.val]) :
    ((m9.slice (Rect.unit (s := S5) o S1.size h)).squeeze S_ squeezes_S1_S_).sem = xsem g := by
  subst e; rfl

theorem gOf_iff (u : Trip) : ∀ k < 18944, gOf k = (gx u).val ↔ (512 + 4608 * u.val) ≤ k ∧ k < (512 + 4608 * u.val) + 4608 := by
  intro k hk
  have := ult u
  show gOf k = u.val + 1 ↔ _
  unfold gOf
  split <;> omega

theorem xN_eq (u : Trip) (o : Fin 2 → ℕ) (h : ∀ a, o a + S1024x4608.size a ≤ S1024x18944.size a) :
    (m6.slice (Rect.unit (s := S1024x18944) o S1024x4608.size h) (fun _ => rfl)).view.dmaCredit = xN (gx u) := by
  unfold xN
  rw [if_neg (by intro he; have := congrArg Fin.val he; simp [gx] at this)]
  rfl

theorem waitX_spec (c : Dev nD) (t : Fin 42) (u : Trip) :
    Tri c iprop(XR I c (gx u) (Xpend t.val) ∗ Owe c) (waitX (grid0.coords t) u) iprop(XR I c (gx u) (.inn (t.val / 7)) ∗ Owe c) := by
  unfold waitX Xpend
  by_cases h : t.val % 7 = 0
  · rw [dif_pos ((c6 t).2 h), if_pos h]
    exact xwait I c (gx u) (t.val / 7) _ _ _ (xsem_eq (gx u) _ _ (o19 u)) _ _ (xN_eq u _ _)
  · rw [dif_neg (fun hc => h ((c6 t).1 hc)), if_neg h]
    exact Tri.ret

theorem startO_spec (c : Dev nD) (t : Fin 42) (u : Trip) :
    Tri c (OR I c (Ost t.val u.val)) (startO (grid0.coords t) u) (OR I c (Ost t.val (u.val + 1))) := by
  unfold startO Ost
  by_cases h0 : t.val = 0
  · rw [dif_neg (fun hc => by have := (c7 t u).1 hc; omega), if_pos h0, if_pos h0]; exact Tri.ret
  rw [if_neg h0, if_neg h0]
  by_cases h1 : u.val = 1
  · rw [dif_pos ((c7 t u).2 ⟨h1, by omega⟩), if_pos (by omega), if_neg (by omega)]
    exact ostart I c (t.val - 1) (by omega) _ (o22 t (by omega)) _ _ _ _
  · rw [dif_neg (fun hc => h1 ((c7 t u).1 hc).1)]
    by_cases h2 : u.val ≤ 1
    · rw [if_pos h2, if_pos (by omega)]; exact Tri.ret
    · rw [if_neg h2, if_neg (by omega)]; exact Tri.ret

theorem waitW_spec (c : Dev nD) (t : Fin 42) (u : Trip) :
    Tri c iprop(WR I c (sl (t.val + 1)) (Wst t.val u.val) ∗ Owe c) (waitW (grid0.coords t) u) iprop(WR I c (sl (t.val + 1)) (Wst t.val (u.val + 1)) ∗ Owe c) := by
  unfold waitW Wst
  have hu := ult u
  by_cases h0 : t.val + 1 < 42
  · rw [if_pos h0, if_pos h0, if_pos (show u.val ≤ 3 by omega)]
    by_cases h3 : u.val = 3
    · rw [dif_pos ((c8 t u).2 ⟨h3, h0⟩), if_neg (by omega)]
      exact wwait I c (sl (t.val + 1)) ((t.val + 1) % 7) _ _ _ (wsem_eq _ _ _ (o23 t h0)) _ _ rfl
    · rw [dif_neg (fun hc => h3 ((c8 t u).1 hc).1), if_pos (by omega)]; exact Tri.ret
  · rw [if_neg h0, if_neg h0, dif_neg (fun hc => h0 ((c8 t u).1 hc).2)]; exact Tri.ret

theorem refillX_spec (c : Dev nD) (t : Fin 42) (u : Trip) :
    Tri c (XR I c (gx u) (.inn (t.val / 7))) (refillX (grid0.coords t) u) (XR I c (gx u) (Xdone t.val)) := by
  unfold refillX Xdone
  by_cases h : t.val % 7 = 6 ∧ t.val < 41
  · rw [dif_pos ((c9 t).2 h), if_pos h]
    refine Tri.conseq (xstart I c (gx u) (t.val / 7 + 1) (by omega) (512 + 4608 * u.val) 4608 (by omega) (gOf_iff u) _ _ (o37 t u h.2) (o36 u) _ _ _ (xsem_eq (gx u) _ _ (o35 u)) _ _ _ (xN_eq u _ _))
      (XR_to_free I c (gx u) (t.val / 7)) .rfl
  · rw [dif_neg (fun hc => h ((c9 t).1 hc)), if_neg h]
    exact Tri.ret

end Cert.Kernel.Hand

end
-- ==== Proof.K.Body.lean ====
/- The body at a grid point: what holds before and after it. -/
module

public import proofs.«01_k».proof.Proof.K.Trip

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

/-- All column groups' resources. -/
def XAll (c : Dev nD) (f : Fin 5 → TS) : sProp 𝕄 := bigSep Finset.univ fun g => XR I c g (f g)

theorem XAll5 (c : Dev nD) (f : Fin 5 → TS) :
    XAll I c f = iprop(XR I c 0 (f 0) ∗ XR I c 1 (f 1) ∗ XR I c 2 (f 2) ∗ XR I c 3 (f 3) ∗ XR I c 4 (f 4)) := by
  unfold XAll
  exact BI.bigSep_eq_bigSepL_of_eq (S := Finset.univ) (Φ := fun g => XR I c g (f g)) [(0 : Fin 5), 1, 2, 3, 4] (by decide) (by decide)

theorem XAll_swap (c : Dev nD) (f f' : Fin 5 → TS) (g : Fin 5) (h : ∀ g', g' ≠ g → f g' = f' g') :
    XAll I c f ⊢ iprop(XR I c g (f g) ∗ (XR I c g (f' g) -∗ XAll I c f')) := by
  unfold XAll
  have e1 : bigSep Finset.univ (fun g => XR I c g (f g)) = iprop(XR I c g (f g) ∗ bigSep (Finset.univ.erase g) (fun g => XR I c g (f g))) :=
    bigSep_univ_split g
  have e2 : bigSep Finset.univ (fun g => XR I c g (f' g)) = iprop(XR I c g (f' g) ∗ bigSep (Finset.univ.erase g) (fun g => XR I c g (f' g))) :=
    bigSep_univ_split g
  have e3 : bigSep (Finset.univ.erase g) (fun g => XR I c g (f g)) = bigSep (Finset.univ.erase g) (fun g => XR I c g (f' g)) :=
    bigSep_congr fun i hi => by rw [h i (Finset.ne_of_mem_erase hi)]
  rw [e1, e2, e3]
  iintro ⟨HX, HR⟩
  isplitl [HX]; · iexact HX
  iintro HX
  isplitl [HX]; · iexact HX
  iexact HR

/-- The chunks' state at chunk `j` of trip `u` staged and `m` chunks of it accumulated. -/
def LS (c : Dev nD) (a4 : Memref sig .tc .vmem S3584x128 .f32) (t : Fin 42) (u : Trip) (j m : ℕ) : sProp 𝕄 :=
  CS I c a4 (gx u) t.val (fun q => ST I (t.val % 7) q (1 + 9 * u.val + j) false) (2 * (1 + 9 * u.val + m))

theorem chunkS (c : Dev nD) (a4 : Memref sig .tc .vmem S3584x128 .f32) (t : Fin 42) (u : Trip) (k : Fin 9) (j j' : ℕ) (hj : j = k.val) (hj' : j' = j + 1) :
    Tri c (LS I c a4 t u j j) (chunkT a4 (grid0.coords t) u k) (LS I c a4 t u j j') := by
  subst hj hj'
  exact chunkT_spec I c a4 t u k

theorem pushS (c : Dev nD) (a4 : Memref sig .tc .vmem S3584x128 .f32) (t : Fin 42) (u : Trip) (k : Fin 8) (j j' : ℕ) (hj : j = k.val) (hj' : j' = j + 1) :
    Tri c (LS I c a4 t u j j') (pushN a4 (grid0.coords t) u k) (LS I c a4 t u j' j') := by
  subst hj hj'
  exact pushN_spec I c a4 t u k _ _

/-- The inner loop's invariant. -/
def TI (c : Dev nD) (a4 : Memref sig .tc .vmem S3584x128 .f32) (t u : ℕ) : sProp 𝕄 :=
  iprop(XAll I c (fun g => if g.val ≤ u then Xdone t else Xpend t) ∗ WR I c (sl t) (.inn (t % 7)) ∗ WR I c (sl (t + 1)) (Wst t u) ∗ OR I c (Ost t u)
    ∗ owns c a4 fullShare I.S ∗ SGU I c t u ∗ JG c ∗ ACC c (fun q i => AccV I t q i (2 * (1 + 9 * u))) ∗ Owe c)

theorem trip_spec (c : Dev nD) (a4 : Memref sig .tc .vmem S3584x128 .f32) (t : Fin 42) (u : Trip) :
    Tri c (TI I c a4 t.val u.val) (tripP a4 (grid0.coords t) u) (TI I c a4 t.val (u.val + 1)) := by
  have hu := ult u
  have hsw := XAll_swap I c (fun g => if g.val ≤ u.val then Xdone t.val else Xpend t.val) (fun g => if g.val ≤ u.val + 1 then Xdone t.val else Xpend t.val) (gx u) (by
    intro g' hg
    have hne : g'.val ≠ u.val + 1 := fun e => hg (Fin.ext e)
    by_cases h : g'.val ≤ u.val
    · show (if g'.val ≤ u.val then _ else _) = (if g'.val ≤ u.val + 1 then _ else _)
      rw [if_pos h, if_pos (by omega)]
    · show (if g'.val ≤ u.val then _ else _) = (if g'.val ≤ u.val + 1 then _ else _)
      rw [if_neg h, if_neg (by omega)])
  have e0 : (if (gx u).val ≤ u.val then Xdone t.val else Xpend t.val) = Xpend t.val := if_neg (by simp [gx])
  have e1 : (if (gx u).val ≤ u.val + 1 then Xdone t.val else Xpend t.val) = Xdone t.val := if_pos (by simp [gx])
  rw [e0, e1] at hsw
  have es : SGU I c t.val u.val = SG c (fun q => ST I (t.val % 7) q (1 + 9 * u.val + 0) false) := by unfold SGU; rw [if_pos hu]; rfl
  unfold Tri TI tripP
  rw [es]
  iintro ⟨HX, HW, HV, HO, H4, HS, HJ, HA, Hw⟩
  icases (hsw) $$ HX with ⟨HX, HXr⟩
  iapply (Tri.use (waitX_spec I c t u)) $$ [HX Hw]
  · isplitl [HX]; · iexact HX
    iexact Hw
  iintro ⟨HX, Hw⟩
  iapply (Tri.use (startO_spec I c t u)) $$ [HO]
  · iexact HO
  iintro HO
  iapply (Tri.use (waitW_spec I c t u)) $$ [HV Hw]
  · isplitl [HV]; · iexact HV
    iexact Hw
  iintro ⟨HV, Hw⟩
  iapply (Tri.use (chunkS I c a4 t u 0 0 1 rfl rfl)) $$ [HX HW H4 HS HJ HA]
  · unfold LS CS
    isplitl [HX]; · iexact HX
    isplitl [HW]; · iexact HW
    isplitl [H4]; · iexact H4
    isplitl [HS]; · iexact HS
    isplitl [HJ]; · iexact HJ
    iexact HA
  iintro HL
  iapply (Tri.use (pushS I c a4 t u 0 0 1 rfl rfl)) $$ [HL]
  · iexact HL
  iintro HL
  iapply (Tri.use (chunkS I c a4 t u 1 1 2 rfl rfl)) $$ [HL]
  · iexact HL
  iintro HL
  iapply (Tri.use (pushS I c a4 t u 1 1 2 rfl rfl)) $$ [HL]
  · iexact HL
  iintro HL
  iapply (Tri.use (chunkS I c a4 t u 2 2 3 rfl rfl)) $$ [HL]
  · iexact HL
  iintro HL
  iapply (Tri.use (pushS I c a4 t u 2 2 3 rfl rfl)) $$ [HL]
  · iexact HL
  iintro HL
  iapply (Tri.use (chunkS I c a4 t u 3 3 4 rfl rfl)) $$ [HL]
  · iexact HL
  iintro HL
  iapply (Tri.use (pushS I c a4 t u 3 3 4 rfl rfl)) $$ [HL]
  · iexact HL
  iintro HL
  iapply (Tri.use (chunkS I c a4 t u 4 4 5 rfl rfl)) $$ [HL]
  · iexact HL
  iintro HL
  iapply (Tri.use (pushS I c a4 t u 4 4 5 rfl rfl)) $$ [HL]
  · iexact HL
  iintro HL
  iapply (Tri.use (chunkS I c a4 t u 5 5 6 rfl rfl)) $$ [HL]
  · iexact HL
  iintro HL
  iapply (Tri.use (pushS I c a4 t u 5 5 6 rfl rfl)) $$ [HL]
  · iexact HL
  iintro HL
  iapply (Tri.use (chunkS I c a4 t u 6 6 7 rfl rfl)) $$ [HL]
  · iexact HL
  iintro HL
  iapply (Tri.use (pushS I c a4 t u 6 6 7 rfl rfl)) $$ [HL]
  · iexact HL
  iintro HL
  iapply (Tri.use (chunkS I c a4 t u 7 7 8 rfl rfl)) $$ [HL]
  · iexact HL
  iintro HL
  iapply (Tri.use (pushS I c a4 t u 7 7 8 rfl rfl)) $$ [HL]
  · iexact HL
  iintro HL
  iapply (Tri.use (chunkS I c a4 t u 8 8 9 rfl rfl)) $$ [HL]
  · iexact HL
  iintro HL
  unfold LS CS
  icases HL with ⟨HX, HW, H4, HS, HJ, HA⟩
  iapply (Tri.use (pushL_spec I c a4 t u _)) $$ [HW HV H4 HS]
  · isplitl [HW]; · iexact HW
    isplitl [HV]; · iexact HV
    isplitl [H4]; · iexact H4
    iexact HS
  iintro ⟨HW, HV, H4, HS⟩
  iapply (Tri.last (refillX_spec I c t u)) $$ [HX]
  · iexact HX
  iintro HX
  ihave HXX := HXr $$ HX
  isplitl [HXX]; · iexact HXX
  isplitl [HW]; · iexact HW
  isplitl [HV]; · iexact HV
  isplitl [HO]; · iexact HO
  isplitl [H4]; · iexact H4
  isplitl [HS]; · iexact HS
  isplitl [HJ]; · iexact HJ
  isplitl [HA]; · iexact HA
  iexact Hw

theorem loop_spec (c : Dev nD) (a4 : Memref sig .tc .vmem S3584x128 .f32) (t : Fin 42) :
    Tri c (TI I c a4 t.val 0) (Scf.Loop.for k0_t1_loop k0_t1_ok ⟨⟩ (fun u _ => tripP a4 (grid0.coords t) u)) (TI I c a4 t.val 4) := by
  unfold Tri
  have hb : ∀ (k : Fin k0_t1_loop.trips) (acc : PUnit), (fun (n : ℕ) (_ : PUnit) => TI I c a4 t.val n) k.val acc
      ⊢ wp Idealize.ShloMosaic.frame (wpE (defs₀ (F := F)) Variants.none (c : Thread nD τ) none) Set.univ (tripP a4 (grid0.coords t) k) ((fun (n : ℕ) (_ : PUnit) => TI I c a4 t.val n) (k.val + 1)) :=
    fun k _ => trip_spec I c a4 t k
  iintro H
  iapply (Scf.wp_for Idealize.ShloMosaic.frame (wpE (defs₀ (F := F)) Variants.none (c : Thread nD τ) none) Set.univ k0_t1_loop.lb k0_t1_loop.ub k0_t1_loop.st k0_t1_ok PUnit.unit
    (fun u _ => tripP a4 (grid0.coords t) u) (fun (n : ℕ) (_ : PUnit) => TI I c a4 t.val n) hb)
  isplitl [H]
  · iexact H
  iintro %acc H
  rw [show Scf.trips k0_t1_loop.lb k0_t1_loop.ub k0_t1_loop.st = 4 from trips4]
  iexact H

/-! ## Between grid points -/

def XG (t : ℕ) : TS := if t = 0 ∨ t = 42 then .free else Xpend t
def WG (t : ℕ) : TS := if t = 0 ∨ t = 42 then .free else .inn (t % 7)
def OG (t : ℕ) : OS := if t < 2 then .free 0 else if t < 42 then .fly (t - 2) else .free 42
def SGG (c : Dev nD) (t : ℕ) : sProp 𝕄 := if t = 0 ∨ t = 42 then JG0 c else SG c (fun q => ST I (t % 7) q 0 false)
def ACG (c : Dev nD) (t : ℕ) : sProp 𝕄 := if t = 0 ∨ t = 42 then iprop(∃ d, ACC c d) else ACC c (fun q i => AccV I (t - 1) q i 74)

/-- What holds between grid points: before grid point `t`. -/
def GI (c : Dev nD) (t : ℕ) : sProp 𝕄 :=
  iprop(XAll I c (fun _ => XG t) ∗ WR I c (sl t) (WG t) ∗ WR I c (sl (t + 1)) .free ∗ OR I c (OG t) ∗ SGG I c t ∗ JG c ∗ ACG I c t)

theorem gOf0 : ∀ k < 18944, gOf k = (0 : Fin 5).val ↔ 0 ≤ k ∧ k < 0 + 512 := by
  intro k hk
  show gOf k = 0 ↔ _
  unfold gOf
  split <;> omega
theorem gOf1 (g : Fin 5) (col : ℕ) (h1 : 1 ≤ g.val) (h : col = 512 + 4608 * (g.val - 1)) : ∀ k < 18944, gOf k = g.val ↔ col ≤ k ∧ k < col + 4608 := by
  intro k hk
  subst h
  unfold gOf
  split <;> omega

theorem startAll_spec (c : Dev nD) (a4 : Memref sig .tc .vmem S3584x128 .f32) (t : Fin 42) :
    Tri c iprop(XAll I c (fun _ => XG t.val) ∗ WR I c (sl t.val) (WG t.val) ∗ owns c a4 fullShare I.S ∗ SGG I c t.val ∗ Owe c) (startAll a4 (grid0.coords t))
      iprop(XAll I c (fun _ => Xpend t.val) ∗ WR I c (sl t.val) (.inn (t.val % 7)) ∗ owns c a4 fullShare I.S ∗ SG c (fun q => ST I (t.val % 7) q 0 false) ∗ Owe c) := by
  have ht := t.isLt
  unfold startAll XG WG SGG
  by_cases h0 : t.val = 0
  swap
  · rw [dif_neg (fun hc => h0 ((c1 t).1 hc))]
    simp only [if_neg (show ¬ (t.val = 0 ∨ t.val = 42) by omega)]
    exact Tri.ret
  rw [dif_pos ((c1 t).2 h0)]
  simp only [if_pos (show t.val = 0 ∨ t.val = 42 by omega)]
  have hx : Xpend t.val = .fly (t.val / 7) := if_pos (by omega)
  rw [XAll5, XAll5, hx]
  have P := pushPair I c a4 m12 m13 hm12 hm13 (sl t.val) (t.val % 7) 0 false (by omega) (by omega) _ _
    (fun r => k0_off9_inb (grid0.coords t) ((c1 t).2 h0) 0 r) (fun r => k0_off9_inb (grid0.coords t) ((c1 t).2 h0) 1 r) _ _ (k0_off10_inb (grid0.coords t) ((c1 t).2 h0) 0) (k0_off10_inb (grid0.coords t) ((c1 t).2 h0) 1)
    0#32 (fun r => o9 t 0 r) (fun r => o9 t 1 r) (o10 t 0) (o10 t 1) rfl
  unfold Tri startAllA JG0
  iintro ⟨⟨X0, X1, X2, X3, X4⟩, HW, H4, ⟨S0, S1⟩, Hw⟩
  iapply (Tri.use (wstart I c (sl t.val) (t.val % 7) (by omega) _ _ (o3 t) (o2 t) _ _ _ (wsem_eq _ _ _ (o1 t)) _ _ _)) $$ [HW]
  · iexact HW
  iintro HW
  iapply (Tri.use (xstart I c 0 (t.val / 7) (by omega) 0 512 (by omega) gOf0 _ _ (o4 t) rfl _ _ _ (xsem_eq 0 _ _ rfl) _ _ _ rfl)) $$ [X0]
  · iexact X0
  iintro X0
  iapply (Tri.use (xstart I c 1 (t.val / 7) (by omega) 512 4608 (by omega) (gOf1 1 _ (by decide) rfl) _ _ (o5 t) rfl _ _ _ (xsem_eq 1 _ _ rfl) _ _ _ rfl)) $$ [X1]
  · iexact X1
  iintro X1
  iapply (Tri.use (xstart I c 2 (t.val / 7) (by omega) 5120 4608 (by omega) (gOf1 2 _ (by decide) rfl) _ _ (o6 t) rfl _ _ _ (xsem_eq 2 _ _ rfl) _ _ _ rfl)) $$ [X2]
  · iexact X2
  iintro X2
  iapply (Tri.use (xstart I c 3 (t.val / 7) (by omega) 9728 4608 (by omega) (gOf1 3 _ (by decide) rfl) _ _ (o7 t) rfl _ _ _ (xsem_eq 3 _ _ rfl) _ _ _ rfl)) $$ [X3]
  · iexact X3
  iintro X3
  iapply (Tri.use (xstart I c 4 (t.val / 7) (by omega) 14336 4608 (by omega) (gOf1 4 _ (by decide) rfl) _ _ (o8 t) rfl _ _ _ (xsem_eq 4 _ _ rfl) _ _ _ rfl)) $$ [X4]
  · iexact X4
  iintro X4
  iapply (Tri.use (wwait I c (sl t.val) (t.val % 7)
      (m3.slice (Rect.unit (s := S132608x128) (k0_off3 (grid0.coords t)) S18944x128.size (k0_off3_inb (grid0.coords t) ((c1 t).2 h0))) (fun _ => rfl))
      (m7.slice (Rect.unit (s := S37888x128) (k0_off2 (grid0.coords t)) S18944x128.size (k0_off2_inb (grid0.coords t) ((c1 t).2 h0))) (fun _ => rfl))
      _ (wsem_eq _ _ _ (o1 t)) (View.wordExact_bits rfl) (View.wordExact_bits rfl) rfl)) $$ [HW Hw]
  · isplitl [HW]; · iexact HW
    iexact Hw
  iintro ⟨HW, Hw⟩
  iapply (Tri.last P) $$ [HW H4 S0 S1]
  · isplitl [HW]; · iexact HW
    isplitl [H4]; · iexact H4
    isplitl [S0]; · iexact S0
    iexact S1
  iintro ⟨HW, H4, HS⟩
  isplitl [X0 X1 X2 X3 X4]
  · isplitl [X0]; · iexact X0
    isplitl [X1]; · iexact X1
    isplitl [X2]; · iexact X2
    isplitl [X3]; · iexact X3
    iexact X4
  isplitl [HW]; · iexact HW
  isplitl [H4]; · iexact H4
  isplitl [HS]; · unfold SG; iexact HS
  iexact Hw

theorem waitX0_spec (c : Dev nD) (t : Fin 42) :
    Tri c iprop(XR I c 0 (Xpend t.val) ∗ Owe c) (waitX0 (grid0.coords t)) iprop(XR I c 0 (.inn (t.val / 7)) ∗ Owe c) := by
  unfold waitX0 Xpend
  by_cases h : t.val % 7 = 0
  · rw [dif_pos ((c2 t).2 h), if_pos h]
    exact xwait I c 0 (t.val / 7) _ _ _ (xsem_eq 0 _ _ rfl) _ _ rfl
  · rw [dif_neg (fun hc => h ((c2 t).1 hc)), if_neg h]
    exact Tri.ret

theorem startW_spec (c : Dev nD) (t : Fin 42) :
    Tri c (WR I c (sl (t.val + 1)) .free) (startW (grid0.coords t)) (WR I c (sl (t.val + 1)) (Wst t.val 0)) := by
  unfold startW Wst
  by_cases h : t.val + 1 < 42
  · rw [dif_pos ((c3 t).2 h), if_pos h, if_pos (by omega)]
    exact wstart I c (sl (t.val + 1)) ((t.val + 1) % 7) (by omega) _ _ (o14 t h) (o13 t h) _ _ _ (wsem_eq _ _ _ (o12 t h)) _ _ _
  · rw [dif_neg (fun hc => h ((c3 t).1 hc)), if_neg h]
    exact Tri.ret

theorem waitO_spec (c : Dev nD) (t : Fin 42) :
    Tri c iprop(OR I c (OG t.val) ∗ Owe c) (waitO (grid0.coords t)) iprop(OR I c (.free (t.val - 1)) ∗ Owe c) := by
  have ht := t.isLt
  unfold waitO OG
  by_cases h : 2 ≤ t.val
  · rw [dif_pos ((c4 t).2 h), if_neg (by omega), if_pos ht, show t.val - 1 = t.val - 2 + 1 by omega]
    exact owait I c (t.val - 2) _ _ _ _ rfl
  · rw [dif_neg (fun hc => h ((c4 t).1 hc)), if_pos (by omega), show t.val - 1 = 0 by omega]
    exact Tri.ret

theorem popAcc0_spec (c : Dev nD) (t : Fin 42) :
    Tri c iprop(XR I c 0 (.inn (t.val / 7)) ∗ SG c (fun q => ST I (t.val % 7) q 0 false) ∗ ACG I c t.val ∗ OR I c (.free (t.val - 1))) popAcc
      iprop(XR I c 0 (.inn (t.val / 7)) ∗ SG c (fun q => ST I (t.val % 7) q 0 false) ∗ ACC c (fun q i => AccV I t.val q i 1) ∗ OR I c (Ost t.val 0)) := by
  have ht := t.isLt
  have key (d f) := popAcc_spec I c (t.val / 7) (fun q => ST I (t.val % 7) q 0 false) d f
  have ea : (fun q i => accF zeroT (XT I (t.val / 7) i 0) (ST I (t.val % 7) q 0 false)) = fun q i => AccV I t.val q i 1 := rfl
  rw [ea] at key
  unfold Tri
  by_cases h0 : t.val = 0
  · have e1 : ACG I c t.val = iprop(∃ d, ACC c d) := by unfold ACG; rw [if_pos (by omega)]
    have e2 : Ost t.val 0 = .free (t.val - 1) := by unfold Ost; rw [if_pos h0, h0]
    rw [e1, e2]
    unfold OR SG
    iintro ⟨HX, HS, ⟨%d, HA⟩, ⟨%f, H8⟩, H5, Hv⟩
    iapply (Tri.last (key d f)) $$ [HX HS HA H8]
    · isplitl [HX]; · iexact HX
      isplitl [HS]; · iexact HS
      isplitl [HA]; · iexact HA
      iexact H8
    iintro ⟨HX, HS, HA, H8⟩
    isplitl [HX]; · iexact HX
    isplitl [HS]; · iexact HS
    isplitl [HA]; · iexact HA
    isplitl [H8]; · iexists _; iexact H8
    isplitl [H5]; · iexact H5
    iexact Hv
  · have e1 : ACG I c t.val = ACC c (fun q i => AccV I (t.val - 1) q i 74) := by unfold ACG; rw [if_neg (by omega)]
    have e2 : Ost t.val 0 = .inn (t.val - 1) := by unfold Ost; rw [if_neg h0, if_pos (by omega)]
    rw [e1, e2]
    unfold OR SG
    iintro ⟨HX, HS, HA, ⟨%f, H8⟩, H5, Hv⟩
    iapply (Tri.last (key (fun q i => AccV I (t.val - 1) q i 74) f)) $$ [HX HS HA H8]
    · isplitl [HX]; · iexact HX
      isplitl [HS]; · iexact HS
      isplitl [HA]; · iexact HA
      iexact H8
    iintro ⟨HX, HS, HA, H8⟩
    isplitl [HX]; · iexact HX
    isplitl [HS]; · iexact HS
    isplitl [HA]; · iexact HA
    isplitl [H5]; · iexact H5
    isplitl [Hv]; · iexact Hv
    iexact H8

theorem stage0_spec (c : Dev nD) (a4 : Memref sig .tc .vmem S3584x128 .f32) (t : Fin 42) (v : ℕ → Vec F S256x256 .bf16) :
    Tri c (CS I c a4 0 t.val v 1) (stage0 a4 (grid0.coords t)) (CS I c a4 0 t.val (fun q => ST I (t.val % 7) q 1 false) 2) := by
  have hg : ∀ j < 256, gOf (256 * 1 + j) = (0 : Fin 5).val := by
    intro j hj; unfold gOf; rw [if_pos (by omega)]; rfl
  have A2 := accV I c m14 m15 0 (t.val / 7) 1 hg _ _ _ _ inb_S1024x18944_S256x256_0_256 inb_S1024x18944_S256x256_256_256 inb_S1024x18944_S256x256_512_256 inb_S1024x18944_S256x256_768_256
    rfl rfl rfl rfl (fun q => ST I (t.val % 7) q 0 true) (fun q i => AccV I t.val q i (2 * 0 + 1))
  rw [show (fun q i => accF (AccV I t.val q i (2 * 0 + 1)) (XT I (t.val / 7) i 1) (ST I (t.val % 7) q 0 true)) = _ from AccV_hi I t.val 0] at A2
  have P := pushPair I c a4 m14 m15 hm14 hm15 (sl t.val) (t.val % 7) 0 true (by omega) (by omega) _ _
    (fun r => k0_off16_inb (grid0.coords t) 0 0 r) (fun r => k0_off16_inb (grid0.coords t) 1 0 r) _ _ (k0_off17_inb (grid0.coords t) 0) (k0_off17_inb (grid0.coords t) 1)
    0#32 (fun r => o16 t 0 0 r) (fun r => o16 t 1 0 r) (o17 t 0) (o17 t 1) rfl
  have P' := pushPair I c a4 m12 m13 hm12 hm13 (sl t.val) (t.val % 7) 1 false (by omega) (by omega) _ _
    (fun r => k0_off16_inb (grid0.coords t) 0 1 r) (fun r => k0_off16_inb (grid0.coords t) 1 1 r) _ _ (k0_off17_inb (grid0.coords t) 0) (k0_off17_inb (grid0.coords t) 1)
    1#32 (fun r => o16 t 0 1 r) (fun r => o16 t 1 1 r) (o17 t 0) (o17 t 1) rfl
  unfold Tri CS SG JG stage0
  iintro ⟨HX, HW, H4, ⟨S0, S1⟩, ⟨J0, J1⟩, HA⟩
  iapply (Tri.use P) $$ [HW H4 J0 J1]
  · isplitl [HW]; · iexact HW
    isplitl [H4]; · iexact H4
    isplitl [J0]; · iexact J0
    iexact J1
  iintro ⟨HW, H4, HJ⟩
  iapply (Tri.use A2) $$ [HX HJ HA]
  · isplitl [HX]; · iexact HX
    isplitl [HJ]; · iexact HJ
    iexact HA
  iintro ⟨HX, ⟨J0, J1⟩, HA⟩
  iapply (Tri.last P') $$ [HW H4 S0 S1]
  · isplitl [HW]; · iexact HW
    isplitl [H4]; · iexact H4
    isplitl [S0]
    · iexists _; iexact S0
    · iexists _; iexact S1
  iintro ⟨HW, H4, HS⟩
  isplitl [HX]; · iexact HX
  isplitl [HW]; · iexact HW
  isplitl [H4]; · iexact H4
  isplitl [HS]; · iexact HS
  isplitl [J0 J1]
  · isplitl [J0]
    · iexists _; iexact J0
    · iexists _; iexact J1
  iexact HA

theorem refillX0_spec (c : Dev nD) (t : Fin 42) :
    Tri c (XR I c 0 (.inn (t.val / 7))) (refillX0 (grid0.coords t)) (XR I c 0 (Xdone t.val)) := by
  unfold refillX0 Xdone
  by_cases h : t.val % 7 = 6 ∧ t.val < 41
  · rw [dif_pos ((c5 t).2 h), if_pos h]
    exact Tri.conseq (xstart I c 0 (t.val / 7 + 1) (by omega) 0 512 (by omega) gOf0 _ _ (o18 t h.2) rfl _ _ _ (xsem_eq 0 _ _ rfl) _ _ _ rfl)
      (XR_to_free I c 0 (t.val / 7)) .rfl
  · rw [dif_neg (fun hc => h ((c5 t).1 hc)), if_neg h]
    exact Tri.ret

theorem finish_spec (c : Dev nD) (t : Fin 42) :
    Tri c iprop(OR I c (Ost t.val 4) ∗ ACC c (fun q i => AccV I t.val q i 74) ∗ Owe c) (finish (grid0.coords t))
      iprop(OR I c (OG (t.val + 1)) ∗ ACG I c (t.val + 1) ∗ Owe c) := by
  have ht := t.isLt
  unfold finish
  by_cases h : t.val = 41
  swap
  · have e1 : OG (t.val + 1) = Ost t.val 4 := by
      unfold OG Ost
      by_cases h0 : t.val = 0
      · rw [if_pos (by omega), if_pos h0]
      · rw [if_neg (by omega), if_pos (by omega), if_neg h0, if_neg (by omega), show t.val + 1 - 2 = t.val - 1 by omega]
    have e2 : ACG I c (t.val + 1) = ACC c (fun q i => AccV I t.val q i 74) := by
      unfold ACG; rw [if_neg (by omega)]; rfl
    rw [dif_neg (fun hc => h ((c10 t).1 hc)), e1, e2]
    exact Tri.ret
  have e0 : Ost t.val 4 = .fly 40 := by unfold Ost; rw [if_neg (by omega), if_neg (by omega), show t.val - 1 = 40 by omega]
  have e1 : OG (t.val + 1) = .free (t.val + 1) := by unfold OG; rw [if_neg (by omega), if_neg (by omega), h]
  have e2 : ACG I c (t.val + 1) = iprop(∃ d, ACC c d) := by unfold ACG; rw [if_pos (by omega)]
  rw [dif_pos ((c10 t).2 h), e0, e1, e2]
  unfold Tri finishA
  iintro ⟨HO, HA, Hw⟩
  iapply (Tri.use (owait I c 40 m8 (m5.slice (Rect.unit (s := S6144x3584) (k0_off38 (grid0.coords t)) S1024x512.size (k0_off38_inb (grid0.coords t) ((c10 t).2 h))) (fun _ => rfl))
      hm8.wordExact (hm5.wordExact_slice rfl _ (k0_off38_wordsbf16 (grid0.coords t) ((c10 t).2 h))) rfl)) $$ [HO Hw]
  · isplitl [HO]; · iexact HO
    iexact Hw
  iintro ⟨HO, Hw⟩
  have hor : OR I c (.free (40 + 1)) = iprop((∃ f, m8.view.loc (c : Thread nD τ) ↦{fullShare} f) ∗ (m5.view.loc (c : Thread nD τ) ↦{fullShare} OutC I (40 + 1))
      ∗ semVal ((c : Thread nD τ), .dma osem) 0) := rfl
  ihave HO' := (Entails.of_eq hor) $$ HO
  icases HO' with ⟨⟨%f, H8⟩, H5, Hv⟩
  iapply (Tri.use (popAll_spec c (fun q i => AccV I t.val q i 74) f)) $$ [HA H8]
  · isplitl [HA]; · iexact HA
    iexact H8
  iintro ⟨HA, H8⟩
  iapply (Tri.use (ostart I c t.val ht _ (o39 t h) _ _ _ _)) $$ [H5 Hv H8]
  · unfold OR
    isplitl [H5]; · rw [show t.val = 40 + 1 from h]; iexact H5
    isplitl [Hv]; · iexact Hv
    iexact H8
  iintro HO
  iapply (Tri.last (owait I c t.val m8 (m5.slice (Rect.unit (s := S6144x3584) (k0_off39 (grid0.coords t)) S1024x512.size (k0_off39_inb (grid0.coords t) ((c10 t).2 h))) (fun _ => rfl))
      hm8.wordExact (hm5.wordExact_slice rfl _ (k0_off39_wordsbf16 (grid0.coords t) ((c10 t).2 h))) rfl)) $$ [HO Hw]
  · isplitl [HO]; · iexact HO
    iexact Hw
  iintro ⟨HO, Hw⟩
  isplitl [HO]; · iexact HO
  isplitl [HA]; · iexists _; iexact HA
  iexact Hw

/-- The body at grid point `t`. -/
theorem bodyP_spec (c : Dev nD) (a4 : Memref sig .tc .vmem S3584x128 .f32) (t : Fin 42) :
    Tri c iprop(GI I c t.val ∗ owns c a4 fullShare I.S ∗ Owe c) (bodyP a4 (grid0.coords t)) iprop(GI I c (t.val + 1) ∗ owns c a4 fullShare I.S ∗ Owe c) := by
  have ht := t.isLt
  have hsw := XAll_swap I c (fun _ => Xpend t.val) (fun g => if g.val ≤ 0 then Xdone t.val else Xpend t.val) 0 (by
    intro g' hg
    have hne : g'.val ≠ 0 := fun e => hg (Fin.ext e)
    show _ = if g'.val ≤ 0 then _ else _
    rw [if_neg (by omega)])
  have e0 : (if (0 : Fin 5).val ≤ 0 then Xdone t.val else Xpend t.val) = Xdone t.val := if_pos (le_refl 0)
  rw [e0] at hsw
  have es : SGU I c t.val 0 = SG c (fun q => ST I (t.val % 7) q 1 false) := by unfold SGU; rw [if_pos (by omega)]
  have es4 : SGU I c t.val 4 ⊢ SGG I c (t.val + 1) := by
    unfold SGU SGG
    rw [if_neg (by omega)]
    by_cases h : t.val + 1 < 42
    · rw [if_pos h, if_neg (by omega)]
    · rw [if_neg h, if_pos (by omega)]
  have ew4 : Wst t.val 4 = WG (t.val + 1) := by
    unfold Wst WG
    by_cases h : t.val + 1 < 42
    · rw [if_pos h, if_neg (by omega), if_neg (by omega)]
    · rw [if_neg h, if_pos (by omega)]
  have esl : sl (t.val + 1 + 1) = sl t.val := Fin.ext (by show (t.val + 1 + 1) % 2 = t.val % 2; omega)
  have ex4 : XAll I c (fun g => if g.val ≤ 4 then Xdone t.val else Xpend t.val) ⊢ XAll I c (fun _ => XG (t.val + 1)) := by
    have e : (fun g : Fin 5 => if g.val ≤ 4 then Xdone t.val else Xpend t.val) = fun _ => Xdone t.val := by
      funext g; exact if_pos (by omega)
    rw [e]
    unfold XG
    by_cases h : t.val + 1 < 42
    · rw [if_neg (by omega)]
      have : Xdone t.val = Xpend (t.val + 1) := by
        unfold Xdone Xpend
        by_cases h6 : t.val % 7 = 6
        · rw [if_pos (by omega), if_pos (by omega), show (t.val + 1) / 7 = t.val / 7 + 1 by omega]
        · rw [if_neg (by omega), if_neg (by omega), show (t.val + 1) / 7 = t.val / 7 by omega]
      rw [this]
    · rw [if_pos (by omega)]
      have : Xdone t.val = .inn (t.val / 7) := by unfold Xdone; rw [if_neg (by omega)]
      rw [this]
      exact bigSep_mono fun g _ => XR_to_free I c g _
  unfold Tri bodyP
  iintro ⟨HG, H4, Hw⟩
  unfold GI
  rw [esl]
  icases HG with ⟨HX, HW, HV, HO, HS, HJ, HA⟩
  iapply (Tri.use (startAll_spec I c a4 t)) $$ [HX HW H4 HS Hw]
  · isplitl [HX]; · iexact HX
    isplitl [HW]; · iexact HW
    isplitl [H4]; · iexact H4
    isplitl [HS]; · iexact HS
    iexact Hw
  iintro ⟨HX, HW, H4, HS, Hw⟩
  icases (hsw) $$ HX with ⟨HX, HXr⟩
  iapply (Tri.use (waitX0_spec I c t)) $$ [HX Hw]
  · isplitl [HX]; · iexact HX
    iexact Hw
  iintro ⟨HX, Hw⟩
  iapply (Tri.use (startW_spec I c t)) $$ [HV]
  · iexact HV
  iintro HV
  iapply (Tri.use (waitO_spec I c t)) $$ [HO Hw]
  · isplitl [HO]; · iexact HO
    iexact Hw
  iintro ⟨HO, Hw⟩
  iapply (Tri.use (popAcc0_spec I c t)) $$ [HX HS HA HO]
  · isplitl [HX]; · iexact HX
    isplitl [HS]; · iexact HS
    isplitl [HA]; · iexact HA
    iexact HO
  iintro ⟨HX, HS, HA, HO⟩
  iapply (Tri.use (stage0_spec I c a4 t _)) $$ [HX HW H4 HS HJ HA]
  · unfold CS
    isplitl [HX]; · iexact HX
    isplitl [HW]; · iexact HW
    isplitl [H4]; · iexact H4
    isplitl [HS]; · iexact HS
    isplitl [HJ]; · iexact HJ
    iexact HA
  iintro HL
  unfold CS
  icases HL with ⟨HX, HW, H4, HS, HJ, HA⟩
  iapply (Tri.use (refillX0_spec I c t)) $$ [HX]
  · iexact HX
  iintro HX
  ihave HXX := HXr $$ HX
  iapply (Tri.use (loop_spec I c a4 t)) $$ [HXX HW HV HO H4 HS HJ HA Hw]
  · unfold TI
    rw [es]
    isplitl [HXX]; · iexact HXX
    isplitl [HW]; · iexact HW
    isplitl [HV]; · iexact HV
    isplitl [HO]; · iexact HO
    isplitl [H4]; · iexact H4
    isplitl [HS]; · iexact HS
    isplitl [HJ]; · iexact HJ
    isplitl [HA]; · iexact HA
    iexact Hw
  iintro HL
  unfold TI
  rw [ew4]
  icases HL with ⟨HX, HW, HV, HO, H4, HS, HJ, HA, Hw⟩
  iapply (Tri.last (finish_spec I c t)) $$ [HO HA Hw]
  · isplitl [HO]; · iexact HO
    isplitl [HA]; · iexact HA
    iexact Hw
  iintro ⟨HO, HA, Hw⟩
  ihave HS' := es4 $$ HS
  ihave HX' := ex4 $$ HX
  ihave HW' := (WR_to_free I c (sl t.val) (t.val % 7)) $$ HW
  isplitr [H4 Hw]
  · isplitl [HX']; · iexact HX'
    isplitl [HV]; · iexact HV
    isplitl [HW']; · iexact HW'
    isplitl [HO]; · iexact HO
    isplitl [HS']; · iexact HS'
    isplitl [HJ]; · iexact HJ
    iexact HA
  isplitl [H4]; · iexact H4
  iexact Hw

end Cert.Kernel.Hand

end
-- ==== Proof.K.Printed.lean ====
/- The printed body is the small programs. -/
module

public import proofs.«01_k».proof.Proof.K.Progs

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- A guarded program whose continuation stands in both branches. -/
def j1 {α : Type} (c : Prop) [Decidable c] (A : c → Prog (TpuEff nD τ sig (Elt F) Λ₀ .tc) PUnit) (K : Prog (TpuEff nD τ sig (Elt F) Λ₀ .tc) α) : Prog (TpuEff nD τ sig (Elt F) Λ₀ .tc) α :=
  if h : c then (do A h; K) else K

theorem j1_eq {α : Type} (c : Prop) [Decidable c] (A : c → Prog (TpuEff nD τ sig (Elt F) Λ₀ .tc) PUnit) (K : Prog (TpuEff nD τ sig (Elt F) Λ₀ .tc) α) :
    j1 c A K = (do (if h : c then A h else pure ⟨⟩); K) := by
  unfold j1; split <;> rfl

theorem j1_bind {α β : Type} (c : Prop) [Decidable c] (A : c → Prog (TpuEff nD τ sig (Elt F) Λ₀ .tc) PUnit) (K : Prog (TpuEff nD τ sig (Elt F) Λ₀ .tc) α) (k : α → Prog (TpuEff nD τ sig (Elt F) Λ₀ .tc) β) :
    (j1 c A K >>= k) = j1 c A (K >>= k) := by
  unfold j1; split
  · exact Prog.bind_assoc _ _ _
  · rfl

/-- What follows the guarded transfers in the first window of the loop's region. -/
def tailT (i : grid0.Coords) (t : Fin k0_t1_loop.trips) : Prog (TpuEff nD τ sig (Elt F) Λ₀ .tc) (Σ' (arg24 : BitVec 32) (v480 : BitVec 32) (v485 : Vec F S256x256 .bf16), Vec F S256x256 .f32) := do
  let x : Vec F S256x256 .bf16 ← Prog.lift (.load m6 (Rect.unit (s := S1024x18944) (k0_off26 t 0#32 0#32) S256x256.size (k0_off26_inb t 0 0)).toLoadRect (View.loadsAt_vmem h_S256x256))
  acc1 m12 m16 x
  let v : Vec F S256x256 .f32 ← Prog.lift (.load m20 sq.toLoadRect (View.loadsAt_vmem h_S256x256))
  pure ⟨Scf.iv 0#32 1#32 t, chunkV t 0#32, x, v⟩

theorem part5_eq (i : grid0.Coords) (a4 : Memref sig .tc .vmem S3584x128 .f32) (h4 : a4.IsWhole) (t : Fin k0_t1_loop.trips) (b0 b1 v1 : BitVec 32) :
    k0_part5 (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 b0 b1 v1 0#32 1#32 t = j1 (k0_cond6 i = 1#1) (waitXA i t) (j1 (k0_cond7 i t = 1#1) (startOA i t) (j1 (k0_cond8 i t = 1#1) (waitWA i t) (tailT i t))) := by
  sl_kernel_rfl

theorem trip_eq (i : grid0.Coords) (a4 : Memref sig .tc .vmem S3584x128 .f32) (h4 : a4.IsWhole) (b0 b1 v1 : BitVec 32) (t : Fin k0_t1_loop.trips) :
    k0_t1_body (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 b0 b1 v1 t () = tripP a4 i t := by
  unfold k0_t1_body k0_part103
  rw [part5_eq, j1_bind, j1_bind, j1_bind, j1_bind, j1_bind, j1_bind, j1_eq, j1_eq, j1_eq]
  sl_kernel_rfl

/-- What follows the guarded transfers in the body's first window. -/
def tailH (i : grid0.Coords) : Prog (TpuEff nD τ sig (Elt F) Λ₀ .tc) (Σ' (arg0 : BitVec 32) (arg1 : BitVec 32) (v1 : BitVec 32) (v4 : BitVec 1) (v27 : Vec F S256x256 .f32), FVec F S256x256 .f32) := do
  pop1 m16 ![0, 0] inb_S1024x512_S256x256_0_0 packedbf16_S1024x512_S256x256_0_0
  let v : Vec F S256x256 .f32 ← Prog.lift (.load m20 sq.toLoadRect (View.loadsAt_vmem h_S256x256))
  pure ⟨(BitVec.ofNat 32 (i 0).val), (BitVec.ofNat 32 (i 1).val), (Scalar.addi (Scalar.muli (BitVec.ofNat 32 (i 0).val) 7#32) (BitVec.ofNat 32 (i 1).val)), Scalar.andi (Scalar.cmpi .eq (BitVec.ofNat 32 (i 1).val) 6#32) (Scalar.cmpi .slt (BitVec.ofNat 32 (i 0).val) 5#32), v, broadcast S256x256 (Scalar.ofBits .f32 0x00000000#32)⟩

theorem part109_eq (i : grid0.Coords) (a4 : Memref sig .tc .vmem S3584x128 .f32) (h4 : a4.IsWhole) :
    k0_part109 (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 = j1 (k0_cond1 i = 1#1) (startAllA a4 i) (j1 (k0_cond2 i = 1#1) (waitX0A i) (j1 (k0_cond3 i = 1#1) (startWA i) (j1 (k0_cond4 i = 1#1) (waitOA i) (tailH i)))) := by
  sl_kernel_rfl

/-- The body up to the refill of the first column group. -/
def midP (a4 : Memref sig .tc .vmem S3584x128 .f32) (i : grid0.Coords) (K : Prog (TpuEff nD τ sig (Elt F) Λ₀ .tc) PUnit) : Prog (TpuEff nD τ sig (Elt F) Λ₀ .tc) PUnit := do
  startAll a4 i
  waitX0 i
  startW i
  waitO i
  popAcc
  stage0 a4 i
  K

theorem tail_eq (i : grid0.Coords) (a4 : Memref sig .tc .vmem S3584x128 .f32) :
    (j1 (k0_cond5 i = 1#1) (refillX0A i) (do
      Scf.Loop.for k0_t1_loop k0_t1_ok ⟨⟩ (fun t _ => tripP (F := F) a4 i t)
      finish i))
    = (do refillX0 i; Scf.Loop.for k0_t1_loop k0_t1_ok ⟨⟩ (fun t _ => tripP (F := F) a4 i t); finish i) := by
  rw [j1_eq]; rfl

theorem body_eq (i : grid0.Coords) (a4 : Memref sig .tc .vmem S3584x128 .f32) (h4 : a4.IsWhole) :
    cc0_qwz_linear (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 = bodyP a4 i := by
  have e1 : (fun (t : Fin k0_t1_loop.trips) (_ : Unit) => tripP (F := F) a4 i t)
      = k0_t1_body (F := F) i m2 hm2 m3 hm3 a4 h4 m5 hm5 m6 hm6 m7 hm7 m8 hm8 m9 m10 m11 m12 hm12 m13 hm13 m14 hm14 m15 hm15 m16 hm16 m17 hm17 m18 hm18 m19 hm19 m20 hm20 m21 hm21 m22 hm22 m23 hm23 (BitVec.ofNat 32 (i 0).val) (BitVec.ofNat 32 (i 1).val) (Scalar.addi (Scalar.muli (BitVec.ofNat 32 (i 0).val) 7#32) (BitVec.ofNat 32 (i 1).val)) := by
    funext t u; exact (trip_eq i a4 h4 _ _ _ t).symm
  have e2 : bodyP (F := F) a4 i = midP a4 i (do refillX0 i; Scf.Loop.for k0_t1_loop k0_t1_ok ⟨⟩ (fun t _ => tripP (F := F) a4 i t); finish i) := by
    sl_kernel_rfl
  rw [e2, ← tail_eq, e1]
  unfold cc0_qwz_linear
  rw [part109_eq, j1_bind, j1_bind, j1_bind, j1_bind, j1_eq, j1_eq, j1_eq, j1_eq]
  sl_kernel_rfl

end Cert.Kernel.Hand

end
-- ==== Proof.K.Run.lean ====
/- The launch: the buffers and counters the body's invariant is made of, and the run of the whole program. -/
module

public import proofs.«01_k».proof.Proof.K.Body
public import proofs.«01_k».proof.Proof.K.Printed
public import proofs.«01_k».proof.Proof.Gen.Kernel.Frame
public import Idealize.ShloMosaic.Lib.Pipeline.FrameBody
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (I : Inp F)

/-! ## A whole buffer block by block, and an array's read shares -/

theorem gOf_lt (k : ℕ) (h : k < 18944) : gOf k < 5 := by unfold gOf; split <;> omega

theorem Gs_disj : ∀ b b' : Fin 5, b ≠ b' → Disjoint (Gs b) (Gs b') := fun b b' h =>
  Finset.disjoint_left.mpr fun y h1 h2 => h (Fin.ext ((Finset.mem_filter.mp h1).2.symm.trans (Finset.mem_filter.mp h2).2))
theorem Gs_cover : (Finset.univ : Finset (Fin 5)).biUnion Gs = Finset.univ :=
  Finset.eq_univ_iff_forall.mpr fun y => Finset.mem_biUnion.mpr
    ⟨⟨gOf (y 1).val, gOf_lt _ (y 1).isLt⟩, Finset.mem_univ _, Finset.mem_filter.mpr ⟨Finset.mem_univ _, rfl⟩⟩
theorem Ws_disj : ∀ b b' : Fin 2, b ≠ b' → Disjoint (Ws b) (Ws b') := fun b b' h =>
  Finset.disjoint_left.mpr fun y h1 h2 => h (Fin.ext ((Finset.mem_filter.mp h1).2.symm.trans (Finset.mem_filter.mp h2).2))
theorem Ws_cover : (Finset.univ : Finset (Fin 2)).biUnion Ws = Finset.univ :=
  Finset.eq_univ_iff_forall.mpr fun y => Finset.mem_biUnion.mpr
    ⟨⟨(y 0).val / 18944, by have : (y 0).val < 37888 := (y 0).isLt; omega⟩, Finset.mem_univ _, Finset.mem_filter.mpr ⟨Finset.mem_univ _, rfl⟩⟩

theorem five (Φ : Fin 5 → sProp 𝕄) : bigSep Finset.univ Φ = iprop(Φ 0 ∗ Φ 1 ∗ Φ 2 ∗ Φ 3 ∗ Φ 4) :=
  BI.bigSep_eq_bigSepL_of_eq (S := Finset.univ) (Φ := Φ) [(0 : Fin 5), 1, 2, 3, 4] (by decide) (by decide)
theorem two (Φ : Fin 2 → sProp 𝕄) : bigSep Finset.univ Φ = iprop(Φ 0 ∗ Φ 1) :=
  BI.bigSep_eq_bigSepL_of_eq (S := Finset.univ) (Φ := Φ) [(0 : Fin 2), 1] (by decide) (by decide)

/-- The eight counters at zero. -/
def Sems (c : Dev nD) : sProp 𝕄 :=
  iprop((semVal ((c : Thread nD τ), .dma (xsem 0)) 0 ∗ semVal ((c : Thread nD τ), .dma (xsem 1)) 0 ∗ semVal ((c : Thread nD τ), .dma (xsem 2)) 0
    ∗ semVal ((c : Thread nD τ), .dma (xsem 3)) 0 ∗ semVal ((c : Thread nD τ), .dma (xsem 4)) 0)
    ∗ (semVal ((c : Thread nD τ), .dma (wsem 0)) 0 ∗ semVal ((c : Thread nD τ), .dma (wsem 1)) 0) ∗ semVal ((c : Thread nD τ), .dma osem) 0)

theorem x_in (c : Dev nD) (f : Buf (Elt F) (m6.view.loc (c : Thread nD τ))) :
    iprop((m6.view.loc (c : Thread nD τ) ↦{fullShare} f) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0) ∗ (m2.view.loc (c : Thread nD τ) ↦{fullShare} I.X))
    ⊢ iprop(XAll I c (fun _ => .free) ∗ (m2.view.loc (c : Thread nD τ) ↦{Transfers.shareDrop fullShare 5} I.X)) := by
  have e : (m6.view.loc (c : Thread nD τ) ↦{fullShare} f : sProp 𝕄) = _ := Ring.pointsTo_blocks Gs Gs_disj Gs_cover f
  rw [XAll5, e, five]
  unfold XR
  iintro ⟨⟨H0, H1, H2, H3, H4⟩, ⟨S0, S1, S2, S3, S4⟩, HX⟩
  ihave HX' := (Transfers.pointsTo_toks_split (S := Finset.univ) (f := I.X) fullShare 5) $$ HX
  rw [five]
  icases HX' with ⟨HD, T0, T1, T2, T3, T4⟩
  isplitr [HD]
  · isplitl [H0 S0 T0]; · isplitl [H0]; · iexists f; iexact H0
                          isplitl [S0]; · iexact S0
                          iexact T0
    isplitl [H1 S1 T1]; · isplitl [H1]; · iexists f; iexact H1
                          isplitl [S1]; · iexact S1
                          iexact T1
    isplitl [H2 S2 T2]; · isplitl [H2]; · iexists f; iexact H2
                          isplitl [S2]; · iexact S2
                          iexact T2
    isplitl [H3 S3 T3]; · isplitl [H3]; · iexists f; iexact H3
                          isplitl [S3]; · iexact S3
                          iexact T3
    isplitl [H4]; · iexists f; iexact H4
    isplitl [S4]; · iexact S4
    iexact T4
  · iexact HD

theorem x_out (c : Dev nD) :
    iprop(XAll I c (fun _ => .free) ∗ (m2.view.loc (c : Thread nD τ) ↦{Transfers.shareDrop fullShare 5} I.X))
    ⊢ iprop((∃ f, m6.view.loc (c : Thread nD τ) ↦{fullShare} f) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0) ∗ (m2.view.loc (c : Thread nD τ) ↦{fullShare} I.X)) := by
  have e := Ring.pointsTo_blocks_join_exists (Ix := Unit) (Val := Elt F) (Name := ℕ) (U := Pipeline.UD sig nD τ) (Lvl := ℕ) (ℓ := m6.view.loc (c : Thread nD τ)) (q := fullShare) Gs Gs_disj Gs_cover (XB I 0)
  have e2 := Transfers.pointsTo_toks_join (U := Pipeline.UD sig nD τ) (Ix := Unit) (Name := ℕ) (Lvl := ℕ) (ℓ := m2.view.loc (c : Thread nD τ)) (S := Finset.univ) (f := I.X) fullShare 5
  rw [five] at e e2
  rw [XAll5]
  unfold XR
  iintro ⟨⟨⟨H0, S0, T0⟩, ⟨H1, S1, T1⟩, ⟨H2, S2, T2⟩, ⟨H3, S3, T3⟩, ⟨H4, S4, T4⟩⟩, HD⟩
  isplitl [H0 H1 H2 H3 H4]
  · iapply e
    isplitl [H0]; · iexact H0
    isplitl [H1]; · iexact H1
    isplitl [H2]; · iexact H2
    isplitl [H3]; · iexact H3
    iexact H4
  isplitl [S0 S1 S2 S3 S4]
  · isplitl [S0]; · iexact S0
    isplitl [S1]; · iexact S1
    isplitl [S2]; · iexact S2
    isplitl [S3]; · iexact S3
    iexact S4
  iapply e2
  isplitl [HD]; · iexact HD
  isplitl [T0]; · iexact T0
  isplitl [T1]; · iexact T1
  isplitl [T2]; · iexact T2
  isplitl [T3]; · iexact T3
  iexact T4

theorem w_in (c : Dev nD) (f : Buf (Elt F) (m7.view.loc (c : Thread nD τ))) :
    iprop((m7.view.loc (c : Thread nD τ) ↦{fullShare} f) ∗ (semVal ((c : Thread nD τ), .dma (wsem 0)) 0 ∗ semVal ((c : Thread nD τ), .dma (wsem 1)) 0) ∗ (m3.view.loc (c : Thread nD τ) ↦{fullShare} I.W))
    ⊢ iprop(WR I c 0 .free ∗ WR I c 1 .free ∗ (m3.view.loc (c : Thread nD τ) ↦{Transfers.shareDrop fullShare 2} I.W)) := by
  have e : (m7.view.loc (c : Thread nD τ) ↦{fullShare} f : sProp 𝕄) = _ := Ring.pointsTo_blocks Ws Ws_disj Ws_cover f
  rw [e, two]
  unfold WR
  iintro ⟨⟨H0, H1⟩, ⟨S0, S1⟩, HX⟩
  ihave HX' := (Transfers.pointsTo_toks_split (S := Finset.univ) (f := I.W) fullShare 2) $$ HX
  rw [two]
  icases HX' with ⟨HD, T0, T1⟩
  isplitl [H0 S0 T0]; · isplitl [H0]; · iexists f; iexact H0
                        isplitl [S0]; · iexact S0
                        iexact T0
  isplitl [H1 S1 T1]; · isplitl [H1]; · iexists f; iexact H1
                        isplitl [S1]; · iexact S1
                        iexact T1
  iexact HD

theorem w_out (c : Dev nD) :
    iprop(WR I c 0 .free ∗ WR I c 1 .free ∗ (m3.view.loc (c : Thread nD τ) ↦{Transfers.shareDrop fullShare 2} I.W))
    ⊢ iprop((∃ f, m7.view.loc (c : Thread nD τ) ↦{fullShare} f) ∗ (semVal ((c : Thread nD τ), .dma (wsem 0)) 0 ∗ semVal ((c : Thread nD τ), .dma (wsem 1)) 0) ∗ (m3.view.loc (c : Thread nD τ) ↦{fullShare} I.W)) := by
  have e := Ring.pointsTo_blocks_join_exists (Ix := Unit) (Val := Elt F) (Name := ℕ) (U := Pipeline.UD sig nD τ) (Lvl := ℕ) (ℓ := m7.view.loc (c : Thread nD τ)) (q := fullShare) Ws Ws_disj Ws_cover (WB I 0)
  have e2 := Transfers.pointsTo_toks_join (U := Pipeline.UD sig nD τ) (Ix := Unit) (Name := ℕ) (Lvl := ℕ) (ℓ := m3.view.loc (c : Thread nD τ)) (S := Finset.univ) (f := I.W) fullShare 2
  rw [two] at e e2
  unfold WR
  iintro ⟨⟨H0, S0, T0⟩, ⟨H1, S1, T1⟩, HD⟩
  isplitl [H0 H1]
  · iapply e
    isplitl [H0]; · iexact H0
    iexact H1
  isplitl [S0 S1]
  · isplitl [S0]; · iexact S0
    iexact S1
  iapply e2
  isplitl [HD]; · iexact HD
  isplitl [T0]; · iexact T0
  iexact T1

/-! ## The invariant before the first grid point, and after the last -/

/-- The body's invariant: what it keeps between grid points, the arrays' undealt read shares, the generator register. -/
def ΦI (c : Dev nD) (t : ℕ) : sProp 𝕄 :=
  iprop(GI I c t ∗ (m2.view.loc (c : Thread nD τ) ↦{Transfers.shareDrop fullShare 5} I.X) ∗ (m3.view.loc (c : Thread nD τ) ↦{Transfers.shareDrop fullShare 2} I.W)
    ∗ (∃ r, prngReg c r))

theorem hold (c : Dev nD) (b : Ref sig .tc) :
    (iprop(∃ f : Buf (Elt F) ((c : Thread nD τ).loc b), ((c : Thread nD τ).loc b) ↦{fullShare} f) : sProp 𝕄)
      = iprop(∃ v, owns (c : Thread nD τ) (Memref.whole b) fullShare v) := by
  simp only [owns_whole]

theorem OutC_zero : OutC I 0 = I.Y := by
  funext i; unfold OutC; simp

/-- The scratch buffers. -/
def Scr (c : Dev nD) : sProp 𝕄 :=
  iprop((∃ f, m6.view.loc (c : Thread nD τ) ↦{fullShare} f) ∗ (∃ f, m7.view.loc (c : Thread nD τ) ↦{fullShare} f) ∗ (∃ f, m8.view.loc (c : Thread nD τ) ↦{fullShare} f)
    ∗ (∃ v : Vec F S256x256 .bf16, owns c m12 fullShare v) ∗ (∃ v : Vec F S256x256 .bf16, owns c m13 fullShare v)
    ∗ (∃ v : Vec F S256x256 .bf16, owns c m14 fullShare v) ∗ (∃ v : Vec F S256x256 .bf16, owns c m15 fullShare v)
    ∗ (∃ v : Vec F S256x256 .f32, owns c m16 fullShare v) ∗ (∃ v : Vec F S256x256 .f32, owns c m17 fullShare v)
    ∗ (∃ v : Vec F S256x256 .f32, owns c m18 fullShare v) ∗ (∃ v : Vec F S256x256 .f32, owns c m19 fullShare v)
    ∗ (∃ v : Vec F S256x256 .f32, owns c m20 fullShare v) ∗ (∃ v : Vec F S256x256 .f32, owns c m21 fullShare v)
    ∗ (∃ v : Vec F S256x256 .f32, owns c m22 fullShare v) ∗ (∃ v : Vec F S256x256 .f32, owns c m23 fullShare v))

theorem scr_eq (c : Dev nD) :
    (Pipeline.scopedRest (Ix := Unit) (Name := ℕ) (U := Pipeline.UD sig nD τ) (Lvl := ℕ) (Val := Elt F) spec0 c : sProp 𝕄) = Scr c := by
  rw [scopedRest0_eq]
  simp only [hold (F := F) c cc0_scratch6, hold (F := F) c cc0_scratch7, hold (F := F) c cc0_scratch8, hold (F := F) c cc0_scratch9, hold (F := F) c cc0_scratch10,
    hold (F := F) c cc0_scratch11, hold (F := F) c cc0_scratch12, hold (F := F) c cc0_scratch13, hold (F := F) c cc0_scratch14, hold (F := F) c cc0_scratch15,
    hold (F := F) c cc0_scratch16, hold (F := F) c cc0_scratch17]
  rfl

abbrev osem0 : Fin 8 → SemLoc sig := fun j =>
  (![SemLoc.dma 1, SemLoc.dma 2, SemLoc.dma 3, SemLoc.dma 4, SemLoc.dma 5, SemLoc.dma 6, SemLoc.dma 7, SemLoc.dma 8] : Fin 8 → SemLoc sig) j
theorem ownSemFacts0 : Pipeline.OwnSemFacts spec0 osem0 := by decide

theorem xsem_val (g : Fin 5) : xsem g = ⟨1 + g.val, by have := g.isLt; show _ < 9; omega⟩ := by revert g; decide
theorem wsem_val (s : Fin 2) : wsem s = ⟨6 + s.val, by have := s.isLt; show _ < 9; omega⟩ := by revert s; decide
theorem osem_val : osem = ⟨8, by decide⟩ := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (xsem 0)) 0 ∗ semVal ((c : Thread nD τ), .dma (xsem 1)) 0 ∗ semVal ((c : Thread nD τ), .dma (xsem 2)) 0
    ∗ semVal ((c : Thread nD τ), .dma (xsem 3)) 0 ∗ semVal ((c : Thread nD τ), .dma (xsem 4)) 0
    ∗ semVal ((c : Thread nD τ), .dma (wsem 0)) 0 ∗ semVal ((c : Thread nD τ), .dma (wsem 1)) 0 ∗ semVal ((c : Thread nD τ), .dma osem) 0) := by
  rw [Pipeline.ownSems0_eq_of_list c osem0 [0, 1, 2, 3, 4, 5, 6, 7] (by decide) (by decide)]
  simp only [xsem_val, wsem_val, osem_val]
  rfl

theorem phi_in (c : Dev nD) :
    iprop(Scr c ∗ (∃ r, prngReg c r) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0
      ∗ semVal ((c : Thread nD τ), .dma (wsem 0)) 0 ∗ semVal ((c : Thread nD τ), .dma (wsem 1)) 0 ∗ semVal ((c : Thread nD τ), .dma osem) 0)
      ∗ ((m2.view.loc (c : Thread nD τ) ↦{fullShare} I.X) ∗ (m3.view.loc (c : Thread nD τ) ↦{fullShare} I.W)) ∗ (m5.view.loc (c : Thread nD τ) ↦{fullShare} I.Y))
    ⊢ ΦI I c 0 := by
  unfold Scr ΦI GI OR SGG ACG JG0 JG ACC
  rw [show XG 0 = .free from rfl, show WG 0 = .free from rfl, show OG 0 = .free 0 from rfl, if_pos (Or.inl rfl), if_pos (Or.inl rfl), show sl 0 = 0 from rfl, show sl (0 + 1) = 1 from rfl]
  iintro ⟨⟨⟨%f6, H6⟩, ⟨%f7, H7⟩, H8, H12, H13, H14, H15, ⟨%a0, A0⟩, ⟨%a1, A1⟩, ⟨%a2, A2⟩, ⟨%a3, A3⟩, ⟨%b0, B0⟩, ⟨%b1, B1⟩, ⟨%b2, B2⟩, ⟨%b3, B3⟩⟩, Hg, ⟨S0, S1, S2, S3, S4, S5, S6, S7⟩, ⟨HX, HW⟩, HY⟩
  ihave HX' := (x_in I c f6) $$ [H6 S0 S1 S2 S3 S4 HX]
  · isplitl [H6]; · iexact H6
    isplitr [HX]
    · isplitl [S0]; · iexact S0
      isplitl [S1]; · iexact S1
      isplitl [S2]; · iexact S2
      isplitl [S3]; · iexact S3
      iexact S4
    iexact HX
  ihave HW' := (w_in I c f7) $$ [H7 S5 S6 HW]
  · isplitl [H7]; · iexact H7
    isplitr [HW]
    · isplitl [S5]; · iexact S5
      iexact S6
    iexact HW
  icases HX' with ⟨HXA, HXD⟩
  icases HW' with ⟨HW0, HW1, HWD⟩
  isplitr [HXD HWD Hg]
  · isplitl [HXA]; · iexact HXA
    isplitl [HW0]; · iexact HW0
    isplitl [HW1]; · iexact HW1
    isplitl [H8 HY S7]
    · isplitl [H8]; · iexact H8
      isplitl [HY]; · rw [OutC_zero]; iexact HY
      iexact S7
    isplitl [H12 H13]
    · isplitl [H12]; · iexact H12
      iexact H13
    isplitl [H14 H15]
    · isplitl [H14]; · iexact H14
      iexact H15
    iexists (fun q i => if q = 0 then (if i = 0 then a0 else if i = 1 then a1 else if i = 2 then a2 else a3) else (if i = 0 then b0 else if i = 1 then b1 else if i = 2 then b2 else b3))
    isplitl [A0 B0]; · isplitl [A0]; · iexact A0
                       iexact B0
    isplitl [A1 B1]; · isplitl [A1]; · iexact A1
                       iexact B1
    isplitl [A2 B2]; · isplitl [A2]; · iexact A2
                       iexact B2
    isplitl [A3]; · iexact A3
    iexact B3
  isplitl [HXD]; · iexact HXD
  isplitl [HWD]; · iexact HWD
  iexact Hg

theorem phi_out (c : Dev nD) :
    ΦI I c 42 ⊢ iprop(Scr c ∗ (∃ r, prngReg c r) ∗ (semVal ((c : Thread nD τ), .dma (xsem 0)) 0 ∗ semVal ((c : Thread nD τ), .dma (xsem 1)) 0 ∗ semVal ((c : Thread nD τ), .dma (xsem 2)) 0
      ∗ semVal ((c : Thread nD τ), .dma (xsem 3)) 0 ∗ semVal ((c : Thread nD τ), .dma (xsem 4)) 0
      ∗ semVal ((c : Thread nD τ), .dma (wsem 0)) 0 ∗ semVal ((c : Thread nD τ), .dma (wsem 1)) 0 ∗ semVal ((c : Thread nD τ), .dma osem) 0)
      ∗ ((m2.view.loc (c : Thread nD τ) ↦{fullShare} I.X) ∗ (m3.view.loc (c : Thread nD τ) ↦{fullShare} I.W)) ∗ (m5.view.loc (c : Thread nD τ) ↦{fullShare} OutC I 42)) := by
  unfold Scr ΦI GI OR SGG ACG JG0 JG ACC
  rw [show XG 42 = .free from rfl, show WG 42 = .free from rfl, show OG 42 = .free 42 from rfl, if_pos (Or.inr rfl), if_pos (Or.inr rfl), show sl 42 = 0 from rfl, show sl (42 + 1) = 1 from rfl]
  iintro ⟨⟨HXA, HW0, HW1, ⟨H8, HY, S7⟩, ⟨H12, H13⟩, ⟨H14, H15⟩, ⟨%d, ⟨A0, B0⟩, ⟨A1, B1⟩, ⟨A2, B2⟩, ⟨A3, B3⟩⟩⟩, HXD, HWD, Hg⟩
  ihave HX' := (x_out I c) $$ [HXA HXD]
  · isplitl [HXA]; · iexact HXA
    iexact HXD
  ihave HW' := (w_out I c) $$ [HW0 HW1 HWD]
  · isplitl [HW0]; · iexact HW0
    isplitl [HW1]; · iexact HW1
    iexact HWD
  icases HX' with ⟨H6, ⟨S0, S1, S2, S3, S4⟩, HX⟩
  icases HW' with ⟨H7, ⟨S5, S6⟩, HW⟩
  isplitl [H6 H7 H8 H12 H13 H14 H15 A0 A1 A2 A3 B0 B1 B2 B3]
  · isplitl [H6]; · iexact H6
    isplitl [H7]; · iexact H7
    isplitl [H8]; · iexact H8
    isplitl [H12]; · iexact H12
    isplitl [H13]; · iexact H13
    isplitl [H14]; · iexact H14
    isplitl [H15]; · iexact H15
    isplitl [A0]; · iexists _; iexact A0
    isplitl [A1]; · iexists _; iexact A1
    isplitl [A2]; · iexists _; iexact A2
    isplitl [A3]; · iexists _; iexact A3
    isplitl [B0]; · iexists _; iexact B0
    isplitl [B1]; · iexists _; iexact B1
    isplitl [B2]; · iexists _; iexact B2
    iexists _; iexact B3
  isplitl [Hg]; · iexact Hg
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [HX HW]
  · isplitl [HX]; · iexact HX
    iexact HW
  iexact HY

/-! ## The run -/

variable (m : (ℓ : Loc nD τ sig) → Buf (Elt F) ℓ) (ρ : Dev nD → PrngReg)

/-- The region's operands as the host lines leave them. -/
def inp (c : Dev nD) : Inp F := ⟨V m c main_v0, V m c main_v3, V m c main_v8, V m c main_v9⟩

def H0 : Finset (Ref sig .tc) := {main_v0, main_v3}
def R0 : Finset (Ref sig .tc) := {main_v9}
theorem H0_sub : H0 ⊆ Pipeline.restRefs sig spec0 := by decide
theorem R0_sub : R0 ⊆ Pipeline.restRefs sig spec0 \ H0 := by decide

/-- The result's contents at the end. -/
def G (c : Dev nD) : (b : Ref sig .tc) → Buf (Elt F) ((c : Thread nD τ).loc b) := Function.update (V m c) main_v9 (OutC (inp m c) 42)
theorem G_v9 (c : Dev nD) : G m c main_v9 = OutC (inp m c) 42 := Function.update_self _ _ _

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

def dats (_ : Fin 1) (c : Dev nD) : Dat τ (Elt F) Unit ℕ (Pipeline.UD sig nD τ) ℕ cfg0 c where
  A w := V m c (Pipeline.arrRef spec0 w)
  after := fun | 0, t => iblk m c 0 t | ⟨_ + 1, h⟩, _ => absurd h (Nat.not_lt.2 (Nat.le_add_left _ _))
  Φ t := ΦI (inp m c) c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staged block is the whole array of scales. -/
theorem iblk_eq (c : Dev nD) (t : Fin cfg0.N) : iblk m c 0 t = (inp m c).S := by
  funext y
  show V m c main_v8 _ = V m c main_v8 _
  congr 1
  funext a
  apply Fin.ext
  match a with
  | ⟨0, _⟩ => show 0 * 3584 + 1 * (y 0).val = (y 0).val; omega
  | ⟨1, _⟩ => show 0 * 128 + 1 * (y 1).val = (y 1).val; omega

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem bodyAt_eq (t : Fin cfg0.N) : bodyAt0 (F := F) t = bodyP (st0_0 t) (grid0.coords t) := body_eq _ _ _

theorem sound_body (c : Dev nD) (t : Fin cfg0.N) :
    bodyPre m c t ⊢ wp Idealize.ShloMosaic.frame (wpE (defs₀ (F := F)) Variants.none c none) Set.univ (bodyAt0 t) (fun _ => bodyPost m c t) := by
  have hb := bodyP_spec (inp m c) c (st0_0 t) t
  unfold Tri at hb
  rw [bodyAt_eq]
  unfold bodyPre bodyPost
  rw [after0_0, iblk_eq, show (dats m 0 c).Φ t.castSucc = ΦI (inp m c) c t.val from rfl, show (dats m 0 c).Φ t.succ = ΦI (inp m c) c (t.val + 1) from rfl]
  unfold Dat.owesAt Pipeline.owesWithin
  rw [show (dats m 0 c).owed t.castSucc = 0 from rfl, show (dats m 0 c).owed t.succ = 0 from rfl]
  unfold ΦI
  iintro ⟨⟨HG, HX, HW, Hg⟩, ⟨%W, -, HO⟩, ⟨%d0, H0⟩⟩
  rw [before0_0 m (dats m 0 c) (A_eq m c 0) (after0_0 m c) t d0, iblk_eq]
  iapply (wp_wand_r Idealize.ShloMosaic.frame _ _)
  isplitl [HG H0 HO]
  · iapply hb
    isplitl [HG]; · iexact HG
    isplitl [H0]; · iexact H0
    unfold Owe; iexists W; iexact HO
  iintro %_ ⟨HG, H0, HO⟩
  unfold Owe
  icases HO with ⟨%W', HO⟩
  isplitl [HG HX HW Hg]
  · isplitl [HG]; · iexact HG
    isplitl [HX]; · iexact HX
    isplitl [HW]; · iexact HW
    iexact Hg
  isplitl [HO]
  · iexists W'; isplitr; · ipureintro; exact fun _ _ => Or.inl trivial
    iexact HO
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hbm_eq (c : Dev nD) (W : (b : Ref sig .tc) → Buf (Elt F) ((c.tc : Thread nD τ).loc b)) :
    (bigSep H0 (fun b => ((c.tc : Thread nD τ).loc b) ↦{fullShare} W b) : sProp 𝕄)
      = iprop((((c : Thread nD τ).loc main_v0) ↦{fullShare} W main_v0) ∗ (((c : Thread nD τ).loc main_v3) ↦{fullShare} W main_v3)) :=
  BI.bigSep_eq_bigSepL_of_eq (S := H0) (Φ := fun b => ((c.tc : Thread nD τ).loc b) ↦{fullShare} W b) [main_v0, main_v3] (by decide) (by decide)
theorem routed_eq (c : Dev nD) (W : (b : Ref sig .tc) → Buf (Elt F) ((c.tc : Thread nD τ).loc b)) :
    (Pipeline.routed R0 c W : sProp 𝕄) = (((c : Thread nD τ).loc main_v9) ↦{fullShare} W main_v9) :=
  BI.bigSep_eq_bigSepL_of_eq (S := R0) (Φ := fun b => ((c.tc : Thread nD τ).loc b) ↦{fullShare} W b) [main_v9] (by decide) (by decide)

theorem hin (c : Dev nD) : Pipeline.ΦDRG osem0 spec0 H0 R0 (V m) (V m) c ⊢ (dats m 0 c).Φ 0 := by
  rw [Pipeline.ΦDRG_eq, scr_eq, ownSems00_eq, hbm_eq, routed_eq]
  exact phi_in (inp m c) c
theorem hout (c : Dev nD) : (dats m 0 c).Φ (Fin.last cfg0.N) ⊢ Pipeline.ΦDRG osem0 spec0 H0 R0 (V m) (G m) c := by
  rw [Pipeline.ΦDRG_eq, scr_eq, ownSems00_eq, hbm_eq, routed_eq, G_v9]
  exact phi_out (inp m c) c

set_option backward.isDefEq.respectTransparency.types false in
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := G m)
    (hin := hin m) (hout := hout m)

/-- The frame and the value: every run ends, the arguments are as launched, every counter is at zero, and the
    result array holds all 42 tiles. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) ∧ ∀ c : Dev nD, r.2.mem ((c.tc : Thread nD τ).loc main_v9) = OutC (inp m c) 42) :=
  (θ_run defs _ _).mono (fun _ h => ⟨⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c)⟩, h.2⟩,
    fun c => (h.1.written c (b := main_v9) (by decide)).trans (G_v9 m c)⟩) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => h.1) (run m ρ)

end Cert.Kernel.Hand

end
-- ==== Proof.Bytes.lean ====
/- The words the kernel loads and the bytes it takes out of them: four strided blocks of words, one byte of each word,
   laid out as the rows of a tile of weights. -/
module

public import proofs.«01_k».proof.Proof.State
public import Idealize.ShloMosaic.Lib.BitcastPair
public import Idealize.ShloMosaic.Lib.BitcastConvert
public import Idealize.ShloMosaic.Lib.Pointwise

@[expose] public section

set_option maxRecDepth 16384

noncomputable section

namespace Cert.KernelIdeal.Hand

open Cert.KernelIdeal Cert.KernelIdeal.Gen
open Idealize.ShloMosaic

/-- The index `i` of a vector, reduced below its extent. -/
def ix1n (n : ℕ) (hn : 0 < n) (i : ℕ) : (⟨1, ![n]⟩ : Shape).Idx := fun _ => ⟨i % n, by
  rename_i k; fin_cases k; exact Nat.mod_lt _ hn⟩

/-- Code number `i` of the flat array of codes. -/
def codeAt (a : S67895296.Idx → BitVec 8) (i : ℕ) : BitVec 8 := a (ix1n 67895296 (by norm_num) i)

theorem mod4_cases (n : ℕ) : n % 4 = 0 ∨ n % 4 = 1 ∨ n % 4 = 2 ∨ n % 4 = 3 := by omega

/-- Four bytes joined, read at a bit. -/
theorem append4 (c : Fin 4 → BitVec 8) (r : Fin 4) (q : ℕ) (hq : q < 8) :
    (c 3 ++ c 2 ++ c 1 ++ c 0).getLsbD (8 * r.val + q) = (c r).getLsbD q := by
  simp only [BitVec.getLsbD_append]
  match r with
  | 0 => rw [if_pos (by show 8 * 0 + q < 8; omega)]; congr 1; show 8 * 0 + q = q; omega
  | 1 => rw [if_neg (by show ¬ 8 * 1 + q < 8; omega), if_pos (by show 8 * 1 + q - 8 < 8; omega)]; congr 1; show 8 * 1 + q - 8 = q; omega
  | 2 =>
    rw [if_neg (by show ¬ 8 * 2 + q < 8; omega), if_neg (by show ¬ 8 * 2 + q - 8 < 8; omega), if_pos (by show 8 * 2 + q - 8 - 8 < 8; omega)]
    congr 1; show 8 * 2 + q - 8 - 8 = q; omega
  | 3 =>
    rw [if_neg (by show ¬ 8 * 3 + q < 8; omega), if_neg (by show ¬ 8 * 3 + q - 8 < 8; omega), if_neg (by show ¬ 8 * 3 + q - 8 - 8 < 8; omega)]
    congr 1; show 8 * 3 + q - 8 - 8 - 8 = q; omega

/-- Row `R` of the unpacked tile is the low byte of word row `R / 4` of block `R % 4`. -/
theorem unpack_apply (x : Fin 4 → IVec S64x128 32) (j : S256x128.Idx) (r : Fin 4) (hr : (j 0).val % 4 = r.val) :
    bitcast S256x128 8 (packElementwiseInt 8 ![x 0, x 1, x 2, x 3] (by decide)) bitcasts_S64x128_w32_S256x128_w8 j
      = (x r (ixn 64 128 (by norm_num) (by norm_num) ((j 0).val / 4) (j 1).val)).setWidth 8 := by
  have h0 : (j 0).val < 256 := (j 0).isLt
  have h1 : (j 1).val < 128 := (j 1).isLt
  apply BitVec.eq_of_getLsbD_eq
  intro q hq
  rw [bitcast_getLsbD _ _ j q hq (by decide)]
  have hrow : S256x128.row j = (j 0).val := rfl
  have hs : bitcasts_S64x128_w32_S256x128_w8.srcIdx j ((S256x128.row j * 8 + q) / 32) (fun a ha =>
      (Nat.div_lt_iff_lt_mul (by decide)).2 (bitcasts_S64x128_w32_S256x128_w8.pos_lt j q hq a ha))
      = ixn 64 128 (by norm_num) (by norm_num) ((j 0).val / 4) (j 1).val := by
    refine idx_ext _ _ ?_ ?_
    · refine (bitcasts_S64x128_w32_S256x128_w8.srcIdx_row _ _ _ 0 rfl).trans ?_
      rw [hrow]
      show _ = (j 0).val / 4 % 64
      omega
    · refine (bitcasts_S64x128_w32_S256x128_w8.srcIdx_other _ _ _ 1 (by show ¬ 1 + 2 = 2; omega)).trans ?_
      show (j 1).val = (j 1).val % 128
      omega
  rw [hs, packElementwiseInt8_apply, hrow]
  generalize ixn 64 128 _ _ ((j 0).val / 4) (j 1).val = i
  have e : ((j 0).val * 8 + q) % 32 = 8 * r.val + q := by omega
  rw [e]
  exact append4 (fun r => (x r i).setWidth 8) r q hq

/-- The words of the codes, as the kernel's first lines make them. -/
def wordsOf (a : S67895296.Idx → BitVec 8) : S132608x128.Idx → BitVec 32 :=
  Host.bitcastConvertWiden S132608x128 32
    (transpose S132608x128x4 [0, 2, 1] (shapeCast S132608x4x128 a shapeCasts_S67895296_S132608x4x128) transposes_S132608x4x128_S132608x128x4_0_2_1)
    splits_S132608x128_w32_S132608x128x4_w8

/-- The transposed rows of codes, read at an index. -/
theorem codes_apply (a : S67895296.Idx → BitVec 8) (u : Fin 132608) (l : Fin 128) (b : Fin 4) :
    transpose S132608x128x4 [0, 2, 1] (shapeCast S132608x4x128 a shapeCasts_S67895296_S132608x4x128) transposes_S132608x4x128_S132608x128x4_0_2_1 (ix3 u l b)
      = codeAt a (u.val * 512 + b.val * 128 + l.val) := by
  pointwise
  unfold codeAt
  congr 1
  funext k
  apply Fin.ext
  fin_cases k
  show _ = (u.val * 512 + b.val * 128 + l.val) % 67895296
  have := u.isLt; have := l.isLt; have := b.isLt
  simp
  omega

theorem codes_at (a : S67895296.Idx → BitVec 8) (z : S132608x128x4.Idx) :
    transpose S132608x128x4 [0, 2, 1] (shapeCast S132608x4x128 a shapeCasts_S67895296_S132608x4x128) transposes_S132608x4x128_S132608x128x4_0_2_1 z
      = codeAt a ((z 0).val * 512 + (z 2).val * 128 + (z 1).val) := by
  obtain ⟨u, l, b, rfl⟩ : ∃ (u : Fin 132608) (l : Fin 128) (b : Fin 4), z = ix3 u l b := ⟨z 0, z 1, z 2, eq_ix3 z⟩
  exact codes_apply a u l b

/-- Byte `b` of the word at row `u`, lane `l`. -/
theorem word_byte (a : S67895296.Idx → BitVec 8) (y : S132608x128.Idx) (b : ℕ) (hb : b < 4) :
    (wordsOf a y >>> (8 * b)).setWidth 8 = codeAt a ((y 0).val * 512 + b * 128 + (y 1).val) := by
  apply BitVec.eq_of_getLsbD_eq
  intro q hq
  rw [BitVec.getLsbD_setWidth, BitVec.getLsbD_ushiftRight]
  unfold wordsOf
  rw [Host.bitcastConvertWiden_getLsbD _ _ _ _ _ (8 * b + q) (by omega), codes_at]
  have e1 : (8 * b + q) / 8 = b := by omega
  have e2 : (8 * b + q) % 8 = q := by omega
  rw [e2, decide_eq_true hq, Bool.true_and]
  congr 2
  show (y 0).val * 512 + (8 * b + q) / 8 * 128 + (y 1).val = _
  rw [e1]

end Cert.KernelIdeal.Hand

end
-- ==== Proof.Weights.lean ====
/- The tile of weights the kernel stages, element by element: a code read as an integer, times its group's scale. -/
module

public import proofs.«01_k».proof.Proof.Bytes
public import Idealize.ShloMosaic.Lib.Pipeline.Value

@[expose] public section

set_option maxRecDepth 16384

noncomputable section

namespace Cert.KernelIdeal.Hand

open Cert.KernelIdeal Cert.KernelIdeal.Gen
open Idealize.ShloMosaic

/-- Scale number `i`. -/
def scAt (a : S33152.Idx → EReal) (i : ℕ) : EReal := a (ix1n 33152 (by norm_num) i)

/-- The weight at output row `o`, input column `k`: its code times the scale of its group of 2048. -/
def wt (a1 : S67895296.Idx → BitVec 8) (a2 : S33152.Idx → EReal) (o k : ℕ) : EReal :=
  (((codeAt a1 (o * 18944 + k)).toInt : ℝ) : EReal) * scAt a2 ((o * 18944 + k) / 2048)

/-- What the operands hold, in terms of the arguments. -/
structure Holds (I : Inp Ideal) (a1 : S67895296.Idx → BitVec 8) (a2 : S33152.Idx → EReal) : Prop where
  W : ∀ y, I.W y = wordsOf a1 y
  S : ∀ o ch : ℕ, o < 3584 → ch < 37 → I.S (ixn 3584 128 (by norm_num) (by norm_num) o ch) = scAt a2 ((o * 37 + ch) / 4)

variable {I : Inp Ideal} {a1 : S67895296.Idx → BitVec 8} {a2 : S33152.Idx → EReal}

theorem shr_byte (w : BitVec 32) (b : ℕ) (hb : b < 4) :
    IntOp.shrui .vector w (BitVec.ofNat 32 (8 * b)) = w >>> (8 * b) := by
  unfold IntOp.shrui
  have : (BitVec.ofNat 32 (8 * b)).toNat = 8 * b := by rw [BitVec.toNat_ofNat]; omega
  rw [this, if_pos (by omega)]
  show w >>> (BitVec.ofNat 32 (8 * b)).toNat = _
  rw [this]

/-- The low byte of a word of the blocks, shifted down `b` bytes. -/
theorem WT_byte (h : Holds I a1 a2) (n q ch r b : ℕ) (hn : n < 7) (hq : q < 2) (hc : ch < 37) (hr : r < 4) (hb : b < 4) (z : S64x128.Idx) :
    (WT I n q ch r z >>> (8 * b)).setWidth 8
      = codeAt a1 ((18944 * n + (9472 * q + ch + 37 * r + 148 * (z 0).val)) * 512 + b * 128 + (z 1).val) := by
  have h0 : (z 0).val < 64 := (z 0).isLt
  have h1 : (z 1).val < 128 := (z 1).isLt
  unfold WT
  rw [h.W]
  refine (word_byte a1 _ b hb).trans ?_
  congr 1
  show (18944 * n + (9472 * q + ch + 37 * r + 148 * (z 0).val)) % 132608 * 512 + b * 128 + (z 1).val % 128 = _
  rw [Nat.mod_eq_of_lt (by omega), Nat.mod_eq_of_lt h1]

/-- A row of unpacked bytes is a row of codes. -/
theorem unpack_code (n q ch b : ℕ) (x : Fin 4 → IVec S64x128 32)
    (hx : ∀ r z, (x r z).setWidth 8 = codeAt a1 ((18944 * n + (9472 * q + ch + 37 * r.val + 148 * (z 0).val)) * 512 + b * 128 + (z 1).val))
    (j : S256x128.Idx) :
    bitcast S256x128 8 (packElementwiseInt 8 ![x 0, x 1, x 2, x 3] (by decide)) bitcasts_S64x128_w32_S256x128_w8 j
      = codeAt a1 ((512 * n + 256 * q + (j 0).val) * 18944 + (512 * ch + 128 * b + (j 1).val)) := by
  have h0 : (j 0).val < 256 := (j 0).isLt
  have h1 : (j 1).val < 128 := (j 1).isLt
  rw [unpack_apply x j ⟨(j 0).val % 4, by omega⟩ rfl, hx]
  congr 1
  show (18944 * n + (9472 * q + ch + 37 * ((j 0).val % 4) + 148 * ((j 0).val / 4 % 64))) * 512 + b * 128 + (j 1).val % 128 = _
  omega

/-- The index of the scale's lane. -/
def laneIdx (ch : BitVec 32) : IVec S256x128 32 :=
  shapeCast S256x128 (shapeCast S256x128x1 (select (cmpi .slt (broadcast S256x128 ch) (broadcast S256x128 0#32))
    (addi (broadcast S256x128 ch) (broadcast S256x128 128#32)) (broadcast S256x128 ch)) shapeCasts_S256x128_S256x128x1) shapeCasts_S256x128x1_S256x128

theorem laneIdx_apply (ch : ℕ) (hc : ch < 37) (j : S256x128.Idx) : (laneIdx (BitVec.ofNat 32 ch) j).toNat = ch := by
  unfold laneIdx
  rw [shapeCast_shapeCast]
  show (if (IntOp.cmpi .slt (BitVec.ofNat 32 ch) 0#32) = 1#1 then _ else BitVec.ofNat 32 ch).toNat = ch
  have : IntOp.cmpi .slt (BitVec.ofNat 32 ch) 0#32 = 0#1 := by
    interval_cases ch <;> rfl
  rw [this, if_neg (by decide), BitVec.toNat_ofNat]
  omega

theorem scale_apply (h : Holds I a1 a2) (n q ch : ℕ) (hn : n < 7) (hq : q < 2) (hc : ch < 37) (j : S256x128.Idx) :
    (truncf .bf16 (dynamicGather 1 (shapeCast S256x128 (ScT I n q) shapeCasts_S256x128_S256x128) (laneIdx (BitVec.ofNat 32 ch)) : FVec Ideal S256x128 .f32) bitsLt_bf16_f32 : FVec Ideal S256x128 .bf16) j
      = scAt a2 (((512 * n + 256 * q + (j 0).val) * 37 + ch) / 4) := by
  have h0 : (j 0).val < 256 := (j 0).isLt
  rw [shapeCast_self, ← h.S _ ch (by omega) hc]
  show I.S (ixn 3584 128 _ _ (512 * n + 256 * q + (j 0).val) ((laneIdx (BitVec.ofNat 32 ch) j).toNat % 128)) = _
  rw [laneIdx_apply ch hc]
  refine congrArg I.S (idx_ext _ _ rfl ?_)
  show ch % 128 % 128 = ch % 128
  omega

/-- One byte's tile: the codes times the scale. -/
theorem byte_apply (h : Holds I a1 a2) (n q ch b : ℕ) (hn : n < 7) (hq : q < 2) (hc : ch < 37) (hb : b < 4) (x : Fin 4 → IVec S64x128 32)
    (hx : ∀ r z, (x r z).setWidth 8 = codeAt a1 ((18944 * n + (9472 * q + ch + 37 * r.val + 148 * (z 0).val)) * 512 + b * 128 + (z 1).val))
    (j : S256x128.Idx) :
    (mulf (sitofp .bf16 (bitcast S256x128 8 (packElementwiseInt 8 ![x 0, x 1, x 2, x 3] (by decide)) bitcasts_S64x128_w32_S256x128_w8))
      (truncf .bf16 (dynamicGather 1 (shapeCast S256x128 (ScT I n q) shapeCasts_S256x128_S256x128) (laneIdx (BitVec.ofNat 32 ch)) : FVec Ideal S256x128 .f32) bitsLt_bf16_f32) : FVec Ideal S256x128 .bf16) j
      = wt a1 a2 (512 * n + 256 * q + (j 0).val) (512 * ch + 128 * b + (j 1).val) := by
  have h0 : (j 0).val < 256 := (j 0).isLt
  have h1 : (j 1).val < 128 := (j 1).isLt
  refine (congrArg₂ (fun (u : BitVec 8) (v : EReal) => (((u.toInt : ℝ) : EReal) * v)) (unpack_code n q ch b x hx j) (scale_apply h n q ch hn hq hc j)).trans ?_
  unfold wt
  congr 2
  omega

/-- The staged tile, element by element. -/
theorem ST_apply (h : Holds I a1 a2) (n q ch : ℕ) (hi : Bool) (hn : n < 7) (hq : q < 2) (hc : ch < 37) (y : S256x256.Idx) :
    ST I n q ch hi y = wt a1 a2 (512 * n + 256 * q + (y 0).val) (512 * ch + 256 * hi.toNat + (y 1).val) := by
  have h0 : (y 0).val < 256 := (y 0).isLt
  have h1 : (y 1).val < 256 := (y 1).isLt
  have key : ∀ (b : ℕ) (hb : b < 4) (g : IVec S64x128 32 → IVec S64x128 32) (hg : ∀ w z, g w z = w z >>> (8 * b)) (r : Fin 4) (z : S64x128.Idx),
      ((fun r : Fin 4 => g (WT I n q ch r.val)) r z).setWidth 8
        = codeAt a1 ((18944 * n + (9472 * q + ch + 37 * r.val + 148 * (z 0).val)) * 512 + b * 128 + (z 1).val) := fun b hb g hg r z => by
    show (g (WT I n q ch r.val) z).setWidth 8 = _
    rw [hg]
    exact WT_byte h n q ch r.val b hn hq hc r.isLt hb z
  have hsh : ∀ (b : ℕ) (hb : b < 4) (w : IVec S64x128 32) (z : S64x128.Idx), shrui w (broadcast S64x128 (BitVec.ofNat 32 (8 * b))) z = w z >>> (8 * b) :=
    fun b hb w z => shr_byte (w z) b hb
  unfold ST
  rw [shapeCast_self]
  unfold rhsV
  refine (concatenate_pair_apply (t := S256x256) 1 _ _ concatenates_S256x128_S256x128_S256x256_d1 y).trans ?_
  cases hi
  · split
    · next hlt =>
      refine (byte_apply h n q ch 0 hn hq hc (by omega) (fun r => WT I n q ch r.val) (key 0 (by omega) (fun w => w) (fun w z => by simp)) _).trans ?_
      exact congrArg₂ (wt a1 a2) rfl (by show 512 * ch + 128 * 0 + (y 1).val = 512 * ch + 256 * 0 + (y 1).val; omega)
    · next hlt =>
      have hlt' : ¬ (y 1).val < 128 := hlt
      refine (byte_apply h n q ch 1 hn hq hc (by omega) (fun r => shrui (WT I n q ch r.val) (broadcast S64x128 8#32)) (key 1 (by omega) (fun w => shrui w (broadcast S64x128 8#32)) (hsh 1 (by omega))) _).trans ?_
      exact congrArg₂ (wt a1 a2) rfl (by show 512 * ch + 128 * 1 + ((y 1).val - 128) = 512 * ch + 256 * 0 + (y 1).val; omega)
  · split
    · next hlt =>
      refine (byte_apply h n q ch 2 hn hq hc (by omega) (fun r => shrui (WT I n q ch r.val) (broadcast S64x128 16#32)) (key 2 (by omega) (fun w => shrui w (broadcast S64x128 16#32)) (hsh 2 (by omega))) _).trans ?_
      exact congrArg₂ (wt a1 a2) rfl (by show 512 * ch + 128 * 2 + (y 1).val = 512 * ch + 256 * 1 + (y 1).val; omega)
    · next hlt =>
      have hlt' : ¬ (y 1).val < 128 := hlt
      refine (byte_apply h n q ch 3 hn hq hc (by omega) (fun r => shrui (WT I n q ch r.val) (broadcast S64x128 24#32)) (key 3 (by omega) (fun w => shrui w (broadcast S64x128 24#32)) (hsh 3 (by omega))) _).trans ?_
      exact congrArg₂ (wt a1 a2) rfl (by show 512 * ch + 128 * 3 + ((y 1).val - 128) = 512 * ch + 256 * 1 + (y 1).val; omega)

end Cert.KernelIdeal.Hand

end
-- ==== Proof.Sum.lean ====
/- The accumulated tile is one long sum, and the result array is the product of the activations and the weights. -/
module

public import proofs.«01_k».proof.Proof.Weights

@[expose] public section

set_option maxRecDepth 16384

noncomputable section

namespace Cert.KernelIdeal.Hand

open Cert.KernelIdeal Cert.KernelIdeal.Gen
open Idealize.ShloMosaic

/-- The activation at row `r`, column `k`. -/
def xAt (a0 : S6x1024x18944.Idx → EReal) (r k : ℕ) : EReal :=
  a0 (ix3 ⟨r / 1024 % 6, Nat.mod_lt _ (by norm_num)⟩ ⟨r % 1024, Nat.mod_lt _ (by norm_num)⟩ ⟨k % 18944, Nat.mod_lt _ (by norm_num)⟩)

/-- The product of the activations' row `r` and the weights' row `o`, over the first `n` columns. -/
def dotTo (a0 : S6x1024x18944.Idx → EReal) (a1 : S67895296.Idx → BitVec 8) (a2 : S33152.Idx → EReal) (r o n : ℕ) : EReal :=
  ∑ k ∈ Finset.range n, xAt a0 r k * wt a1 a2 o k

variable {I : Inp Ideal} {a0 : S6x1024x18944.Idx → EReal} {a1 : S67895296.Idx → BitVec 8} {a2 : S33152.Idx → EReal}

/-- What the activations' operand holds. -/
def HoldsX (I : Inp Ideal) (a0 : S6x1024x18944.Idx → EReal) : Prop :=
  ∀ r k : ℕ, r < 6144 → k < 18944 → I.X (ixn 6144 18944 (by norm_num) (by norm_num) r k) = xAt a0 r k

theorem accF_apply (d : FVec Ideal S256x256 .f32) (x s : FVec Ideal S256x256 .bf16) (u v : Fin 256) :
    accF (F := Ideal) d x s (ix2 u v) = (d (ix2 u v) + ∑ k : Fin 256, x (ix2 u k) * s (ix2 v k) : EReal) := by
  unfold accF
  pointwise

theorem zeroT_apply (u v : Fin 256) : zeroT (F := Ideal) (ix2 u v) = (0 : EReal) := by
  unfold zeroT
  pointwise

/-- After `s` half chunks the tile holds the product over the first `256 s` columns. -/
theorem AccV_apply (hX : HoldsX I a0) (h : Holds I a1 a2) (t q i : ℕ) (ht : t < 42) (hq : q < 2) (hi : i < 4) (u v : Fin 256) :
    ∀ s : ℕ, s ≤ 74 → AccV I t q i s (ix2 u v)
      = dotTo a0 a1 a2 (1024 * (t / 7) + 256 * i + u.val) (512 * (t % 7) + 256 * q + v.val) (256 * s)
  | 0, _ => by
    unfold AccV dotTo
    rw [zeroT_apply]
    simp
  | s + 1, hs => by
    have ih := AccV_apply hX h t q i ht hq hi u v s (by omega)
    have hu := u.isLt
    unfold AccV
    rw [accF_apply, ih]
    unfold dotTo
    rw [show 256 * (s + 1) = 256 * s + 256 by ring, Finset.sum_range_add]
    congr 1
    rw [← Fin.sum_univ_eq_sum_range (fun k => xAt a0 (1024 * (t / 7) + 256 * i + u.val) (256 * s + k) * wt a1 a2 (512 * (t % 7) + 256 * q + v.val) (256 * s + k)) 256]
    refine Finset.sum_congr rfl fun k _ => ?_
    have hk := k.isLt
    refine congrArg₂ (fun a b : EReal => a * b) ?_ ?_
    · exact hX (1024 * (t / 7) + 256 * i + u.val) (256 * s + k.val) (by omega) (by omega)
    · rw [ST_apply h (t % 7) q (s / 2) _ (by omega) hq (by omega)]
      refine congrArg₂ (wt a1 a2) rfl ?_
      show 512 * (s / 2) + 256 * (decide (s % 2 = 1)).toNat + k.val = 256 * s + k.val
      rcases Nat.mod_two_eq_zero_or_one s with e | e
      · rw [e]; show 512 * (s / 2) + 256 * 0 + k.val = _; omega
      · rw [e]; show 512 * (s / 2) + 256 * 1 + k.val = _; omega

/-- The result array, element by element. -/
theorem OutC_apply (hX : HoldsX I a0) (h : Holds I a1 a2) (y : S6144x3584.Idx) :
    OutC I 42 y = dotTo a0 a1 a2 (y 0).val (y 1).val 18944 := by
  have h0 : (y 0).val < 6144 := (y 0).isLt
  have h1 : (y 1).val < 3584 := (y 1).isLt
  unfold OutC
  rw [if_pos (by omega)]
  show truncT (AccV I (7 * ((y 0).val / 1024) + (y 1).val / 512) ((y 1).val % 512 / 256) ((y 0).val % 1024 / 256) 74)
    (ixn 256 256 _ _ ((y 0).val % 1024) ((y 1).val % 512)) = _
  unfold truncT
  rw [shapeCast_self]
  refine (AccV_apply hX h (7 * ((y 0).val / 1024) + (y 1).val / 512) ((y 1).val % 512 / 256) ((y 0).val % 1024 / 256) (by omega) (by omega) (by omega)
    ⟨(y 0).val % 1024 % 256, by omega⟩ ⟨(y 1).val % 512 % 256, by omega⟩ 74 le_rfl).trans ?_
  refine congrArg₂ (fun r o => dotTo a0 a1 a2 r o 18944) ?_ ?_
  · show 1024 * ((7 * ((y 0).val / 1024) + (y 1).val / 512) / 7) + 256 * ((y 0).val % 1024 / 256) + (y 0).val % 1024 % 256 = _
    omega
  · show 512 * ((7 * ((y 0).val / 1024) + (y 1).val / 512) % 7) + 256 * ((y 1).val % 512 / 256) + (y 1).val % 512 % 256 = _
    omega

end Cert.KernelIdeal.Hand

end
-- ==== Proof.Operands.lean ====
/- What the kernel's first lines leave in the operands, in terms of the arguments. -/
module

public import proofs.«01_k».proof.Proof.Sum
public import proofs.«01_k».proof.Proof.Run
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ) (c : Dev nD)

theorem V_v0 : V m c main_v0 = shapeCast S6144x18944 (m ((c.tc : Thread nD τ).loc main_arg0)) shapeCasts_S6x1024x18944_S6144x18944 := by
  unfold V
  simp only [List.flatten_cons, List.flatten_nil, List.append_nil, List.cons_append, List.nil_append]
  after_results
  rfl

theorem V_v3 : V m c main_v3 = wordsOf (m ((c.tc : Thread nD τ).loc main_arg1)) := by
  unfold V
  simp only [List.flatten_cons, List.flatten_nil, List.append_nil, List.cons_append, List.nil_append]
  after_results
  rfl

/-- The table of scales: each group's scale on the four rows of words of the group, padded to a full row of lanes. -/
def scalesOf (a : S33152.Idx → EReal) : FVec Ideal S3584x128 .f32 :=
  pad S3584x128 ![0, 0] ![0, 91] ![0, 0]
    (shapeCast S3584x37 (shapeCast S896x148 (broadcastInDim S896x37x4 ![0, 1] bcast_S896x37_S896x37x4_0_1
      (shapeCast S896x37 a shapeCasts_S33152_S896x37)) shapeCasts_S896x37x4_S896x148) shapeCasts_S896x148_S3584x37)
    (sitofp .f32 (constantI S_ 32 0#32) : FVec Ideal S_ .f32) pads_S3584x37_S3584x128_000_0910 h_S_

theorem V_v8 : V m c main_v8 = scalesOf (m ((c.tc : Thread nD τ).loc main_arg2)) := by
  unfold V
  simp only [List.flatten_cons, List.flatten_nil, List.append_nil, List.cons_append, List.nil_append]
  after_results
  rfl

theorem scalesOf_apply (a : S33152.Idx → EReal) (o : Fin 3584) (l : Fin 128) (hl : l.val < 37) :
    scalesOf a (ix2 o l) = scAt a ((o.val * 37 + l.val) / 4) := by
  unfold scalesOf
  pointwise
  have ho := o.isLt
  rw [dif_pos hl]
  unfold scAt
  refine congrArg a (funext fun k => Fin.ext ?_)
  fin_cases k
  show o.val / 4 * 37 + (o.val * 37 + l.val) / 4 % 37 = (o.val * 37 + l.val) / 4 % 33152
  have e : (o.val * 37 + l.val) / 4 = 37 * (o.val / 4) + (37 * (o.val % 4) + l.val) / 4 := by omega
  have e' : (37 * (o.val % 4) + l.val) / 4 < 37 := by omega
  rw [e]
  generalize (37 * (o.val % 4) + l.val) / 4 = z at e' ⊢
  omega

theorem rows_apply (a : S6x1024x18944.Idx → EReal) (u : Fin 6144) (k : Fin 18944) :
    shapeCast S6144x18944 a shapeCasts_S6x1024x18944_S6144x18944 (ix2 u k) = xAt a u.val k.val := by
  pointwise
  unfold xAt
  have hu := u.isLt
  have hk := k.isLt
  congr 1
  refine congrArg₂ (fun (p : Fin 6) (r : Fin 18944) => ix3 p (⟨u.val % 1024, Nat.mod_lt _ (by norm_num)⟩ : Fin 1024) r) (Fin.ext ?_) (Fin.ext ?_)
  · show u.val / 1024 = u.val / 1024 % 6; omega
  · show k.val = k.val % 18944; omega

theorem holdsX : HoldsX (inp m c) (m ((c.tc : Thread nD τ).loc main_arg0)) := fun r k hr hk => by
  show V m c main_v0 _ = _
  rw [V_v0]
  have e : ixn 6144 18944 (by norm_num) (by norm_num) r k = ix2 (⟨r, hr⟩ : Fin 6144) (⟨k, hk⟩ : Fin 18944) :=
    idx_ext _ _ (Nat.mod_eq_of_lt hr) (Nat.mod_eq_of_lt hk)
  rw [e]
  exact rows_apply _ ⟨r, hr⟩ ⟨k, hk⟩

theorem holds : Holds (inp m c) (m ((c.tc : Thread nD τ).loc main_arg1)) (m ((c.tc : Thread nD τ).loc main_arg2)) where
  W y := congrFun (V_v3 m c) y
  S o ch ho hc := by
    show V m c main_v8 _ = _
    rw [V_v8]
    have e : ixn 3584 128 (by norm_num) (by norm_num) o ch = ix2 (⟨o, ho⟩ : Fin 3584) (⟨ch, by omega⟩ : Fin 128) :=
      idx_ext _ _ (Nat.mod_eq_of_lt ho) (Nat.mod_eq_of_lt (by omega))
    rw [e]
    exact scalesOf_apply _ ⟨o, ho⟩ ⟨ch, by omega⟩ hc

/-- The product of the activations and the weights, as an array. -/
def prod (a0 : S6x1024x18944.Idx → EReal) (a1 : S67895296.Idx → BitVec 8) (a2 : S33152.Idx → EReal) : S6144x3584.Idx → EReal :=
  fun y => dotTo a0 a1 a2 (y 0).val (y 1).val 18944

/-- The result of the run is the product. -/
theorem OutC_eq : OutC (inp m c) 42 = prod (m ((c.tc : Thread nD τ).loc main_arg0)) (m ((c.tc : Thread nD τ).loc main_arg1)) (m ((c.tc : Thread nD τ).loc main_arg2)) :=
  funext fun y => OutC_apply (holdsX m c) (holds m c) y

end Cert.KernelIdeal.Hand

end
-- ==== Proof.RefValue.lean ====
/- What the reference's run leaves in its result, in terms of the arguments. -/
module

public import proofs.«01_k».proof.Proof.Gen.ReferenceIdeal.Frame
public import Idealize.ShloMosaic.Lib.Pipeline.Value
public import Idealize.ShloMosaic.Lib.Affine
public import Idealize.ShloMosaic.Lib.Claim
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat Cfg Window)

section Generic

variable {F : FTy → Type} [FloatOps F]
variable (m : (ℓ : Loc nD τ sig) → Buf (Elt F) ℓ) (ρ : Dev nD → PrngReg)

/-- The one grid point. -/
def t₀ : Fin cfg0.N := ⟨0, by decide⟩

/-- The dequantised weights as the region writes them. -/
theorem final_out (c : Dev nD) :
    ((cfg0.win (2 : Fin 3)).blk t₀).view.read (Elt F) ((dats (F := F) m 0 c).arrAt (2 : Fin 3) cfg0.N)
      = (dats (F := F) m 0 c).flushed (2 : Fin 3) t₀ := by
  rw [show cfg0.N = (t₀ : Fin cfg0.N).val + 1 from rfl, (dats (F := F) m 0 c).arrAt_succ (2 : Fin 3) t₀]
  rw [show (cfg0.win (2 : Fin 3)).flush t₀ = true from by decide, if_pos rfl]
  exact View.read_write_univ _ _

theorem out_eq (x0 : Vec F S33152x2048 .i8) (x1 : Vec F S33152x1 .f32) : out0_2 (F := F) x0 x1 = k0_pay1 x0 x1 := by
  have hz2 : (![0, 0] : Fin S33152x2048.rank → Nat) = fun _ => 0 := funext fun a => by fin_cases a <;> rfl
  have hz1 : (![0, 0] : Fin S33152x1.rank → Nat) = fun _ => 0 := funext fun a => by fin_cases a <;> rfl
  unfold out0_2
  rw [View.canon_unit_zero hz2, View.ld_unit_zero hz2, View.ld_unit_zero hz1]

theorem final_value (c : Dev nD) :
    (dats (F := F) m 0 c).arrAt (2 : Fin 3) cfg0.N = k0_pay1 (V m c main_v0) (V m c main_v1) := by
  have ho := final_out (F := F) m c
  have hz2 : (fun a => (win0_2.index t₀) a * main_v2.ty.shape.size a) = fun _ => 0 :=
    funext fun a => by fin_cases a <;> decide
  have hr2 := fun f => Memref.read_access_unit_zero (Elt F) main_v2 hz2 (fun a => by fin_cases a <;> decide) f
  have hz0 : (fun a => (win0_0.index t₀) a * main_v0.ty.shape.size a) = fun _ => 0 :=
    funext fun a => by fin_cases a <;> decide
  have hr0 := fun f => Memref.read_access_unit_zero (Elt F) main_v0 hz0 (fun a => by fin_cases a <;> decide) f
  have hz1 : (fun a => (win0_1.index t₀) a * main_v1.ty.shape.size a) = fun _ => 0 :=
    funext fun a => by fin_cases a <;> decide
  have hr1 := fun f => Memref.read_access_unit_zero (Elt F) main_v1 hz1 (fun a => by fin_cases a <;> decide) f
  rw [hr2] at ho
  rw [ho]
  show (cfg0.win (2 : Fin 3)).cut _ ((dats (F := F) m 0 c).after 2 t₀) = _
  rw [after0_2, out_eq]
  unfold iblk
  rw [hr0, hr1]
  rfl

theorem V_v0 (c : Dev nD) : V m c main_v0 = shapeCast S33152x2048 (m ((c.tc : Thread nD τ).loc main_arg1)) shapeCasts_S67895296_S33152x2048 := by
  unfold V V0
  simp only [List.flatten_cons, List.flatten_nil, List.append_nil, List.cons_append, List.nil_append]
  after_results
  rfl

theorem V_v1 (c : Dev nD) : V m c main_v1 = broadcastInDim S33152x1 ![0] bcast_S33152_S33152x1_0 (m ((c.tc : Thread nD τ).loc main_arg2)) := by
  unfold V V0
  simp only [List.flatten_cons, List.flatten_nil, List.append_nil, List.cons_append, List.nil_append]
  after_results

/-- The reference's mathematics over the arguments. -/
def refOut (a0 : FVec F S6x1024x18944 .bf16) (a1 : IVec S67895296 8) (a2 : FVec F S33152 .f32) : FVec F S6144x3584 .bf16 :=
  shapeCast S6144x3584 (truncf .bf16 (Host.dotGeneral dot_S6x1024x18944_S3584x18944_S6x1024x3584_2_1_01_0_n_n none a0
    (shapeCast S3584x18944 (k0_pay1 (F := F) (shapeCast S33152x2048 a1 shapeCasts_S67895296_S33152x2048) (broadcastInDim S33152x1 ![0] bcast_S33152_S33152x1_0 a2))
      shapeCasts_S33152x2048_S3584x18944)) bitsLt_bf16_f32) shapeCasts_S6x1024x3584_S6144x3584

theorem tail_v6 (c : Dev nD) :
    Pipeline.afterTail₀ cfgs (dats m) 0 (V0 m) [hostOps1] c main_v6
      = refOut (m ((c.tc : Thread nD τ).loc main_arg0)) (m ((c.tc : Thread nD τ).loc main_arg1)) (m ((c.tc : Thread nD τ).loc main_arg2)) := by
  unfold Pipeline.afterTail₀
  simp only [List.flatten_cons, List.flatten_nil, List.append_nil, List.cons_append, List.nil_append]
  after_results
  rw [Pipeline.withArrays_of_ne _ c (V0 m c) _ main_arg0 (by exact (by decide : ∀ w, Pipeline.arrRef spec0 w ≠ main_arg0))]
  have e0 : (V0 m c) (Proc.devRef .tc main_arg0) = m ((c.tc : Thread nD τ).loc main_arg0) := V_main_arg0 m c
  have e2 := (Pipeline.withArrays_arr spec0 (by exact (by decide : Function.Injective (Pipeline.arrRef spec0))) c (V0 m c)
    (fun w => (dats m 0 c).arrAt w cfg0.N) 2).trans (final_value m c)
  rw [V_v0, V_v1] at e2
  rw [e0]
  unfold refOut
  rw [← e2]
  rfl

theorem run : θ_run defs (onTc (τ := τ) (main (F := F))) ⟨m, fun _ => 0, ρ⟩ (fun r => ∀ c : Dev nD,
      r.2.mem ((c.tc : Thread nD τ).loc main_v6)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v6 (Pipeline.mem_restRefs_of main_v6 (by decide) (by decide))).trans (tail_v6 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩) (run_main m ρ)

end Generic

end Cert.ReferenceIdeal.Hand

end
-- ==== Proof.Algebraic.lean ====
/- The kernel's result and the reference's are one product. -/
module

public import proofs.«01_k».proof.Defs
public import proofs.«01_k».proof.Proof.Operands
public import proofs.«01_k».proof.Proof.RefValue

@[expose] public section

set_option maxRecDepth 16384

noncomputable section

namespace Cert.Proof

open Idealize.ShloMosaic Idealize.SL.Sem

/-- The reference's result, element by element: the same product as the kernel's. -/
theorem refOut_apply (a0 : FVec Ideal Cert.ReferenceIdeal.S6x1024x18944 .bf16) (a1 : IVec Cert.ReferenceIdeal.S67895296 8)
    (a2 : FVec Ideal Cert.ReferenceIdeal.S33152 .f32) (u : Fin 6144) (v : Fin 3584) :
    Cert.ReferenceIdeal.Hand.refOut (F := Ideal) a0 a1 a2 (ix2 u v) = Cert.KernelIdeal.Hand.dotTo a0 a1 a2 u.val v.val 18944 := by
  have hu := u.isLt
  have hv := v.isLt
  unfold Cert.ReferenceIdeal.Hand.refOut
  pointwise [Cert.ReferenceIdeal.Gen.k0_pay1]
  unfold Cert.KernelIdeal.Hand.dotTo
  rw [← Fin.sum_univ_eq_sum_range (fun k => Cert.KernelIdeal.Hand.xAt a0 u.val k * Cert.KernelIdeal.Hand.wt a1 a2 v.val k) 18944]
  refine Finset.sum_congr rfl fun k _ => ?_
  have hk := k.isLt
  have e0 : a0 (ix3 ⟨u.val / 1024, by omega⟩ ⟨u.val % 1024, Nat.mod_lt _ (by norm_num)⟩ k) = Cert.KernelIdeal.Hand.xAt a0 u.val k.val := by
    unfold Cert.KernelIdeal.Hand.xAt
    congr 1
    refine congrArg₂ (fun (p : Fin 6) (r : Fin 18944) => ix3 p (⟨u.val % 1024, Nat.mod_lt _ (by norm_num)⟩ : Fin 1024) r) (Fin.ext ?_) (Fin.ext ?_)
    · show u.val / 1024 = u.val / 1024 % 6; omega
    · show k.val = k.val % 18944; omega
  have e1 : a1 (ix1 ⟨(v.val * 18944 + k.val) / 2048 * 2048 + (v.val * 18944 + k.val) % 2048, by omega⟩)
      = Cert.KernelIdeal.Hand.codeAt a1 (v.val * 18944 + k.val) := by
    unfold Cert.KernelIdeal.Hand.codeAt
    refine congrArg a1 (funext fun j => Fin.ext ?_)
    fin_cases j
    show (v.val * 18944 + k.val) / 2048 * 2048 + (v.val * 18944 + k.val) % 2048 = (v.val * 18944 + k.val) % 67895296
    omega
  have e2 : a2 (ix1 ⟨(v.val * 18944 + k.val) / 2048, by omega⟩) = Cert.KernelIdeal.Hand.scAt a2 ((v.val * 18944 + k.val) / 2048) := by
    unfold Cert.KernelIdeal.Hand.scAt
    refine congrArg a2 (funext fun j => Fin.ext ?_)
    fin_cases j
    show (v.val * 18944 + k.val) / 2048 = (v.val * 18944 + k.val) / 2048 % 33152
    omega
  unfold Cert.KernelIdeal.Hand.wt
  rw [← e0, ← e1, ← e2]
  rfl

theorem refOut_eq (a0 : FVec Ideal Cert.ReferenceIdeal.S6x1024x18944 .bf16) (a1 : IVec Cert.ReferenceIdeal.S67895296 8)
    (a2 : FVec Ideal Cert.ReferenceIdeal.S33152 .f32) :
    Cert.ReferenceIdeal.Hand.refOut (F := Ideal) a0 a1 a2 = Cert.KernelIdeal.Hand.prod a0 a1 a2 := by
  funext y
  obtain ⟨u, v, rfl⟩ : ∃ (u : Fin 6144) (v : Fin 3584), y = ix2 u v := ⟨y 0, y 1, eq_ix2 y⟩
  exact refOut_apply a0 a1 a2 u v

theorem algebraic : Cert.algebraic_KernelIdeal_ReferenceIdeal
    (hKernelIdeal := Cert.KernelIdeal.Gen.facts) (hReferenceIdeal := Cert.ReferenceIdeal.Gen.facts) := by
  intro m g m' g' hpre hagree
  refine ⟨fun c => Cert.KernelIdeal.Hand.OutC (Cert.KernelIdeal.Hand.inp m c) 42, ?_, ?_⟩
  · exact (θ_run _ _ _).mono (fun _ h c => ⟨h.2 c, h.1.1 c⟩) (Cert.KernelIdeal.Hand.run (F := Ideal) m g)
  · refine (θ_run _ _ _).mono (fun _ h c => ⟨(h c).1.trans ?_, (h c).2⟩) (Cert.ReferenceIdeal.Hand.run (F := Ideal) m' g')
    obtain ⟨h0, h1, h2⟩ := hagree c
    refine (refOut_eq _ _ _).trans (Eq.trans ?_ (Cert.KernelIdeal.Hand.OutC_eq m c).symm)
    exact congr (congr (congrArg Cert.KernelIdeal.Hand.prod h0) h1) h2

end Cert.Proof

end
-- ==== Proof.lean ====
/- The proof of the certificate's claim: the frames of the kernel at machine words and over the extended reals, and of
   the reference; the kernel needed no rewriting; and the equality of the two results. -/
module

public import proofs.«01_k».proof.Defs
public import proofs.«01_k».proof.Proof.Run
public import proofs.«01_k».proof.Proof.K.Run
public import proofs.«01_k».proof.Proof.Gen.ReferenceIdeal
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
